-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_MixF (m : (ℓ : Loc Cert.MixF.nD Cert.MixF.τ Cert.MixF.sig) → Buf (Elt Bits) ℓ) : Prop :=
  True

def Pre_MixFIdeal (m : (ℓ : Loc Cert.MixFIdeal.nD Cert.MixFIdeal.τ Cert.MixFIdeal.sig) → Buf (Elt Ideal) ℓ) : Prop :=
  True

def Pre_MixFRefIdeal (m : (ℓ : Loc Cert.MixFRefIdeal.nD Cert.MixFRefIdeal.τ Cert.MixFRefIdeal.sig) → Buf (Elt Ideal) ℓ) : Prop :=
  True

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_attn_fwd_finite [hPre_attn_fwd_finite : Cert.Pre_attn_fwd_finite.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_attn_fwd_finite.fn (F := Ideal) (m ((c.tc : Thread Cert.AttnFIdeal.nD Cert.AttnFIdeal.τ).loc Cert.AttnFIdeal.main_arg0))) = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_attn_fwd_finite [hPre_attn_fwd_finite : Cert.Pre_attn_fwd_finite.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_attn_fwd_finite.fn (F := Ideal) (m ((c.tc : Thread Cert.AttnFRefIdeal.nD Cert.AttnFRefIdeal.τ).loc Cert.AttnFRefIdeal.main_arg0))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_LruF (m : (ℓ : Loc Cert.LruF.nD Cert.LruF.τ Cert.LruF.sig) → Buf (Elt Bits) ℓ) : Prop :=
  True

def Pre_LruFIdeal (m : (ℓ : Loc Cert.LruFIdeal.nD Cert.LruFIdeal.τ Cert.LruFIdeal.sig) → Buf (Elt Ideal) ℓ) : Prop :=
  True

def Pre_LruFRefIdeal (m : (ℓ : Loc Cert.LruFRefIdeal.nD Cert.LruFRefIdeal.τ Cert.LruFRefIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastRefIdeal (m : (ℓ : Loc Cert.CastRefIdeal.nD Cert.CastRefIdeal.τ Cert.CastRefIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1)
      ∧ r.2.mem ((c.tc : Thread Cert.InF.nD Cert.InF.τ).loc Cert.InF.main_arg2) = m ((c.tc : Thread Cert.InF.nD Cert.InF.τ).loc Cert.InF.main_arg2))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
      ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1)
      ∧ r.2.mem ((c.tc : Thread Cert.InFRefIdeal.nD Cert.InFRefIdeal.τ).loc Cert.InFRefIdeal.main_arg2) = m ((c.tc : Thread Cert.InFRefIdeal.nD Cert.InFRefIdeal.τ).loc Cert.InFRefIdeal.main_arg2))
      ∧ r.2.sem = fun _ => 0)

def quiescent_MixF [hMixF : Cert.MixF.Facts] : Prop :=
  ∀ (m : (ℓ : Loc Cert.MixF.nD Cert.MixF.τ Cert.MixF.sig) → Buf (Elt Bits) ℓ) (g : Dev Cert.MixF.nD → PrngReg), Pre_MixF m →
    θ_run (Cert.MixF.defs (F := Bits)) (onTc (τ := Cert.MixF.τ) (Cert.MixF.main (F := Bits))) ⟨m, fun _ => 0, g⟩ (fun r => (∀ c : Dev Cert.MixF.nD,
      r.2.mem ((c.tc : Thread Cert.MixF.nD Cert.MixF.τ).loc Cert.MixF.main_arg0) = m ((c.tc : Thread Cert.MixF.nD Cert.MixF.τ).loc Cert.MixF.main_arg0)
      ∧ r.2.mem ((c.tc : Thread Cert.MixF.nD Cert.MixF.τ).loc Cert.MixF.main_arg1) = m ((c.tc : Thread Cert.MixF.nD Cert.MixF.τ).loc Cert.MixF.main_arg1)
      ∧ r.2.mem ((c.tc : Thread Cert.MixF.nD Cert.MixF.τ).loc Cert.MixF.main_arg2) = m ((c.tc : Thread Cert.MixF.nD Cert.MixF.τ).loc Cert.MixF.main_arg2)
      ∧ r.2.mem ((c.tc : Thread Cert.MixF.nD Cert.MixF.τ).loc Cert.MixF.main_arg3) = m ((c.tc : Thread Cert.MixF.nD Cert.MixF.τ).loc Cert.MixF.main_arg3)
      ∧ r.2.mem ((c.tc : Thread Cert.MixF.nD Cert.MixF.τ).loc Cert.MixF.main_arg4) = m ((c.tc : Thread Cert.MixF.nD Cert.MixF.τ).loc Cert.MixF.main_arg4)
      ∧ r.2.mem ((c.tc : Thread Cert.MixF.nD Cert.MixF.τ).loc Cert.MixF.main_arg5) = m ((c.tc : Thread Cert.MixF.nD Cert.MixF.τ).loc Cert.MixF.main_arg5))
      ∧ r.2.sem = fun _ => 0)

def quiescent_MixFIdeal [hMixFIdeal : Cert.MixFIdeal.Facts] : Prop :=
  ∀ (m : (ℓ : Loc Cert.MixFIdeal.nD Cert.MixFIdeal.τ Cert.MixFIdeal.sig) → Buf (Elt Ideal) ℓ) (g : Dev Cert.MixFIdeal.nD → PrngReg), Pre_MixFIdeal m →
    θ_run (Cert.MixFIdeal.defs (F := Ideal)) (onTc (τ := Cert.MixFIdeal.τ) (Cert.MixFIdeal.main (F := Ideal))) ⟨m, fun _ => 0, g⟩ (fun r => (∀ c : Dev Cert.MixFIdeal.nD,
      r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
      ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
      ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
      ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
      ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
      ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5))
      ∧ r.2.sem = fun _ => 0)

def quiescent_MixFRefIdeal [hMixFRefIdeal : Cert.MixFRefIdeal.Facts] : Prop :=
  ∀ (m : (ℓ : Loc Cert.MixFRefIdeal.nD Cert.MixFRefIdeal.τ Cert.MixFRefIdeal.sig) → Buf (Elt Ideal) ℓ) (g : Dev Cert.MixFRefIdeal.nD → PrngReg), Pre_MixFRefIdeal m →
    θ_run (Cert.MixFRefIdeal.defs (F := Ideal)) (onTc (τ := Cert.MixFRefIdeal.τ) (Cert.MixFRefIdeal.main (F := Ideal))) ⟨m, fun _ => 0, g⟩ (fun r => (∀ c : Dev Cert.MixFRefIdeal.nD,
      r.2.mem ((c.tc : Thread Cert.MixFRefIdeal.nD Cert.MixFRefIdeal.τ).loc Cert.MixFRefIdeal.main_arg0) = m ((c.tc : Thread Cert.MixFRefIdeal.nD Cert.MixFRefIdeal.τ).loc Cert.MixFRefIdeal.main_arg0)
      ∧ r.2.mem ((c.tc : Thread Cert.MixFRefIdeal.nD Cert.MixFRefIdeal.τ).loc Cert.MixFRefIdeal.main_arg1) = m ((c.tc : Thread Cert.MixFRefIdeal.nD Cert.MixFRefIdeal.τ).loc Cert.MixFRefIdeal.main_arg1)
      ∧ r.2.mem ((c.tc : Thread Cert.MixFRefIdeal.nD Cert.MixFRefIdeal.τ).loc Cert.MixFRefIdeal.main_arg2) = m ((c.tc : Thread Cert.MixFRefIdeal.nD Cert.MixFRefIdeal.τ).loc Cert.MixFRefIdeal.main_arg2)
      ∧ r.2.mem ((c.tc : Thread Cert.MixFRefIdeal.nD Cert.MixFRefIdeal.τ).loc Cert.MixFRefIdeal.main_arg3) = m ((c.tc : Thread Cert.MixFRefIdeal.nD Cert.MixFRefIdeal.τ).loc Cert.MixFRefIdeal.main_arg3)
      ∧ r.2.mem ((c.tc : Thread Cert.MixFRefIdeal.nD Cert.MixFRefIdeal.τ).loc Cert.MixFRefIdeal.main_arg4) = m ((c.tc : Thread Cert.MixFRefIdeal.nD Cert.MixFRefIdeal.τ).loc Cert.MixFRefIdeal.main_arg4)
      ∧ r.2.mem ((c.tc : Thread Cert.MixFRefIdeal.nD Cert.MixFRefIdeal.τ).loc Cert.MixFRefIdeal.main_arg5) = m ((c.tc : Thread Cert.MixFRefIdeal.nD Cert.MixFRefIdeal.τ).loc Cert.MixFRefIdeal.main_arg5))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0))
      ∧ r.2.sem = fun _ => 0)

def quiescent_AttnFIdeal_pre_attn_fwd_finite [hAttnFIdeal : Cert.AttnFIdeal.Facts] [hPre_attn_fwd_finite : Cert.Pre_attn_fwd_finite.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_attn_fwd_finite m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0))
      ∧ r.2.sem = fun _ => 0)

def quiescent_AttnFRefIdeal_pre_attn_fwd_finite [hAttnFRefIdeal : Cert.AttnFRefIdeal.Facts] [hPre_attn_fwd_finite : Cert.Pre_attn_fwd_finite.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_attn_fwd_finite m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_LruF [hLruF : Cert.LruF.Facts] : Prop :=
  ∀ (m : (ℓ : Loc Cert.LruF.nD Cert.LruF.τ Cert.LruF.sig) → Buf (Elt Bits) ℓ) (g : Dev Cert.LruF.nD → PrngReg), Pre_LruF m →
    θ_run (Cert.LruF.defs (F := Bits)) (onTc (τ := Cert.LruF.τ) (Cert.LruF.main (F := Bits))) ⟨m, fun _ => 0, g⟩ (fun r => (∀ c : Dev Cert.LruF.nD,
      r.2.mem ((c.tc : Thread Cert.LruF.nD Cert.LruF.τ).loc Cert.LruF.main_arg0) = m ((c.tc : Thread Cert.LruF.nD Cert.LruF.τ).loc Cert.LruF.main_arg0)
      ∧ r.2.mem ((c.tc : Thread Cert.LruF.nD Cert.LruF.τ).loc Cert.LruF.main_arg1) = m ((c.tc : Thread Cert.LruF.nD Cert.LruF.τ).loc Cert.LruF.main_arg1)
      ∧ r.2.mem ((c.tc : Thread Cert.LruF.nD Cert.LruF.τ).loc Cert.LruF.main_arg2) = m ((c.tc : Thread Cert.LruF.nD Cert.LruF.τ).loc Cert.LruF.main_arg2)
      ∧ r.2.mem ((c.tc : Thread Cert.LruF.nD Cert.LruF.τ).loc Cert.LruF.main_arg3) = m ((c.tc : Thread Cert.LruF.nD Cert.LruF.τ).loc Cert.LruF.main_arg3)
      ∧ r.2.mem ((c.tc : Thread Cert.LruF.nD Cert.LruF.τ).loc Cert.LruF.main_arg4) = m ((c.tc : Thread Cert.LruF.nD Cert.LruF.τ).loc Cert.LruF.main_arg4)
      ∧ r.2.mem ((c.tc : Thread Cert.LruF.nD Cert.LruF.τ).loc Cert.LruF.main_arg5) = m ((c.tc : Thread Cert.LruF.nD Cert.LruF.τ).loc Cert.LruF.main_arg5)
      ∧ r.2.mem ((c.tc : Thread Cert.LruF.nD Cert.LruF.τ).loc Cert.LruF.main_arg6) = m ((c.tc : Thread Cert.LruF.nD Cert.LruF.τ).loc Cert.LruF.main_arg6)
      ∧ r.2.mem ((c.tc : Thread Cert.LruF.nD Cert.LruF.τ).loc Cert.LruF.main_arg7) = m ((c.tc : Thread Cert.LruF.nD Cert.LruF.τ).loc Cert.LruF.main_arg7))
      ∧ r.2.sem = fun _ => 0)

def quiescent_LruFIdeal [hLruFIdeal : Cert.LruFIdeal.Facts] : Prop :=
  ∀ (m : (ℓ : Loc Cert.LruFIdeal.nD Cert.LruFIdeal.τ Cert.LruFIdeal.sig) → Buf (Elt Ideal) ℓ) (g : Dev Cert.LruFIdeal.nD → PrngReg), Pre_LruFIdeal m →
    θ_run (Cert.LruFIdeal.defs (F := Ideal)) (onTc (τ := Cert.LruFIdeal.τ) (Cert.LruFIdeal.main (F := Ideal))) ⟨m, fun _ => 0, g⟩ (fun r => (∀ c : Dev Cert.LruFIdeal.nD,
      r.2.mem ((c.tc : Thread Cert.LruFIdeal.nD Cert.LruFIdeal.τ).loc Cert.LruFIdeal.main_arg0) = m ((c.tc : Thread Cert.LruFIdeal.nD Cert.LruFIdeal.τ).loc Cert.LruFIdeal.main_arg0)
      ∧ r.2.mem ((c.tc : Thread Cert.LruFIdeal.nD Cert.LruFIdeal.τ).loc Cert.LruFIdeal.main_arg1) = m ((c.tc : Thread Cert.LruFIdeal.nD Cert.LruFIdeal.τ).loc Cert.LruFIdeal.main_arg1)
      ∧ r.2.mem ((c.tc : Thread Cert.LruFIdeal.nD Cert.LruFIdeal.τ).loc Cert.LruFIdeal.main_arg2) = m ((c.tc : Thread Cert.LruFIdeal.nD Cert.LruFIdeal.τ).loc Cert.LruFIdeal.main_arg2)
      ∧ r.2.mem ((c.tc : Thread Cert.LruFIdeal.nD Cert.LruFIdeal.τ).loc Cert.LruFIdeal.main_arg3) = m ((c.tc : Thread Cert.LruFIdeal.nD Cert.LruFIdeal.τ).loc Cert.LruFIdeal.main_arg3)
      ∧ r.2.mem ((c.tc : Thread Cert.LruFIdeal.nD Cert.LruFIdeal.τ).loc Cert.LruFIdeal.main_arg4) = m ((c.tc : Thread Cert.LruFIdeal.nD Cert.LruFIdeal.τ).loc Cert.LruFIdeal.main_arg4)
      ∧ r.2.mem ((c.tc : Thread Cert.LruFIdeal.nD Cert.LruFIdeal.τ).loc Cert.LruFIdeal.main_arg5) = m ((c.tc : Thread Cert.LruFIdeal.nD Cert.LruFIdeal.τ).loc Cert.LruFIdeal.main_arg5)
      ∧ r.2.mem ((c.tc : Thread Cert.LruFIdeal.nD Cert.LruFIdeal.τ).loc Cert.LruFIdeal.main_arg6) = m ((c.tc : Thread Cert.LruFIdeal.nD Cert.LruFIdeal.τ).loc Cert.LruFIdeal.main_arg6)
      ∧ r.2.mem ((c.tc : Thread Cert.LruFIdeal.nD Cert.LruFIdeal.τ).loc Cert.LruFIdeal.main_arg7) = m ((c.tc : Thread Cert.LruFIdeal.nD Cert.LruFIdeal.τ).loc Cert.LruFIdeal.main_arg7))
      ∧ r.2.sem = fun _ => 0)

def quiescent_LruFRefIdeal [hLruFRefIdeal : Cert.LruFRefIdeal.Facts] : Prop :=
  ∀ (m : (ℓ : Loc Cert.LruFRefIdeal.nD Cert.LruFRefIdeal.τ Cert.LruFRefIdeal.sig) → Buf (Elt Ideal) ℓ) (g : Dev Cert.LruFRefIdeal.nD → PrngReg), Pre_LruFRefIdeal m →
    θ_run (Cert.LruFRefIdeal.defs (F := Ideal)) (onTc (τ := Cert.LruFRefIdeal.τ) (Cert.LruFRefIdeal.main (F := Ideal))) ⟨m, fun _ => 0, g⟩ (fun r => (∀ c : Dev Cert.LruFRefIdeal.nD,
      r.2.mem ((c.tc : Thread Cert.LruFRefIdeal.nD Cert.LruFRefIdeal.τ).loc Cert.LruFRefIdeal.main_arg0) = m ((c.tc : Thread Cert.LruFRefIdeal.nD Cert.LruFRefIdeal.τ).loc Cert.LruFRefIdeal.main_arg0)
      ∧ r.2.mem ((c.tc : Thread Cert.LruFRefIdeal.nD Cert.LruFRefIdeal.τ).loc Cert.LruFRefIdeal.main_arg1) = m ((c.tc : Thread Cert.LruFRefIdeal.nD Cert.LruFRefIdeal.τ).loc Cert.LruFRefIdeal.main_arg1)
      ∧ r.2.mem ((c.tc : Thread Cert.LruFRefIdeal.nD Cert.LruFRefIdeal.τ).loc Cert.LruFRefIdeal.main_arg2) = m ((c.tc : Thread Cert.LruFRefIdeal.nD Cert.LruFRefIdeal.τ).loc Cert.LruFRefIdeal.main_arg2)
      ∧ r.2.mem ((c.tc : Thread Cert.LruFRefIdeal.nD Cert.LruFRefIdeal.τ).loc Cert.LruFRefIdeal.main_arg3) = m ((c.tc : Thread Cert.LruFRefIdeal.nD Cert.LruFRefIdeal.τ).loc Cert.LruFRefIdeal.main_arg3)
      ∧ r.2.mem ((c.tc : Thread Cert.LruFRefIdeal.nD Cert.LruFRefIdeal.τ).loc Cert.LruFRefIdeal.main_arg4) = m ((c.tc : Thread Cert.LruFRefIdeal.nD Cert.LruFRefIdeal.τ).loc Cert.LruFRefIdeal.main_arg4)
      ∧ r.2.mem ((c.tc : Thread Cert.LruFRefIdeal.nD Cert.LruFRefIdeal.τ).loc Cert.LruFRefIdeal.main_arg5) = m ((c.tc : Thread Cert.LruFRefIdeal.nD Cert.LruFRefIdeal.τ).loc Cert.LruFRefIdeal.main_arg5)
      ∧ r.2.mem ((c.tc : Thread Cert.LruFRefIdeal.nD Cert.LruFRefIdeal.τ).loc Cert.LruFRefIdeal.main_arg6) = m ((c.tc : Thread Cert.LruFRefIdeal.nD Cert.LruFRefIdeal.τ).loc Cert.LruFRefIdeal.main_arg6)
      ∧ r.2.mem ((c.tc : Thread Cert.LruFRefIdeal.nD Cert.LruFRefIdeal.τ).loc Cert.LruFRefIdeal.main_arg7) = m ((c.tc : Thread Cert.LruFRefIdeal.nD Cert.LruFRefIdeal.τ).loc Cert.LruFRefIdeal.main_arg7))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0)
      ∧ r.2.mem ((c.tc : Thread Cert.Cast.nD Cert.Cast.τ).loc Cert.Cast.main_arg1) = m ((c.tc : Thread Cert.Cast.nD Cert.Cast.τ).loc Cert.Cast.main_arg1)
      ∧ r.2.mem ((c.tc : Thread Cert.Cast.nD Cert.Cast.τ).loc Cert.Cast.main_arg2) = m ((c.tc : Thread Cert.Cast.nD Cert.Cast.τ).loc Cert.Cast.main_arg2)
      ∧ r.2.mem ((c.tc : Thread Cert.Cast.nD Cert.Cast.τ).loc Cert.Cast.main_arg3) = m ((c.tc : Thread Cert.Cast.nD Cert.Cast.τ).loc Cert.Cast.main_arg3))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0)
      ∧ r.2.mem ((c.tc : Thread Cert.CastIdeal.nD Cert.CastIdeal.τ).loc Cert.CastIdeal.main_arg1) = m ((c.tc : Thread Cert.CastIdeal.nD Cert.CastIdeal.τ).loc Cert.CastIdeal.main_arg1)
      ∧ r.2.mem ((c.tc : Thread Cert.CastIdeal.nD Cert.CastIdeal.τ).loc Cert.CastIdeal.main_arg2) = m ((c.tc : Thread Cert.CastIdeal.nD Cert.CastIdeal.τ).loc Cert.CastIdeal.main_arg2)
      ∧ r.2.mem ((c.tc : Thread Cert.CastIdeal.nD Cert.CastIdeal.τ).loc Cert.CastIdeal.main_arg3) = m ((c.tc : Thread Cert.CastIdeal.nD Cert.CastIdeal.τ).loc Cert.CastIdeal.main_arg3))
      ∧ r.2.sem = fun _ => 0)

def quiescent_CastRefIdeal [hCastRefIdeal : Cert.CastRefIdeal.Facts] : Prop :=
  ∀ (m : (ℓ : Loc Cert.CastRefIdeal.nD Cert.CastRefIdeal.τ Cert.CastRefIdeal.sig) → Buf (Elt Ideal) ℓ) (g : Dev Cert.CastRefIdeal.nD → PrngReg), Pre_CastRefIdeal m →
    θ_run (Cert.CastRefIdeal.defs (F := Ideal)) (onTc (τ := Cert.CastRefIdeal.τ) (Cert.CastRefIdeal.main (F := Ideal))) ⟨m, fun _ => 0, g⟩ (fun r => (∀ c : Dev Cert.CastRefIdeal.nD,
      r.2.mem ((c.tc : Thread Cert.CastRefIdeal.nD Cert.CastRefIdeal.τ).loc Cert.CastRefIdeal.main_arg0) = m ((c.tc : Thread Cert.CastRefIdeal.nD Cert.CastRefIdeal.τ).loc Cert.CastRefIdeal.main_arg0)
      ∧ r.2.mem ((c.tc : Thread Cert.CastRefIdeal.nD Cert.CastRefIdeal.τ).loc Cert.CastRefIdeal.main_arg1) = m ((c.tc : Thread Cert.CastRefIdeal.nD Cert.CastRefIdeal.τ).loc Cert.CastRefIdeal.main_arg1)
      ∧ r.2.mem ((c.tc : Thread Cert.CastRefIdeal.nD Cert.CastRefIdeal.τ).loc Cert.CastRefIdeal.main_arg2) = m ((c.tc : Thread Cert.CastRefIdeal.nD Cert.CastRefIdeal.τ).loc Cert.CastRefIdeal.main_arg2)
      ∧ r.2.mem ((c.tc : Thread Cert.CastRefIdeal.nD Cert.CastRefIdeal.τ).loc Cert.CastRefIdeal.main_arg3) = m ((c.tc : Thread Cert.CastRefIdeal.nD Cert.CastRefIdeal.τ).loc Cert.CastRefIdeal.main_arg3))
      ∧ r.2.sem = fun _ => 0)

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v1_0)) (v1 : (c : Dev Cert.MixIdeal.nD) → Buf (Elt Ideal) ((c.tc : Thread Cert.MixIdeal.nD Cert.MixIdeal.τ).loc Cert.MixIdeal.main_v1_1)) (v2 : (c : Dev Cert.MixIdeal.nD) → Buf (Elt Ideal) ((c.tc : Thread Cert.MixIdeal.nD Cert.MixIdeal.τ).loc Cert.MixIdeal.main_v1_2)) (v3 : (c : Dev Cert.MixIdeal.nD) → Buf (Elt Ideal) ((c.tc : Thread Cert.MixIdeal.nD Cert.MixIdeal.τ).loc Cert.MixIdeal.main_v1_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1_0) = v0 c
          ∧ r.2.mem ((c.tc : Thread Cert.MixIdeal.nD Cert.MixIdeal.τ).loc Cert.MixIdeal.main_v1_1) = v1 c
          ∧ r.2.mem ((c.tc : Thread Cert.MixIdeal.nD Cert.MixIdeal.τ).loc Cert.MixIdeal.main_v1_2) = v2 c
          ∧ r.2.mem ((c.tc : Thread Cert.MixIdeal.nD Cert.MixIdeal.τ).loc Cert.MixIdeal.main_v1_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v72) = v0 c
          ∧ r.2.mem ((c.tc : Thread Cert.MixRefIdeal.nD Cert.MixRefIdeal.τ).loc Cert.MixRefIdeal.main_v73) = v1 c
          ∧ r.2.mem ((c.tc : Thread Cert.MixRefIdeal.nD Cert.MixRefIdeal.τ).loc Cert.MixRefIdeal.main_v56) = v2 c
          ∧ r.2.mem ((c.tc : Thread Cert.MixRefIdeal.nD Cert.MixRefIdeal.τ).loc Cert.MixRefIdeal.main_v37) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)) →
    ∃ (v0 : (c : Dev Cert.InIdeal.nD) → Buf (Elt Ideal) ((c.tc : Thread Cert.InIdeal.nD Cert.InIdeal.τ).loc Cert.InIdeal.main_v7_0)) (v1 : (c : Dev Cert.InIdeal.nD) → Buf (Elt Ideal) ((c.tc : Thread Cert.InIdeal.nD Cert.InIdeal.τ).loc Cert.InIdeal.main_v7_1)) (v2 : (c : Dev Cert.InIdeal.nD) → Buf (Elt Ideal) ((c.tc : Thread Cert.InIdeal.nD Cert.InIdeal.τ).loc Cert.InIdeal.main_v7_2)) (v3 : (c : Dev Cert.InIdeal.nD) → Buf (Elt Ideal) ((c.tc : Thread Cert.InIdeal.nD Cert.InIdeal.τ).loc Cert.InIdeal.main_v7_3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v7_0) = v0 c
          ∧ r.2.mem ((c.tc : Thread Cert.InIdeal.nD Cert.InIdeal.τ).loc Cert.InIdeal.main_v7_1) = v1 c
          ∧ r.2.mem ((c.tc : Thread Cert.InIdeal.nD Cert.InIdeal.τ).loc Cert.InIdeal.main_v7_2) = v2 c
          ∧ r.2.mem ((c.tc : Thread Cert.InIdeal.nD Cert.InIdeal.τ).loc Cert.InIdeal.main_v7_3) = v3 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v37) = v0 c
          ∧ r.2.mem ((c.tc : Thread Cert.InRefIdeal.nD Cert.InRefIdeal.τ).loc Cert.InRefIdeal.main_v38) = v1 c
          ∧ r.2.mem ((c.tc : Thread Cert.InRefIdeal.nD Cert.InRefIdeal.τ).loc Cert.InRefIdeal.main_v39) = v2 c
          ∧ r.2.mem ((c.tc : Thread Cert.InRefIdeal.nD Cert.InRefIdeal.τ).loc Cert.InRefIdeal.main_v20) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v36_0)) (v1 : (c : Dev Cert.AttnIdeal.nD) → Buf (Elt Ideal) ((c.tc : Thread Cert.AttnIdeal.nD Cert.AttnIdeal.τ).loc Cert.AttnIdeal.main_v36_1)) (v2 : (c : Dev Cert.AttnIdeal.nD) → Buf (Elt Ideal) ((c.tc : Thread Cert.AttnIdeal.nD Cert.AttnIdeal.τ).loc Cert.AttnIdeal.main_v36_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v36_0) = v0 c
          ∧ r.2.mem ((c.tc : Thread Cert.AttnIdeal.nD Cert.AttnIdeal.τ).loc Cert.AttnIdeal.main_v36_1) = v1 c
          ∧ r.2.mem ((c.tc : Thread Cert.AttnIdeal.nD Cert.AttnIdeal.τ).loc Cert.AttnIdeal.main_v36_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v56) = v0 c
          ∧ r.2.mem ((c.tc : Thread Cert.AttnRefIdeal.nD Cert.AttnRefIdeal.τ).loc Cert.AttnRefIdeal.main_v57) = v1 c
          ∧ r.2.mem ((c.tc : Thread Cert.AttnRefIdeal.nD Cert.AttnRefIdeal.τ).loc Cert.AttnRefIdeal.main_v58) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v4_3)) (v1 : (c : Dev Cert.LossIdeal.nD) → Buf (Elt Ideal) ((c.tc : Thread Cert.LossIdeal.nD Cert.LossIdeal.τ).loc Cert.LossIdeal.main_v4_2)) (v2 : (c : Dev Cert.LossIdeal.nD) → Buf (Elt Ideal) ((c.tc : Thread Cert.LossIdeal.nD Cert.LossIdeal.τ).loc Cert.LossIdeal.main_v4_1)) (v3 : (c : Dev Cert.LossIdeal.nD) → Buf (Elt Ideal) ((c.tc : Thread Cert.LossIdeal.nD Cert.LossIdeal.τ).loc Cert.LossIdeal.main_v4_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4_3) = v0 c
          ∧ r.2.mem ((c.tc : Thread Cert.LossIdeal.nD Cert.LossIdeal.τ).loc Cert.LossIdeal.main_v4_2) = v1 c
          ∧ r.2.mem ((c.tc : Thread Cert.LossIdeal.nD Cert.LossIdeal.τ).loc Cert.LossIdeal.main_v4_1) = v2 c
          ∧ r.2.mem ((c.tc : Thread Cert.LossIdeal.nD Cert.LossIdeal.τ).loc Cert.LossIdeal.main_v4_0) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v66) = v0 c
          ∧ r.2.mem ((c.tc : Thread Cert.LossRefIdeal.nD Cert.LossRefIdeal.τ).loc Cert.LossRefIdeal.main_v49) = v1 c
          ∧ r.2.mem ((c.tc : Thread Cert.LossRefIdeal.nD Cert.LossRefIdeal.τ).loc Cert.LossRefIdeal.main_v65) = v2 c
          ∧ r.2.mem ((c.tc : Thread Cert.LossRefIdeal.nD Cert.LossRefIdeal.τ).loc Cert.LossRefIdeal.main_v67) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v19_0)) (v1 : (c : Dev Cert.MlpIdeal.nD) → Buf (Elt Ideal) ((c.tc : Thread Cert.MlpIdeal.nD Cert.MlpIdeal.τ).loc Cert.MlpIdeal.main_v19_1)) (v2 : (c : Dev Cert.MlpIdeal.nD) → Buf (Elt Ideal) ((c.tc : Thread Cert.MlpIdeal.nD Cert.MlpIdeal.τ).loc Cert.MlpIdeal.main_v19_2)) (v3 : (c : Dev Cert.MlpIdeal.nD) → Buf (Elt Ideal) ((c.tc : Thread Cert.MlpIdeal.nD Cert.MlpIdeal.τ).loc Cert.MlpIdeal.main_v19_3)) (v4 : (c : Dev Cert.MlpIdeal.nD) → Buf (Elt Ideal) ((c.tc : Thread Cert.MlpIdeal.nD Cert.MlpIdeal.τ).loc Cert.MlpIdeal.main_v19_4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v19_0) = v0 c
          ∧ r.2.mem ((c.tc : Thread Cert.MlpIdeal.nD Cert.MlpIdeal.τ).loc Cert.MlpIdeal.main_v19_1) = v1 c
          ∧ r.2.mem ((c.tc : Thread Cert.MlpIdeal.nD Cert.MlpIdeal.τ).loc Cert.MlpIdeal.main_v19_2) = v2 c
          ∧ r.2.mem ((c.tc : Thread Cert.MlpIdeal.nD Cert.MlpIdeal.τ).loc Cert.MlpIdeal.main_v19_3) = v3 c
          ∧ r.2.mem ((c.tc : Thread Cert.MlpIdeal.nD Cert.MlpIdeal.τ).loc Cert.MlpIdeal.main_v19_4) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v54) = v0 c
          ∧ r.2.mem ((c.tc : Thread Cert.MlpRefIdeal.nD Cert.MlpRefIdeal.τ).loc Cert.MlpRefIdeal.main_v55) = v1 c
          ∧ r.2.mem ((c.tc : Thread Cert.MlpRefIdeal.nD Cert.MlpRefIdeal.τ).loc Cert.MlpRefIdeal.main_v56) = v2 c
          ∧ r.2.mem ((c.tc : Thread Cert.MlpRefIdeal.nD Cert.MlpRefIdeal.τ).loc Cert.MlpRefIdeal.main_v57) = v3 c
          ∧ r.2.mem ((c.tc : Thread Cert.MlpRefIdeal.nD Cert.MlpRefIdeal.τ).loc Cert.MlpRefIdeal.main_v37) = v4 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)
      ∧ m' ((c.tc : Thread Cert.InFRefIdeal.nD Cert.InFRefIdeal.τ).loc Cert.InFRefIdeal.main_arg2) = m ((c.tc : Thread Cert.InFIdeal.nD Cert.InFIdeal.τ).loc Cert.InFIdeal.main_arg2)) →
    ∃ (v0 : (c : Dev Cert.InFIdeal.nD) → Buf (Elt Ideal) ((c.tc : Thread Cert.InFIdeal.nD Cert.InFIdeal.τ).loc Cert.InFIdeal.main_v2_0)) (v1 : (c : Dev Cert.InFIdeal.nD) → Buf (Elt Ideal) ((c.tc : Thread Cert.InFIdeal.nD Cert.InFIdeal.τ).loc Cert.InFIdeal.main_v2_1)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v2_0) = v0 c
          ∧ r.2.mem ((c.tc : Thread Cert.InFIdeal.nD Cert.InFIdeal.τ).loc Cert.InFIdeal.main_v2_1) = v1 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
          ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v13) = v0 c
          ∧ r.2.mem ((c.tc : Thread Cert.InFRefIdeal.nD Cert.InFRefIdeal.τ).loc Cert.InFRefIdeal.main_v15) = v1 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1)
          ∧ r.2.mem ((c.tc : Thread Cert.InFRefIdeal.nD Cert.InFRefIdeal.τ).loc Cert.InFRefIdeal.main_arg2) = m' ((c.tc : Thread Cert.InFRefIdeal.nD Cert.InFRefIdeal.τ).loc Cert.InFRefIdeal.main_arg2))

def preserves_MixF_MixFIdeal : Prop :=
  True

def algebraic_MixFIdeal_MixFRefIdeal [hMixFIdeal : Cert.MixFIdeal.Facts] [hMixFRefIdeal : Cert.MixFRefIdeal.Facts] : Prop :=
  ∀ (m : (ℓ : Loc Cert.MixFIdeal.nD Cert.MixFIdeal.τ Cert.MixFIdeal.sig) → Buf (Elt Ideal) ℓ) (g : Dev Cert.MixFIdeal.nD → PrngReg)
    (m' : (ℓ : Loc Cert.MixFRefIdeal.nD Cert.MixFRefIdeal.τ Cert.MixFRefIdeal.sig) → Buf (Elt Ideal) ℓ) (g' : Dev Cert.MixFRefIdeal.nD → PrngReg), Pre_MixFIdeal m →
    (∀ c : Dev Cert.MixFIdeal.nD,
      m' ((c.tc : Thread Cert.MixFRefIdeal.nD Cert.MixFRefIdeal.τ).loc Cert.MixFRefIdeal.main_arg0) = m ((c.tc : Thread Cert.MixFIdeal.nD Cert.MixFIdeal.τ).loc Cert.MixFIdeal.main_arg0)
      ∧ m' ((c.tc : Thread Cert.MixFRefIdeal.nD Cert.MixFRefIdeal.τ).loc Cert.MixFRefIdeal.main_arg1) = m ((c.tc : Thread Cert.MixFIdeal.nD Cert.MixFIdeal.τ).loc Cert.MixFIdeal.main_arg1)
      ∧ m' ((c.tc : Thread Cert.MixFRefIdeal.nD Cert.MixFRefIdeal.τ).loc Cert.MixFRefIdeal.main_arg2) = m ((c.tc : Thread Cert.MixFIdeal.nD Cert.MixFIdeal.τ).loc Cert.MixFIdeal.main_arg2)
      ∧ m' ((c.tc : Thread Cert.MixFRefIdeal.nD Cert.MixFRefIdeal.τ).loc Cert.MixFRefIdeal.main_arg3) = m ((c.tc : Thread Cert.MixFIdeal.nD Cert.MixFIdeal.τ).loc Cert.MixFIdeal.main_arg3)
      ∧ m' ((c.tc : Thread Cert.MixFRefIdeal.nD Cert.MixFRefIdeal.τ).loc Cert.MixFRefIdeal.main_arg4) = m ((c.tc : Thread Cert.MixFIdeal.nD Cert.MixFIdeal.τ).loc Cert.MixFIdeal.main_arg4)
      ∧ m' ((c.tc : Thread Cert.MixFRefIdeal.nD Cert.MixFRefIdeal.τ).loc Cert.MixFRefIdeal.main_arg5) = m ((c.tc : Thread Cert.MixFIdeal.nD Cert.MixFIdeal.τ).loc Cert.MixFIdeal.main_arg5)) →
    ∃ (v0 : (c : Dev Cert.MixFIdeal.nD) → Buf (Elt Ideal) ((c.tc : Thread Cert.MixFIdeal.nD Cert.MixFIdeal.τ).loc Cert.MixFIdeal.main_v1_0)) (v1 : (c : Dev Cert.MixFIdeal.nD) → Buf (Elt Ideal) ((c.tc : Thread Cert.MixFIdeal.nD Cert.MixFIdeal.τ).loc Cert.MixFIdeal.main_v1_1)),
      θ_run (Cert.MixFIdeal.defs (F := Ideal)) (onTc (τ := Cert.MixFIdeal.τ) (Cert.MixFIdeal.main (F := Ideal))) ⟨m, fun _ => 0, g⟩ (fun r => ∀ c : Dev Cert.MixFIdeal.nD,
          r.2.mem ((c.tc : Thread Cert.MixFIdeal.nD Cert.MixFIdeal.τ).loc Cert.MixFIdeal.main_v1_0) = v0 c
          ∧ r.2.mem ((c.tc : Thread Cert.MixFIdeal.nD Cert.MixFIdeal.τ).loc Cert.MixFIdeal.main_v1_1) = v1 c
          ∧ r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
          ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
          ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
          ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
          ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
          ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5))
      ∧ θ_run (Cert.MixFRefIdeal.defs (F := Ideal)) (onTc (τ := Cert.MixFRefIdeal.τ) (Cert.MixFRefIdeal.main (F := Ideal))) ⟨m', fun _ => 0, g'⟩ (fun r => ∀ c : Dev Cert.MixFRefIdeal.nD,
          r.2.mem ((c.tc : Thread Cert.MixFRefIdeal.nD Cert.MixFRefIdeal.τ).loc Cert.MixFRefIdeal.main_v26) = v0 c
          ∧ r.2.mem ((c.tc : Thread Cert.MixFRefIdeal.nD Cert.MixFRefIdeal.τ).loc Cert.MixFRefIdeal.main_v27) = v1 c
          ∧ r.2.mem ((c.tc : Thread Cert.MixFRefIdeal.nD Cert.MixFRefIdeal.τ).loc Cert.MixFRefIdeal.main_arg0) = m' ((c.tc : Thread Cert.MixFRefIdeal.nD Cert.MixFRefIdeal.τ).loc Cert.MixFRefIdeal.main_arg0)
          ∧ r.2.mem ((c.tc : Thread Cert.MixFRefIdeal.nD Cert.MixFRefIdeal.τ).loc Cert.MixFRefIdeal.main_arg1) = m' ((c.tc : Thread Cert.MixFRefIdeal.nD Cert.MixFRefIdeal.τ).loc Cert.MixFRefIdeal.main_arg1)
          ∧ r.2.mem ((c.tc : Thread Cert.MixFRefIdeal.nD Cert.MixFRefIdeal.τ).loc Cert.MixFRefIdeal.main_arg2) = m' ((c.tc : Thread Cert.MixFRefIdeal.nD Cert.MixFRefIdeal.τ).loc Cert.MixFRefIdeal.main_arg2)
          ∧ r.2.mem ((c.tc : Thread Cert.MixFRefIdeal.nD Cert.MixFRefIdeal.τ).loc Cert.MixFRefIdeal.main_arg3) = m' ((c.tc : Thread Cert.MixFRefIdeal.nD Cert.MixFRefIdeal.τ).loc Cert.MixFRefIdeal.main_arg3)
          ∧ r.2.mem ((c.tc : Thread Cert.MixFRefIdeal.nD Cert.MixFRefIdeal.τ).loc Cert.MixFRefIdeal.main_arg4) = m' ((c.tc : Thread Cert.MixFRefIdeal.nD Cert.MixFRefIdeal.τ).loc Cert.MixFRefIdeal.main_arg4)
          ∧ r.2.mem ((c.tc : Thread Cert.MixFRefIdeal.nD Cert.MixFRefIdeal.τ).loc Cert.MixFRefIdeal.main_arg5) = m' ((c.tc : Thread Cert.MixFRefIdeal.nD Cert.MixFRefIdeal.τ).loc Cert.MixFRefIdeal.main_arg5))

def preserves_AttnF_AttnFIdeal : Prop :=
  True

def algebraic_AttnFIdeal_AttnFRefIdeal_pre_attn_fwd_finite [hAttnFIdeal : Cert.AttnFIdeal.Facts] [hAttnFRefIdeal : Cert.AttnFRefIdeal.Facts] [hPre_attn_fwd_finite : Cert.Pre_attn_fwd_finite.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_attn_fwd_finite m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)) →
    ∃ (v0 : (c : Dev Cert.AttnFIdeal.nD) → Buf (Elt Ideal) ((c.tc : Thread Cert.AttnFIdeal.nD Cert.AttnFIdeal.τ).loc Cert.AttnFIdeal.main_v5_0)) (v1 : (c : Dev Cert.AttnFIdeal.nD) → Buf (Elt Ideal) ((c.tc : Thread Cert.AttnFIdeal.nD Cert.AttnFIdeal.τ).loc Cert.AttnFIdeal.main_v5_1)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v5_0) = v0 c
          ∧ r.2.mem ((c.tc : Thread Cert.AttnFIdeal.nD Cert.AttnFIdeal.τ).loc Cert.AttnFIdeal.main_v5_1) = v1 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v30) = v0 c
          ∧ r.2.mem ((c.tc : Thread Cert.AttnFRefIdeal.nD Cert.AttnFRefIdeal.τ).loc Cert.AttnFRefIdeal.main_v35) = v1 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v1)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v1) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_LruF_LruFIdeal : Prop :=
  True

def preserves_Lru_LruIdeal : Prop :=
  True

def preserves_Cast_CastIdeal : Prop :=
  True

def algebraic_CastIdeal_CastRefIdeal [hCastIdeal : Cert.CastIdeal.Facts] [hCastRefIdeal : Cert.CastRefIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastRefIdeal.nD Cert.CastRefIdeal.τ Cert.CastRefIdeal.sig) → Buf (Elt Ideal) ℓ) (g' : Dev Cert.CastRefIdeal.nD → PrngReg), Pre_CastIdeal m →
    (∀ c : Dev Cert.CastIdeal.nD,
      m' ((c.tc : Thread Cert.CastRefIdeal.nD Cert.CastRefIdeal.τ).loc Cert.CastRefIdeal.main_arg0) = m ((c.tc : Thread Cert.CastIdeal.nD Cert.CastIdeal.τ).loc Cert.CastIdeal.main_arg0)
      ∧ m' ((c.tc : Thread Cert.CastRefIdeal.nD Cert.CastRefIdeal.τ).loc Cert.CastRefIdeal.main_arg1) = m ((c.tc : Thread Cert.CastIdeal.nD Cert.CastIdeal.τ).loc Cert.CastIdeal.main_arg1)
      ∧ m' ((c.tc : Thread Cert.CastRefIdeal.nD Cert.CastRefIdeal.τ).loc Cert.CastRefIdeal.main_arg2) = m ((c.tc : Thread Cert.CastIdeal.nD Cert.CastIdeal.τ).loc Cert.CastIdeal.main_arg2)
      ∧ m' ((c.tc : Thread Cert.CastRefIdeal.nD Cert.CastRefIdeal.τ).loc Cert.CastRefIdeal.main_arg3) = m ((c.tc : Thread Cert.CastIdeal.nD Cert.CastIdeal.τ).loc Cert.CastIdeal.main_arg3)) →
    ∃ (v0 : (c : Dev Cert.CastIdeal.nD) → Buf (Elt Ideal) ((c.tc : Thread Cert.CastIdeal.nD Cert.CastIdeal.τ).loc Cert.CastIdeal.main_v5_0)) (v1 : (c : Dev Cert.CastIdeal.nD) → Buf (Elt Ideal) ((c.tc : Thread Cert.CastIdeal.nD Cert.CastIdeal.τ).loc Cert.CastIdeal.main_v5_1)) (v2 : (c : Dev Cert.CastIdeal.nD) → Buf (Elt Ideal) ((c.tc : Thread Cert.CastIdeal.nD Cert.CastIdeal.τ).loc Cert.CastIdeal.main_v5_2)) (v3 : (c : Dev Cert.CastIdeal.nD) → Buf (Elt Ideal) ((c.tc : Thread Cert.CastIdeal.nD Cert.CastIdeal.τ).loc Cert.CastIdeal.main_v5_3)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v5_0) = v0 c
          ∧ r.2.mem ((c.tc : Thread Cert.CastIdeal.nD Cert.CastIdeal.τ).loc Cert.CastIdeal.main_v5_1) = v1 c
          ∧ r.2.mem ((c.tc : Thread Cert.CastIdeal.nD Cert.CastIdeal.τ).loc Cert.CastIdeal.main_v5_2) = v2 c
          ∧ r.2.mem ((c.tc : Thread Cert.CastIdeal.nD Cert.CastIdeal.τ).loc Cert.CastIdeal.main_v5_3) = v3 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0)
          ∧ r.2.mem ((c.tc : Thread Cert.CastIdeal.nD Cert.CastIdeal.τ).loc Cert.CastIdeal.main_arg1) = m ((c.tc : Thread Cert.CastIdeal.nD Cert.CastIdeal.τ).loc Cert.CastIdeal.main_arg1)
          ∧ r.2.mem ((c.tc : Thread Cert.CastIdeal.nD Cert.CastIdeal.τ).loc Cert.CastIdeal.main_arg2) = m ((c.tc : Thread Cert.CastIdeal.nD Cert.CastIdeal.τ).loc Cert.CastIdeal.main_arg2)
          ∧ r.2.mem ((c.tc : Thread Cert.CastIdeal.nD Cert.CastIdeal.τ).loc Cert.CastIdeal.main_arg3) = m ((c.tc : Thread Cert.CastIdeal.nD Cert.CastIdeal.τ).loc Cert.CastIdeal.main_arg3))
      ∧ θ_run (Cert.CastRefIdeal.defs (F := Ideal)) (onTc (τ := Cert.CastRefIdeal.τ) (Cert.CastRefIdeal.main (F := Ideal))) ⟨m', fun _ => 0, g'⟩ (fun r => ∀ c : Dev Cert.CastRefIdeal.nD,
          r.2.mem ((c.tc : Thread Cert.CastRefIdeal.nD Cert.CastRefIdeal.τ).loc Cert.CastRefIdeal.main_v2) = v0 c
          ∧ r.2.mem ((c.tc : Thread Cert.CastRefIdeal.nD Cert.CastRefIdeal.τ).loc Cert.CastRefIdeal.main_v4) = v1 c
          ∧ r.2.mem ((c.tc : Thread Cert.CastRefIdeal.nD Cert.CastRefIdeal.τ).loc Cert.CastRefIdeal.main_v6) = v2 c
          ∧ r.2.mem ((c.tc : Thread Cert.CastRefIdeal.nD Cert.CastRefIdeal.τ).loc Cert.CastRefIdeal.main_v8) = v3 c
          ∧ r.2.mem ((c.tc : Thread Cert.CastRefIdeal.nD Cert.CastRefIdeal.τ).loc Cert.CastRefIdeal.main_arg0) = m' ((c.tc : Thread Cert.CastRefIdeal.nD Cert.CastRefIdeal.τ).loc Cert.CastRefIdeal.main_arg0)
          ∧ r.2.mem ((c.tc : Thread Cert.CastRefIdeal.nD Cert.CastRefIdeal.τ).loc Cert.CastRefIdeal.main_arg1) = m' ((c.tc : Thread Cert.CastRefIdeal.nD Cert.CastRefIdeal.τ).loc Cert.CastRefIdeal.main_arg1)
          ∧ r.2.mem ((c.tc : Thread Cert.CastRefIdeal.nD Cert.CastRefIdeal.τ).loc Cert.CastRefIdeal.main_arg2) = m' ((c.tc : Thread Cert.CastRefIdeal.nD Cert.CastRefIdeal.τ).loc Cert.CastRefIdeal.main_arg2)
          ∧ r.2.mem ((c.tc : Thread Cert.CastRefIdeal.nD Cert.CastRefIdeal.τ).loc Cert.CastRefIdeal.main_arg3) = m' ((c.tc : Thread Cert.CastRefIdeal.nD Cert.CastRefIdeal.τ).loc Cert.CastRefIdeal.main_arg3))

def Claim : Prop :=
  ∃ (hMix : Cert.Mix.Facts) (hMixIdeal : Cert.MixIdeal.Facts) (hMixRefIdeal : Cert.MixRefIdeal.Facts) (hIn : Cert.In.Facts) (hInIdeal : Cert.InIdeal.Facts) (hInRefIdeal : Cert.InRefIdeal.Facts) (hAttn : Cert.Attn.Facts) (hAttnIdeal : Cert.AttnIdeal.Facts) (hAttnRefIdeal : Cert.AttnRefIdeal.Facts) (hLoss : Cert.Loss.Facts) (hLossIdeal : Cert.LossIdeal.Facts) (hLossRefIdeal : Cert.LossRefIdeal.Facts) (hMlp : Cert.Mlp.Facts) (hMlpIdeal : Cert.MlpIdeal.Facts) (hMlpRefIdeal : Cert.MlpRefIdeal.Facts) (hInF : Cert.InF.Facts) (hInFIdeal : Cert.InFIdeal.Facts) (hInFRefIdeal : Cert.InFRefIdeal.Facts) (hMixF : Cert.MixF.Facts) (hMixFIdeal : Cert.MixFIdeal.Facts) (hMixFRefIdeal : Cert.MixFRefIdeal.Facts) (hAttnF : Cert.AttnF.Facts) (hAttnFIdeal : Cert.AttnFIdeal.Facts) (hAttnFRefIdeal : Cert.AttnFRefIdeal.Facts) (hDown : Cert.Down.Facts) (hDownIdeal : Cert.DownIdeal.Facts) (hDownRefIdeal : Cert.DownRefIdeal.Facts) (hAdam : Cert.Adam.Facts) (hAdamIdeal : Cert.AdamIdeal.Facts) (hAdamRefIdeal : Cert.AdamRefIdeal.Facts) (hSum : Cert.Sum.Facts) (hSumIdeal : Cert.SumIdeal.Facts) (hSumRefIdeal : Cert.SumRefIdeal.Facts) (hLruF : Cert.LruF.Facts) (hLruFIdeal : Cert.LruFIdeal.Facts) (hLruFRefIdeal : Cert.LruFRefIdeal.Facts) (hLru : Cert.Lru.Facts) (hLruIdeal : Cert.LruIdeal.Facts) (hCast : Cert.Cast.Facts) (hCastIdeal : Cert.CastIdeal.Facts) (hCastRefIdeal : Cert.CastRefIdeal.Facts) (hPre_attn_finite : Cert.Pre_attn_finite.Facts) (hPre_attn_fwd_finite : Cert.Pre_attn_fwd_finite.Facts),
    quiescent_Mix (hMix := hMix)
    ∧ quiescent_MixIdeal (hMixIdeal := hMixIdeal)
    ∧ quiescent_MixRefIdeal (hMixRefIdeal := hMixRefIdeal)
    ∧ quiescent_In (hIn := hIn)
    ∧ quiescent_InIdeal (hInIdeal := hInIdeal)
    ∧ quiescent_InRefIdeal (hInRefIdeal := hInRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Loss (hLoss := hLoss)
    ∧ quiescent_LossIdeal (hLossIdeal := hLossIdeal)
    ∧ quiescent_LossRefIdeal (hLossRefIdeal := hLossRefIdeal)
    ∧ quiescent_Mlp (hMlp := hMlp)
    ∧ quiescent_MlpIdeal (hMlpIdeal := hMlpIdeal)
    ∧ quiescent_MlpRefIdeal (hMlpRefIdeal := hMlpRefIdeal)
    ∧ quiescent_InF (hInF := hInF)
    ∧ quiescent_InFIdeal (hInFIdeal := hInFIdeal)
    ∧ quiescent_InFRefIdeal (hInFRefIdeal := hInFRefIdeal)
    ∧ quiescent_MixF (hMixF := hMixF)
    ∧ quiescent_MixFIdeal (hMixFIdeal := hMixFIdeal)
    ∧ quiescent_MixFRefIdeal (hMixFRefIdeal := hMixFRefIdeal)
    ∧ quiescent_AttnF (hAttnF := hAttnF)
    ∧ quiescent_AttnFIdeal (hAttnFIdeal := hAttnFIdeal)
    ∧ quiescent_AttnFIdeal_pre_attn_fwd_finite (hAttnFIdeal := hAttnFIdeal) (hPre_attn_fwd_finite := hPre_attn_fwd_finite)
    ∧ quiescent_AttnFRefIdeal (hAttnFRefIdeal := hAttnFRefIdeal)
    ∧ quiescent_AttnFRefIdeal_pre_attn_fwd_finite (hAttnFRefIdeal := hAttnFRefIdeal) (hPre_attn_fwd_finite := hPre_attn_fwd_finite)
    ∧ quiescent_Down (hDown := hDown)
    ∧ quiescent_DownIdeal (hDownIdeal := hDownIdeal)
    ∧ quiescent_DownRefIdeal (hDownRefIdeal := hDownRefIdeal)
    ∧ quiescent_Adam (hAdam := hAdam)
    ∧ quiescent_AdamIdeal (hAdamIdeal := hAdamIdeal)
    ∧ quiescent_AdamRefIdeal (hAdamRefIdeal := hAdamRefIdeal)
    ∧ quiescent_Sum (hSum := hSum)
    ∧ quiescent_SumIdeal (hSumIdeal := hSumIdeal)
    ∧ quiescent_SumRefIdeal (hSumRefIdeal := hSumRefIdeal)
    ∧ quiescent_LruF (hLruF := hLruF)
    ∧ quiescent_LruFIdeal (hLruFIdeal := hLruFIdeal)
    ∧ quiescent_LruFRefIdeal (hLruFRefIdeal := hLruFRefIdeal)
    ∧ quiescent_Lru (hLru := hLru)
    ∧ quiescent_LruIdeal (hLruIdeal := hLruIdeal)
    ∧ quiescent_Cast (hCast := hCast)
    ∧ quiescent_CastIdeal (hCastIdeal := hCastIdeal)
    ∧ quiescent_CastRefIdeal (hCastRefIdeal := hCastRefIdeal)
    ∧ preserves_Mix_MixIdeal
    ∧ algebraic_MixIdeal_MixRefIdeal (hMixIdeal := hMixIdeal) (hMixRefIdeal := hMixRefIdeal)
    ∧ preserves_In_InIdeal
    ∧ algebraic_InIdeal_InRefIdeal (hInIdeal := hInIdeal) (hInRefIdeal := hInRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Loss_LossIdeal
    ∧ algebraic_LossIdeal_LossRefIdeal (hLossIdeal := hLossIdeal) (hLossRefIdeal := hLossRefIdeal)
    ∧ preserves_Mlp_MlpIdeal
    ∧ algebraic_MlpIdeal_MlpRefIdeal (hMlpIdeal := hMlpIdeal) (hMlpRefIdeal := hMlpRefIdeal)
    ∧ preserves_InF_InFIdeal
    ∧ algebraic_InFIdeal_InFRefIdeal (hInFIdeal := hInFIdeal) (hInFRefIdeal := hInFRefIdeal)
    ∧ preserves_MixF_MixFIdeal
    ∧ algebraic_MixFIdeal_MixFRefIdeal (hMixFIdeal := hMixFIdeal) (hMixFRefIdeal := hMixFRefIdeal)
    ∧ preserves_AttnF_AttnFIdeal
    ∧ algebraic_AttnFIdeal_AttnFRefIdeal_pre_attn_fwd_finite (hAttnFIdeal := hAttnFIdeal) (hAttnFRefIdeal := hAttnFRefIdeal) (hPre_attn_fwd_finite := hPre_attn_fwd_finite)
    ∧ preserves_Down_DownIdeal
    ∧ algebraic_DownIdeal_DownRefIdeal (hDownIdeal := hDownIdeal) (hDownRefIdeal := hDownRefIdeal)
    ∧ preserves_Adam_AdamIdeal
    ∧ algebraic_AdamIdeal_AdamRefIdeal (hAdamIdeal := hAdamIdeal) (hAdamRefIdeal := hAdamRefIdeal)
    ∧ preserves_Sum_SumIdeal
    ∧ algebraic_SumIdeal_SumRefIdeal (hSumIdeal := hSumIdeal) (hSumRefIdeal := hSumRefIdeal)
    ∧ preserves_LruF_LruFIdeal
    ∧ preserves_Lru_LruIdeal
    ∧ preserves_Cast_CastIdeal
    ∧ algebraic_CastIdeal_CastRefIdeal (hCastIdeal := hCastIdeal) (hCastRefIdeal := hCastRefIdeal)
-- ==== Pre_attn_finite.lean ====
abbrev S8192x1536 : Shape := ⟨2, ![8192, 1536]⟩
abbrev S8192x512 : Shape := ⟨2, ![8192, 512]⟩
abbrev S_ : Shape := ⟨0, ![]⟩

class Facts : Prop where
  bcast_S_S8192x1536 : S_.BroadcastsInDim S8192x1536 (![] : Fin 0 → Fin S8192x1536.rank)
  bcast_S_S8192x512 : S_.BroadcastsInDim S8192x512 (![] : Fin 0 → Fin S8192x512.rank)

variable [Facts]

def fn {F : FTy → Type} [FloatOps F] (main_arg0 : FVec F S8192x1536 .f32) (main_arg1 : FVec F S8192x512 .f32) : IVec S8192x1536 1 × IVec S8192x512 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  (main_v2, main_v5)
-- ==== Pre_attn_fwd_finite.lean ====
abbrev S8192x1536 : Shape := ⟨2, ![8192, 1536]⟩
abbrev S_ : Shape := ⟨0, ![]⟩

class Facts : Prop where
  bcast_S_S8192x1536 : S_.BroadcastsInDim S8192x1536 (![] : Fin 0 → Fin S8192x1536.rank)

variable [Facts]

def fn {F : FTy → Type} [FloatOps F] (main_arg0 : FVec F S8192x1536 .f32) : IVec S8192x1536 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  main_v2
-- ==== Mix.lean ====
abbrev S8192x1024 : Shape := ⟨2, ![8192, 1024]⟩
abbrev S1024x1024 : Shape := ⟨2, ![1024, 1024]⟩
abbrev S8192x512 : Shape := ⟨2, ![8192, 512]⟩
abbrev S1x512 : Shape := ⟨2, ![1, 512]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩
abbrev S512 : Shape := ⟨1, ![512]⟩

abbrev nBuf : Space → Nat
  | .hbm => 11
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S1024x1024, .bf16⟩
  | .hbm, ⟨7, _⟩ => ⟨S8192x512, .f32⟩
  | .hbm, ⟨8, _⟩ => ⟨S8192x512, .bf16⟩
  | .hbm, ⟨9, _⟩ => ⟨S1x512, .f32⟩
  | .hbm, ⟨10, _⟩ => ⟨S1x512, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S1x512, .f32⟩
  | .local _ .vmem, ⟨14, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixRefIdeal.lean ====
abbrev S8192x1024 : Shape := ⟨2, ![8192, 1024]⟩
abbrev S1024x1024 : Shape := ⟨2, ![1024, 1024]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x512, .f32⟩
  | .hbm, ⟨60, _⟩ => ⟨S8192x512, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S_, .f32⟩
  | .hbm, ⟨74, _⟩ => ⟨S512, .f32⟩
  | .hbm, ⟨75, _⟩ => ⟨S1x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x512, .f32⟩
  | .hbm, ⟨83, _⟩ => ⟨S8192x512, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S8192x512, .f32⟩
  | .hbm, ⟨94, _⟩ => ⟨S8192x512, .f32⟩
  | .hbm, ⟨95, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== In.lean ====
abbrev S8192x512 : Shape := ⟨2, ![8192, 512]⟩
abbrev S1024x2560 : Shape := ⟨2, ![1024, 2560]⟩
abbrev S8192x1024 : Shape := ⟨2, ![8192, 1024]⟩
abbrev S1x1024 : Shape := ⟨2, ![1, 1024]⟩
abbrev S2560x1024 : Shape := ⟨2, ![2560, 1024]⟩
abbrev S8192x2560 : Shape := ⟨2, ![8192, 2560]⟩
abbrev S512x512 : Shape := ⟨2, ![512, 512]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S1024 : Shape := ⟨1, ![1024]⟩

abbrev nBuf : Space → Nat
  | .hbm => 20
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1024x2560, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x512, .bf16⟩
  | .hbm, ⟨14, _⟩ => ⟨S1024x2560, .bf16⟩
  | .hbm, ⟨15, _⟩ => ⟨S2560x1024, .bf16⟩
  | .hbm, ⟨16, _⟩ => ⟨S8192x1024, .f32⟩
  | .hbm, ⟨17, _⟩ => ⟨S8192x2560, .bf16⟩
  | .hbm, ⟨18, _⟩ => ⟨S8192x1024, .bf16⟩
  | .hbm, ⟨19, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S2560x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x2560, .bf16⟩
  | .local _ .vmem, ⟨19, _⟩ => ⟨S512x2560, .bf16⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2560 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InRefIdeal.lean ====
abbrev S8192x512 : Shape := ⟨2, ![8192, 512]⟩
abbrev S1024x2560 : Shape := ⟨2, ![1024, 2560]⟩
abbrev S8192x1024 : Shape := ⟨2, ![8192, 1024]⟩
abbrev S1x1024 : Shape := ⟨2, ![1, 1024]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1024x2560, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x2560, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x2560, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x2560, .bf16⟩
  | .hbm, ⟨56, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Attn.lean ====
abbrev S8192x1536 : Shape := ⟨2, ![8192, 1536]⟩
abbrev S8192x512 : Shape := ⟨2, ![8192, 512]⟩
abbrev S2x4096x8x64 : Shape := ⟨4, ![2, 4096, 8, 64]⟩
abbrev S2x8x4096x64 : Shape := ⟨4, ![2, 8, 4096, 64]⟩
abbrev S2x8x4096x4096 : Shape := ⟨4, ![2, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x4096x16 : Shape := ⟨4, ![2, 8, 4096, 16]⟩
abbrev S2x4096x8x16 : Shape := ⟨4, ![2, 4096, 8, 16]⟩
abbrev S2x4096x8x112 : Shape := ⟨4, ![2, 4096, 8, 112]⟩
abbrev S2x4096x8x128 : Shape := ⟨4, ![2, 4096, 8, 128]⟩
abbrev S8192x1024 : Shape := ⟨2, ![8192, 1024]⟩
abbrev S256x256 : Shape := ⟨2, ![256, 256]⟩
abbrev S256x128 : Shape := ⟨2, ![256, 128]⟩
abbrev S4096x128 : Shape := ⟨2, ![4096, 128]⟩
abbrev S16x128x256 : Shape := ⟨3, ![16, 128, 256]⟩
abbrev S1x128 : Shape := ⟨2, ![1, 128]⟩
abbrev S128x256 : Shape := ⟨2, ![128, 256]⟩
abbrev S128x512 : Shape := ⟨2, ![128, 512]⟩
abbrev S256x1 : Shape := ⟨2, ![256, 1]⟩
abbrev S256 : Shape := ⟨1, ![256]⟩
abbrev S1x128x256 : Shape := ⟨3, ![1, 128, 256]⟩
abbrev S512x256 : Shape := ⟨2, ![512, 256]⟩

abbrev nBuf : Space → Nat
  | .hbm => 64
  | .vmem => 20
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S2x4096x8x64, .f32⟩
  | .hbm, ⟨5, _⟩ => ⟨S2x8x4096x64, .f32⟩
  | .hbm, ⟨6, _⟩ => ⟨S2x4096x8x64, .f32⟩
  | .hbm, ⟨7, _⟩ => ⟨S2x8x4096x64, .f32⟩
  | .hbm, ⟨8, _⟩ => ⟨S2x8x4096x4096, .f32⟩
  | .hbm, ⟨9, _⟩ => ⟨S_, .f32⟩
  | .hbm, ⟨10, _⟩ => ⟨S2x8x4096x4096, .f32⟩
  | .hbm, ⟨11, _⟩ => ⟨S2x8x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S2x8x4096x4096, .f32⟩
  | .hbm, ⟨20, _⟩ => ⟨S2x8x4096x4096, .f32⟩
  | .hbm, ⟨21, _⟩ => ⟨S_, .f32⟩
  | .hbm, ⟨22, _⟩ => ⟨S2x8x4096x4096, .f32⟩
  | .hbm, ⟨23, _⟩ => ⟨S2x8x4096x4096, .f32⟩
  | .hbm, ⟨24, _⟩ => ⟨S2x8x4096x4096, .f32⟩
  | .hbm, ⟨25, _⟩ => ⟨S2x8x4096x4096, .f32⟩
  | .hbm, ⟨26, _⟩ => ⟨S2x8x4096x4096, .i1⟩
  | .hbm, ⟨27, _⟩ => ⟨S2x8x4096x4096, .f32⟩
  | .hbm, ⟨28, _⟩ => ⟨S2x8x4096x4096, .f32⟩
  | .hbm, ⟨29, _⟩ => ⟨S2x8x4096x4096, .f32⟩
  | .hbm, ⟨30, _⟩ => ⟨S2x8x4096x4096, .f32⟩
  | .hbm, ⟨31, _⟩ => ⟨S2x8x4096x4096, .f32⟩
  | .hbm, ⟨32, _⟩ => ⟨S2x8x4096x4096, .f32⟩
  | .hbm, ⟨33, _⟩ => ⟨S2x8x4096x4096, .f32⟩
  | .hbm, ⟨34, _⟩ => ⟨S2x8x4096x4096, .f32⟩
  | .hbm, ⟨35, _⟩ => ⟨S2x8x4096x4096, .f32⟩
  | .hbm, ⟨36, _⟩ => ⟨S_, .f32⟩
  | .hbm, ⟨37, _⟩ => ⟨S_, .f32⟩
  | .hbm, ⟨38, _⟩ => ⟨S2x8x4096x4096, .i1⟩
  | .hbm, ⟨39, _⟩ => ⟨S2x8x4096x4096, .f32⟩
  | .hbm, ⟨40, _⟩ => ⟨S2x8x4096x4096, .f32⟩
  | .hbm, ⟨41, _⟩ => ⟨S_, .f32⟩
  | .hbm, ⟨42, _⟩ => ⟨S_, .f32⟩
  | .hbm, ⟨43, _⟩ => ⟨S2x8x4096x4096, .f32⟩
  | .hbm, ⟨44, _⟩ => ⟨S2x8x4096x4096, .f32⟩
  | .hbm, ⟨45, _⟩ => ⟨S2x8x4096x16, .f32⟩
  | .hbm, ⟨46, _⟩ => ⟨S2x4096x8x16, .f32⟩
  | .hbm, ⟨47, _⟩ => ⟨S_, .f32⟩
  | .hbm, ⟨48, _⟩ => ⟨S2x4096x8x112, .f32⟩
  | .hbm, ⟨49, _⟩ => ⟨S2x4096x8x128, .f32⟩
  | .hbm, ⟨50, _⟩ => ⟨S8192x1024, .f32⟩
  | .hbm, ⟨51, _⟩ => ⟨S8192x1536, .bf16⟩
  | .hbm, ⟨52, _⟩ => ⟨S8192x512, .bf16⟩
  | .hbm, ⟨53, _⟩ => ⟨S256x256, .i32⟩
  | .hbm, ⟨54, _⟩ => ⟨S256x256, .i32⟩
  | .hbm, ⟨55, _⟩ => ⟨S256x256, .i1⟩
  | .hbm, ⟨56, _⟩ => ⟨S256x256, .bf16⟩
  | .hbm, ⟨57, _⟩ => ⟨S256x256, .i32⟩
  | .hbm, ⟨58, _⟩ => ⟨S256x256, .i32⟩
  | .hbm, ⟨59, _⟩ => ⟨S256x256, .i1⟩
  | .hbm, ⟨60, _⟩ => ⟨S256x256, .bf16⟩
  | .hbm, ⟨61, _⟩ => ⟨S8192x512, .bf16⟩
  | .hbm, ⟨62, _⟩ => ⟨S8192x512, .bf16⟩
  | .hbm, ⟨63, _⟩ => ⟨S8192x512, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x256, .f32⟩
  | .local _ .vmem, ⟨7, _⟩ => ⟨S256x256, .f32⟩
  | .local _ .vmem, ⟨8, _⟩ => ⟨S256x128, .bf16⟩
  | .local _ .vmem, ⟨9, _⟩ => ⟨S256x128, .bf16⟩
  | .local _ .vmem, ⟨10, _⟩ => ⟨S256x256, .bf16⟩
  | .local _ .vmem, ⟨11, _⟩ => ⟨S256x256, .bf16⟩
  | .local _ .vmem, ⟨12, _⟩ => ⟨S256x128, .bf16⟩
  | .local _ .vmem, ⟨13, _⟩ => ⟨S256x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S16x128x256, .f32⟩
  | .local _ .vmem, ⟨19, _⟩ => ⟨S16x128x256, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_call2_cst : Ref sig .tc := ⟨.hbm, 41, rfl⟩
abbrev main_call2_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_1 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36_0 : Ref sig .tc := ⟨.hbm, 61, rfl⟩
abbrev main_v36_1 : Ref sig .tc := ⟨.hbm, 62, rfl⟩
abbrev main_v36_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v128 : BitVec 32 := Scalar.subi v126 c0_i32_42
  let c1_i32_43 : BitVec 32 := 1#32
  let v130 : BitVec 32 := Scalar.divsi v128 c1_i32_43
  let v131 : BitVec 32 := Scalar.muli v130 c1_i32_43
  let v132 : BitVec 32 := Scalar.addi c0_i32_42 v131
  let c1_i32_44 : BitVec 32 := 1#32
  ⟨c0_i32_42, v132, c1_i32_44⟩
def k0_mult1 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v187 : BitVec 32 := Scalar.muli c4_i32 arg15
  let c0_i32_73 : BitVec 32 := 0#32
  let v188 : BitVec 32 := Scalar.addi v187 c0_i32_73
  let c256_i32_80 : BitVec 32 := 256#32
  let v196 : BitVec 32 := Scalar.muli v188 c256_i32_80
  v196
def k0_off1 (i : grid0.Coords) (k0_t1 : Fin (k0_t1_loop i).trips) (c0_i32_73 : BitVec 32) : Fin 2 → Nat :=
  let c4_i32 : BitVec 32 := 4#32
  let c0_i32_42 : BitVec 32 := 0#32
  let c1_i32_44 : BitVec 32 := 1#32
  let arg15 : BitVec 32 := Scf.iv c0_i32_42 c1_i32_44 k0_t1
  let v187 : BitVec 32 := Scalar.muli c4_i32 arg15
  let v188 : BitVec 32 := Scalar.addi v187 c0_i32_73
  let c256_i32_80 : BitVec 32 := 256#32
  let v196 : BitVec 32 := Scalar.muli v188 c256_i32_80
  let v197 : BitVec 32 := v196
  let v198 : Index := Scalar.indexCast v197
  let c0_81 : Index := 0#32
  ![v198.toNat, 0]
def k0_mult2 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v187 : BitVec 32 := Scalar.muli c4_i32 arg15
  let c1_i32_75 : BitVec 32 := 1#32
  let v190 : BitVec 32 := Scalar.addi v187 c1_i32_75
  let c256_i32_82 : BitVec 32 := 256#32
  let v201 : BitVec 32 := Scalar.muli v190 c256_i32_82
  v201
def k0_mult3 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v187 : BitVec 32 := Scalar.muli c4_i32 arg15
  let c2_i32_77 : BitVec 32 := 2#32
  let v192 : BitVec 32 := Scalar.addi v187 c2_i32_77
  let c256_i32_84 : BitVec 32 := 256#32
  let v206 : BitVec 32 := Scalar.muli v192 c256_i32_84
  v206
def k0_mult4 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v187 : BitVec 32 := Scalar.muli c4_i32 arg15
  let c3_i32 : BitVec 32 := 3#32
  let v194 : BitVec 32 := Scalar.addi v187 c3_i32
  let c256_i32_86 : BitVec 32 := 256#32
  let v211 : BitVec 32 := Scalar.muli v194 c256_i32_86
  v211
def k0_mult5 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v187 : BitVec 32 := Scalar.muli c4_i32 arg15
  let c0_i32_73 : BitVec 32 := 0#32
  let v188 : BitVec 32 := Scalar.addi v187 c0_i32_73
  let c256_i32_88 : BitVec 32 := 256#32
  let v216 : BitVec 32 := Scalar.muli v188 c256_i32_88
  v216
def k0_mult6 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v187 : BitVec 32 := Scalar.muli c4_i32 arg15
  let c1_i32_75 : BitVec 32 := 1#32
  let v190 : BitVec 32 := Scalar.addi v187 c1_i32_75
  let c256_i32_90 : BitVec 32 := 256#32
  let v221 : BitVec 32 := Scalar.muli v190 c256_i32_90
  v221
def k0_mult7 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v187 : BitVec 32 := Scalar.muli c4_i32 arg15
  let c2_i32_77 : BitVec 32 := 2#32
  let v192 : BitVec 32 := Scalar.addi v187 c2_i32_77
  let c256_i32_92 : BitVec 32 := 256#32
  let v226 : BitVec 32 := Scalar.muli v192 c256_i32_92
  v226
def k0_mult8 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v187 : BitVec 32 := Scalar.muli c4_i32 arg15
  let c3_i32 : BitVec 32 := 3#32
  let v194 : BitVec 32 := Scalar.addi v187 c3_i32
  let c256_i32_94 : BitVec 32 := 256#32
  let v231 : BitVec 32 := Scalar.muli v194 c256_i32_94
  v231
def k0_off2 (i : grid0.Coords) (k0_t1 : Fin (k0_t1_loop i).trips) (c0_i32_73 : BitVec 32) : Fin 3 → Nat :=
  let c4_i32 : BitVec 32 := 4#32
  let c0_i32_42 : BitVec 32 := 0#32
  let c1_i32_44 : BitVec 32 := 1#32
  let arg15 : BitVec 32 := Scf.iv c0_i32_42 c1_i32_44 k0_t1
  let v187 : BitVec 32 := Scalar.muli c4_i32 arg15
  let v188 : BitVec 32 := Scalar.addi v187 c0_i32_73
  let v644 : Index := Scalar.indexCast v188
  let c0_224 : Index := 0#32
  let c0_225 : Index := 0#32
  ![v644.toNat, 0, 0]
@[reducible] def k0_t2_loop (i : grid0.Coords) : Scf.Loop 32 :=
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v128 : BitVec 32 := Scalar.subi v126 c0_i32_42
  let c1_i32_43 : BitVec 32 := 1#32
  let v130 : BitVec 32 := Scalar.divsi v128 c1_i32_43
  let v131 : BitVec 32 := Scalar.muli v130 c1_i32_43
  let v132 : BitVec 32 := Scalar.addi c0_i32_42 v131
  let v129 : BitVec 32 := Scalar.addi c0_i32_42 v128
  let c1_i32_45 : BitVec 32 := 1#32
  ⟨v132, v129, c1_i32_45⟩
def k0_mult9 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v128 : BitVec 32 := Scalar.subi v126 c0_i32_42
  let c1_i32_43 : BitVec 32 := 1#32
  let v130 : BitVec 32 := Scalar.divsi v128 c1_i32_43
  let v131 : BitVec 32 := Scalar.muli v130 c1_i32_43
  let v132 : BitVec 32 := Scalar.addi c0_i32_42 v131
  let c1_i32_45 : BitVec 32 := 1#32
  let arg15 : BitVec 32 := Scf.iv v132 c1_i32_45 k0_t2
  let v187 : BitVec 32 := Scalar.muli c4_i32 arg15
  let c0_i32_73 : BitVec 32 := 0#32
  let v188 : BitVec 32 := Scalar.addi v187 c0_i32_73
  let c256_i32_80 : BitVec 32 := 256#32
  let v196 : BitVec 32 := Scalar.muli v188 c256_i32_80
  v196
def k0_off3 (i : grid0.Coords) (k0_t2 : Fin (k0_t2_loop i).trips) (c0_i32_73 : BitVec 32) : Fin 2 → Nat :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v128 : BitVec 32 := Scalar.subi v126 c0_i32_42
  let c1_i32_43 : BitVec 32 := 1#32
  let v130 : BitVec 32 := Scalar.divsi v128 c1_i32_43
  let v131 : BitVec 32 := Scalar.muli v130 c1_i32_43
  let v132 : BitVec 32 := Scalar.addi c0_i32_42 v131
  let c1_i32_45 : BitVec 32 := 1#32
  let arg15 : BitVec 32 := Scf.iv v132 c1_i32_45 k0_t2
  let v187 : BitVec 32 := Scalar.muli c4_i32 arg15
  let v188 : BitVec 32 := Scalar.addi v187 c0_i32_73
  let c256_i32_80 : BitVec 32 := 256#32
  let v196 : BitVec 32 := Scalar.muli v188 c256_i32_80
  let v197 : BitVec 32 := v196
  let v198 : Index := Scalar.indexCast v197
  let c0_81 : Index := 0#32
  ![v198.toNat, 0]
def k0_mult10 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v128 : BitVec 32 := Scalar.subi v126 c0_i32_42
  let c1_i32_43 : BitVec 32 := 1#32
  let v130 : BitVec 32 := Scalar.divsi v128 c1_i32_43
  let v131 : BitVec 32 := Scalar.muli v130 c1_i32_43
  let v132 : BitVec 32 := Scalar.addi c0_i32_42 v131
  let c1_i32_45 : BitVec 32 := 1#32
  let arg15 : BitVec 32 := Scf.iv v132 c1_i32_45 k0_t2
  let v187 : BitVec 32 := Scalar.muli c4_i32 arg15
  let c1_i32_75 : BitVec 32 := 1#32
  let v190 : BitVec 32 := Scalar.addi v187 c1_i32_75
  let c256_i32_82 : BitVec 32 := 256#32
  let v201 : BitVec 32 := Scalar.muli v190 c256_i32_82
  v201
def k0_mult11 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v128 : BitVec 32 := Scalar.subi v126 c0_i32_42
  let c1_i32_43 : BitVec 32 := 1#32
  let v130 : BitVec 32 := Scalar.divsi v128 c1_i32_43
  let v131 : BitVec 32 := Scalar.muli v130 c1_i32_43
  let v132 : BitVec 32 := Scalar.addi c0_i32_42 v131
  let c1_i32_45 : BitVec 32 := 1#32
  let arg15 : BitVec 32 := Scf.iv v132 c1_i32_45 k0_t2
  let v187 : BitVec 32 := Scalar.muli c4_i32 arg15
  let c2_i32_77 : BitVec 32 := 2#32
  let v192 : BitVec 32 := Scalar.addi v187 c2_i32_77
  let c256_i32_84 : BitVec 32 := 256#32
  let v206 : BitVec 32 := Scalar.muli v192 c256_i32_84
  v206
def k0_mult12 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v128 : BitVec 32 := Scalar.subi v126 c0_i32_42
  let c1_i32_43 : BitVec 32 := 1#32
  let v130 : BitVec 32 := Scalar.divsi v128 c1_i32_43
  let v131 : BitVec 32 := Scalar.muli v130 c1_i32_43
  let v132 : BitVec 32 := Scalar.addi c0_i32_42 v131
  let c1_i32_45 : BitVec 32 := 1#32
  let arg15 : BitVec 32 := Scf.iv v132 c1_i32_45 k0_t2
  let v187 : BitVec 32 := Scalar.muli c4_i32 arg15
  let c3_i32 : BitVec 32 := 3#32
  let v194 : BitVec 32 := Scalar.addi v187 c3_i32
  let c256_i32_86 : BitVec 32 := 256#32
  let v211 : BitVec 32 := Scalar.muli v194 c256_i32_86
  v211
def k0_mult13 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v128 : BitVec 32 := Scalar.subi v126 c0_i32_42
  let c1_i32_43 : BitVec 32 := 1#32
  let v130 : BitVec 32 := Scalar.divsi v128 c1_i32_43
  let v131 : BitVec 32 := Scalar.muli v130 c1_i32_43
  let v132 : BitVec 32 := Scalar.addi c0_i32_42 v131
  let c1_i32_45 : BitVec 32 := 1#32
  let arg15 : BitVec 32 := Scf.iv v132 c1_i32_45 k0_t2
  let v187 : BitVec 32 := Scalar.muli c4_i32 arg15
  let c0_i32_73 : BitVec 32 := 0#32
  let v188 : BitVec 32 := Scalar.addi v187 c0_i32_73
  let c256_i32_88 : BitVec 32 := 256#32
  let v216 : BitVec 32 := Scalar.muli v188 c256_i32_88
  v216
def k0_mult14 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v128 : BitVec 32 := Scalar.subi v126 c0_i32_42
  let c1_i32_43 : BitVec 32 := 1#32
  let v130 : BitVec 32 := Scalar.divsi v128 c1_i32_43
  let v131 : BitVec 32 := Scalar.muli v130 c1_i32_43
  let v132 : BitVec 32 := Scalar.addi c0_i32_42 v131
  let c1_i32_45 : BitVec 32 := 1#32
  let arg15 : BitVec 32 := Scf.iv v132 c1_i32_45 k0_t2
  let v187 : BitVec 32 := Scalar.muli c4_i32 arg15
  let c1_i32_75 : BitVec 32 := 1#32
  let v190 : BitVec 32 := Scalar.addi v187 c1_i32_75
  let c256_i32_90 : BitVec 32 := 256#32
  let v221 : BitVec 32 := Scalar.muli v190 c256_i32_90
  v221
def k0_mult15 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v128 : BitVec 32 := Scalar.subi v126 c0_i32_42
  let c1_i32_43 : BitVec 32 := 1#32
  let v130 : BitVec 32 := Scalar.divsi v128 c1_i32_43
  let v131 : BitVec 32 := Scalar.muli v130 c1_i32_43
  let v132 : BitVec 32 := Scalar.addi c0_i32_42 v131
  let c1_i32_45 : BitVec 32 := 1#32
  let arg15 : BitVec 32 := Scf.iv v132 c1_i32_45 k0_t2
  let v187 : BitVec 32 := Scalar.muli c4_i32 arg15
  let c2_i32_77 : BitVec 32 := 2#32
  let v192 : BitVec 32 := Scalar.addi v187 c2_i32_77
  let c256_i32_92 : BitVec 32 := 256#32
  let v226 : BitVec 32 := Scalar.muli v192 c256_i32_92
  v226
def k0_mult16 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v128 : BitVec 32 := Scalar.subi v126 c0_i32_42
  let c1_i32_43 : BitVec 32 := 1#32
  let v130 : BitVec 32 := Scalar.divsi v128 c1_i32_43
  let v131 : BitVec 32 := Scalar.muli v130 c1_i32_43
  let v132 : BitVec 32 := Scalar.addi c0_i32_42 v131
  let c1_i32_45 : BitVec 32 := 1#32
  let arg15 : BitVec 32 := Scf.iv v132 c1_i32_45 k0_t2
  let v187 : BitVec 32 := Scalar.muli c4_i32 arg15
  let c3_i32 : BitVec 32 := 3#32
  let v194 : BitVec 32 := Scalar.addi v187 c3_i32
  let c256_i32_94 : BitVec 32 := 256#32
  let v231 : BitVec 32 := Scalar.muli v194 c256_i32_94
  v231
def k0_off4 (i : grid0.Coords) (k0_t2 : Fin (k0_t2_loop i).trips) (c0_i32_73 : BitVec 32) : Fin 3 → Nat :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v128 : BitVec 32 := Scalar.subi v126 c0_i32_42
  let c1_i32_43 : BitVec 32 := 1#32
  let v130 : BitVec 32 := Scalar.divsi v128 c1_i32_43
  let v131 : BitVec 32 := Scalar.muli v130 c1_i32_43
  let v132 : BitVec 32 := Scalar.addi c0_i32_42 v131
  let c1_i32_45 : BitVec 32 := 1#32
  let arg15 : BitVec 32 := Scf.iv v132 c1_i32_45 k0_t2
  let v187 : BitVec 32 := Scalar.muli c4_i32 arg15
  let v188 : BitVec 32 := Scalar.addi v187 c0_i32_73
  let v644 : Index := Scalar.indexCast v188
  let c0_224 : Index := 0#32
  let c0_225 : Index := 0#32
  ![v644.toNat, 0, 0]
def k0_cond2 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_47 : BitVec 32 := 0#32
  let v136 : BitVec 1 := Scalar.cmpi .sgt v16 c0_i32_47
  let v137 : BitVec 32 := Scalar.extui v136
  let c0_i32_48 : BitVec 32 := 0#32
  let v138 : BitVec 1 := Scalar.cmpi .slt v16 c0_i32_48
  let v139 : BitVec 32 := Scalar.extui v138
  let v140 : BitVec 32 := Scalar.subi v137 v139
  let c2_i32_46 : BitVec 32 := 2#32
  let c0_i32_49 : BitVec 32 := 0#32
  let v141 : BitVec 1 := Scalar.cmpi .sgt c2_i32_46 c0_i32_49
  let v142 : BitVec 32 := Scalar.extui v141
  let c0_i32_50 : BitVec 32 := 0#32
  let v143 : BitVec 1 := Scalar.cmpi .slt c2_i32_46 c0_i32_50
  let v144 : BitVec 32 := Scalar.extui v143
  let v145 : BitVec 32 := Scalar.subi v142 v144
  let v146 : BitVec 1 := Scalar.cmpi .ne v140 v145
  let v147 : BitVec 32 := Scalar.remsi v16 c2_i32_46
  let c0_i32_51 : BitVec 32 := 0#32
  let v148 : BitVec 1 := Scalar.cmpi .ne v147 c0_i32_51
  let v149 : BitVec 1 := Scalar.andi v146 v148
  let v135 : BitVec 32 := Scalar.divsi v16 c2_i32_46
  let c1_i32_52 : BitVec 32 := 1#32
  let v150 : BitVec 32 := Scalar.subi v135 c1_i32_52
  let v151 : BitVec 32 := Scalar.select v149 v150 v135
  let c2_i32_53 : BitVec 32 := 2#32
  let c0_i32_54 : BitVec 32 := 0#32
  let v152 : BitVec 1 := Scalar.cmpi .eq c2_i32_53 c0_i32_54
  let c1_i32_55 : BitVec 32 := 1#32
  let v153 : BitVec 32 := Scalar.select v152 c1_i32_55 c2_i32_53
  let v154 : BitVec 32 := Scalar.remsi v151 v153
  let c0_i32_57 : BitVec 32 := 0#32
  let v156 : BitVec 1 := Scalar.cmpi .slt v154 c0_i32_57
  let c0_i32_58 : BitVec 32 := 0#32
  let v157 : BitVec 1 := Scalar.cmpi .slt v153 c0_i32_58
  let v158 : BitVec 1 := Scalar.xori v156 v157
  let c0_i32_56 : BitVec 32 := 0#32
  let v155 : BitVec 1 := Scalar.cmpi .ne v154 c0_i32_56
  let v159 : BitVec 1 := Scalar.andi v158 v155
  let v160 : BitVec 32 := Scalar.addi v154 v153
  let v161 : BitVec 32 := Scalar.select v159 v160 v154
  let c1_i32_59 : BitVec 32 := 1#32
  let v162 : BitVec 1 := Scalar.cmpi .eq v161 c1_i32_59
  let v163 : BitVec 32 := Scalar.extui v162
  let c0_i32_60 : BitVec 32 := 0#32
  let v164 : BitVec 1 := Scalar.cmpi .ne v163 c0_i32_60
  v164

def k0_mult17 (i : grid0.Coords) : BitVec 32 :=
  let c4_i32 : BitVec 32 := 4#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v187 : BitVec 32 := Scalar.muli c4_i32 v126
  let c0_i32_73 : BitVec 32 := 0#32
  let v188 : BitVec 32 := Scalar.addi v187 c0_i32_73
  let c256_i32_77 : BitVec 32 := 256#32
  let v192 : BitVec 32 := Scalar.muli v188 c256_i32_77
  v192
def k0_off5 (i : grid0.Coords) (c0_i32_73 : BitVec 32) : Fin 2 → Nat :=
  let c4_i32 : BitVec 32 := 4#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v187 : BitVec 32 := Scalar.muli c4_i32 v126
  let v188 : BitVec 32 := Scalar.addi v187 c0_i32_73
  let c256_i32_77 : BitVec 32 := 256#32
  let v192 : BitVec 32 := Scalar.muli v188 c256_i32_77
  let v193 : BitVec 32 := v192
  let v194 : Index := Scalar.indexCast v193
  let c0_78 : Index := 0#32
  ![v194.toNat, 0]
def k0_mult18 (i : grid0.Coords) : BitVec 32 :=
  let c4_i32 : BitVec 32 := 4#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v187 : BitVec 32 := Scalar.muli c4_i32 v126
  let c1_i32_75 : BitVec 32 := 1#32
  let v190 : BitVec 32 := Scalar.addi v187 c1_i32_75
  let c256_i32_79 : BitVec 32 := 256#32
  let v197 : BitVec 32 := Scalar.muli v190 c256_i32_79
  v197
def k0_mult19 (i : grid0.Coords) : BitVec 32 :=
  let c4_i32 : BitVec 32 := 4#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v187 : BitVec 32 := Scalar.muli c4_i32 v126
  let c0_i32_73 : BitVec 32 := 0#32
  let v188 : BitVec 32 := Scalar.addi v187 c0_i32_73
  let c256_i32_81 : BitVec 32 := 256#32
  let v202 : BitVec 32 := Scalar.muli v188 c256_i32_81
  v202
def k0_mult20 (i : grid0.Coords) : BitVec 32 :=
  let c4_i32 : BitVec 32 := 4#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v187 : BitVec 32 := Scalar.muli c4_i32 v126
  let c1_i32_75 : BitVec 32 := 1#32
  let v190 : BitVec 32 := Scalar.addi v187 c1_i32_75
  let c256_i32_83 : BitVec 32 := 256#32
  let v207 : BitVec 32 := Scalar.muli v190 c256_i32_83
  v207
def k0_off6 (i : grid0.Coords) (c0_i32_73 : BitVec 32) : Fin 3 → Nat :=
  let c4_i32 : BitVec 32 := 4#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v94 : BitVec 1 := Scalar.cmpi .sgt v16 c0_i32_28
  let v95 : BitVec 32 := Scalar.extui v94
  let c0_i32_29 : BitVec 32 := 0#32
  let v96 : BitVec 1 := Scalar.cmpi .slt v16 c0_i32_29
  let v97 : BitVec 32 := Scalar.extui v96
  let v98 : BitVec 32 := Scalar.subi v95 v97
  let c2_i32 : BitVec 32 := 2#32
  let c0_i32_30 : BitVec 32 := 0#32
  let v99 : BitVec 1 := Scalar.cmpi .sgt c2_i32 c0_i32_30
  let v100 : BitVec 32 := Scalar.extui v99
  let c0_i32_31 : BitVec 32 := 0#32
  let v101 : BitVec 1 := Scalar.cmpi .slt c2_i32 c0_i32_31
  let v102 : BitVec 32 := Scalar.extui v101
  let v103 : BitVec 32 := Scalar.subi v100 v102
  let v104 : BitVec 1 := Scalar.cmpi .ne v98 v103
  let v105 : BitVec 32 := Scalar.remsi v16 c2_i32
  let c0_i32_32 : BitVec 32 := 0#32
  let v106 : BitVec 1 := Scalar.cmpi .ne v105 c0_i32_32
  let v107 : BitVec 1 := Scalar.andi v104 v106
  let v93 : BitVec 32 := Scalar.divsi v16 c2_i32
  let c1_i32_33 : BitVec 32 := 1#32
  let v108 : BitVec 32 := Scalar.subi v93 c1_i32_33
  let v109 : BitVec 32 := Scalar.select v107 v108 v93
  let c0_i32_35 : BitVec 32 := 0#32
  let v111 : BitVec 1 := Scalar.cmpi .sgt v109 c0_i32_35
  let v112 : BitVec 32 := Scalar.extui v111
  let c0_i32_36 : BitVec 32 := 0#32
  let v113 : BitVec 1 := Scalar.cmpi .slt v109 c0_i32_36
  let v114 : BitVec 32 := Scalar.extui v113
  let v115 : BitVec 32 := Scalar.subi v112 v114
  let c2_i32_34 : BitVec 32 := 2#32
  let c0_i32_37 : BitVec 32 := 0#32
  let v116 : BitVec 1 := Scalar.cmpi .sgt c2_i32_34 c0_i32_37
  let v117 : BitVec 32 := Scalar.extui v116
  let c0_i32_38 : BitVec 32 := 0#32
  let v118 : BitVec 1 := Scalar.cmpi .slt c2_i32_34 c0_i32_38
  let v119 : BitVec 32 := Scalar.extui v118
  let v120 : BitVec 32 := Scalar.subi v117 v119
  let v121 : BitVec 1 := Scalar.cmpi .ne v115 v120
  let v122 : BitVec 32 := Scalar.remsi v109 c2_i32_34
  let c0_i32_39 : BitVec 32 := 0#32
  let v123 : BitVec 1 := Scalar.cmpi .ne v122 c0_i32_39
  let v124 : BitVec 1 := Scalar.andi v121 v123
  let v110 : BitVec 32 := Scalar.divsi v109 c2_i32_34
  let c1_i32_40 : BitVec 32 := 1#32
  let v125 : BitVec 32 := Scalar.subi v110 c1_i32_40
  let v126 : BitVec 32 := Scalar.select v124 v125 v110
  let v187 : BitVec 32 := Scalar.muli c4_i32 v126
  let v188 : BitVec 32 := Scalar.addi v187 c0_i32_73
  let v416 : Index := Scalar.indexCast v188
  let c0_149 : Index := 0#32
  let c0_150 : Index := 0#32
  ![v416.toNat, 0, 0]
def k0_cond3 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c2_i32_61 : BitVec 32 := 2#32
  let c0_i32_62 : BitVec 32 := 0#32
  let v166 : BitVec 1 := Scalar.cmpi .eq c2_i32_61 c0_i32_62
  let c1_i32_63 : BitVec 32 := 1#32
  let v167 : BitVec 32 := Scalar.select v166 c1_i32_63 c2_i32_61
  let v168 : BitVec 32 := Scalar.remsi v16 v167
  let c0_i32_65 : BitVec 32 := 0#32
  let v170 : BitVec 1 := Scalar.cmpi .slt v168 c0_i32_65
  let c0_i32_66 : BitVec 32 := 0#32
  let v171 : BitVec 1 := Scalar.cmpi .slt v167 c0_i32_66
  let v172 : BitVec 1 := Scalar.xori v170 v171
  let c0_i32_64 : BitVec 32 := 0#32
  let v169 : BitVec 1 := Scalar.cmpi .ne v168 c0_i32_64
  let v173 : BitVec 1 := Scalar.andi v172 v169
  let v174 : BitVec 32 := Scalar.addi v168 v167
  let v175 : BitVec 32 := Scalar.select v173 v174 v168
  let c1_i32_67 : BitVec 32 := 1#32
  let v176 : BitVec 1 := Scalar.cmpi .eq v175 c1_i32_67
  let v177 : BitVec 32 := Scalar.extui v176
  let c0_i32_68 : BitVec 32 := 0#32
  let v178 : BitVec 1 := Scalar.cmpi .ne v177 c0_i32_68
  v178

def k0_mult21 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_73 : BitVec 32 := 1#32
  let v187 : BitVec 32 := Scalar.subi v16 c1_i32_73
  let c256_i32_75 : BitVec 32 := 256#32
  let v189 : BitVec 32 := Scalar.muli v187 c256_i32_75
  v189
def k0_off7 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_73 : BitVec 32 := 1#32
  let v187 : BitVec 32 := Scalar.subi v16 c1_i32_73
  let c256_i32_75 : BitVec 32 := 256#32
  let v189 : BitVec 32 := Scalar.muli v187 c256_i32_75
  let v190 : BitVec 32 := v189
  let v191 : Index := Scalar.indexCast v190
  let c0_76 : Index := 0#32
  ![v191.toNat, 0]
def k0_mult22 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_77 : BitVec 32 := 256#32
  let v194 : BitVec 32 := Scalar.muli v16 c256_i32_77
  v194
def k0_off8 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_77 : BitVec 32 := 256#32
  let v194 : BitVec 32 := Scalar.muli v16 c256_i32_77
  let v195 : BitVec 32 := v194
  let v196 : Index := Scalar.indexCast v195
  let c0_78 : Index := 0#32
  ![v196.toNat, 0]
def k0_mult23 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_73 : BitVec 32 := 1#32
  let v187 : BitVec 32 := Scalar.subi v16 c1_i32_73
  let c256_i32_79 : BitVec 32 := 256#32
  let v199 : BitVec 32 := Scalar.muli v187 c256_i32_79
  v199
def k0_mult24 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_81 : BitVec 32 := 256#32
  let v204 : BitVec 32 := Scalar.muli v16 c256_i32_81
  v204
def k0_off9 (i : grid0.Coords) : Fin 3 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_73 : BitVec 32 := 1#32
  let v187 : BitVec 32 := Scalar.subi v16 c1_i32_73
  let v421 : Index := Scalar.indexCast v187
  let c0_153 : Index := 0#32
  let c0_154 : Index := 0#32
  ![v421.toNat, 0, 0]
def k0_off10 (i : grid0.Coords) : Fin 3 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let v441 : Index := Scalar.indexCast v16
  let c0_163 : Index := 0#32
  let c0_164 : Index := 0#32
  ![v441.toNat, 0, 0]
def k0_mult25 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_73 : BitVec 32 := 256#32
  let v187 : BitVec 32 := Scalar.muli v16 c256_i32_73
  v187
def k0_off11 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_73 : BitVec 32 := 256#32
  let v187 : BitVec 32 := Scalar.muli v16 c256_i32_73
  let v188 : BitVec 32 := v187
  let v189 : Index := Scalar.indexCast v188
  let c0_74 : Index := 0#32
  ![v189.toNat, 0]
def k0_mult26 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_75 : BitVec 32 := 256#32
  let v192 : BitVec 32 := Scalar.muli v16 c256_i32_75
  v192
def k0_off12 (i : grid0.Coords) : Fin 3 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let v307 : Index := Scalar.indexCast v16
  let c0_115 : Index := 0#32
  let c0_116 : Index := 0#32
  ![v307.toNat, 0, 0]
def k0_cond4 (i : grid0.Coords) : BitVec 1 :=
  let arg2 : BitVec 32 := BitVec.ofNat 32 (i 2).val
  let c15_i32 : BitVec 32 := 15#32
  let v184 : BitVec 1 := Scalar.cmpi .eq arg2 c15_i32
  let v185 : BitVec 32 := Scalar.extui v184
  let c0_i32_72 : BitVec 32 := 0#32
  let v186 : BitVec 1 := Scalar.cmpi .ne v185 c0_i32_72
  v186

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== AttnRefIdeal.lean ====
abbrev S8192x1536 : Shape := ⟨2, ![8192, 1536]⟩
abbrev S8192x512 : Shape := ⟨2, ![8192, 512]⟩
abbrev S2x4096x8x64 : Shape := ⟨4, ![2, 4096, 8, 64]⟩
abbrev S2x8x4096x64 : Shape := ⟨4, ![2, 8, 4096, 64]⟩
abbrev S2x8x4096x4096 : Shape := ⟨4, ![2, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x64x4096 : Shape := ⟨4, ![2, 8, 64, 4096]⟩

abbrev nBuf : Space → Nat
  | .hbm => 181
  | .vmem => 0
  | .smem => 0
  | _ => 0

abbrev hbmTy0_0 (i : Nat) : BufTy := match i % 128 with
  | 0 => ⟨S8192x1536, .f32⟩
  | 1 => ⟨S8192x512, .f32⟩
  | 2 => ⟨S8192x512, .f32⟩
  | 3 => ⟨S8192x512, .f32⟩
  | 4 => ⟨S8192x512, .f32⟩
  | 5 => ⟨S2x4096x8x64, .f32⟩
  | 6 => ⟨S2x8x4096x64, .f32⟩
  | 7 => ⟨S2x4096x8x64, .f32⟩
  | 8 => ⟨S2x8x4096x64, .f32⟩
  | 9 => ⟨S2x8x4096x4096, .f32⟩
  | 10 => ⟨S_, .f32⟩
  | 11 => ⟨S2x8x4096x4096, .f32⟩
  | 12 => ⟨S2x8x4096x4096, .f32⟩
  | 13 => ⟨S4096, .i32⟩
  | 14 => ⟨S1x4096, .i32⟩
  | 15 => ⟨S4096, .i32⟩
  | 16 => ⟨S4096x1, .i32⟩
  | 17 => ⟨S4096x4096, .i32⟩
  | 18 => ⟨S4096x4096, .i32⟩
  | 19 => ⟨S4096x4096, .i1⟩
  | 20 => ⟨S2x8x4096x4096, .f32⟩
  | 21 => ⟨S2x8x4096x4096, .f32⟩
  | 22 => ⟨S_, .f32⟩
  | 23 => ⟨S2x8x4096x4096, .f32⟩
  | 24 => ⟨S2x8x4096x4096, .f32⟩
  | 25 => ⟨S2x8x4096x4096, .f32⟩
  | 26 => ⟨S2x8x4096x4096, .f32⟩
  | 27 => ⟨S2x8x4096x4096, .i1⟩
  | 28 => ⟨S2x8x4096x4096, .f32⟩
  | 29 => ⟨S2x8x4096x4096, .f32⟩
  | 30 => ⟨S2x8x4096x4096, .f32⟩
  | 31 => ⟨S2x8x4096x4096, .f32⟩
  | 32 => ⟨S2x8x4096x4096, .f32⟩
  | 33 => ⟨S2x8x4096x4096, .f32⟩
  | 34 => ⟨S2x8x4096x4096, .f32⟩
  | 35 => ⟨S2x8x4096x4096, .f32⟩
  | 36 => ⟨S_, .f32⟩
  | 37 => ⟨S2x8x4096x4096, .f32⟩
  | 38 => ⟨S2x8x4096x4096, .i1⟩
  | 39 => ⟨S_, .f32⟩
  | 40 => ⟨S2x8x4096x4096, .f32⟩
  | 41 => ⟨S2x8x4096x4096, .f32⟩
  | 42 => ⟨S_, .f32⟩
  | 43 => ⟨S2x8x4096x4096, .f32⟩
  | 44 => ⟨S2x8x4096x4096, .i1⟩
  | 45 => ⟨S_, .f32⟩
  | 46 => ⟨S2x8x4096x4096, .f32⟩
  | 47 => ⟨S2x8x4096x4096, .f32⟩
  | 48 => ⟨S2x8x4096x4096, .f32⟩
  | 49 => ⟨S2x8x4096x4096, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S2x8x4096x4096, .f32⟩
  | 58 => ⟨S2x8x4096x4096, .i1⟩
  | 59 => ⟨S_, .f32⟩
  | 60 => ⟨S2x8x4096x4096, .f32⟩
  | 61 => ⟨S2x8x4096x4096, .f32⟩
  | 62 => ⟨S2x8x4096x4096, .f32⟩
  | 63 => ⟨S2x8x4096x4096, .f32⟩
  | 64 => ⟨S2x8x4096x4096, .f32⟩
  | 65 => ⟨S_, .f32⟩
  | 66 => ⟨S2x8x4096x4096, .f32⟩
  | 67 => ⟨S2x8x4096x4096, .f32⟩
  | 68 => ⟨S2x8x4096x4096, .f32⟩
  | 69 => ⟨S_, .f32⟩
  | 70 => ⟨S_, .f32⟩
  | 71 => ⟨S2x8x4096x4096, .i1⟩
  | 72 => ⟨S2x8x4096x4096, .f32⟩
  | 73 => ⟨S2x8x4096x4096, .f32⟩
  | 74 => ⟨S_, .f32⟩
  | 75 => ⟨S2x8x4096x4096, .f32⟩
  | 76 => ⟨S_, .f32⟩
  | 77 => ⟨S_, .f32⟩
  | 78 => ⟨S2x8x4096x4096, .f32⟩
  | 79 => ⟨S2x8x4096x4096, .f32⟩
  | 80 => ⟨S2x8x4096x4096, .f32⟩
  | 81 => ⟨S_, .f32⟩
  | 82 => ⟨S2x8x4096x4096, .f32⟩
  | 83 => ⟨S2x8x4096x4096, .f32⟩
  | 84 => ⟨S2x8x4096x4096, .f32⟩
  | 85 => ⟨S2x8x4096x4096, .f32⟩
  | 86 => ⟨S2x8x4096x4096, .i1⟩
  | 87 => ⟨S2x8x4096x4096, .f32⟩
  | 88 => ⟨S2x8x4096x4096, .f32⟩
  | 89 => ⟨S2x8x4096x4096, .f32⟩
  | 90 => ⟨S2x8x4096x4096, .f32⟩
  | 91 => ⟨S2x8x4096x4096, .f32⟩
  | 92 => ⟨S2x8x4096x4096, .f32⟩
  | 93 => ⟨S2x8x4096x4096, .f32⟩
  | 94 => ⟨S2x8x4096x4096, .f32⟩
  | 95 => ⟨S_, .f32⟩
  | 96 => ⟨S2x8x4096x4096, .f32⟩
  | 97 => ⟨S2x8x4096x4096, .i1⟩
  | 98 => ⟨S_, .f32⟩
  | 99 => ⟨S2x8x4096x4096, .f32⟩
  | 100 => ⟨S2x8x4096x4096, .f32⟩
  | 101 => ⟨S_, .f32⟩
  | 102 => ⟨S2x8x4096x4096, .f32⟩
  | 103 => ⟨S2x8x4096x4096, .i1⟩
  | 104 => ⟨S_, .f32⟩
  | 105 => ⟨S2x8x4096x4096, .f32⟩
  | 106 => ⟨S2x8x4096x4096, .f32⟩
  | 107 => ⟨S2x8x4096x4096, .f32⟩
  | 108 => ⟨S2x8x4096x4096, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S2x8x4096x4096, .f32⟩
  | 117 => ⟨S2x8x4096x4096, .i1⟩
  | 118 => ⟨S_, .f32⟩
  | 119 => ⟨S2x8x4096x4096, .f32⟩
  | 120 => ⟨S2x8x4096x4096, .f32⟩
  | 121 => ⟨S2x8x4096x4096, .f32⟩
  | 122 => ⟨S2x8x4096x4096, .f32⟩
  | 123 => ⟨S2x8x4096x4096, .f32⟩
  | 124 => ⟨S_, .f32⟩
  | 125 => ⟨S2x8x4096x4096, .f32⟩
  | 126 => ⟨S2x8x4096x4096, .f32⟩
  | 127 => ⟨S2x8x4096x4096, .f32⟩
  | _ => ⟨S8192x1536, .f32⟩

abbrev hbmTy0_1 (i : Nat) : BufTy := match i % 128 with
  | 0 => ⟨S2x8x4096x4096, .f32⟩
  | 1 => ⟨S2x8x4096x4096, .f32⟩
  | 2 => ⟨S_, .f32⟩
  | 3 => ⟨S_, .f32⟩
  | 4 => ⟨S2x8x4096x4096, .i1⟩
  | 5 => ⟨S2x8x4096x4096, .f32⟩
  | 6 => ⟨S2x8x4096x4096, .f32⟩
  | 7 => ⟨S_, .f32⟩
  | 8 => ⟨S2x8x4096x4096, .f32⟩
  | 9 => ⟨S2x4096x8x64, .f32⟩
  | 10 => ⟨S2x8x4096x64, .f32⟩
  | 11 => ⟨S2x8x4096x64, .f32⟩
  | 12 => ⟨S2x4096x8x64, .f32⟩
  | 13 => ⟨S8192x512, .f32⟩
  | 14 => ⟨S2x4096x8x64, .f32⟩
  | 15 => ⟨S2x8x4096x64, .f32⟩
  | 16 => ⟨S2x8x64x4096, .f32⟩
  | 17 => ⟨S2x8x4096x64, .f32⟩
  | 18 => ⟨S2x8x4096x4096, .f32⟩
  | 19 => ⟨S2x4096x8x64, .f32⟩
  | 20 => ⟨S8192x512, .f32⟩
  | 21 => ⟨S_, .f32⟩
  | 22 => ⟨S2x8x4096x4096, .f32⟩
  | 23 => ⟨S2x8x4096x4096, .f32⟩
  | 24 => ⟨S2x8x4096x4096, .f32⟩
  | 25 => ⟨S2x8x4096x4096, .f32⟩
  | 26 => ⟨S2x8x4096x4096, .f32⟩
  | 27 => ⟨S2x8x4096x4096, .f32⟩
  | 28 => ⟨S2x8x4096x4096, .f32⟩
  | 29 => ⟨S_, .f32⟩
  | 30 => ⟨S_, .f32⟩
  | 31 => ⟨S2x8x4096x4096, .f32⟩
  | 32 => ⟨S2x8x4096x4096, .f32⟩
  | 33 => ⟨S_, .f32⟩
  | 34 => ⟨S2x8x4096x4096, .f32⟩
  | 35 => ⟨S2x8x4096x4096, .f32⟩
  | 36 => ⟨S2x8x4096x4096, .f32⟩
  | 37 => ⟨S2x8x4096x4096, .f32⟩
  | 38 => ⟨S2x8x4096x4096, .f32⟩
  | 39 => ⟨S2x8x4096x4096, .f32⟩
  | 40 => ⟨S2x8x4096x4096, .f32⟩
  | 41 => ⟨S_, .f32⟩
  | 42 => ⟨S2x8x4096x4096, .f32⟩
  | 43 => ⟨S2x8x4096x4096, .f32⟩
  | 44 => ⟨S2x8x4096x64, .f32⟩
  | 45 => ⟨S2x8x4096x64, .f32⟩
  | 46 => ⟨S2x4096x8x64, .f32⟩
  | 47 => ⟨S8192x512, .f32⟩
  | 48 => ⟨S2x4096x8x64, .f32⟩
  | 49 => ⟨S8192x512, .f32⟩
  | 50 => ⟨S8192x512, .bf16⟩
  | 51 => ⟨S8192x512, .bf16⟩
  | 52 => ⟨S8192x512, .bf16⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_cst_0 : Ref sig .tc := ⟨.hbm, 69, rfl⟩
abbrev main_call1_v0 : Ref sig .tc := ⟨.hbm, 70, rfl⟩
abbrev main_v19_1 : Ref sig .tc := ⟨.hbm, 71, rfl⟩
abbrev main_call1_v2 : Ref sig .tc := ⟨.hbm, 72, rfl⟩
abbrev main_v19_0 : Ref sig .tc := ⟨.hbm, 73, rfl⟩
abbrev main_call1_cst : Ref sig .tc := ⟨.hbm, 74, rfl⟩
abbrev main_v19_2 : Ref sig .tc := ⟨.hbm, 75, rfl⟩
abbrev main_call2_cst : Ref sig .tc := ⟨.hbm, 76, rfl⟩
abbrev main_call2_v0 : Ref sig .tc := ⟨.hbm, 77, rfl⟩
abbrev main_v20 : Ref sig .tc := ⟨.hbm, 78, rfl⟩
abbrev main_v21 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v22_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v22_2 : Ref sig .tc := ⟨.hbm, 126, rfl⟩
abbrev main_v22_0 : Ref sig .tc := ⟨.hbm, 127, rfl⟩
abbrev main_v23 : Ref sig .tc := ⟨.hbm, 128, rfl⟩
abbrev main_v24 : Ref sig .tc := ⟨.hbm, 129, rfl⟩
abbrev main_cst_1 : Ref sig .tc := ⟨.hbm, 130, rfl⟩
abbrev main_call4_v0 : Ref sig .tc := ⟨.hbm, 131, rfl⟩
abbrev main_v25_1 : Ref sig .tc := ⟨.hbm, 132, rfl⟩
abbrev main_call4_v2 : Ref sig .tc := ⟨.hbm, 133, rfl⟩
abbrev main_v25_0 : Ref sig .tc := ⟨.hbm, 134, rfl⟩
abbrev main_call4_cst : Ref sig .tc := ⟨.hbm, 135, rfl⟩
abbrev main_v25_2 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_call5_cst : Ref sig .tc := ⟨.hbm, 149, rfl⟩
abbrev main_call5_v0 : Ref sig .tc := ⟨.hbm, 150, rfl⟩
abbrev main_v38 : Ref sig .tc := ⟨.hbm, 151, rfl⟩
abbrev main_v39 : Ref sig .tc := ⟨.hbm, 152, rfl⟩
abbrev main_call6_v0 : Ref sig .tc := ⟨.hbm, 153, rfl⟩
abbrev main_call6_v1 : Ref sig .tc := ⟨.hbm, 154, rfl⟩
abbrev main_v40 : Ref sig .tc := ⟨.hbm, 155, rfl⟩
abbrev main_v41 : Ref sig .tc := ⟨.hbm, 156, rfl⟩
abbrev main_call7_cst : Ref sig .tc := ⟨.hbm, 157, rfl⟩
abbrev main_call7_v0 : Ref sig .tc := ⟨.hbm, 158, rfl⟩
abbrev main_v42 : Ref sig .tc := ⟨.hbm, 159, rfl⟩
abbrev main_v43 : Ref sig .tc := ⟨.hbm, 160, rfl⟩
abbrev main_call8_cst : Ref sig .tc := ⟨.hbm, 161, rfl⟩
abbrev main_call8_v0 : Ref sig .tc := ⟨.hbm, 162, rfl⟩
abbrev main_v44 : Ref sig .tc := ⟨.hbm, 163, rfl⟩
abbrev main_call9_v0 : Ref sig .tc := ⟨.hbm, 164, rfl⟩
abbrev main_call9_v1 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_cst_2 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8192x4096 : Shape := ⟨2, ![8192, 4096]⟩
abbrev S1x128 : Shape := ⟨2, ![1, 128]⟩
abbrev S1024x1024 : Shape := ⟨2, ![1024, 1024]⟩
abbrev S2x1024x512 : Shape := ⟨3, ![2, 1024, 512]⟩
abbrev S1024 : Shape := ⟨1, ![1024]⟩
abbrev S1024x1 : Shape := ⟨2, ![1024, 1]⟩
abbrev S1x1024x512 : Shape := ⟨3, ![1, 1024, 512]⟩
abbrev S1024x512 : Shape := ⟨2, ![1024, 512]⟩
abbrev S512x1024 : Shape := ⟨2, ![512, 1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 14
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S8192x1024, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S4096x1024, .bf16⟩
  | .hbm, ⟨10, _⟩ => ⟨S8192x4096, .bf16⟩
  | .hbm, ⟨11, _⟩ => ⟨S8192x1024, .f32⟩
  | .hbm, ⟨12, _⟩ => ⟨S1x1024, .f32⟩
  | .hbm, ⟨13, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x1024x512, .bf16⟩
  | .local _ .vmem, ⟨4, _⟩ => ⟨S2x1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1x128, .f32⟩
  | .local _ .vmem, ⟨16, _⟩ => ⟨S1024x1024, .bf16⟩
  | .local _ .vmem, ⟨17, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_28 : BitVec 32 := 0#32
  let v42 : BitVec 1 := Scalar.cmpi .ne v41 c0_i32_28
  v42

def k0_cond2 (i : grid0.Coords) : BitVec 1 :=
  let arg0 : BitVec 32 := BitVec.ofNat 32 (i 0).val
  let c0_i32_25 : BitVec 32 := 0#32
  let v35 : BitVec 1 := Scalar.cmpi .eq arg0 c0_i32_25
  let arg1 : BitVec 32 := BitVec.ofNat 32 (i 1).val
  let c0_i32_26 : BitVec 32 := 0#32
  let v36 : BitVec 1 := Scalar.cmpi .eq arg1 c0_i32_26
  let v37 : BitVec 1 := Scalar.andi v35 v36
  let v38 : BitVec 32 := Scalar.extui v37
  let c0_i32_27 : BitVec 32 := 0#32
  let v39 : BitVec 1 := Scalar.cmpi .ne v38 c0_i32_27
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== LossRefIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S1x128, .f32⟩
  | .hbm, ⟨94, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_cst_11 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_cst_13 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_v59 : Ref sig .tc := ⟨.hbm, 85, rfl⟩
abbrev main_cst_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== Mlp.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S512x1024 : Shape := ⟨2, ![512, 1024]⟩
abbrev S512x2048 : Shape := ⟨2, ![512, 2048]⟩
abbrev S4x1024x512 : Shape := ⟨3, ![4, 1024, 512]⟩
abbrev S2048x1024 : Shape := ⟨2, ![2048, 1024]⟩
abbrev S512 : Shape := ⟨1, ![512]⟩
abbrev S512x1 : Shape := ⟨2, ![512, 1]⟩
abbrev S512x512 : Shape := ⟨2, ![512, 512]⟩
abbrev S1x1024x512 : Shape := ⟨3, ![1, 1024, 512]⟩
abbrev S1024x512 : Shape := ⟨2, ![1024, 512]⟩
abbrev S1024 : Shape := ⟨1, ![1024]⟩

abbrev nBuf : Space → Nat
  | .hbm => 34
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .bf16⟩
  | .hbm, ⟨28, _⟩ => ⟨S4096x1024, .bf16⟩
  | .hbm, ⟨29, _⟩ => ⟨S8192x4096, .bf16⟩
  | .hbm, ⟨30, _⟩ => ⟨S8192x1024, .f32⟩
  | .hbm, ⟨31, _⟩ => ⟨S8192x1024, .bf16⟩
  | .hbm, ⟨32, _⟩ => ⟨S8192x1024, .bf16⟩
  | .hbm, ⟨33, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x512, .bf16⟩
  | .local _ .vmem, ⟨8, _⟩ => ⟨S4x1024x512, .bf16⟩
  | .local _ .vmem, ⟨9, _⟩ => ⟨S2048x1024, .bf16⟩
  | .local _ .vmem, ⟨10, _⟩ => ⟨S2048x1024, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev main_v19_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v80 : BitVec 1 := Scalar.cmpi .eq arg1 c1_i32
  let v81 : BitVec 32 := Scalar.extui v80
  let c0_i32_56 : BitVec 32 := 0#32
  let v82 : BitVec 1 := Scalar.cmpi .ne v81 c0_i32_56
  v82

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_53 : BitVec 32 := 0#32
  let v75 : BitVec 1 := Scalar.cmpi .eq arg0 c0_i32_53
  let arg1 : BitVec 32 := BitVec.ofNat 32 (i 1).val
  let c0_i32_54 : BitVec 32 := 0#32
  let v76 : BitVec 1 := Scalar.cmpi .eq arg1 c0_i32_54
  let v77 : BitVec 1 := Scalar.andi v75 v76
  let v78 : BitVec 32 := Scalar.extui v77
  let c0_i32_55 : BitVec 32 := 0#32
  let v79 : BitVec 1 := Scalar.cmpi .ne v78 c0_i32_55
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== MlpRefIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .i1⟩
  | .hbm, ⟨31, _⟩ => ⟨S_, .f32⟩
  | .hbm, ⟨32, _⟩ => ⟨S8192x4096, .f32⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .i1⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S8192x1024, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S_, .f32⟩
  | .hbm, ⟨50, _⟩ => ⟨S8192x4096, .f32⟩
  | .hbm, ⟨51, _⟩ => ⟨S8192x4096, .f32⟩
  | .hbm, ⟨52, _⟩ => ⟨S8192x4096, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x4096, .bf16⟩
  | .hbm, ⟨78, _⟩ => ⟨S8192x1024, .f32⟩
  | .hbm, ⟨79, _⟩ => ⟨S8192x1024, .bf16⟩
  | .hbm, ⟨80, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_call1_cst : Ref sig .tc := ⟨.hbm, 33, rfl⟩
abbrev main_call1_v0 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== InF.lean ====
abbrev S8192x1024 : Shape := ⟨2, ![8192, 1024]⟩
abbrev S1x1024 : Shape := ⟨2, ![1, 1024]⟩
abbrev S1024x2560 : Shape := ⟨2, ![1024, 2560]⟩
abbrev S2560x1024 : Shape := ⟨2, ![2560, 1024]⟩
abbrev S8192x1536 : Shape := ⟨2, ![8192, 1536]⟩
abbrev S1024x1024 : Shape := ⟨2, ![1024, 1024]⟩
abbrev S1024x1536 : Shape := ⟨2, ![1024, 1536]⟩
abbrev S1024 : Shape := ⟨1, ![1024]⟩
abbrev S1024x1 : Shape := ⟨2, ![1024, 1]⟩
abbrev S1536x1024 : Shape := ⟨2, ![1536, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S1024x2560, .bf16⟩
  | .hbm, ⟨4, _⟩ => ⟨S2560x1024, .bf16⟩
  | .hbm, ⟨5, _⟩ => ⟨S8192x1024, .f32⟩
  | .hbm, ⟨6, _⟩ => ⟨S8192x1536, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2560x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1536, .bf16⟩
  | .local _ .vmem, ⟨7, _⟩ => ⟨S1024x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InFRefIdeal.lean ====
abbrev S8192x1024 : Shape := ⟨2, ![8192, 1024]⟩
abbrev S1x1024 : Shape := ⟨2, ![1, 1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S8192x1536 : Shape := ⟨2, ![8192, 1536]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x2560, .f32⟩
  | .hbm, ⟨19, _⟩ => ⟨S8192x1024, .f32⟩
  | .hbm, ⟨20, _⟩ => ⟨S8192x1536, .f32⟩
  | .hbm, ⟨21, _⟩ => ⟨S8192x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MixF.lean ====
abbrev S8192x512 : Shape := ⟨2, ![8192, 512]⟩
abbrev S1x512 : Shape := ⟨2, ![1, 512]⟩
abbrev S1024x1024 : Shape := ⟨2, ![1024, 1024]⟩
abbrev S8192x1024 : Shape := ⟨2, ![8192, 1024]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S8192x1024, .f32⟩
  | .hbm, ⟨6, _⟩ => ⟨S1024x1024, .bf16⟩
  | .hbm, ⟨7, _⟩ => ⟨S8192x1024, .f32⟩
  | .hbm, ⟨8, _⟩ => ⟨S8192x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixFRefIdeal.lean ====
abbrev S8192x512 : Shape := ⟨2, ![8192, 512]⟩
abbrev S1x512 : Shape := ⟨2, ![1, 512]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S8192x1024, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== AttnF.lean ====
abbrev S8192x1536 : Shape := ⟨2, ![8192, 1536]⟩
abbrev S256x256 : Shape := ⟨2, ![256, 256]⟩
abbrev S8192x512 : Shape := ⟨2, ![8192, 512]⟩
abbrev S8192x1024 : Shape := ⟨2, ![8192, 1024]⟩
abbrev S256x128 : Shape := ⟨2, ![256, 128]⟩
abbrev S4096x128 : Shape := ⟨2, ![4096, 128]⟩
abbrev S1x128 : Shape := ⟨2, ![1, 128]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1536, .f32⟩
  | .hbm, ⟨1, _⟩ => ⟨S8192x1536, .bf16⟩
  | .hbm, ⟨2, _⟩ => ⟨S256x256, .i32⟩
  | .hbm, ⟨3, _⟩ => ⟨S256x256, .i32⟩
  | .hbm, ⟨4, _⟩ => ⟨S256x256, .i1⟩
  | .hbm, ⟨5, _⟩ => ⟨S256x256, .bf16⟩
  | .hbm, ⟨6, _⟩ => ⟨S8192x512, .f32⟩
  | .hbm, ⟨7, _⟩ => ⟨S8192x1024, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x256, .bf16⟩
  | .local _ .vmem, ⟨7, _⟩ => ⟨S256x128, .f32⟩
  | .local _ .vmem, ⟨8, _⟩ => ⟨S256x128, .f32⟩
  | .local _ .vmem, ⟨9, _⟩ => ⟨S256x256, .f32⟩
  | .local _ .vmem, ⟨10, _⟩ => ⟨S256x256, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5_0 : Ref sig .tc := ⟨.hbm, 6, rfl⟩
abbrev main_v5_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 4, 16], ![false, false, false]⟩

def k0_cond1 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let c1_i32_25 : BitVec 32 := 1#32
  let v73 : BitVec 1 := Scalar.cmpi .eq v72 c1_i32_25
  let v74 : BitVec 32 := Scalar.extui v73
  let c0_i32_26 : BitVec 32 := 0#32
  let v75 : BitVec 1 := Scalar.cmpi .ne v74 c0_i32_26
  v75

def k0_mult1 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_63 : BitVec 32 := 256#32
  let v143 : BitVec 32 := Scalar.muli v16 c256_i32_63
  v143
def k0_off1 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_63 : BitVec 32 := 256#32
  let v143 : BitVec 32 := Scalar.muli v16 c256_i32_63
  let v144 : BitVec 32 := v143
  let v145 : Index := Scalar.indexCast v144
  let c0_64 : Index := 0#32
  ![v145.toNat, 0]
def k0_mult2 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_61 : BitVec 32 := 1#32
  let v141 : BitVec 32 := Scalar.subi v16 c1_i32_61
  let c256_i32_65 : BitVec 32 := 256#32
  let v148 : BitVec 32 := Scalar.muli v141 c256_i32_65
  v148
def k0_off2 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_61 : BitVec 32 := 1#32
  let v141 : BitVec 32 := Scalar.subi v16 c1_i32_61
  let c256_i32_65 : BitVec 32 := 256#32
  let v148 : BitVec 32 := Scalar.muli v141 c256_i32_65
  let v149 : BitVec 32 := v148
  let v150 : Index := Scalar.indexCast v149
  let c0_66 : Index := 0#32
  ![v150.toNat, 0]
def k0_mult3 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_67 : BitVec 32 := 256#32
  let v153 : BitVec 32 := Scalar.muli v16 c256_i32_67
  v153
def k0_mult4 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_61 : BitVec 32 := 1#32
  let v141 : BitVec 32 := Scalar.subi v16 c1_i32_61
  let c256_i32_69 : BitVec 32 := 256#32
  let v158 : BitVec 32 := Scalar.muli v141 c256_i32_69
  v158
def k0_mult5 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_61 : BitVec 32 := 256#32
  let v141 : BitVec 32 := Scalar.muli v16 c256_i32_61
  v141
def k0_off3 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_61 : BitVec 32 := 256#32
  let v141 : BitVec 32 := Scalar.muli v16 c256_i32_61
  let v142 : BitVec 32 := v141
  let v143 : Index := Scalar.indexCast v142
  let c0_62 : Index := 0#32
  ![v143.toNat, 0]
def k0_mult6 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_63 : BitVec 32 := 256#32
  let v146 : BitVec 32 := Scalar.muli v16 c256_i32_63
  v146
def k0_cond2 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let c1_i32_42 : BitVec 32 := 1#32
  let v107 : BitVec 1 := Scalar.cmpi .eq v106 c1_i32_42
  let v108 : BitVec 32 := Scalar.extui v107
  let c0_i32_43 : BitVec 32 := 0#32
  let v109 : BitVec 1 := Scalar.cmpi .ne v108 c0_i32_43
  v109

def k0_mult7 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c0_i32_61 : BitVec 32 := 0#32
  let v141 : BitVec 32 := Scalar.subi v78 c0_i32_61
  let c256_i32_65 : BitVec 32 := 256#32
  let v145 : BitVec 32 := Scalar.muli v141 c256_i32_65
  v145
def k0_off4 (i : grid0.Coords) (c0_i32_61 : BitVec 32) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let v141 : BitVec 32 := Scalar.subi v78 c0_i32_61
  let c256_i32_65 : BitVec 32 := 256#32
  let v145 : BitVec 32 := Scalar.muli v141 c256_i32_65
  let v146 : BitVec 32 := v145
  let v147 : Index := Scalar.indexCast v146
  let c0_66 : Index := 0#32
  ![v147.toNat, 0]
def k0_mult8 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c1_i32_63 : BitVec 32 := 1#32
  let v143 : BitVec 32 := Scalar.subi v78 c1_i32_63
  let c256_i32_67 : BitVec 32 := 256#32
  let v150 : BitVec 32 := Scalar.muli v143 c256_i32_67
  v150
def k0_mult9 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c0_i32_61 : BitVec 32 := 0#32
  let v141 : BitVec 32 := Scalar.subi v78 c0_i32_61
  let c256_i32_69 : BitVec 32 := 256#32
  let v155 : BitVec 32 := Scalar.muli v141 c256_i32_69
  v155
def k0_mult10 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c1_i32_63 : BitVec 32 := 1#32
  let v143 : BitVec 32 := Scalar.subi v78 c1_i32_63
  let c256_i32_71 : BitVec 32 := 256#32
  let v160 : BitVec 32 := Scalar.muli v143 c256_i32_71
  v160
@[reducible] def k0_t1_loop (i : grid0.Coords) : Scf.Loop 32 :=
  let c0_i32_52 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c1_i32_45 : BitVec 32 := 1#32
  let v113 : BitVec 32 := Scalar.addi v112 c1_i32_45
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c4_i32 : BitVec 32 := 4#32
  let c0_i32_48 : BitVec 32 := 0#32
  let v120 : BitVec 1 := Scalar.cmpi .sgt c4_i32 c0_i32_48
  let v121 : BitVec 32 := Scalar.extui v120
  let c0_i32_49 : BitVec 32 := 0#32
  let v122 : BitVec 1 := Scalar.cmpi .slt c4_i32 c0_i32_49
  let v123 : BitVec 32 := Scalar.extui v122
  let v124 : BitVec 32 := Scalar.subi v121 v123
  let v125 : BitVec 1 := Scalar.cmpi .ne v119 v124
  let v126 : BitVec 32 := Scalar.remsi v113 c4_i32
  let c0_i32_50 : BitVec 32 := 0#32
  let v127 : BitVec 1 := Scalar.cmpi .ne v126 c0_i32_50
  let v128 : BitVec 1 := Scalar.andi v125 v127
  let v114 : BitVec 32 := Scalar.divsi v113 c4_i32
  let c1_i32_51 : BitVec 32 := 1#32
  let v129 : BitVec 32 := Scalar.subi v114 c1_i32_51
  let v130 : BitVec 32 := Scalar.select v128 v129 v114
  let v131 : BitVec 32 := Scalar.subi v130 c0_i32_52
  let c1_i32_53 : BitVec 32 := 1#32
  let v133 : BitVec 32 := Scalar.divsi v131 c1_i32_53
  let v134 : BitVec 32 := Scalar.muli v133 c1_i32_53
  let v135 : BitVec 32 := Scalar.addi c0_i32_52 v134
  let c1_i32_54 : BitVec 32 := 1#32
  ⟨c0_i32_52, v135, c1_i32_54⟩
def k0_mult11 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_54 : BitVec 32 := 1#32
  let arg9 : BitVec 32 := Scf.iv c0_i32_52 c1_i32_54 k0_t1
  let v141 : BitVec 32 := Scalar.muli c4_i32_61 arg9
  let v142 : BitVec 32 := Scalar.subi v112 v141
  let c0_i32_62 : BitVec 32 := 0#32
  let v143 : BitVec 32 := Scalar.subi v142 c0_i32_62
  let c256_i32_69 : BitVec 32 := 256#32
  let v151 : BitVec 32 := Scalar.muli v143 c256_i32_69
  v151
def k0_off5 (i : grid0.Coords) (k0_t1 : Fin (k0_t1_loop i).trips) (c0_i32_62 : BitVec 32) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_54 : BitVec 32 := 1#32
  let arg9 : BitVec 32 := Scf.iv c0_i32_52 c1_i32_54 k0_t1
  let v141 : BitVec 32 := Scalar.muli c4_i32_61 arg9
  let v142 : BitVec 32 := Scalar.subi v112 v141
  let v143 : BitVec 32 := Scalar.subi v142 c0_i32_62
  let c256_i32_69 : BitVec 32 := 256#32
  let v151 : BitVec 32 := Scalar.muli v143 c256_i32_69
  let v152 : BitVec 32 := v151
  let v153 : Index := Scalar.indexCast v152
  let c0_70 : Index := 0#32
  ![v153.toNat, 0]
def k0_mult12 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_54 : BitVec 32 := 1#32
  let arg9 : BitVec 32 := Scf.iv c0_i32_52 c1_i32_54 k0_t1
  let v141 : BitVec 32 := Scalar.muli c4_i32_61 arg9
  let v142 : BitVec 32 := Scalar.subi v112 v141
  let c1_i32_64 : BitVec 32 := 1#32
  let v145 : BitVec 32 := Scalar.subi v142 c1_i32_64
  let c256_i32_71 : BitVec 32 := 256#32
  let v156 : BitVec 32 := Scalar.muli v145 c256_i32_71
  v156
def k0_mult13 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_54 : BitVec 32 := 1#32
  let arg9 : BitVec 32 := Scf.iv c0_i32_52 c1_i32_54 k0_t1
  let v141 : BitVec 32 := Scalar.muli c4_i32_61 arg9
  let v142 : BitVec 32 := Scalar.subi v112 v141
  let c2_i32_66 : BitVec 32 := 2#32
  let v147 : BitVec 32 := Scalar.subi v142 c2_i32_66
  let c256_i32_73 : BitVec 32 := 256#32
  let v161 : BitVec 32 := Scalar.muli v147 c256_i32_73
  v161
def k0_mult14 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_54 : BitVec 32 := 1#32
  let arg9 : BitVec 32 := Scf.iv c0_i32_52 c1_i32_54 k0_t1
  let v141 : BitVec 32 := Scalar.muli c4_i32_61 arg9
  let v142 : BitVec 32 := Scalar.subi v112 v141
  let c3_i32 : BitVec 32 := 3#32
  let v149 : BitVec 32 := Scalar.subi v142 c3_i32
  let c256_i32_75 : BitVec 32 := 256#32
  let v166 : BitVec 32 := Scalar.muli v149 c256_i32_75
  v166
def k0_mult15 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_54 : BitVec 32 := 1#32
  let arg9 : BitVec 32 := Scf.iv c0_i32_52 c1_i32_54 k0_t1
  let v141 : BitVec 32 := Scalar.muli c4_i32_61 arg9
  let v142 : BitVec 32 := Scalar.subi v112 v141
  let c0_i32_62 : BitVec 32 := 0#32
  let v143 : BitVec 32 := Scalar.subi v142 c0_i32_62
  let c256_i32_77 : BitVec 32 := 256#32
  let v171 : BitVec 32 := Scalar.muli v143 c256_i32_77
  v171
def k0_mult16 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_54 : BitVec 32 := 1#32
  let arg9 : BitVec 32 := Scf.iv c0_i32_52 c1_i32_54 k0_t1
  let v141 : BitVec 32 := Scalar.muli c4_i32_61 arg9
  let v142 : BitVec 32 := Scalar.subi v112 v141
  let c1_i32_64 : BitVec 32 := 1#32
  let v145 : BitVec 32 := Scalar.subi v142 c1_i32_64
  let c256_i32_79 : BitVec 32 := 256#32
  let v176 : BitVec 32 := Scalar.muli v145 c256_i32_79
  v176
def k0_mult17 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_54 : BitVec 32 := 1#32
  let arg9 : BitVec 32 := Scf.iv c0_i32_52 c1_i32_54 k0_t1
  let v141 : BitVec 32 := Scalar.muli c4_i32_61 arg9
  let v142 : BitVec 32 := Scalar.subi v112 v141
  let c2_i32_66 : BitVec 32 := 2#32
  let v147 : BitVec 32 := Scalar.subi v142 c2_i32_66
  let c256_i32_81 : BitVec 32 := 256#32
  let v181 : BitVec 32 := Scalar.muli v147 c256_i32_81
  v181
def k0_mult18 (i : grid0.Coords) (k0_t1 : Fin (k0_t1_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_54 : BitVec 32 := 1#32
  let arg9 : BitVec 32 := Scf.iv c0_i32_52 c1_i32_54 k0_t1
  let v141 : BitVec 32 := Scalar.muli c4_i32_61 arg9
  let v142 : BitVec 32 := Scalar.subi v112 v141
  let c3_i32 : BitVec 32 := 3#32
  let v149 : BitVec 32 := Scalar.subi v142 c3_i32
  let c256_i32_83 : BitVec 32 := 256#32
  let v186 : BitVec 32 := Scalar.muli v149 c256_i32_83
  v186
@[reducible] def k0_t2_loop (i : grid0.Coords) : Scf.Loop 32 :=
  let c0_i32_52 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c1_i32_45 : BitVec 32 := 1#32
  let v113 : BitVec 32 := Scalar.addi v112 c1_i32_45
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c4_i32 : BitVec 32 := 4#32
  let c0_i32_48 : BitVec 32 := 0#32
  let v120 : BitVec 1 := Scalar.cmpi .sgt c4_i32 c0_i32_48
  let v121 : BitVec 32 := Scalar.extui v120
  let c0_i32_49 : BitVec 32 := 0#32
  let v122 : BitVec 1 := Scalar.cmpi .slt c4_i32 c0_i32_49
  let v123 : BitVec 32 := Scalar.extui v122
  let v124 : BitVec 32 := Scalar.subi v121 v123
  let v125 : BitVec 1 := Scalar.cmpi .ne v119 v124
  let v126 : BitVec 32 := Scalar.remsi v113 c4_i32
  let c0_i32_50 : BitVec 32 := 0#32
  let v127 : BitVec 1 := Scalar.cmpi .ne v126 c0_i32_50
  let v128 : BitVec 1 := Scalar.andi v125 v127
  let v114 : BitVec 32 := Scalar.divsi v113 c4_i32
  let c1_i32_51 : BitVec 32 := 1#32
  let v129 : BitVec 32 := Scalar.subi v114 c1_i32_51
  let v130 : BitVec 32 := Scalar.select v128 v129 v114
  let v131 : BitVec 32 := Scalar.subi v130 c0_i32_52
  let c1_i32_53 : BitVec 32 := 1#32
  let v133 : BitVec 32 := Scalar.divsi v131 c1_i32_53
  let v134 : BitVec 32 := Scalar.muli v133 c1_i32_53
  let v135 : BitVec 32 := Scalar.addi c0_i32_52 v134
  let v132 : BitVec 32 := Scalar.addi c0_i32_52 v131
  let c1_i32_55 : BitVec 32 := 1#32
  ⟨v135, v132, c1_i32_55⟩
def k0_mult19 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_45 : BitVec 32 := 1#32
  let v113 : BitVec 32 := Scalar.addi v112 c1_i32_45
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c4_i32 : BitVec 32 := 4#32
  let c0_i32_48 : BitVec 32 := 0#32
  let v120 : BitVec 1 := Scalar.cmpi .sgt c4_i32 c0_i32_48
  let v121 : BitVec 32 := Scalar.extui v120
  let c0_i32_49 : BitVec 32 := 0#32
  let v122 : BitVec 1 := Scalar.cmpi .slt c4_i32 c0_i32_49
  let v123 : BitVec 32 := Scalar.extui v122
  let v124 : BitVec 32 := Scalar.subi v121 v123
  let v125 : BitVec 1 := Scalar.cmpi .ne v119 v124
  let v126 : BitVec 32 := Scalar.remsi v113 c4_i32
  let c0_i32_50 : BitVec 32 := 0#32
  let v127 : BitVec 1 := Scalar.cmpi .ne v126 c0_i32_50
  let v128 : BitVec 1 := Scalar.andi v125 v127
  let v114 : BitVec 32 := Scalar.divsi v113 c4_i32
  let c1_i32_51 : BitVec 32 := 1#32
  let v129 : BitVec 32 := Scalar.subi v114 c1_i32_51
  let v130 : BitVec 32 := Scalar.select v128 v129 v114
  let v131 : BitVec 32 := Scalar.subi v130 c0_i32_52
  let c1_i32_53 : BitVec 32 := 1#32
  let v133 : BitVec 32 := Scalar.divsi v131 c1_i32_53
  let v134 : BitVec 32 := Scalar.muli v133 c1_i32_53
  let v135 : BitVec 32 := Scalar.addi c0_i32_52 v134
  let c1_i32_55 : BitVec 32 := 1#32
  let arg9 : BitVec 32 := Scf.iv v135 c1_i32_55 k0_t2
  let v141 : BitVec 32 := Scalar.muli c4_i32_61 arg9
  let v142 : BitVec 32 := Scalar.subi v112 v141
  let c0_i32_62 : BitVec 32 := 0#32
  let v143 : BitVec 32 := Scalar.subi v142 c0_i32_62
  let c256_i32_69 : BitVec 32 := 256#32
  let v151 : BitVec 32 := Scalar.muli v143 c256_i32_69
  v151
def k0_off6 (i : grid0.Coords) (k0_t2 : Fin (k0_t2_loop i).trips) (c0_i32_62 : BitVec 32) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_45 : BitVec 32 := 1#32
  let v113 : BitVec 32 := Scalar.addi v112 c1_i32_45
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c4_i32 : BitVec 32 := 4#32
  let c0_i32_48 : BitVec 32 := 0#32
  let v120 : BitVec 1 := Scalar.cmpi .sgt c4_i32 c0_i32_48
  let v121 : BitVec 32 := Scalar.extui v120
  let c0_i32_49 : BitVec 32 := 0#32
  let v122 : BitVec 1 := Scalar.cmpi .slt c4_i32 c0_i32_49
  let v123 : BitVec 32 := Scalar.extui v122
  let v124 : BitVec 32 := Scalar.subi v121 v123
  let v125 : BitVec 1 := Scalar.cmpi .ne v119 v124
  let v126 : BitVec 32 := Scalar.remsi v113 c4_i32
  let c0_i32_50 : BitVec 32 := 0#32
  let v127 : BitVec 1 := Scalar.cmpi .ne v126 c0_i32_50
  let v128 : BitVec 1 := Scalar.andi v125 v127
  let v114 : BitVec 32 := Scalar.divsi v113 c4_i32
  let c1_i32_51 : BitVec 32 := 1#32
  let v129 : BitVec 32 := Scalar.subi v114 c1_i32_51
  let v130 : BitVec 32 := Scalar.select v128 v129 v114
  let v131 : BitVec 32 := Scalar.subi v130 c0_i32_52
  let c1_i32_53 : BitVec 32 := 1#32
  let v133 : BitVec 32 := Scalar.divsi v131 c1_i32_53
  let v134 : BitVec 32 := Scalar.muli v133 c1_i32_53
  let v135 : BitVec 32 := Scalar.addi c0_i32_52 v134
  let c1_i32_55 : BitVec 32 := 1#32
  let arg9 : BitVec 32 := Scf.iv v135 c1_i32_55 k0_t2
  let v141 : BitVec 32 := Scalar.muli c4_i32_61 arg9
  let v142 : BitVec 32 := Scalar.subi v112 v141
  let v143 : BitVec 32 := Scalar.subi v142 c0_i32_62
  let c256_i32_69 : BitVec 32 := 256#32
  let v151 : BitVec 32 := Scalar.muli v143 c256_i32_69
  let v152 : BitVec 32 := v151
  let v153 : Index := Scalar.indexCast v152
  let c0_70 : Index := 0#32
  ![v153.toNat, 0]
def k0_mult20 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_45 : BitVec 32 := 1#32
  let v113 : BitVec 32 := Scalar.addi v112 c1_i32_45
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c4_i32 : BitVec 32 := 4#32
  let c0_i32_48 : BitVec 32 := 0#32
  let v120 : BitVec 1 := Scalar.cmpi .sgt c4_i32 c0_i32_48
  let v121 : BitVec 32 := Scalar.extui v120
  let c0_i32_49 : BitVec 32 := 0#32
  let v122 : BitVec 1 := Scalar.cmpi .slt c4_i32 c0_i32_49
  let v123 : BitVec 32 := Scalar.extui v122
  let v124 : BitVec 32 := Scalar.subi v121 v123
  let v125 : BitVec 1 := Scalar.cmpi .ne v119 v124
  let v126 : BitVec 32 := Scalar.remsi v113 c4_i32
  let c0_i32_50 : BitVec 32 := 0#32
  let v127 : BitVec 1 := Scalar.cmpi .ne v126 c0_i32_50
  let v128 : BitVec 1 := Scalar.andi v125 v127
  let v114 : BitVec 32 := Scalar.divsi v113 c4_i32
  let c1_i32_51 : BitVec 32 := 1#32
  let v129 : BitVec 32 := Scalar.subi v114 c1_i32_51
  let v130 : BitVec 32 := Scalar.select v128 v129 v114
  let v131 : BitVec 32 := Scalar.subi v130 c0_i32_52
  let c1_i32_53 : BitVec 32 := 1#32
  let v133 : BitVec 32 := Scalar.divsi v131 c1_i32_53
  let v134 : BitVec 32 := Scalar.muli v133 c1_i32_53
  let v135 : BitVec 32 := Scalar.addi c0_i32_52 v134
  let c1_i32_55 : BitVec 32 := 1#32
  let arg9 : BitVec 32 := Scf.iv v135 c1_i32_55 k0_t2
  let v141 : BitVec 32 := Scalar.muli c4_i32_61 arg9
  let v142 : BitVec 32 := Scalar.subi v112 v141
  let c1_i32_64 : BitVec 32 := 1#32
  let v145 : BitVec 32 := Scalar.subi v142 c1_i32_64
  let c256_i32_71 : BitVec 32 := 256#32
  let v156 : BitVec 32 := Scalar.muli v145 c256_i32_71
  v156
def k0_mult21 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_45 : BitVec 32 := 1#32
  let v113 : BitVec 32 := Scalar.addi v112 c1_i32_45
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c4_i32 : BitVec 32 := 4#32
  let c0_i32_48 : BitVec 32 := 0#32
  let v120 : BitVec 1 := Scalar.cmpi .sgt c4_i32 c0_i32_48
  let v121 : BitVec 32 := Scalar.extui v120
  let c0_i32_49 : BitVec 32 := 0#32
  let v122 : BitVec 1 := Scalar.cmpi .slt c4_i32 c0_i32_49
  let v123 : BitVec 32 := Scalar.extui v122
  let v124 : BitVec 32 := Scalar.subi v121 v123
  let v125 : BitVec 1 := Scalar.cmpi .ne v119 v124
  let v126 : BitVec 32 := Scalar.remsi v113 c4_i32
  let c0_i32_50 : BitVec 32 := 0#32
  let v127 : BitVec 1 := Scalar.cmpi .ne v126 c0_i32_50
  let v128 : BitVec 1 := Scalar.andi v125 v127
  let v114 : BitVec 32 := Scalar.divsi v113 c4_i32
  let c1_i32_51 : BitVec 32 := 1#32
  let v129 : BitVec 32 := Scalar.subi v114 c1_i32_51
  let v130 : BitVec 32 := Scalar.select v128 v129 v114
  let v131 : BitVec 32 := Scalar.subi v130 c0_i32_52
  let c1_i32_53 : BitVec 32 := 1#32
  let v133 : BitVec 32 := Scalar.divsi v131 c1_i32_53
  let v134 : BitVec 32 := Scalar.muli v133 c1_i32_53
  let v135 : BitVec 32 := Scalar.addi c0_i32_52 v134
  let c1_i32_55 : BitVec 32 := 1#32
  let arg9 : BitVec 32 := Scf.iv v135 c1_i32_55 k0_t2
  let v141 : BitVec 32 := Scalar.muli c4_i32_61 arg9
  let v142 : BitVec 32 := Scalar.subi v112 v141
  let c2_i32_66 : BitVec 32 := 2#32
  let v147 : BitVec 32 := Scalar.subi v142 c2_i32_66
  let c256_i32_73 : BitVec 32 := 256#32
  let v161 : BitVec 32 := Scalar.muli v147 c256_i32_73
  v161
def k0_mult22 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_45 : BitVec 32 := 1#32
  let v113 : BitVec 32 := Scalar.addi v112 c1_i32_45
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c4_i32 : BitVec 32 := 4#32
  let c0_i32_48 : BitVec 32 := 0#32
  let v120 : BitVec 1 := Scalar.cmpi .sgt c4_i32 c0_i32_48
  let v121 : BitVec 32 := Scalar.extui v120
  let c0_i32_49 : BitVec 32 := 0#32
  let v122 : BitVec 1 := Scalar.cmpi .slt c4_i32 c0_i32_49
  let v123 : BitVec 32 := Scalar.extui v122
  let v124 : BitVec 32 := Scalar.subi v121 v123
  let v125 : BitVec 1 := Scalar.cmpi .ne v119 v124
  let v126 : BitVec 32 := Scalar.remsi v113 c4_i32
  let c0_i32_50 : BitVec 32 := 0#32
  let v127 : BitVec 1 := Scalar.cmpi .ne v126 c0_i32_50
  let v128 : BitVec 1 := Scalar.andi v125 v127
  let v114 : BitVec 32 := Scalar.divsi v113 c4_i32
  let c1_i32_51 : BitVec 32 := 1#32
  let v129 : BitVec 32 := Scalar.subi v114 c1_i32_51
  let v130 : BitVec 32 := Scalar.select v128 v129 v114
  let v131 : BitVec 32 := Scalar.subi v130 c0_i32_52
  let c1_i32_53 : BitVec 32 := 1#32
  let v133 : BitVec 32 := Scalar.divsi v131 c1_i32_53
  let v134 : BitVec 32 := Scalar.muli v133 c1_i32_53
  let v135 : BitVec 32 := Scalar.addi c0_i32_52 v134
  let c1_i32_55 : BitVec 32 := 1#32
  let arg9 : BitVec 32 := Scf.iv v135 c1_i32_55 k0_t2
  let v141 : BitVec 32 := Scalar.muli c4_i32_61 arg9
  let v142 : BitVec 32 := Scalar.subi v112 v141
  let c3_i32 : BitVec 32 := 3#32
  let v149 : BitVec 32 := Scalar.subi v142 c3_i32
  let c256_i32_75 : BitVec 32 := 256#32
  let v166 : BitVec 32 := Scalar.muli v149 c256_i32_75
  v166
def k0_mult23 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_45 : BitVec 32 := 1#32
  let v113 : BitVec 32 := Scalar.addi v112 c1_i32_45
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c4_i32 : BitVec 32 := 4#32
  let c0_i32_48 : BitVec 32 := 0#32
  let v120 : BitVec 1 := Scalar.cmpi .sgt c4_i32 c0_i32_48
  let v121 : BitVec 32 := Scalar.extui v120
  let c0_i32_49 : BitVec 32 := 0#32
  let v122 : BitVec 1 := Scalar.cmpi .slt c4_i32 c0_i32_49
  let v123 : BitVec 32 := Scalar.extui v122
  let v124 : BitVec 32 := Scalar.subi v121 v123
  let v125 : BitVec 1 := Scalar.cmpi .ne v119 v124
  let v126 : BitVec 32 := Scalar.remsi v113 c4_i32
  let c0_i32_50 : BitVec 32 := 0#32
  let v127 : BitVec 1 := Scalar.cmpi .ne v126 c0_i32_50
  let v128 : BitVec 1 := Scalar.andi v125 v127
  let v114 : BitVec 32 := Scalar.divsi v113 c4_i32
  let c1_i32_51 : BitVec 32 := 1#32
  let v129 : BitVec 32 := Scalar.subi v114 c1_i32_51
  let v130 : BitVec 32 := Scalar.select v128 v129 v114
  let v131 : BitVec 32 := Scalar.subi v130 c0_i32_52
  let c1_i32_53 : BitVec 32 := 1#32
  let v133 : BitVec 32 := Scalar.divsi v131 c1_i32_53
  let v134 : BitVec 32 := Scalar.muli v133 c1_i32_53
  let v135 : BitVec 32 := Scalar.addi c0_i32_52 v134
  let c1_i32_55 : BitVec 32 := 1#32
  let arg9 : BitVec 32 := Scf.iv v135 c1_i32_55 k0_t2
  let v141 : BitVec 32 := Scalar.muli c4_i32_61 arg9
  let v142 : BitVec 32 := Scalar.subi v112 v141
  let c0_i32_62 : BitVec 32 := 0#32
  let v143 : BitVec 32 := Scalar.subi v142 c0_i32_62
  let c256_i32_77 : BitVec 32 := 256#32
  let v171 : BitVec 32 := Scalar.muli v143 c256_i32_77
  v171
def k0_mult24 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_45 : BitVec 32 := 1#32
  let v113 : BitVec 32 := Scalar.addi v112 c1_i32_45
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c4_i32 : BitVec 32 := 4#32
  let c0_i32_48 : BitVec 32 := 0#32
  let v120 : BitVec 1 := Scalar.cmpi .sgt c4_i32 c0_i32_48
  let v121 : BitVec 32 := Scalar.extui v120
  let c0_i32_49 : BitVec 32 := 0#32
  let v122 : BitVec 1 := Scalar.cmpi .slt c4_i32 c0_i32_49
  let v123 : BitVec 32 := Scalar.extui v122
  let v124 : BitVec 32 := Scalar.subi v121 v123
  let v125 : BitVec 1 := Scalar.cmpi .ne v119 v124
  let v126 : BitVec 32 := Scalar.remsi v113 c4_i32
  let c0_i32_50 : BitVec 32 := 0#32
  let v127 : BitVec 1 := Scalar.cmpi .ne v126 c0_i32_50
  let v128 : BitVec 1 := Scalar.andi v125 v127
  let v114 : BitVec 32 := Scalar.divsi v113 c4_i32
  let c1_i32_51 : BitVec 32 := 1#32
  let v129 : BitVec 32 := Scalar.subi v114 c1_i32_51
  let v130 : BitVec 32 := Scalar.select v128 v129 v114
  let v131 : BitVec 32 := Scalar.subi v130 c0_i32_52
  let c1_i32_53 : BitVec 32 := 1#32
  let v133 : BitVec 32 := Scalar.divsi v131 c1_i32_53
  let v134 : BitVec 32 := Scalar.muli v133 c1_i32_53
  let v135 : BitVec 32 := Scalar.addi c0_i32_52 v134
  let c1_i32_55 : BitVec 32 := 1#32
  let arg9 : BitVec 32 := Scf.iv v135 c1_i32_55 k0_t2
  let v141 : BitVec 32 := Scalar.muli c4_i32_61 arg9
  let v142 : BitVec 32 := Scalar.subi v112 v141
  let c1_i32_64 : BitVec 32 := 1#32
  let v145 : BitVec 32 := Scalar.subi v142 c1_i32_64
  let c256_i32_79 : BitVec 32 := 256#32
  let v176 : BitVec 32 := Scalar.muli v145 c256_i32_79
  v176
def k0_mult25 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_45 : BitVec 32 := 1#32
  let v113 : BitVec 32 := Scalar.addi v112 c1_i32_45
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c4_i32 : BitVec 32 := 4#32
  let c0_i32_48 : BitVec 32 := 0#32
  let v120 : BitVec 1 := Scalar.cmpi .sgt c4_i32 c0_i32_48
  let v121 : BitVec 32 := Scalar.extui v120
  let c0_i32_49 : BitVec 32 := 0#32
  let v122 : BitVec 1 := Scalar.cmpi .slt c4_i32 c0_i32_49
  let v123 : BitVec 32 := Scalar.extui v122
  let v124 : BitVec 32 := Scalar.subi v121 v123
  let v125 : BitVec 1 := Scalar.cmpi .ne v119 v124
  let v126 : BitVec 32 := Scalar.remsi v113 c4_i32
  let c0_i32_50 : BitVec 32 := 0#32
  let v127 : BitVec 1 := Scalar.cmpi .ne v126 c0_i32_50
  let v128 : BitVec 1 := Scalar.andi v125 v127
  let v114 : BitVec 32 := Scalar.divsi v113 c4_i32
  let c1_i32_51 : BitVec 32 := 1#32
  let v129 : BitVec 32 := Scalar.subi v114 c1_i32_51
  let v130 : BitVec 32 := Scalar.select v128 v129 v114
  let v131 : BitVec 32 := Scalar.subi v130 c0_i32_52
  let c1_i32_53 : BitVec 32 := 1#32
  let v133 : BitVec 32 := Scalar.divsi v131 c1_i32_53
  let v134 : BitVec 32 := Scalar.muli v133 c1_i32_53
  let v135 : BitVec 32 := Scalar.addi c0_i32_52 v134
  let c1_i32_55 : BitVec 32 := 1#32
  let arg9 : BitVec 32 := Scf.iv v135 c1_i32_55 k0_t2
  let v141 : BitVec 32 := Scalar.muli c4_i32_61 arg9
  let v142 : BitVec 32 := Scalar.subi v112 v141
  let c2_i32_66 : BitVec 32 := 2#32
  let v147 : BitVec 32 := Scalar.subi v142 c2_i32_66
  let c256_i32_81 : BitVec 32 := 256#32
  let v181 : BitVec 32 := Scalar.muli v147 c256_i32_81
  v181
def k0_mult26 (i : grid0.Coords) (k0_t2 : Fin (k0_t2_loop i).trips) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_27 : BitVec 32 := 1#32
  let v77 : BitVec 32 := Scalar.subi v16 c1_i32_27
  let c2_i32 : BitVec 32 := 2#32
  let c0_i32_20 : BitVec 32 := 0#32
  let v63 : BitVec 1 := Scalar.cmpi .eq c2_i32 c0_i32_20
  let c1_i32_21 : BitVec 32 := 1#32
  let v64 : BitVec 32 := Scalar.select v63 c1_i32_21 c2_i32
  let v65 : BitVec 32 := Scalar.remsi v16 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v78 : BitVec 32 := Scalar.subi v77 v72
  let c2_i32_44 : BitVec 32 := 2#32
  let c1_i32_28 : BitVec 32 := 1#32
  let v79 : BitVec 32 := Scalar.addi v78 c1_i32_28
  let c0_i32_30 : BitVec 32 := 0#32
  let v81 : BitVec 1 := Scalar.cmpi .sgt v79 c0_i32_30
  let v82 : BitVec 32 := Scalar.extui v81
  let c0_i32_31 : BitVec 32 := 0#32
  let v83 : BitVec 1 := Scalar.cmpi .slt v79 c0_i32_31
  let v84 : BitVec 32 := Scalar.extui v83
  let v85 : BitVec 32 := Scalar.subi v82 v84
  let c2_i32_29 : BitVec 32 := 2#32
  let c0_i32_32 : BitVec 32 := 0#32
  let v86 : BitVec 1 := Scalar.cmpi .sgt c2_i32_29 c0_i32_32
  let v87 : BitVec 32 := Scalar.extui v86
  let c0_i32_33 : BitVec 32 := 0#32
  let v88 : BitVec 1 := Scalar.cmpi .slt c2_i32_29 c0_i32_33
  let v89 : BitVec 32 := Scalar.extui v88
  let v90 : BitVec 32 := Scalar.subi v87 v89
  let v91 : BitVec 1 := Scalar.cmpi .ne v85 v90
  let v92 : BitVec 32 := Scalar.remsi v79 c2_i32_29
  let c0_i32_34 : BitVec 32 := 0#32
  let v93 : BitVec 1 := Scalar.cmpi .ne v92 c0_i32_34
  let v94 : BitVec 1 := Scalar.andi v91 v93
  let v80 : BitVec 32 := Scalar.divsi v79 c2_i32_29
  let c1_i32_35 : BitVec 32 := 1#32
  let v95 : BitVec 32 := Scalar.subi v80 c1_i32_35
  let v96 : BitVec 32 := Scalar.select v94 v95 v80
  let c2_i32_36 : BitVec 32 := 2#32
  let c0_i32_37 : BitVec 32 := 0#32
  let v97 : BitVec 1 := Scalar.cmpi .eq c2_i32_36 c0_i32_37
  let c1_i32_38 : BitVec 32 := 1#32
  let v98 : BitVec 32 := Scalar.select v97 c1_i32_38 c2_i32_36
  let v99 : BitVec 32 := Scalar.remsi v96 v98
  let c0_i32_40 : BitVec 32 := 0#32
  let v101 : BitVec 1 := Scalar.cmpi .slt v99 c0_i32_40
  let c0_i32_41 : BitVec 32 := 0#32
  let v102 : BitVec 1 := Scalar.cmpi .slt v98 c0_i32_41
  let v103 : BitVec 1 := Scalar.xori v101 v102
  let c0_i32_39 : BitVec 32 := 0#32
  let v100 : BitVec 1 := Scalar.cmpi .ne v99 c0_i32_39
  let v104 : BitVec 1 := Scalar.andi v103 v100
  let v105 : BitVec 32 := Scalar.addi v99 v98
  let v106 : BitVec 32 := Scalar.select v104 v105 v99
  let v111 : BitVec 32 := Scalar.muli c2_i32_44 v106
  let v112 : BitVec 32 := Scalar.subi v78 v111
  let c4_i32_61 : BitVec 32 := 4#32
  let c0_i32_52 : BitVec 32 := 0#32
  let c1_i32_45 : BitVec 32 := 1#32
  let v113 : BitVec 32 := Scalar.addi v112 c1_i32_45
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c4_i32 : BitVec 32 := 4#32
  let c0_i32_48 : BitVec 32 := 0#32
  let v120 : BitVec 1 := Scalar.cmpi .sgt c4_i32 c0_i32_48
  let v121 : BitVec 32 := Scalar.extui v120
  let c0_i32_49 : BitVec 32 := 0#32
  let v122 : BitVec 1 := Scalar.cmpi .slt c4_i32 c0_i32_49
  let v123 : BitVec 32 := Scalar.extui v122
  let v124 : BitVec 32 := Scalar.subi v121 v123
  let v125 : BitVec 1 := Scalar.cmpi .ne v119 v124
  let v126 : BitVec 32 := Scalar.remsi v113 c4_i32
  let c0_i32_50 : BitVec 32 := 0#32
  let v127 : BitVec 1 := Scalar.cmpi .ne v126 c0_i32_50
  let v128 : BitVec 1 := Scalar.andi v125 v127
  let v114 : BitVec 32 := Scalar.divsi v113 c4_i32
  let c1_i32_51 : BitVec 32 := 1#32
  let v129 : BitVec 32 := Scalar.subi v114 c1_i32_51
  let v130 : BitVec 32 := Scalar.select v128 v129 v114
  let v131 : BitVec 32 := Scalar.subi v130 c0_i32_52
  let c1_i32_53 : BitVec 32 := 1#32
  let v133 : BitVec 32 := Scalar.divsi v131 c1_i32_53
  let v134 : BitVec 32 := Scalar.muli v133 c1_i32_53
  let v135 : BitVec 32 := Scalar.addi c0_i32_52 v134
  let c1_i32_55 : BitVec 32 := 1#32
  let arg9 : BitVec 32 := Scf.iv v135 c1_i32_55 k0_t2
  let v141 : BitVec 32 := Scalar.muli c4_i32_61 arg9
  let v142 : BitVec 32 := Scalar.subi v112 v141
  let c3_i32 : BitVec 32 := 3#32
  let v149 : BitVec 32 := Scalar.subi v142 c3_i32
  let c256_i32_83 : BitVec 32 := 256#32
  let v186 : BitVec 32 := Scalar.muli v149 c256_i32_83
  v186
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnFRefIdeal.lean ====
abbrev S8192x1536 : Shape := ⟨2, ![8192, 1536]⟩
abbrev S8192x512 : Shape := ⟨2, ![8192, 512]⟩
abbrev S2x4096x8x64 : Shape := ⟨4, ![2, 4096, 8, 64]⟩
abbrev S2x8x4096x64 : Shape := ⟨4, ![2, 8, 4096, 64]⟩
abbrev S2x8x4096x4096 : Shape := ⟨4, ![2, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x4096x16 : Shape := ⟨4, ![2, 8, 4096, 16]⟩
abbrev S2x4096x8x16 : Shape := ⟨4, ![2, 4096, 8, 16]⟩
abbrev S2x4096x8x112 : Shape := ⟨4, ![2, 4096, 8, 112]⟩
abbrev S2x4096x8x128 : Shape := ⟨4, ![2, 4096, 8, 128]⟩
abbrev S8192x1024 : Shape := ⟨2, ![8192, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S2x4096x8x64, .f32⟩
  | .hbm, ⟨5, _⟩ => ⟨S2x8x4096x64, .f32⟩
  | .hbm, ⟨6, _⟩ => ⟨S2x4096x8x64, .f32⟩
  | .hbm, ⟨7, _⟩ => ⟨S2x8x4096x64, .f32⟩
  | .hbm, ⟨8, _⟩ => ⟨S2x8x4096x4096, .f32⟩
  | .hbm, ⟨9, _⟩ => ⟨S_, .f32⟩
  | .hbm, ⟨10, _⟩ => ⟨S2x8x4096x4096, .f32⟩
  | .hbm, ⟨11, _⟩ => ⟨S2x8x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S2x8x4096x4096, .f32⟩
  | .hbm, ⟨20, _⟩ => ⟨S2x8x4096x4096, .f32⟩
  | .hbm, ⟨21, _⟩ => ⟨S_, .f32⟩
  | .hbm, ⟨22, _⟩ => ⟨S2x8x4096x4096, .f32⟩
  | .hbm, ⟨23, _⟩ => ⟨S2x8x4096x4096, .f32⟩
  | .hbm, ⟨24, _⟩ => ⟨S2x8x4096x4096, .f32⟩
  | .hbm, ⟨25, _⟩ => ⟨S2x8x4096x4096, .f32⟩
  | .hbm, ⟨26, _⟩ => ⟨S2x8x4096x4096, .i1⟩
  | .hbm, ⟨27, _⟩ => ⟨S2x8x4096x4096, .f32⟩
  | .hbm, ⟨28, _⟩ => ⟨S2x8x4096x4096, .f32⟩
  | .hbm, ⟨29, _⟩ => ⟨S2x8x4096x4096, .f32⟩
  | .hbm, ⟨30, _⟩ => ⟨S2x8x4096x4096, .f32⟩
  | .hbm, ⟨31, _⟩ => ⟨S2x8x4096x4096, .f32⟩
  | .hbm, ⟨32, _⟩ => ⟨S2x8x4096x4096, .f32⟩
  | .hbm, ⟨33, _⟩ => ⟨S2x8x4096x4096, .f32⟩
  | .hbm, ⟨34, _⟩ => ⟨S2x8x4096x4096, .f32⟩
  | .hbm, ⟨35, _⟩ => ⟨S2x8x4096x4096, .f32⟩
  | .hbm, ⟨36, _⟩ => ⟨S_, .f32⟩
  | .hbm, ⟨37, _⟩ => ⟨S_, .f32⟩
  | .hbm, ⟨38, _⟩ => ⟨S2x8x4096x4096, .i1⟩
  | .hbm, ⟨39, _⟩ => ⟨S2x8x4096x4096, .f32⟩
  | .hbm, ⟨40, _⟩ => ⟨S2x8x4096x4096, .f32⟩
  | .hbm, ⟨41, _⟩ => ⟨S_, .f32⟩
  | .hbm, ⟨42, _⟩ => ⟨S_, .f32⟩
  | .hbm, ⟨43, _⟩ => ⟨S2x8x4096x4096, .f32⟩
  | .hbm, ⟨44, _⟩ => ⟨S2x8x4096x4096, .f32⟩
  | .hbm, ⟨45, _⟩ => ⟨S2x8x4096x4096, .f32⟩
  | .hbm, ⟨46, _⟩ => ⟨S_, .f32⟩
  | .hbm, ⟨47, _⟩ => ⟨S2x8x4096x4096, .f32⟩
  | .hbm, ⟨48, _⟩ => ⟨S2x8x4096x4096, .f32⟩
  | .hbm, ⟨49, _⟩ => ⟨S2x8x4096x4096, .f32⟩
  | .hbm, ⟨50, _⟩ => ⟨S2x8x4096x4096, .f32⟩
  | .hbm, ⟨51, _⟩ => ⟨S2x8x4096x4096, .i1⟩
  | .hbm, ⟨52, _⟩ => ⟨S2x8x4096x4096, .f32⟩
  | .hbm, ⟨53, _⟩ => ⟨S2x8x4096x4096, .f32⟩
  | .hbm, ⟨54, _⟩ => ⟨S2x8x4096x4096, .f32⟩
  | .hbm, ⟨55, _⟩ => ⟨S2x8x4096x4096, .f32⟩
  | .hbm, ⟨56, _⟩ => ⟨S2x8x4096x4096, .f32⟩
  | .hbm, ⟨57, _⟩ => ⟨S2x8x4096x4096, .f32⟩
  | .hbm, ⟨58, _⟩ => ⟨S2x8x4096x4096, .f32⟩
  | .hbm, ⟨59, _⟩ => ⟨S2x8x4096x4096, .f32⟩
  | .hbm, ⟨60, _⟩ => ⟨S2x8x4096x4096, .f32⟩
  | .hbm, ⟨61, _⟩ => ⟨S2x8x4096x4096, .f32⟩
  | .hbm, ⟨62, _⟩ => ⟨S2x8x4096x4096, .f32⟩
  | .hbm, ⟨63, _⟩ => ⟨S_, .f32⟩
  | .hbm, ⟨64, _⟩ => ⟨S_, .f32⟩
  | .hbm, ⟨65, _⟩ => ⟨S2x8x4096x4096, .i1⟩
  | .hbm, ⟨66, _⟩ => ⟨S2x8x4096x4096, .f32⟩
  | .hbm, ⟨67, _⟩ => ⟨S2x8x4096x4096, .f32⟩
  | .hbm, ⟨68, _⟩ => ⟨S2x4096x8x64, .f32⟩
  | .hbm, ⟨69, _⟩ => ⟨S2x8x4096x64, .f32⟩
  | .hbm, ⟨70, _⟩ => ⟨S2x8x4096x64, .f32⟩
  | .hbm, ⟨71, _⟩ => ⟨S2x4096x8x64, .f32⟩
  | .hbm, ⟨72, _⟩ => ⟨S8192x512, .f32⟩
  | .hbm, ⟨73, _⟩ => ⟨S2x8x4096x16, .f32⟩
  | .hbm, ⟨74, _⟩ => ⟨S2x4096x8x16, .f32⟩
  | .hbm, ⟨75, _⟩ => ⟨S_, .f32⟩
  | .hbm, ⟨76, _⟩ => ⟨S2x4096x8x112, .f32⟩
  | .hbm, ⟨77, _⟩ => ⟨S2x4096x8x128, .f32⟩
  | .hbm, ⟨78, _⟩ => ⟨S8192x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_2 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩

abbrev nD : Nat := 1
abbrev τ : Topo := Topo.v7x

variable {F : FTy → Type} [FloatOps F]
-- ==== Down.lean ====
abbrev S8192x4096 : Shape := ⟨2, ![8192, 4096]⟩
abbrev S8192x1024 : Shape := ⟨2, ![8192, 1024]⟩
abbrev S8x512x1024 : Shape := ⟨3, ![8, 512, 1024]⟩
abbrev S1024x2048 : Shape := ⟨2, ![1024, 2048]⟩
abbrev S1024x1024 : Shape := ⟨2, ![1024, 1024]⟩
abbrev S4x512x1024 : Shape := ⟨3, ![4, 512, 1024]⟩
abbrev S2048x1024 : Shape := ⟨2, ![2048, 1024]⟩
abbrev S512x1024 : Shape := ⟨2, ![512, 1024]⟩
abbrev S1x512x1024 : Shape := ⟨3, ![1, 512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S8x512x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S4x512x1024, .f32⟩
  | .local _ .vmem, ⟨5, _⟩ => ⟨S4x512x1024, .f32⟩
  | .local _ .vmem, ⟨6, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S8x512x1024 : Shape := ⟨3, ![8, 512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S1024x4096, .f32⟩
  | .hbm, ⟨7, _⟩ => ⟨S4096x1024, .f32⟩
  | .hbm, ⟨8, _⟩ => ⟨S8x512x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Adam.lean ====
abbrev S1024x320 : Shape := ⟨2, ![1024, 320]⟩
abbrev S256x320 : Shape := ⟨2, ![256, 320]⟩

abbrev nBuf : Space → Nat
  | .hbm => 7
  | .vmem => 14
  | .smem => 0
  | _ => 0

abbrev bufTy : (tb : Table) → Fin (tcTables nBuf tb) → BufTy
  | .hbm, ⟨0, _⟩ => ⟨S1024x320, .f32⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S1024x320, .f32⟩
  | .local _ .vmem, ⟨0, _⟩ => ⟨S256x320, .f32⟩
  | .local _ .vmem, ⟨1, _⟩ => ⟨S256x320, .f32⟩
  | .local _ .vmem, ⟨2, _⟩ => ⟨S256x320, .f32⟩
  | .local _ .vmem, ⟨3, _⟩ => ⟨S256x320, .f32⟩
  | .local _ .vmem, ⟨4, _⟩ => ⟨S256x320, .f32⟩
  | .local _ .vmem, ⟨5, _⟩ => ⟨S256x320, .f32⟩
  | .local _ .vmem, ⟨6, _⟩ => ⟨S256x320, .f32⟩
  | .local _ .vmem, ⟨7, _⟩ => ⟨S256x320, .f32⟩
  | .local _ .vmem, ⟨8, _⟩ => ⟨S256x320, .f32⟩
  | .local _ .vmem, ⟨9, _⟩ => ⟨S256x320, .f32⟩
  | .local _ .vmem, ⟨10, _⟩ => ⟨S256x320, .f32⟩
  | .local _ .vmem, ⟨11, _⟩ => ⟨S256x320, .f32⟩
  | .local _ .vmem, ⟨12, _⟩ => ⟨S256x320, .f32⟩
  | .local _ .vmem, ⟨13, _⟩ => ⟨S256x320, .f32⟩
  | _, _ => ⟨S1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S1024x320 : Shape := ⟨2, ![1024, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x320, .f32⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S_, .f32⟩
  | .hbm, ⟨5, _⟩ => ⟨S1024x320, .f32⟩
  | .hbm, ⟨6, _⟩ => ⟨S1024x320, .f32⟩
  | .hbm, ⟨7, _⟩ => ⟨S_, .f32⟩
  | .hbm, ⟨8, _⟩ => ⟨S1024x320, .f32⟩
  | .hbm, ⟨9, _⟩ => ⟨S1024x320, .f32⟩
  | .hbm, ⟨10, _⟩ => ⟨S1024x320, .f32⟩
  | .hbm, ⟨11, _⟩ => ⟨S_, .f32⟩
  | .hbm, ⟨12, _⟩ => ⟨S1024x320, .f32⟩
  | .hbm, ⟨13, _⟩ => ⟨S1024x320, .f32⟩
  | .hbm, ⟨14, _⟩ => ⟨S1024x320, .f32⟩
  | .hbm, ⟨15, _⟩ => ⟨S_, .f32⟩
  | .hbm, ⟨16, _⟩ => ⟨S1024x320, .f32⟩
  | .hbm, ⟨17, _⟩ => ⟨S1024x320, .f32⟩
  | .hbm, ⟨18, _⟩ => ⟨S1024x320, .f32⟩
  | .hbm, ⟨19, _⟩ => ⟨S_, .f32⟩
  | .hbm, ⟨20, _⟩ => ⟨S1024x320, .f32⟩
  | .hbm, ⟨21, _⟩ => ⟨S1024x320, .f32⟩
  | .hbm, ⟨22, _⟩ => ⟨S_, .f32⟩
  | .hbm, ⟨23, _⟩ => ⟨S1024x320, .f32⟩
  | .hbm, ⟨24, _⟩ => ⟨S1024x320, .f32⟩
  | .hbm, ⟨25, _⟩ => ⟨S1024x320, .f32⟩
  | .hbm, ⟨26, _⟩ => ⟨S_, .f32⟩
  | .hbm, ⟨27, _⟩ => ⟨S1024x320, .f32⟩
  | .hbm, ⟨28, _⟩ => ⟨S1024x320, .f32⟩
  | .hbm, ⟨29, _⟩ => ⟨S1024x320, .f32⟩
  | .hbm, ⟨30, _⟩ => ⟨S_, .f32⟩
  | .hbm, ⟨31, _⟩ => ⟨S1024x320, .f32⟩
  | .hbm, ⟨32, _⟩ => ⟨S1024x320, .f32⟩
  | .hbm, ⟨33, _⟩ => ⟨S1024x320, .f32⟩
  | .hbm, ⟨34, _⟩ => ⟨S_, .f32⟩
  | .hbm, ⟨35, _⟩ => ⟨S1024x320, .f32⟩
  | .hbm, ⟨36, _⟩ => ⟨S1024x320, .f32⟩
  | _, _ => ⟨S1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Sum.lean ====
abbrev S8x320x1024 : Shape := ⟨3, ![8, 320, 1024]⟩
abbrev S320x1024 : Shape := ⟨2, ![320, 1024]⟩
abbrev S1x320x1024 : Shape := ⟨3, ![1, 320, 1024]⟩

abbrev nBuf : Space → Nat
  | .hbm => 3
  | .vmem => 2
  | .smem => 0
  | _ => 0

abbrev bufTy : (tb : Table) → Fin (tcTables nBuf tb) → BufTy
  | .hbm, ⟨0, _⟩ => ⟨S8x320x1024, .f32⟩
  | .hbm, ⟨1, _⟩ => ⟨S8x320x1024, .bf16⟩
  | .hbm, ⟨2, _⟩ => ⟨S320x1024, .f32⟩
  | .local _ .vmem, ⟨0, _⟩ => ⟨S8x320x1024, .bf16⟩
  | .local _ .vmem, ⟨1, _⟩ => ⟨S320x1024, .f32⟩
  | _, _ => ⟨S8x320x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x320x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S320x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumRefIdeal.lean ====
abbrev S8x320x1024 : Shape := ⟨3, ![8, 320, 1024]⟩
abbrev S_ : Shape := ⟨0, ![]⟩
abbrev S320x1024 : Shape := ⟨2, ![320, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x320x1024, .f32⟩
  | .hbm, ⟨1, _⟩ => ⟨S_, .f32⟩
  | .hbm, ⟨2, _⟩ => ⟨S320x1024, .f32⟩
  | _, _ => ⟨S8x320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LruF.lean ====
abbrev S8192x1024 : Shape := ⟨2, ![8192, 1024]⟩
abbrev S1x4x512 : Shape := ⟨3, ![1, 4, 512]⟩
abbrev S1x512 : Shape := ⟨2, ![1, 512]⟩
abbrev S1x8x64x64 : Shape := ⟨4, ![1, 8, 64, 64]⟩
abbrev S1x8x64 : Shape := ⟨3, ![1, 8, 64]⟩
abbrev S4x512 : Shape := ⟨2, ![4, 512]⟩
abbrev S8x64x64 : Shape := ⟨3, ![8, 64, 64]⟩
abbrev S4x2x64x64 : Shape := ⟨4, ![4, 2, 64, 64]⟩
abbrev S_ : Shape := ⟨0, ![]⟩
abbrev S4x128x128 : Shape := ⟨3, ![4, 128, 128]⟩
abbrev S4x1x64x64 : Shape := ⟨4, ![4, 1, 64, 64]⟩
abbrev S4x64x64 : Shape := ⟨3, ![4, 64, 64]⟩
abbrev S1 : Shape := ⟨1, ![1]⟩
abbrev S2 : Shape := ⟨1, ![2]⟩
abbrev S8192x512 : Shape := ⟨2, ![8192, 512]⟩
abbrev S1024x128 : Shape := ⟨2, ![1024, 128]⟩
abbrev S4x128 : Shape := ⟨2, ![4, 128]⟩
abbrev S1x128 : Shape := ⟨2, ![1, 128]⟩
abbrev S1x128x128 : Shape := ⟨3, ![1, 128, 128]⟩
abbrev S8x128 : Shape := ⟨2, ![8, 128]⟩
abbrev S1032x128 : Shape := ⟨2, ![1032, 128]⟩
abbrev S128x128 : Shape := ⟨2, ![128, 128]⟩

abbrev nBuf : Space → Nat
  | .hbm => 55
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1x4x512, .f32⟩
  | .hbm, ⟨2, _⟩ => ⟨S1x512, .f32⟩
  | .hbm, ⟨3, _⟩ => ⟨S1x8x64x64, .f32⟩
  | .hbm, ⟨4, _⟩ => ⟨S1x8x64, .f32⟩
  | .hbm, ⟨5, _⟩ => ⟨S1x8x64x64, .f32⟩
  | .hbm, ⟨6, _⟩ => ⟨S1x8x64, .f32⟩
  | .hbm, ⟨7, _⟩ => ⟨S1x512, .f32⟩
  | .hbm, ⟨8, _⟩ => ⟨S4x512, .f32⟩
  | .hbm, ⟨9, _⟩ => ⟨S8x64x64, .f32⟩
  | .hbm, ⟨10, _⟩ => ⟨S4x2x64x64, .f32⟩
  | .hbm, ⟨11, _⟩ => ⟨S_, .f32⟩
  | .hbm, ⟨12, _⟩ => ⟨S4x128x128, .f32⟩
  | .hbm, ⟨13, _⟩ => ⟨S4x1x64x64, .f32⟩
  | .hbm, ⟨14, _⟩ => ⟨S4x64x64, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S4x128x128, .f32⟩
  | .hbm, ⟨21, _⟩ => ⟨S4x1x64x64, .f32⟩
  | .hbm, ⟨22, _⟩ => ⟨S4x64x64, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S4x128x128, .f32⟩
  | .hbm, ⟨29, _⟩ => ⟨S4x128x128, .bf16⟩
  | .hbm, ⟨30, _⟩ => ⟨S8x64x64, .f32⟩
  | .hbm, ⟨31, _⟩ => ⟨S4x2x64x64, .f32⟩
  | .hbm, ⟨32, _⟩ => ⟨S_, .f32⟩
  | .hbm, ⟨33, _⟩ => ⟨S4x128x128, .f32⟩
  | .hbm, ⟨34, _⟩ => ⟨S4x1x64x64, .f32⟩
  | .hbm, ⟨35, _⟩ => ⟨S4x64x64, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S4x128x128, .f32⟩
  | .hbm, ⟨42, _⟩ => ⟨S4x1x64x64, .f32⟩
  | .hbm, ⟨43, _⟩ => ⟨S4x64x64, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S4x128x128, .f32⟩
  | .hbm, ⟨50, _⟩ => ⟨S4x128x128, .bf16⟩
  | .hbm, ⟨51, _⟩ => ⟨S1x512, .f32⟩
  | .hbm, ⟨52, _⟩ => ⟨S1x512, .f32⟩
  | .hbm, ⟨53, _⟩ => ⟨S8192x512, .f32⟩
  | .hbm, ⟨54, _⟩ => ⟨S8192x512, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S8x128, .f32⟩
  | .local _ .vmem, ⟨23, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35_0 : Ref sig .tc := ⟨.hbm, 53, rfl⟩
abbrev main_v35_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== LruFRefIdeal.lean ====
abbrev S8192x1024 : Shape := ⟨2, ![8192, 1024]⟩
abbrev S1x4x512 : Shape := ⟨3, ![1, 4, 512]⟩
abbrev S1x512 : Shape := ⟨2, ![1, 512]⟩
abbrev S1x8x64x64 : Shape := ⟨4, ![1, 8, 64, 64]⟩
abbrev S1x8x64 : Shape := ⟨3, ![1, 8, 64]⟩
abbrev S2x4096x1024 : Shape := ⟨3, ![2, 4096, 1024]⟩
abbrev S2x4096x512 : Shape := ⟨3, ![2, 4096, 512]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S_ : Shape := ⟨0, ![]⟩
abbrev S2x3x512 : Shape := ⟨3, ![2, 3, 512]⟩
abbrev S2x4099x512 : Shape := ⟨3, ![2, 4099, 512]⟩
abbrev S1x1x512 : Shape := ⟨3, ![1, 1, 512]⟩
abbrev S2x4096x8x64 : Shape := ⟨4, ![2, 4096, 8, 64]⟩
abbrev S8x64x2x4096 : Shape := ⟨4, ![8, 64, 2, 4096]⟩
abbrev S1x1x8x64 : Shape := ⟨4, ![1, 1, 8, 64]⟩
abbrev S2x2048x512 : Shape := ⟨3, ![2, 2048, 512]⟩
abbrev S2x1024x512 : Shape := ⟨3, ![2, 1024, 512]⟩
abbrev S2x512x512 : Shape := ⟨3, ![2, 512, 512]⟩
abbrev S2x256x512 : Shape := ⟨3, ![2, 256, 512]⟩
abbrev S2x128x512 : Shape := ⟨3, ![2, 128, 512]⟩
abbrev S2x64x512 : Shape := ⟨3, ![2, 64, 512]⟩
abbrev S2x32x512 : Shape := ⟨3, ![2, 32, 512]⟩
abbrev S2x16x512 : Shape := ⟨3, ![2, 16, 512]⟩
abbrev S2x8x512 : Shape := ⟨3, ![2, 8, 512]⟩
abbrev S2x4x512 : Shape := ⟨3, ![2, 4, 512]⟩
abbrev S2x2x512 : Shape := ⟨3, ![2, 2, 512]⟩
abbrev S2x1x512 : Shape := ⟨3, ![2, 1, 512]⟩
abbrev S2x0x512 : Shape := ⟨3, ![2, 0, 512]⟩
abbrev S2x7x512 : Shape := ⟨3, ![2, 7, 512]⟩
abbrev S2x15x512 : Shape := ⟨3, ![2, 15, 512]⟩
abbrev S2x31x512 : Shape := ⟨3, ![2, 31, 512]⟩
abbrev S2x63x512 : Shape := ⟨3, ![2, 63, 512]⟩
abbrev S2x127x512 : Shape := ⟨3, ![2, 127, 512]⟩
abbrev S2x255x512 : Shape := ⟨3, ![2, 255, 512]⟩
abbrev S2x511x512 : Shape := ⟨3, ![2, 511, 512]⟩
abbrev S2x1023x512 : Shape := ⟨3, ![2, 1023, 512]⟩
abbrev S2x2047x512 : Shape := ⟨3, ![2, 2047, 512]⟩
abbrev S8192x512 : Shape := ⟨2, ![8192, 512]⟩

abbrev nBuf : Space → Nat
  | .hbm => 469
  | .vmem => 0
  | .smem => 0
  | _ => 0

abbrev hbmTy0_0 (i : Nat) : BufTy := match i % 128 with
  | 0 => ⟨S8192x1024, .f32⟩
  | 1 => ⟨S1x4x512, .f32⟩
  | 2 => ⟨S1x512, .f32⟩
  | 3 => ⟨S1x8x64x64, .f32⟩
  | 4 => ⟨S1x8x64, .f32⟩
  | 5 => ⟨S1x8x64x64, .f32⟩
  | 6 => ⟨S1x8x64, .f32⟩
  | 7 => ⟨S1x512, .f32⟩
  | 8 => ⟨S2x4096x1024, .f32⟩
  | 9 => ⟨S2x4096x512, .f32⟩
  | 10 => ⟨S2x4096x512, .f32⟩
  | 11 => ⟨S4x512, .f32⟩
  | 12 => ⟨S512, .f32⟩
  | 13 => ⟨S8x64x64, .f32⟩
  | 14 => ⟨S8x64, .f32⟩
  | 15 => ⟨S8x64x64, .f32⟩
  | 16 => ⟨S8x64, .f32⟩
  | 17 => ⟨S512, .f32⟩
  | 18 => ⟨S_, .f32⟩
  | 19 => ⟨S2x3x512, .f32⟩
  | 20 => ⟨S2x4099x512, .f32⟩
  | 21 => ⟨S2x4096x512, .f32⟩
  | 22 => ⟨S1x512, .f32⟩
  | 23 => ⟨S512, .f32⟩
  | 24 => ⟨S1x1x512, .f32⟩
  | 25 => ⟨S2x4096x512, .f32⟩
  | 26 => ⟨S2x4096x512, .f32⟩
  | 27 => ⟨S_, .f32⟩
  | 28 => ⟨S2x4096x512, .f32⟩
  | 29 => ⟨S2x4096x512, .f32⟩
  | 30 => ⟨S2x4096x512, .f32⟩
  | 31 => ⟨S1x512, .f32⟩
  | 32 => ⟨S512, .f32⟩
  | 33 => ⟨S1x1x512, .f32⟩
  | 34 => ⟨S2x4096x512, .f32⟩
  | 35 => ⟨S2x4096x512, .f32⟩
  | 36 => ⟨S2x4096x512, .f32⟩
  | 37 => ⟨S2x4096x512, .f32⟩
  | 38 => ⟨S1x512, .f32⟩
  | 39 => ⟨S512, .f32⟩
  | 40 => ⟨S1x1x512, .f32⟩
  | 41 => ⟨S2x4096x512, .f32⟩
  | 42 => ⟨S2x4096x512, .f32⟩
  | 43 => ⟨S2x4096x512, .f32⟩
  | 44 => ⟨S2x4096x512, .f32⟩
  | 45 => ⟨S1x512, .f32⟩
  | 46 => ⟨S512, .f32⟩
  | 47 => ⟨S1x1x512, .f32⟩
  | 48 => ⟨S2x4096x512, .f32⟩
  | 49 => ⟨S2x4096x512, .f32⟩
  | 50 => ⟨S2x4096x512, .f32⟩
  | 51 => ⟨S1x1x512, .f32⟩
  | 52 => ⟨S2x4096x512, .f32⟩
  | 53 => ⟨S2x4096x512, .f32⟩
  | 54 => ⟨S2x4096x8x64, .f32⟩
  | 55 => ⟨S8x64x2x4096, .f32⟩
  | 56 => ⟨S2x4096x8x64, .f32⟩
  | 57 => ⟨S1x1x8x64, .f32⟩
  | 58 => ⟨S2x4096x8x64, .f32⟩
  | 59 => ⟨S2x4096x8x64, .f32⟩
  | 60 => ⟨S2x4096x8x64, .f32⟩
  | 61 => ⟨S2x4096x8x64, .f32⟩
  | 62 => ⟨S_, .f32⟩
  | 63 => ⟨S2x4096x8x64, .f32⟩
  | 64 => ⟨S2x4096x8x64, .f32⟩
  | 65 => ⟨S_, .f32⟩
  | 66 => ⟨S2x4096x8x64, .f32⟩
  | 67 => ⟨S2x4096x8x64, .f32⟩
  | 68 => ⟨S2x4096x512, .f32⟩
  | 69 => ⟨S8x64x2x4096, .f32⟩
  | 70 => ⟨S2x4096x8x64, .f32⟩
  | 71 => ⟨S1x1x8x64, .f32⟩
  | 72 => ⟨S2x4096x8x64, .f32⟩
  | 73 => ⟨S2x4096x8x64, .f32⟩
  | 74 => ⟨S2x4096x8x64, .f32⟩
  | 75 => ⟨S2x4096x8x64, .f32⟩
  | 76 => ⟨S_, .f32⟩
  | 77 => ⟨S2x4096x8x64, .f32⟩
  | 78 => ⟨S2x4096x8x64, .f32⟩
  | 79 => ⟨S_, .f32⟩
  | 80 => ⟨S2x4096x8x64, .f32⟩
  | 81 => ⟨S2x4096x8x64, .f32⟩
  | 82 => ⟨S2x4096x512, .f32⟩
  | 83 => ⟨S_, .f32⟩
  | 84 => ⟨S2x4096x512, .f32⟩
  | 85 => ⟨S2x4096x512, .f32⟩
  | 86 => ⟨S512, .f32⟩
  | 87 => ⟨S_, .f32⟩
  | 88 => ⟨S512, .f32⟩
  | 89 => ⟨S512, .f32⟩
  | 90 => ⟨S512, .f32⟩
  | 91 => ⟨S512, .f32⟩
  | 92 => ⟨S512, .i1⟩
  | 93 => ⟨S512, .f32⟩
  | 94 => ⟨S512, .f32⟩
  | 95 => ⟨S512, .f32⟩
  | 96 => ⟨S512, .f32⟩
  | 97 => ⟨S512, .f32⟩
  | 98 => ⟨S512, .f32⟩
  | 99 => ⟨S512, .f32⟩
  | 100 => ⟨S512, .f32⟩
  | 101 => ⟨S1x1x512, .f32⟩
  | 102 => ⟨S2x4096x512, .f32⟩
  | 103 => ⟨S2x4096x512, .f32⟩
  | 104 => ⟨S2x4096x512, .f32⟩
  | 105 => ⟨S_, .f32⟩
  | 106 => ⟨S2x4096x512, .f32⟩
  | 107 => ⟨S2x4096x512, .f32⟩
  | 108 => ⟨S2x4096x512, .f32⟩
  | 109 => ⟨S2x4096x512, .f32⟩
  | 110 => ⟨S2x4096x512, .f32⟩
  | 111 => ⟨S2x4096x512, .f32⟩
  | 112 => ⟨S2x4096x512, .f32⟩
  | 113 => ⟨S2x2048x512, .f32⟩
  | 114 => ⟨S2x2048x512, .f32⟩
  | 115 => ⟨S2x2048x512, .f32⟩
  | 116 => ⟨S2x2048x512, .f32⟩
  | 117 => ⟨S2x2048x512, .f32⟩
  | 118 => ⟨S2x2048x512, .f32⟩
  | 119 => ⟨S2x2048x512, .f32⟩
  | 120 => ⟨S2x1024x512, .f32⟩
  | 121 => ⟨S2x1024x512, .f32⟩
  | 122 => ⟨S2x1024x512, .f32⟩
  | 123 => ⟨S2x1024x512, .f32⟩
  | 124 => ⟨S2x1024x512, .f32⟩
  | 125 => ⟨S2x1024x512, .f32⟩
  | 126 => ⟨S2x1024x512, .f32⟩
  | 127 => ⟨S2x512x512, .f32⟩
  | _ => ⟨S8192x1024, .f32⟩

abbrev hbmTy0_1 (i : Nat) : BufTy := match i % 128 with
  | 0 => ⟨S2x512x512, .f32⟩
  | 1 => ⟨S2x512x512, .f32⟩
  | 2 => ⟨S2x512x512, .f32⟩
  | 3 => ⟨S2x512x512, .f32⟩
  | 4 => ⟨S2x512x512, .f32⟩
  | 5 => ⟨S2x512x512, .f32⟩
  | 6 => ⟨S2x256x512, .f32⟩
  | 7 => ⟨S2x256x512, .f32⟩
  | 8 => ⟨S2x256x512, .f32⟩
  | 9 => ⟨S2x256x512, .f32⟩
  | 10 => ⟨S2x256x512, .f32⟩
  | 11 => ⟨S2x256x512, .f32⟩
  | 12 => ⟨S2x256x512, .f32⟩
  | 13 => ⟨S2x128x512, .f32⟩
  | 14 => ⟨S2x128x512, .f32⟩
  | 15 => ⟨S2x128x512, .f32⟩
  | 16 => ⟨S2x128x512, .f32⟩
  | 17 => ⟨S2x128x512, .f32⟩
  | 18 => ⟨S2x128x512, .f32⟩
  | 19 => ⟨S2x128x512, .f32⟩
  | 20 => ⟨S2x64x512, .f32⟩
  | 21 => ⟨S2x64x512, .f32⟩
  | 22 => ⟨S2x64x512, .f32⟩
  | 23 => ⟨S2x64x512, .f32⟩
  | 24 => ⟨S2x64x512, .f32⟩
  | 25 => ⟨S2x64x512, .f32⟩
  | 26 => ⟨S2x64x512, .f32⟩
  | 27 => ⟨S2x32x512, .f32⟩
  | 28 => ⟨S2x32x512, .f32⟩
  | 29 => ⟨S2x32x512, .f32⟩
  | 30 => ⟨S2x32x512, .f32⟩
  | 31 => ⟨S2x32x512, .f32⟩
  | 32 => ⟨S2x32x512, .f32⟩
  | 33 => ⟨S2x32x512, .f32⟩
  | 34 => ⟨S2x16x512, .f32⟩
  | 35 => ⟨S2x16x512, .f32⟩
  | 36 => ⟨S2x16x512, .f32⟩
  | 37 => ⟨S2x16x512, .f32⟩
  | 38 => ⟨S2x16x512, .f32⟩
  | 39 => ⟨S2x16x512, .f32⟩
  | 40 => ⟨S2x16x512, .f32⟩
  | 41 => ⟨S2x8x512, .f32⟩
  | 42 => ⟨S2x8x512, .f32⟩
  | 43 => ⟨S2x8x512, .f32⟩
  | 44 => ⟨S2x8x512, .f32⟩
  | 45 => ⟨S2x8x512, .f32⟩
  | 46 => ⟨S2x8x512, .f32⟩
  | 47 => ⟨S2x8x512, .f32⟩
  | 48 => ⟨S2x4x512, .f32⟩
  | 49 => ⟨S2x4x512, .f32⟩
  | 50 => ⟨S2x4x512, .f32⟩
  | 51 => ⟨S2x4x512, .f32⟩
  | 52 => ⟨S2x4x512, .f32⟩
  | 53 => ⟨S2x4x512, .f32⟩
  | 54 => ⟨S2x4x512, .f32⟩
  | 55 => ⟨S2x2x512, .f32⟩
  | 56 => ⟨S2x2x512, .f32⟩
  | 57 => ⟨S2x2x512, .f32⟩
  | 58 => ⟨S2x2x512, .f32⟩
  | 59 => ⟨S2x2x512, .f32⟩
  | 60 => ⟨S2x2x512, .f32⟩
  | 61 => ⟨S2x2x512, .f32⟩
  | 62 => ⟨S2x1x512, .f32⟩
  | 63 => ⟨S2x1x512, .f32⟩
  | 64 => ⟨S2x1x512, .f32⟩
  | 65 => ⟨S2x1x512, .f32⟩
  | 66 => ⟨S2x1x512, .f32⟩
  | 67 => ⟨S2x1x512, .f32⟩
  | 68 => ⟨S2x1x512, .f32⟩
  | 69 => ⟨S2x0x512, .f32⟩
  | 70 => ⟨S2x0x512, .f32⟩
  | 71 => ⟨S2x0x512, .f32⟩
  | 72 => ⟨S2x0x512, .f32⟩
  | 73 => ⟨S2x0x512, .f32⟩
  | 74 => ⟨S2x0x512, .f32⟩
  | 75 => ⟨S2x0x512, .f32⟩
  | 76 => ⟨S2x1x512, .f32⟩
  | 77 => ⟨S2x1x512, .f32⟩
  | 78 => ⟨S2x1x512, .f32⟩
  | 79 => ⟨S2x1x512, .f32⟩
  | 80 => ⟨S_, .f32⟩
  | 81 => ⟨S2x2x512, .f32⟩
  | 82 => ⟨S_, .f32⟩
  | 83 => ⟨S2x2x512, .f32⟩
  | 84 => ⟨S2x2x512, .f32⟩
  | 85 => ⟨S_, .f32⟩
  | 86 => ⟨S2x2x512, .f32⟩
  | 87 => ⟨S_, .f32⟩
  | 88 => ⟨S2x2x512, .f32⟩
  | 89 => ⟨S2x2x512, .f32⟩
  | 90 => ⟨S2x1x512, .f32⟩
  | 91 => ⟨S2x1x512, .f32⟩
  | 92 => ⟨S2x1x512, .f32⟩
  | 93 => ⟨S2x1x512, .f32⟩
  | 94 => ⟨S2x1x512, .f32⟩
  | 95 => ⟨S2x1x512, .f32⟩
  | 96 => ⟨S2x1x512, .f32⟩
  | 97 => ⟨S2x1x512, .f32⟩
  | 98 => ⟨S2x2x512, .f32⟩
  | 99 => ⟨S2x1x512, .f32⟩
  | 100 => ⟨S2x2x512, .f32⟩
  | 101 => ⟨S_, .f32⟩
  | 102 => ⟨S2x4x512, .f32⟩
  | 103 => ⟨S_, .f32⟩
  | 104 => ⟨S2x4x512, .f32⟩
  | 105 => ⟨S2x4x512, .f32⟩
  | 106 => ⟨S_, .f32⟩
  | 107 => ⟨S2x4x512, .f32⟩
  | 108 => ⟨S_, .f32⟩
  | 109 => ⟨S2x4x512, .f32⟩
  | 110 => ⟨S2x4x512, .f32⟩
  | 111 => ⟨S2x3x512, .f32⟩
  | 112 => ⟨S2x3x512, .f32⟩
  | 113 => ⟨S2x3x512, .f32⟩
  | 114 => ⟨S2x3x512, .f32⟩
  | 115 => ⟨S2x3x512, .f32⟩
  | 116 => ⟨S2x3x512, .f32⟩
  | 117 => ⟨S2x3x512, .f32⟩
  | 118 => ⟨S2x1x512, .f32⟩
  | 119 => ⟨S2x4x512, .f32⟩
  | 120 => ⟨S2x1x512, .f32⟩
  | 121 => ⟨S2x4x512, .f32⟩
  | 122 => ⟨S_, .f32⟩
  | 123 => ⟨S2x8x512, .f32⟩
  | 124 => ⟨S_, .f32⟩
  | 125 => ⟨S2x8x512, .f32⟩
  | 126 => ⟨S2x8x512, .f32⟩
  | 127 => ⟨S_, .f32⟩
  | _ => ⟨S8192x1024, .f32⟩

abbrev hbmTy0_2 (i : Nat) : BufTy := match i % 128 with
  | 0 => ⟨S2x8x512, .f32⟩
  | 1 => ⟨S_, .f32⟩
  | 2 => ⟨S2x8x512, .f32⟩
  | 3 => ⟨S2x8x512, .f32⟩
  | 4 => ⟨S2x7x512, .f32⟩
  | 5 => ⟨S2x7x512, .f32⟩
  | 6 => ⟨S2x7x512, .f32⟩
  | 7 => ⟨S2x7x512, .f32⟩
  | 8 => ⟨S2x7x512, .f32⟩
  | 9 => ⟨S2x7x512, .f32⟩
  | 10 => ⟨S2x7x512, .f32⟩
  | 11 => ⟨S2x1x512, .f32⟩
  | 12 => ⟨S2x8x512, .f32⟩
  | 13 => ⟨S2x1x512, .f32⟩
  | 14 => ⟨S2x8x512, .f32⟩
  | 15 => ⟨S_, .f32⟩
  | 16 => ⟨S2x16x512, .f32⟩
  | 17 => ⟨S_, .f32⟩
  | 18 => ⟨S2x16x512, .f32⟩
  | 19 => ⟨S2x16x512, .f32⟩
  | 20 => ⟨S_, .f32⟩
  | 21 => ⟨S2x16x512, .f32⟩
  | 22 => ⟨S_, .f32⟩
  | 23 => ⟨S2x16x512, .f32⟩
  | 24 => ⟨S2x16x512, .f32⟩
  | 25 => ⟨S2x15x512, .f32⟩
  | 26 => ⟨S2x15x512, .f32⟩
  | 27 => ⟨S2x15x512, .f32⟩
  | 28 => ⟨S2x15x512, .f32⟩
  | 29 => ⟨S2x15x512, .f32⟩
  | 30 => ⟨S2x15x512, .f32⟩
  | 31 => ⟨S2x15x512, .f32⟩
  | 32 => ⟨S2x1x512, .f32⟩
  | 33 => ⟨S2x16x512, .f32⟩
  | 34 => ⟨S2x1x512, .f32⟩
  | 35 => ⟨S2x16x512, .f32⟩
  | 36 => ⟨S_, .f32⟩
  | 37 => ⟨S2x32x512, .f32⟩
  | 38 => ⟨S_, .f32⟩
  | 39 => ⟨S2x32x512, .f32⟩
  | 40 => ⟨S2x32x512, .f32⟩
  | 41 => ⟨S_, .f32⟩
  | 42 => ⟨S2x32x512, .f32⟩
  | 43 => ⟨S_, .f32⟩
  | 44 => ⟨S2x32x512, .f32⟩
  | 45 => ⟨S2x32x512, .f32⟩
  | 46 => ⟨S2x31x512, .f32⟩
  | 47 => ⟨S2x31x512, .f32⟩
  | 48 => ⟨S2x31x512, .f32⟩
  | 49 => ⟨S2x31x512, .f32⟩
  | 50 => ⟨S2x31x512, .f32⟩
  | 51 => ⟨S2x31x512, .f32⟩
  | 52 => ⟨S2x31x512, .f32⟩
  | 53 => ⟨S2x1x512, .f32⟩
  | 54 => ⟨S2x32x512, .f32⟩
  | 55 => ⟨S2x1x512, .f32⟩
  | 56 => ⟨S2x32x512, .f32⟩
  | 57 => ⟨S_, .f32⟩
  | 58 => ⟨S2x64x512, .f32⟩
  | 59 => ⟨S_, .f32⟩
  | 60 => ⟨S2x64x512, .f32⟩
  | 61 => ⟨S2x64x512, .f32⟩
  | 62 => ⟨S_, .f32⟩
  | 63 => ⟨S2x64x512, .f32⟩
  | 64 => ⟨S_, .f32⟩
  | 65 => ⟨S2x64x512, .f32⟩
  | 66 => ⟨S2x64x512, .f32⟩
  | 67 => ⟨S2x63x512, .f32⟩
  | 68 => ⟨S2x63x512, .f32⟩
  | 69 => ⟨S2x63x512, .f32⟩
  | 70 => ⟨S2x63x512, .f32⟩
  | 71 => ⟨S2x63x512, .f32⟩
  | 72 => ⟨S2x63x512, .f32⟩
  | 73 => ⟨S2x63x512, .f32⟩
  | 74 => ⟨S2x1x512, .f32⟩
  | 75 => ⟨S2x64x512, .f32⟩
  | 76 => ⟨S2x1x512, .f32⟩
  | 77 => ⟨S2x64x512, .f32⟩
  | 78 => ⟨S_, .f32⟩
  | 79 => ⟨S2x128x512, .f32⟩
  | 80 => ⟨S_, .f32⟩
  | 81 => ⟨S2x128x512, .f32⟩
  | 82 => ⟨S2x128x512, .f32⟩
  | 83 => ⟨S_, .f32⟩
  | 84 => ⟨S2x128x512, .f32⟩
  | 85 => ⟨S_, .f32⟩
  | 86 => ⟨S2x128x512, .f32⟩
  | 87 => ⟨S2x128x512, .f32⟩
  | 88 => ⟨S2x127x512, .f32⟩
  | 89 => ⟨S2x127x512, .f32⟩
  | 90 => ⟨S2x127x512, .f32⟩
  | 91 => ⟨S2x127x512, .f32⟩
  | 92 => ⟨S2x127x512, .f32⟩
  | 93 => ⟨S2x127x512, .f32⟩
  | 94 => ⟨S2x127x512, .f32⟩
  | 95 => ⟨S2x1x512, .f32⟩
  | 96 => ⟨S2x128x512, .f32⟩
  | 97 => ⟨S2x1x512, .f32⟩
  | 98 => ⟨S2x128x512, .f32⟩
  | 99 => ⟨S_, .f32⟩
  | 100 => ⟨S2x256x512, .f32⟩
  | 101 => ⟨S_, .f32⟩
  | 102 => ⟨S2x256x512, .f32⟩
  | 103 => ⟨S2x256x512, .f32⟩
  | 104 => ⟨S_, .f32⟩
  | 105 => ⟨S2x256x512, .f32⟩
  | 106 => ⟨S_, .f32⟩
  | 107 => ⟨S2x256x512, .f32⟩
  | 108 => ⟨S2x256x512, .f32⟩
  | 109 => ⟨S2x255x512, .f32⟩
  | 110 => ⟨S2x255x512, .f32⟩
  | 111 => ⟨S2x255x512, .f32⟩
  | 112 => ⟨S2x255x512, .f32⟩
  | 113 => ⟨S2x255x512, .f32⟩
  | 114 => ⟨S2x255x512, .f32⟩
  | 115 => ⟨S2x255x512, .f32⟩
  | 116 => ⟨S2x1x512, .f32⟩
  | 117 => ⟨S2x256x512, .f32⟩
  | 118 => ⟨S2x1x512, .f32⟩
  | 119 => ⟨S2x256x512, .f32⟩
  | 120 => ⟨S_, .f32⟩
  | 121 => ⟨S2x512x512, .f32⟩
  | 122 => ⟨S_, .f32⟩
  | 123 => ⟨S2x512x512, .f32⟩
  | 124 => ⟨S2x512x512, .f32⟩
  | 125 => ⟨S_, .f32⟩
  | 126 => ⟨S2x512x512, .f32⟩
  | 127 => ⟨S_, .f32⟩
  | _ => ⟨S8192x1024, .f32⟩

abbrev hbmTy0_3 (i : Nat) : BufTy := match i % 128 with
  | 0 => ⟨S2x512x512, .f32⟩
  | 1 => ⟨S2x512x512, .f32⟩
  | 2 => ⟨S2x511x512, .f32⟩
  | 3 => ⟨S2x511x512, .f32⟩
  | 4 => ⟨S2x511x512, .f32⟩
  | 5 => ⟨S2x511x512, .f32⟩
  | 6 => ⟨S2x511x512, .f32⟩
  | 7 => ⟨S2x511x512, .f32⟩
  | 8 => ⟨S2x511x512, .f32⟩
  | 9 => ⟨S2x1x512, .f32⟩
  | 10 => ⟨S2x512x512, .f32⟩
  | 11 => ⟨S2x1x512, .f32⟩
  | 12 => ⟨S2x512x512, .f32⟩
  | 13 => ⟨S_, .f32⟩
  | 14 => ⟨S2x1024x512, .f32⟩
  | 15 => ⟨S_, .f32⟩
  | 16 => ⟨S2x1024x512, .f32⟩
  | 17 => ⟨S2x1024x512, .f32⟩
  | 18 => ⟨S_, .f32⟩
  | 19 => ⟨S2x1024x512, .f32⟩
  | 20 => ⟨S_, .f32⟩
  | 21 => ⟨S2x1024x512, .f32⟩
  | 22 => ⟨S2x1024x512, .f32⟩
  | 23 => ⟨S2x1023x512, .f32⟩
  | 24 => ⟨S2x1023x512, .f32⟩
  | 25 => ⟨S2x1023x512, .f32⟩
  | 26 => ⟨S2x1023x512, .f32⟩
  | 27 => ⟨S2x1023x512, .f32⟩
  | 28 => ⟨S2x1023x512, .f32⟩
  | 29 => ⟨S2x1023x512, .f32⟩
  | 30 => ⟨S2x1x512, .f32⟩
  | 31 => ⟨S2x1024x512, .f32⟩
  | 32 => ⟨S2x1x512, .f32⟩
  | 33 => ⟨S2x1024x512, .f32⟩
  | 34 => ⟨S_, .f32⟩
  | 35 => ⟨S2x2048x512, .f32⟩
  | 36 => ⟨S_, .f32⟩
  | 37 => ⟨S2x2048x512, .f32⟩
  | 38 => ⟨S2x2048x512, .f32⟩
  | 39 => ⟨S_, .f32⟩
  | 40 => ⟨S2x2048x512, .f32⟩
  | 41 => ⟨S_, .f32⟩
  | 42 => ⟨S2x2048x512, .f32⟩
  | 43 => ⟨S2x2048x512, .f32⟩
  | 44 => ⟨S2x2047x512, .f32⟩
  | 45 => ⟨S2x2047x512, .f32⟩
  | 46 => ⟨S2x2047x512, .f32⟩
  | 47 => ⟨S2x2047x512, .f32⟩
  | 48 => ⟨S2x2047x512, .f32⟩
  | 49 => ⟨S2x2047x512, .f32⟩
  | 50 => ⟨S2x2047x512, .f32⟩
  | 51 => ⟨S2x1x512, .f32⟩
  | 52 => ⟨S2x2048x512, .f32⟩
  | 53 => ⟨S2x1x512, .f32⟩
  | 54 => ⟨S2x2048x512, .f32⟩
  | 55 => ⟨S_, .f32⟩
  | 56 => ⟨S2x4096x512, .f32⟩
  | 57 => ⟨S_, .f32⟩
  | 58 => ⟨S2x4096x512, .f32⟩
  | 59 => ⟨S2x4096x512, .f32⟩
  | 60 => ⟨S_, .f32⟩
  | 61 => ⟨S2x4096x512, .f32⟩
  | 62 => ⟨S_, .f32⟩
  | 63 => ⟨S2x4096x512, .f32⟩
  | 64 => ⟨S2x4096x512, .f32⟩
  | 65 => ⟨S2x4096x512, .f32⟩
  | 66 => ⟨S2x4096x512, .f32⟩
  | 67 => ⟨S_, .f32⟩
  | 68 => ⟨S2x4096x512, .f32⟩
  | 69 => ⟨S2x4096x512, .f32⟩
  | 70 => ⟨S2x4096x512, .f32⟩
  | 71 => ⟨S_, .f32⟩
  | 72 => ⟨S2x4096x512, .f32⟩
  | 73 => ⟨S2x4096x512, .f32⟩
  | 74 => ⟨S2x4096x512, .f32⟩
  | 75 => ⟨S_, .f32⟩
  | 76 => ⟨S2x4096x512, .f32⟩
  | 77 => ⟨S2x4096x512, .f32⟩
  | 78 => ⟨S_, .f32⟩
  | 79 => ⟨S2x4096x512, .f32⟩
  | 80 => ⟨S2x4096x512, .f32⟩
  | 81 => ⟨S2x4096x512, .f32⟩
  | 82 => ⟨S2x4096x512, .f32⟩
  | 83 => ⟨S8192x512, .f32⟩
  | 84 => ⟨S8192x512, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_1 : Ref sig .tc := ⟨.hbm, 62, rfl⟩
abbrev main_v52 : Ref sig .tc := ⟨.hbm, 63, rfl⟩
abbrev main_v53 : Ref sig .tc := ⟨.hbm, 64, rfl⟩
abbrev main_cst_2 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_3 : Ref sig .tc := ⟨.hbm, 76, rfl⟩
abbrev main_v64 : Ref sig .tc := ⟨.hbm, 77, rfl⟩
abbrev main_v65 : Ref sig .tc := ⟨.hbm, 78, rfl⟩
abbrev main_cst_4 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_5 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_call0_cst : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_v8 : Ref sig .tc := ⟨.hbm, 96, rfl⟩
abbrev main_call0_v9 : Ref sig .tc := ⟨.hbm, 97, rfl⟩
abbrev main_call0_v10 : Ref sig .tc := ⟨.hbm, 98, rfl⟩
abbrev main_call0_v11 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_6 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_cst_7 : Ref sig .tc := ⟨.hbm, 208, rfl⟩
abbrev main_v179 : Ref sig .tc := ⟨.hbm, 209, rfl⟩
abbrev main_cst_8 : Ref sig .tc := ⟨.hbm, 210, rfl⟩
abbrev main_v180 : Ref sig .tc := ⟨.hbm, 211, rfl⟩
abbrev main_v181 : Ref sig .tc := ⟨.hbm, 212, rfl⟩
abbrev main_cst_9 : Ref sig .tc := ⟨.hbm, 213, rfl⟩
abbrev main_v182 : Ref sig .tc := ⟨.hbm, 214, rfl⟩
abbrev main_cst_10 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_cst_11 : Ref sig .tc := ⟨.hbm, 229, rfl⟩
abbrev main_v196 : Ref sig .tc := ⟨.hbm, 230, rfl⟩
abbrev main_cst_12 : Ref sig .tc := ⟨.hbm, 231, rfl⟩
abbrev main_v197 : Ref sig .tc := ⟨.hbm, 232, rfl⟩
abbrev main_v198 : Ref sig .tc := ⟨.hbm, 233, rfl⟩
abbrev main_cst_13 : Ref sig .tc := ⟨.hbm, 234, rfl⟩
abbrev main_v199 : Ref sig .tc := ⟨.hbm, 235, rfl⟩
abbrev main_cst_14 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_cst_15 : Ref sig .tc := ⟨.hbm, 250, rfl⟩
abbrev main_v213 : Ref sig .tc := ⟨.hbm, 251, rfl⟩
abbrev main_cst_16 : Ref sig .tc := ⟨.hbm, 252, rfl⟩
abbrev main_v214 : Ref sig .tc := ⟨.hbm, 253, rfl⟩
abbrev main_v215 : Ref sig .tc := ⟨.hbm, 254, rfl⟩
abbrev main_cst_17 : Ref sig .tc := ⟨.hbm, 255, rfl⟩
abbrev main_v216 : Ref sig .tc := ⟨.hbm, 256, rfl⟩
abbrev main_cst_18 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_cst_19 : Ref sig .tc := ⟨.hbm, 271, rfl⟩
abbrev main_v230 : Ref sig .tc := ⟨.hbm, 272, rfl⟩
abbrev main_cst_20 : Ref sig .tc := ⟨.hbm, 273, rfl⟩
abbrev main_v231 : Ref sig .tc := ⟨.hbm, 274, rfl⟩
abbrev main_v232 : Ref sig .tc := ⟨.hbm, 275, rfl⟩
abbrev main_cst_21 : Ref sig .tc := ⟨.hbm, 276, rfl⟩
abbrev main_v233 : Ref sig .tc := ⟨.hbm, 277, rfl⟩
abbrev main_cst_22 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_cst_23 : Ref sig .tc := ⟨.hbm, 292, rfl⟩
abbrev main_v247 : Ref sig .tc := ⟨.hbm, 293, rfl⟩
abbrev main_cst_24 : Ref sig .tc := ⟨.hbm, 294, rfl⟩
abbrev main_v248 : Ref sig .tc := ⟨.hbm, 295, rfl⟩
abbrev main_v249 : Ref sig .tc := ⟨.hbm, 296, rfl⟩
abbrev main_cst_25 : Ref sig .tc := ⟨.hbm, 297, rfl⟩
abbrev main_v250 : Ref sig .tc := ⟨.hbm, 298, rfl⟩
abbrev main_cst_26 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_cst_27 : Ref sig .tc := ⟨.hbm, 313, rfl⟩
abbrev main_v264 : Ref sig .tc := ⟨.hbm, 314, rfl⟩
abbrev main_cst_28 : Ref sig .tc := ⟨.hbm, 315, rfl⟩
abbrev main_v265 : Ref sig .tc := ⟨.hbm, 316, rfl⟩
abbrev main_v266 : Ref sig .tc := ⟨.hbm, 317, rfl⟩
abbrev main_cst_29 : Ref sig .tc := ⟨.hbm, 318, rfl⟩
abbrev main_v267 : Ref sig .tc := ⟨.hbm, 319, rfl⟩
abbrev main_cst_30 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_v279 : Ref sig .tc := ⟨.hbm, 332, rfl⟩
abbrev main_v280 : Ref sig .tc := ⟨.hbm, 333, rfl⟩
abbrev main_cst_31 : Ref sig .tc := ⟨.hbm, 334, rfl⟩
abbrev main_v281 : Ref sig .tc := ⟨.hbm, 335, rfl⟩
abbrev main_cst_32 : Ref sig .tc := ⟨.hbm, 336, rfl⟩
abbrev main_v282 : Ref sig .tc := ⟨.hbm, 337, rfl⟩
abbrev main_v283 : Ref sig .tc := ⟨.hbm, 338, rfl⟩
abbrev main_cst_33 : Ref sig .tc := ⟨.hbm, 339, rfl⟩
abbrev main_v284 : Ref sig .tc := ⟨.hbm, 340, rfl⟩
abbrev main_cst_34 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_v293 : Ref sig .tc := ⟨.hbm, 350, rfl⟩
abbrev main_v294 : Ref sig .tc := ⟨.hbm, 351, rfl⟩
abbrev main_v295 : Ref sig .tc := ⟨.hbm, 352, rfl⟩
abbrev main_v296 : Ref sig .tc := ⟨.hbm, 353, rfl⟩
abbrev main_v297 : Ref sig .tc := ⟨.hbm, 354, rfl⟩
abbrev main_cst_35 : Ref sig .tc := ⟨.hbm, 355, rfl⟩
abbrev main_v298 : Ref sig .tc := ⟨.hbm, 356, rfl⟩
abbrev main_cst_36 : Ref sig .tc := ⟨.hbm, 357, rfl⟩
abbrev main_v299 : Ref sig .tc := ⟨.hbm, 358, rfl⟩
abbrev main_v300 : Ref sig .tc := ⟨.hbm, 359, rfl⟩
abbrev main_cst_37 : Ref sig .tc := ⟨.hbm, 360, rfl⟩
abbrev main_v301 : Ref sig .tc := ⟨.hbm, 361, rfl⟩
abbrev main_cst_38 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_v310 : Ref sig .tc := ⟨.hbm, 371, rfl⟩
abbrev main_v311 : Ref sig .tc := ⟨.hbm, 372, rfl⟩
abbrev main_v312 : Ref sig .tc := ⟨.hbm, 373, rfl⟩
abbrev main_v313 : Ref sig .tc := ⟨.hbm, 374, rfl⟩
abbrev main_v314 : Ref sig .tc := ⟨.hbm, 375, rfl⟩
abbrev main_cst_39 : Ref sig .tc := ⟨.hbm, 376, rfl⟩
abbrev main_v315 : Ref sig .tc := ⟨.hbm, 377, rfl⟩
abbrev main_cst_40 : Ref sig .tc := ⟨.hbm, 378, rfl⟩
abbrev main_v316 : Ref sig .tc := ⟨.hbm, 379, rfl⟩
abbrev main_v317 : Ref sig .tc := ⟨.hbm, 380, rfl⟩
abbrev main_cst_41 : Ref sig .tc := ⟨.hbm, 381, rfl⟩
abbrev main_v318 : Ref sig .tc := ⟨.hbm, 382, rfl⟩
abbrev main_cst_42 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩
abbrev main_v323 : Ref sig .tc := ⟨.hbm, 388, rfl⟩
abbrev main_v324 : Ref sig .tc := ⟨.hbm, 389, rfl⟩
abbrev main_v325 : Ref sig .tc := ⟨.hbm, 390, rfl⟩
abbrev main_v326 : Ref sig .tc := ⟨.hbm, 391, rfl⟩
abbrev main_v327 : Ref sig .tc := ⟨.hbm, 392, rfl⟩
abbrev main_v328 : Ref sig .tc := ⟨.hbm, 393, rfl⟩
abbrev main_v329 : Ref sig .tc := ⟨.hbm, 394, rfl⟩
abbrev main_v330 : Ref sig .tc := ⟨.hbm, 395, rfl⟩
abbrev main_v331 : Ref sig .tc := ⟨.hbm, 396, rfl⟩
abbrev main_cst_43 : Ref sig .tc := ⟨.hbm, 397, rfl⟩
abbrev main_v332 : Ref sig .tc := ⟨.hbm, 398, rfl⟩
abbrev main_cst_44 : Ref sig .tc := ⟨.hbm, 399, rfl⟩
abbrev main_v333 : Ref sig .tc := ⟨.hbm, 400, rfl⟩
abbrev main_v334 : Ref sig .tc := ⟨.hbm, 401, rfl⟩
abbrev main_cst_45 : Ref sig .tc := ⟨.hbm, 402, rfl⟩
abbrev main_v335 : Ref sig .tc := ⟨.hbm, 403, rfl⟩
abbrev main_cst_46 : Ref sig .tc := ⟨.hbm, 404, rfl⟩
abbrev main_v336 : Ref sig .tc := ⟨.hbm, 405, rfl⟩
abbrev main_v337 : Ref sig .tc := ⟨.hbm, 406, rfl⟩
abbrev main_v338 : Ref sig .tc := ⟨.hbm, 407, rfl⟩
abbrev main_v339 : Ref sig .tc := ⟨.hbm, 408, rfl⟩
abbrev main_v340 : Ref sig .tc := ⟨.hbm, 409, rfl⟩
abbrev main_v341 : Ref sig .tc := ⟨.hbm, 410, rfl⟩
abbrev main_v342 : Ref sig .tc := ⟨.hbm, 411, rfl⟩
abbrev main_v343 : Ref sig .tc := ⟨.hbm, 412, rfl⟩
abbrev main_v344 : Ref sig .tc := ⟨.hbm, 413, rfl⟩
abbrev main_v345 : Ref sig .tc := ⟨.hbm, 414, rfl⟩
abbrev main_v346 : Ref sig .tc := ⟨.hbm, 415, rfl⟩
abbrev main_v347 : Ref sig .tc := ⟨.hbm, 416, rfl⟩
abbrev main_v348 : Ref sig .tc := ⟨.hbm, 417, rfl⟩
abbrev main_cst_47 : Ref sig .tc := ⟨.hbm, 418, rfl⟩
abbrev main_v349 : Ref sig .tc := ⟨.hbm, 419, rfl⟩
abbrev main_cst_48 : Ref sig .tc := ⟨.hbm, 420, rfl⟩
abbrev main_v350 : Ref sig .tc := ⟨.hbm, 421, rfl⟩
abbrev main_v351 : Ref sig .tc := ⟨.hbm, 422, rfl⟩
abbrev main_cst_49 : Ref sig .tc := ⟨.hbm, 423, rfl⟩
abbrev main_v352 : Ref sig .tc := ⟨.hbm, 424, rfl⟩
abbrev main_cst_50 : Ref sig .tc := ⟨.hbm, 425, rfl⟩
abbrev main_v353 : Ref sig .tc := ⟨.hbm, 426, rfl⟩
abbrev main_v354 : Ref sig .tc := ⟨.hbm, 427, rfl⟩
abbrev main_v355 : Ref sig .tc := ⟨.hbm, 428, rfl⟩
abbrev main_v356 : Ref sig .tc := ⟨.hbm, 429, rfl⟩
abbrev main_v357 : Ref sig .tc := ⟨.hbm, 430, rfl⟩
abbrev main_v358 : Ref sig .tc := ⟨.hbm, 431, rfl⟩
abbrev main_v359 : Ref sig .tc := ⟨.hbm, 432, rfl⟩
abbrev main_v360 : Ref sig .tc := ⟨.hbm, 433, rfl⟩
abbrev main_v361 : Ref sig .tc := ⟨.hbm, 434, rfl⟩
abbrev main_v362 : Ref sig .tc := ⟨.hbm, 435, rfl⟩
abbrev main_v363 : Ref sig .tc := ⟨.hbm, 436, rfl⟩
abbrev main_v364 : Ref sig .tc := ⟨.hbm, 437, rfl⟩
abbrev main_v365 : Ref sig .tc := ⟨.hbm, 438, rfl⟩
abbrev main_cst_51 : Ref sig .tc := ⟨.hbm, 439, rfl⟩
abbrev main_v366 : Ref sig .tc := ⟨.hbm, 440, rfl⟩
abbrev main_cst_52 : Ref sig .tc := ⟨.hbm, 441, rfl⟩
abbrev main_v367 : Ref sig .tc := ⟨.hbm, 442, rfl⟩
abbrev main_v368 : Ref sig .tc := ⟨.hbm, 443, rfl⟩
abbrev main_cst_53 : Ref sig .tc := ⟨.hbm, 444, rfl⟩
abbrev main_v369 : Ref sig .tc := ⟨.hbm, 445, rfl⟩
abbrev main_cst_54 : Ref sig .tc := ⟨.hbm, 446, rfl⟩
abbrev main_v370 : Ref sig .tc := ⟨.hbm, 447, rfl⟩
abbrev main_v371 : Ref sig .tc := ⟨.hbm, 448, rfl⟩
abbrev main_v372 : Ref sig .tc := ⟨.hbm, 449, rfl⟩
abbrev main_v373 : Ref sig .tc := ⟨.hbm, 450, rfl⟩
abbrev main_cst_55 : Ref sig .tc := ⟨.hbm, 451, rfl⟩
abbrev main_v374 : Ref sig .tc := ⟨.hbm, 452, rfl⟩
abbrev main_v375 : Ref sig .tc := ⟨.hbm, 453, rfl⟩
abbrev main_v376 : Ref sig .tc := ⟨.hbm, 454, rfl⟩
abbrev main_cst_56 : Ref sig .tc := ⟨.hbm, 455, rfl⟩
abbrev main_v377 : Ref sig .tc := ⟨.hbm, 456, rfl⟩
abbrev main_v378 : Ref sig .tc := ⟨.hbm, 457, rfl⟩
abbrev main_v379 : Ref sig .tc := ⟨.hbm, 458, rfl⟩
abbrev main_cst_57 : Ref sig .tc := ⟨.hbm, 459, rfl⟩
abbrev main_v380 : Ref sig .tc := ⟨.hbm, 460, rfl⟩
abbrev main_v381 : Ref sig .tc := ⟨.hbm, 461, rfl⟩
abbrev main_cst_58 : Ref sig .tc := ⟨.hbm, 462, rfl⟩
abbrev main_v382 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_v387 : Ref sig .tc := ⟨.hbm, 468, rfl⟩

abbrev nD : Nat := 1
abbrev τ : Topo := Topo.v7x

variable {F : FTy → Type} [FloatOps F]
-- ==== Lru.lean ====
abbrev S8192x1024 : Shape := ⟨2, ![8192, 1024]⟩
abbrev S8192x512 : Shape := ⟨2, ![8192, 512]⟩
abbrev S1x4x512 : Shape := ⟨3, ![1, 4, 512]⟩
abbrev S1x512 : Shape := ⟨2, ![1, 512]⟩
abbrev S1x8x64x64 : Shape := ⟨4, ![1, 8, 64, 64]⟩
abbrev S1x8x64 : Shape := ⟨3, ![1, 8, 64]⟩
abbrev S2x4096x512 : Shape := ⟨3, ![2, 4096, 512]⟩
abbrev S4x512 : Shape := ⟨2, ![4, 512]⟩
abbrev S512 : Shape := ⟨1, ![512]⟩
abbrev S_ : Shape := ⟨0, ![]⟩
abbrev S2x3x512 : Shape := ⟨3, ![2, 3, 512]⟩
abbrev S2x4099x512 : Shape := ⟨3, ![2, 4099, 512]⟩
abbrev S1x1x512 : Shape := ⟨3, ![1, 1, 512]⟩
abbrev S8x64x64 : Shape := ⟨3, ![8, 64, 64]⟩
abbrev S8x64 : Shape := ⟨2, ![8, 64]⟩
abbrev S2x4096x8x64 : Shape := ⟨4, ![2, 4096, 8, 64]⟩
abbrev S8x64x2x4096 : Shape := ⟨4, ![8, 64, 2, 4096]⟩
abbrev S1x1x8x64 : Shape := ⟨4, ![1, 1, 8, 64]⟩
abbrev S2x1x512 : Shape := ⟨3, ![2, 1, 512]⟩
abbrev S2x4095x512 : Shape := ⟨3, ![2, 4095, 512]⟩
abbrev S2x2x512 : Shape := ⟨3, ![2, 2, 512]⟩
abbrev S2x4094x512 : Shape := ⟨3, ![2, 4094, 512]⟩
abbrev S2x4x512 : Shape := ⟨3, ![2, 4, 512]⟩
abbrev S2x4092x512 : Shape := ⟨3, ![2, 4092, 512]⟩
abbrev S2x8x512 : Shape := ⟨3, ![2, 8, 512]⟩
abbrev S2x4088x512 : Shape := ⟨3, ![2, 4088, 512]⟩
abbrev S2x16x512 : Shape := ⟨3, ![2, 16, 512]⟩
abbrev S2x4080x512 : Shape := ⟨3, ![2, 4080, 512]⟩
abbrev S2x32x512 : Shape := ⟨3, ![2, 32, 512]⟩
abbrev S2x4064x512 : Shape := ⟨3, ![2, 4064, 512]⟩
abbrev S2x64x512 : Shape := ⟨3, ![2, 64, 512]⟩
abbrev S2x4032x512 : Shape := ⟨3, ![2, 4032, 512]⟩
abbrev S2x128x512 : Shape := ⟨3, ![2, 128, 512]⟩
abbrev S2x3968x512 : Shape := ⟨3, ![2, 3968, 512]⟩
abbrev S2x256x512 : Shape := ⟨3, ![2, 256, 512]⟩
abbrev S2x3840x512 : Shape := ⟨3, ![2, 3840, 512]⟩
abbrev S2x512x512 : Shape := ⟨3, ![2, 512, 512]⟩
abbrev S2x3584x512 : Shape := ⟨3, ![2, 3584, 512]⟩
abbrev S2x1024x512 : Shape := ⟨3, ![2, 1024, 512]⟩
abbrev S2x3072x512 : Shape := ⟨3, ![2, 3072, 512]⟩
abbrev S2x2048x512 : Shape := ⟨3, ![2, 2048, 512]⟩
abbrev S4x2x64x64 : Shape := ⟨4, ![4, 2, 64, 64]⟩
abbrev S4x128x128 : Shape := ⟨3, ![4, 128, 128]⟩
abbrev S4x1x64x64 : Shape := ⟨4, ![4, 1, 64, 64]⟩
abbrev S4x64x64 : Shape := ⟨3, ![4, 64, 64]⟩
abbrev S1 : Shape := ⟨1, ![1]⟩
abbrev S2 : Shape := ⟨1, ![2]⟩
abbrev S1024x128 : Shape := ⟨2, ![1024, 128]⟩
abbrev S8x128 : Shape := ⟨2, ![8, 128]⟩
abbrev S4x128 : Shape := ⟨2, ![4, 128]⟩
abbrev S1x128 : Shape := ⟨2, ![1, 128]⟩
abbrev S1x128x128 : Shape := ⟨3, ![1, 128, 128]⟩
abbrev S1032x128 : Shape := ⟨2, ![1032, 128]⟩
abbrev S128x128 : Shape := ⟨2, ![128, 128]⟩
abbrev S128 : Shape := ⟨1, ![128]⟩

abbrev nBuf : Space → Nat
  | .hbm => 300
  | .vmem => 49
  | .smem => 0
  | _ => 0

abbrev hbmTy0_0 (i : Nat) : BufTy := match i % 128 with
  | 0 => ⟨S8192x1024, .f32⟩
  | 1 => ⟨S8192x512, .f32⟩
  | 2 => ⟨S1x4x512, .f32⟩
  | 3 => ⟨S1x512, .f32⟩
  | 4 => ⟨S1x8x64x64, .f32⟩
  | 5 => ⟨S1x8x64, .f32⟩
  | 6 => ⟨S1x8x64x64, .f32⟩
  | 7 => ⟨S1x8x64, .f32⟩
  | 8 => ⟨S1x512, .f32⟩
  | 9 => ⟨S8192x512, .f32⟩
  | 10 => ⟨S2x4096x512, .f32⟩
  | 11 => ⟨S4x512, .f32⟩
  | 12 => ⟨S512, .f32⟩
  | 13 => ⟨S_, .f32⟩
  | 14 => ⟨S2x3x512, .f32⟩
  | 15 => ⟨S2x4099x512, .f32⟩
  | 16 => ⟨S2x4096x512, .f32⟩
  | 17 => ⟨S1x512, .f32⟩
  | 18 => ⟨S512, .f32⟩
  | 19 => ⟨S1x1x512, .f32⟩
  | 20 => ⟨S2x4096x512, .f32⟩
  | 21 => ⟨S2x4096x512, .f32⟩
  | 22 => ⟨S_, .f32⟩
  | 23 => ⟨S2x4096x512, .f32⟩
  | 24 => ⟨S2x4096x512, .f32⟩
  | 25 => ⟨S2x4096x512, .f32⟩
  | 26 => ⟨S1x512, .f32⟩
  | 27 => ⟨S512, .f32⟩
  | 28 => ⟨S1x1x512, .f32⟩
  | 29 => ⟨S2x4096x512, .f32⟩
  | 30 => ⟨S2x4096x512, .f32⟩
  | 31 => ⟨S2x4096x512, .f32⟩
  | 32 => ⟨S2x4096x512, .f32⟩
  | 33 => ⟨S1x512, .f32⟩
  | 34 => ⟨S512, .f32⟩
  | 35 => ⟨S1x1x512, .f32⟩
  | 36 => ⟨S2x4096x512, .f32⟩
  | 37 => ⟨S2x4096x512, .f32⟩
  | 38 => ⟨S2x4096x512, .f32⟩
  | 39 => ⟨S2x4096x512, .f32⟩
  | 40 => ⟨S1x512, .f32⟩
  | 41 => ⟨S512, .f32⟩
  | 42 => ⟨S1x1x512, .f32⟩
  | 43 => ⟨S2x4096x512, .f32⟩
  | 44 => ⟨S2x4096x512, .f32⟩
  | 45 => ⟨S2x4096x512, .f32⟩
  | 46 => ⟨S1x1x512, .f32⟩
  | 47 => ⟨S2x4096x512, .f32⟩
  | 48 => ⟨S2x4096x512, .f32⟩
  | 49 => ⟨S8x64x64, .f32⟩
  | 50 => ⟨S8x64, .f32⟩
  | 51 => ⟨S8x64x64, .f32⟩
  | 52 => ⟨S8x64, .f32⟩
  | 53 => ⟨S512, .f32⟩
  | 54 => ⟨S2x4096x8x64, .f32⟩
  | 55 => ⟨S8x64x2x4096, .f32⟩
  | 56 => ⟨S2x4096x8x64, .f32⟩
  | 57 => ⟨S1x1x8x64, .f32⟩
  | 58 => ⟨S2x4096x8x64, .f32⟩
  | 59 => ⟨S2x4096x8x64, .f32⟩
  | 60 => ⟨S2x4096x8x64, .f32⟩
  | 61 => ⟨S2x4096x8x64, .f32⟩
  | 62 => ⟨S_, .f32⟩
  | 63 => ⟨S2x4096x8x64, .f32⟩
  | 64 => ⟨S2x4096x8x64, .f32⟩
  | 65 => ⟨S_, .f32⟩
  | 66 => ⟨S2x4096x8x64, .f32⟩
  | 67 => ⟨S2x4096x8x64, .f32⟩
  | 68 => ⟨S2x4096x512, .f32⟩
  | 69 => ⟨S8x64x2x4096, .f32⟩
  | 70 => ⟨S2x4096x8x64, .f32⟩
  | 71 => ⟨S1x1x8x64, .f32⟩
  | 72 => ⟨S2x4096x8x64, .f32⟩
  | 73 => ⟨S2x4096x8x64, .f32⟩
  | 74 => ⟨S2x4096x8x64, .f32⟩
  | 75 => ⟨S2x4096x8x64, .f32⟩
  | 76 => ⟨S_, .f32⟩
  | 77 => ⟨S2x4096x8x64, .f32⟩
  | 78 => ⟨S2x4096x8x64, .f32⟩
  | 79 => ⟨S_, .f32⟩
  | 80 => ⟨S2x4096x8x64, .f32⟩
  | 81 => ⟨S2x4096x8x64, .f32⟩
  | 82 => ⟨S2x4096x512, .f32⟩
  | 83 => ⟨S_, .f32⟩
  | 84 => ⟨S2x4096x512, .f32⟩
  | 85 => ⟨S2x4096x512, .f32⟩
  | 86 => ⟨S512, .f32⟩
  | 87 => ⟨S_, .f32⟩
  | 88 => ⟨S512, .f32⟩
  | 89 => ⟨S512, .f32⟩
  | 90 => ⟨S512, .f32⟩
  | 91 => ⟨S512, .f32⟩
  | 92 => ⟨S512, .i1⟩
  | 93 => ⟨S512, .f32⟩
  | 94 => ⟨S512, .f32⟩
  | 95 => ⟨S512, .f32⟩
  | 96 => ⟨S512, .f32⟩
  | 97 => ⟨S512, .f32⟩
  | 98 => ⟨S512, .f32⟩
  | 99 => ⟨S512, .f32⟩
  | 100 => ⟨S512, .f32⟩
  | 101 => ⟨S1x1x512, .f32⟩
  | 102 => ⟨S2x4096x512, .f32⟩
  | 103 => ⟨S2x4096x512, .f32⟩
  | 104 => ⟨S2x4096x512, .f32⟩
  | 105 => ⟨S_, .f32⟩
  | 106 => ⟨S2x4096x512, .f32⟩
  | 107 => ⟨S2x4096x512, .f32⟩
  | 108 => ⟨S2x4096x512, .f32⟩
  | 109 => ⟨S2x4096x512, .f32⟩
  | 110 => ⟨S2x4096x512, .f32⟩
  | 111 => ⟨S2x4096x512, .f32⟩
  | 112 => ⟨S2x4096x512, .f32⟩
  | 113 => ⟨S_, .f32⟩
  | 114 => ⟨S2x1x512, .f32⟩
  | 115 => ⟨S2x4095x512, .f32⟩
  | 116 => ⟨S2x4096x512, .f32⟩
  | 117 => ⟨S2x4096x512, .f32⟩
  | 118 => ⟨S2x4096x512, .f32⟩
  | 119 => ⟨S_, .f32⟩
  | 120 => ⟨S2x1x512, .f32⟩
  | 121 => ⟨S2x4095x512, .f32⟩
  | 122 => ⟨S2x4096x512, .f32⟩
  | 123 => ⟨S2x4096x512, .f32⟩
  | 124 => ⟨S_, .f32⟩
  | 125 => ⟨S2x2x512, .f32⟩
  | 126 => ⟨S2x4094x512, .f32⟩
  | 127 => ⟨S2x4096x512, .f32⟩
  | _ => ⟨S8192x1024, .f32⟩

abbrev hbmTy0_1 (i : Nat) : BufTy := match i % 128 with
  | 0 => ⟨S2x4096x512, .f32⟩
  | 1 => ⟨S2x4096x512, .f32⟩
  | 2 => ⟨S_, .f32⟩
  | 3 => ⟨S2x2x512, .f32⟩
  | 4 => ⟨S2x4094x512, .f32⟩
  | 5 => ⟨S2x4096x512, .f32⟩
  | 6 => ⟨S2x4096x512, .f32⟩
  | 7 => ⟨S_, .f32⟩
  | 8 => ⟨S2x4x512, .f32⟩
  | 9 => ⟨S2x4092x512, .f32⟩
  | 10 => ⟨S2x4096x512, .f32⟩
  | 11 => ⟨S2x4096x512, .f32⟩
  | 12 => ⟨S2x4096x512, .f32⟩
  | 13 => ⟨S_, .f32⟩
  | 14 => ⟨S2x4x512, .f32⟩
  | 15 => ⟨S2x4092x512, .f32⟩
  | 16 => ⟨S2x4096x512, .f32⟩
  | 17 => ⟨S2x4096x512, .f32⟩
  | 18 => ⟨S_, .f32⟩
  | 19 => ⟨S2x8x512, .f32⟩
  | 20 => ⟨S2x4088x512, .f32⟩
  | 21 => ⟨S2x4096x512, .f32⟩
  | 22 => ⟨S2x4096x512, .f32⟩
  | 23 => ⟨S2x4096x512, .f32⟩
  | 24 => ⟨S_, .f32⟩
  | 25 => ⟨S2x8x512, .f32⟩
  | 26 => ⟨S2x4088x512, .f32⟩
  | 27 => ⟨S2x4096x512, .f32⟩
  | 28 => ⟨S2x4096x512, .f32⟩
  | 29 => ⟨S_, .f32⟩
  | 30 => ⟨S2x16x512, .f32⟩
  | 31 => ⟨S2x4080x512, .f32⟩
  | 32 => ⟨S2x4096x512, .f32⟩
  | 33 => ⟨S2x4096x512, .f32⟩
  | 34 => ⟨S2x4096x512, .f32⟩
  | 35 => ⟨S_, .f32⟩
  | 36 => ⟨S2x16x512, .f32⟩
  | 37 => ⟨S2x4080x512, .f32⟩
  | 38 => ⟨S2x4096x512, .f32⟩
  | 39 => ⟨S2x4096x512, .f32⟩
  | 40 => ⟨S_, .f32⟩
  | 41 => ⟨S2x32x512, .f32⟩
  | 42 => ⟨S2x4064x512, .f32⟩
  | 43 => ⟨S2x4096x512, .f32⟩
  | 44 => ⟨S2x4096x512, .f32⟩
  | 45 => ⟨S2x4096x512, .f32⟩
  | 46 => ⟨S_, .f32⟩
  | 47 => ⟨S2x32x512, .f32⟩
  | 48 => ⟨S2x4064x512, .f32⟩
  | 49 => ⟨S2x4096x512, .f32⟩
  | 50 => ⟨S2x4096x512, .f32⟩
  | 51 => ⟨S_, .f32⟩
  | 52 => ⟨S2x64x512, .f32⟩
  | 53 => ⟨S2x4032x512, .f32⟩
  | 54 => ⟨S2x4096x512, .f32⟩
  | 55 => ⟨S2x4096x512, .f32⟩
  | 56 => ⟨S2x4096x512, .f32⟩
  | 57 => ⟨S_, .f32⟩
  | 58 => ⟨S2x64x512, .f32⟩
  | 59 => ⟨S2x4032x512, .f32⟩
  | 60 => ⟨S2x4096x512, .f32⟩
  | 61 => ⟨S2x4096x512, .f32⟩
  | 62 => ⟨S_, .f32⟩
  | 63 => ⟨S2x128x512, .f32⟩
  | 64 => ⟨S2x3968x512, .f32⟩
  | 65 => ⟨S2x4096x512, .f32⟩
  | 66 => ⟨S2x4096x512, .f32⟩
  | 67 => ⟨S2x4096x512, .f32⟩
  | 68 => ⟨S_, .f32⟩
  | 69 => ⟨S2x128x512, .f32⟩
  | 70 => ⟨S2x3968x512, .f32⟩
  | 71 => ⟨S2x4096x512, .f32⟩
  | 72 => ⟨S2x4096x512, .f32⟩
  | 73 => ⟨S_, .f32⟩
  | 74 => ⟨S2x256x512, .f32⟩
  | 75 => ⟨S2x3840x512, .f32⟩
  | 76 => ⟨S2x4096x512, .f32⟩
  | 77 => ⟨S2x4096x512, .f32⟩
  | 78 => ⟨S2x4096x512, .f32⟩
  | 79 => ⟨S_, .f32⟩
  | 80 => ⟨S2x256x512, .f32⟩
  | 81 => ⟨S2x3840x512, .f32⟩
  | 82 => ⟨S2x4096x512, .f32⟩
  | 83 => ⟨S2x4096x512, .f32⟩
  | 84 => ⟨S_, .f32⟩
  | 85 => ⟨S2x512x512, .f32⟩
  | 86 => ⟨S2x3584x512, .f32⟩
  | 87 => ⟨S2x4096x512, .f32⟩
  | 88 => ⟨S2x4096x512, .f32⟩
  | 89 => ⟨S2x4096x512, .f32⟩
  | 90 => ⟨S_, .f32⟩
  | 91 => ⟨S2x512x512, .f32⟩
  | 92 => ⟨S2x3584x512, .f32⟩
  | 93 => ⟨S2x4096x512, .f32⟩
  | 94 => ⟨S2x4096x512, .f32⟩
  | 95 => ⟨S_, .f32⟩
  | 96 => ⟨S2x1024x512, .f32⟩
  | 97 => ⟨S2x3072x512, .f32⟩
  | 98 => ⟨S2x4096x512, .f32⟩
  | 99 => ⟨S2x4096x512, .f32⟩
  | 100 => ⟨S2x4096x512, .f32⟩
  | 101 => ⟨S_, .f32⟩
  | 102 => ⟨S2x1024x512, .f32⟩
  | 103 => ⟨S2x3072x512, .f32⟩
  | 104 => ⟨S2x4096x512, .f32⟩
  | 105 => ⟨S2x4096x512, .f32⟩
  | 106 => ⟨S_, .f32⟩
  | 107 => ⟨S2x2048x512, .f32⟩
  | 108 => ⟨S2x2048x512, .f32⟩
  | 109 => ⟨S2x4096x512, .f32⟩
  | 110 => ⟨S2x4096x512, .f32⟩
  | 111 => ⟨S2x4096x512, .f32⟩
  | 112 => ⟨S_, .f32⟩
  | 113 => ⟨S2x2048x512, .f32⟩
  | 114 => ⟨S2x2048x512, .f32⟩
  | 115 => ⟨S2x4096x512, .f32⟩
  | 116 => ⟨S2x4096x512, .f32⟩
  | 117 => ⟨S8x64x64, .f32⟩
  | 118 => ⟨S4x2x64x64, .f32⟩
  | 119 => ⟨S_, .f32⟩
  | 120 => ⟨S4x128x128, .f32⟩
  | 121 => ⟨S4x1x64x64, .f32⟩
  | 122 => ⟨S4x64x64, .f32⟩
  | 123 => ⟨S_, .i32⟩
  | 124 => ⟨S1, .i32⟩
  | 125 => ⟨S_, .i32⟩
  | 126 => ⟨S1, .i32⟩
  | 127 => ⟨S2, .i32⟩
  | _ => ⟨S8192x1024, .f32⟩

abbrev hbmTy0_2 (i : Nat) : BufTy := match i % 128 with
  | 0 => ⟨S4x128x128, .f32⟩
  | 1 => ⟨S4x1x64x64, .f32⟩
  | 2 => ⟨S4x64x64, .f32⟩
  | 3 => ⟨S_, .i32⟩
  | 4 => ⟨S1, .i32⟩
  | 5 => ⟨S_, .i32⟩
  | 6 => ⟨S1, .i32⟩
  | 7 => ⟨S2, .i32⟩
  | 8 => ⟨S4x128x128, .f32⟩
  | 9 => ⟨S4x128x128, .bf16⟩
  | 10 => ⟨S8x64x64, .f32⟩
  | 11 => ⟨S4x2x64x64, .f32⟩
  | 12 => ⟨S_, .f32⟩
  | 13 => ⟨S4x128x128, .f32⟩
  | 14 => ⟨S4x1x64x64, .f32⟩
  | 15 => ⟨S4x64x64, .f32⟩
  | 16 => ⟨S_, .i32⟩
  | 17 => ⟨S1, .i32⟩
  | 18 => ⟨S_, .i32⟩
  | 19 => ⟨S1, .i32⟩
  | 20 => ⟨S2, .i32⟩
  | 21 => ⟨S4x128x128, .f32⟩
  | 22 => ⟨S4x1x64x64, .f32⟩
  | 23 => ⟨S4x64x64, .f32⟩
  | 24 => ⟨S_, .i32⟩
  | 25 => ⟨S1, .i32⟩
  | 26 => ⟨S_, .i32⟩
  | 27 => ⟨S1, .i32⟩
  | 28 => ⟨S2, .i32⟩
  | 29 => ⟨S4x128x128, .f32⟩
  | 30 => ⟨S4x128x128, .bf16⟩
  | 31 => ⟨S1x512, .f32⟩
  | 32 => ⟨S1x512, .f32⟩
  | 33 => ⟨S8192x512, .f32⟩
  | 34 => ⟨S4x512, .f32⟩
  | 35 => ⟨S8192x512, .bf16⟩
  | 36 => ⟨S8192x512, .bf16⟩
  | 37 => ⟨S4x512, .f32⟩
  | 38 => ⟨S1x512, .f32⟩
  | 39 => ⟨S4x128x128, .f32⟩
  | 40 => ⟨S4x128x128, .f32⟩
  | 41 => ⟨S1x512, .f32⟩
  | 42 => ⟨S1x512, .f32⟩
  | 43 => ⟨S1x512, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S8x128, .f32⟩
  | .local _ .vmem, ⟨3, _⟩ => ⟨S8x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S8x128, .f32⟩
  | .local _ .vmem, ⟨9, _⟩ => ⟨S8x128, .f32⟩
  | .local _ .vmem, ⟨10, _⟩ => ⟨S1024x128, .f32⟩
  | .local _ .vmem, ⟨11, _⟩ => ⟨S1024x128, .f32⟩
  | .local _ .vmem, ⟨12, _⟩ => ⟨S4x128, .f32⟩
  | .local _ .vmem, ⟨13, _⟩ => ⟨S4x128, .f32⟩
  | .local _ .vmem, ⟨14, _⟩ => ⟨S1x128, .f32⟩
  | .local _ .vmem, ⟨15, _⟩ => ⟨S1x128, .f32⟩
  | .local _ .vmem, ⟨16, _⟩ => ⟨S1x128x128, .bf16⟩
  | .local _ .vmem, ⟨17, _⟩ => ⟨S1x128x128, .bf16⟩
  | .local _ .vmem, ⟨18, _⟩ => ⟨S1x128x128, .bf16⟩
  | .local _ .vmem, ⟨19, _⟩ => ⟨S1x128x128, .bf16⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1024x128, .bf16⟩
  | .local _ .vmem, ⟨27, _⟩ => ⟨S1024x128, .bf16⟩
  | .local _ .vmem, ⟨28, _⟩ => ⟨S1024x128, .bf16⟩
  | .local _ .vmem, ⟨29, _⟩ => ⟨S1024x128, .bf16⟩
  | .local _ .vmem, ⟨30, _⟩ => ⟨S4x128, .f32⟩
  | .local _ .vmem, ⟨31, _⟩ => ⟨S4x128, .f32⟩
  | .local _ .vmem, ⟨32, _⟩ => ⟨S1x128, .f32⟩
  | .local _ .vmem, ⟨33, _⟩ => ⟨S1x128, .f32⟩
  | .local _ .vmem, ⟨34, _⟩ => ⟨S1x128x128, .f32⟩
  | .local _ .vmem, ⟨35, _⟩ => ⟨S1x128x128, .f32⟩
  | .local _ .vmem, ⟨36, _⟩ => ⟨S1x128x128, .f32⟩
  | .local _ .vmem, ⟨37, _⟩ => ⟨S1x128x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1024x128, .f32⟩
  | .local _ .vmem, ⟨45, _⟩ => ⟨S1024x128, .f32⟩
  | .local _ .vmem, ⟨46, _⟩ => ⟨S1x128, .f32⟩
  | .local _ .vmem, ⟨47, _⟩ => ⟨S1x128, .f32⟩
  | .local _ .vmem, ⟨48, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_1 : Ref sig .tc := ⟨.hbm, 62, rfl⟩
abbrev main_v51 : Ref sig .tc := ⟨.hbm, 63, rfl⟩
abbrev main_v52 : Ref sig .tc := ⟨.hbm, 64, rfl⟩
abbrev main_cst_2 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_3 : Ref sig .tc := ⟨.hbm, 76, rfl⟩
abbrev main_v63 : Ref sig .tc := ⟨.hbm, 77, rfl⟩
abbrev main_v64 : Ref sig .tc := ⟨.hbm, 78, rfl⟩
abbrev main_cst_4 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_5 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_call0_cst : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_v8 : Ref sig .tc := ⟨.hbm, 96, rfl⟩
abbrev main_call0_v9 : Ref sig .tc := ⟨.hbm, 97, rfl⟩
abbrev main_call0_v10 : Ref sig .tc := ⟨.hbm, 98, rfl⟩
abbrev main_call0_v11 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_6 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_7 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_8 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_9 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_10 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_11 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_12 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_13 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_14 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_15 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_16 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_17 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_18 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_19 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_20 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_cst_21 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_cst_22 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_23 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_cst_24 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_cst_25 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_cst_26 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_cst_27 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_cst_28 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_cst_29 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_cst_30 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_cst_31 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_c : Ref sig .tc := ⟨.hbm, 251, rfl⟩
abbrev main_v196 : Ref sig .tc := ⟨.hbm, 252, rfl⟩
abbrev main_c_32 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_c_33 : Ref sig .tc := ⟨.hbm, 259, rfl⟩
abbrev main_v202 : Ref sig .tc := ⟨.hbm, 260, rfl⟩
abbrev main_c_34 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_cst_35 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_c_36 : Ref sig .tc := ⟨.hbm, 272, rfl⟩
abbrev main_v212 : Ref sig .tc := ⟨.hbm, 273, rfl⟩
abbrev main_c_37 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_c_38 : Ref sig .tc := ⟨.hbm, 280, rfl⟩
abbrev main_v218 : Ref sig .tc := ⟨.hbm, 281, rfl⟩
abbrev main_c_39 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227_0 : Ref sig .tc := ⟨.hbm, 291, rfl⟩
abbrev main_v227_1 : Ref sig .tc := ⟨.hbm, 292, rfl⟩
abbrev main_v227_2 : Ref sig .tc := ⟨.hbm, 293, rfl⟩
abbrev main_v227_3 : Ref sig .tc := ⟨.hbm, 294, rfl⟩
abbrev main_v227_4 : Ref sig .tc := ⟨.hbm, 295, rfl⟩
abbrev main_v227_5 : Ref sig .tc := ⟨.hbm, 296, rfl⟩
abbrev main_v227_6 : Ref sig .tc := ⟨.hbm, 297, rfl⟩
abbrev main_v227_7 : Ref sig .tc := ⟨.hbm, 298, rfl⟩
abbrev main_v227_8 : Ref sig .tc := ⟨.hbm, 299, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_scratch3 : Ref sig .tc := ⟨.vmem, 47, rfl⟩
abbrev cc0_scratch4 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  ![v3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c128_i32 : BitVec 32 := 128#32
  let v4 : BitVec 32 := Scalar.muli v3 c128_i32
  let c1_i32_1 : BitVec 32 := 1#32
  let v5 : BitVec 32 := Scalar.subi v4 c1_i32_1
  let c0_i32 : BitVec 32 := 0#32
  let v6 : BitVec 32 := Scalar.maxsi v5 c0_i32
  let c0_i32_2 : BitVec 32 := 0#32
  ![v6.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c4_i32_1 : BitVec 32 := 4#32
  let v4 : BitVec 32 := Scalar.addi c4_i32_1 arg0
  let c0_i32 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  ![v3.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c128_i32 : BitVec 32 := 128#32
  let v4 : BitVec 32 := Scalar.muli v3 c128_i32
  let c1_i32_1 : BitVec 32 := 1#32
  let v5 : BitVec 32 := Scalar.subi v4 c1_i32_1
  let c0_i32 : BitVec 32 := 0#32
  let v6 : BitVec 32 := Scalar.maxsi v5 c0_i32
  let c0_i32_2 : BitVec 32 := 0#32
  ![v6.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  ![v3.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  ![v3.toNat, arg0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  ![v3.toNat, arg0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_17 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S4x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false, false]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false, false]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false, false]

abbrev stage0_18 : Fin 2 → Memref sig .tc .vmem S1x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false, false]

abbrev stage0_19 : Fin 2 → Memref sig .tc .vmem S1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false, false]

abbrev stage0_20 : Fin 2 → Memref sig .tc .vmem S1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false, false]

abbrev stage0_21 : Fin 2 → Memref sig .tc .vmem S1x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false, false]
-- ==== Cast.lean ====
abbrev S1x1024x320 : Shape := ⟨3, ![1, 1024, 320]⟩
abbrev S1x128x1024 : Shape := ⟨3, ![1, 128, 1024]⟩
abbrev S1x1024x512 : Shape := ⟨3, ![1, 1024, 512]⟩
abbrev S1x512x1024 : Shape := ⟨3, ![1, 512, 1024]⟩
abbrev S1024x320 : Shape := ⟨2, ![1024, 320]⟩
abbrev S320x1024 : Shape := ⟨2, ![320, 1024]⟩
abbrev S128x1024 : Shape := ⟨2, ![128, 1024]⟩
abbrev S1024x512 : Shape := ⟨2, ![1024, 512]⟩
abbrev S512x1024 : Shape := ⟨2, ![512, 1024]⟩
abbrev S80x1024 : Shape := ⟨2, ![80, 1024]⟩
abbrev S32x1024 : Shape := ⟨2, ![32, 1024]⟩
abbrev S256x512 : Shape := ⟨2, ![256, 512]⟩

abbrev nBuf : Space → Nat
  | .hbm => 13
  | .vmem => 16
  | .smem => 0
  | _ => 0

abbrev bufTy : (tb : Table) → Fin (tcTables nBuf tb) → BufTy
  | .hbm, ⟨0, _⟩ => ⟨S1x1024x320, .f32⟩
  | .hbm, ⟨1, _⟩ => ⟨S1x128x1024, .f32⟩
  | .hbm, ⟨2, _⟩ => ⟨S1x1024x512, .f32⟩
  | .hbm, ⟨3, _⟩ => ⟨S1x512x1024, .f32⟩
  | .hbm, ⟨4, _⟩ => ⟨S1024x320, .f32⟩
  | .hbm, ⟨5, _⟩ => ⟨S320x1024, .f32⟩
  | .hbm, ⟨6, _⟩ => ⟨S128x1024, .f32⟩
  | .hbm, ⟨7, _⟩ => ⟨S1024x512, .f32⟩
  | .hbm, ⟨8, _⟩ => ⟨S512x1024, .f32⟩
  | .hbm, ⟨9, _⟩ => ⟨S320x1024, .bf16⟩
  | .hbm, ⟨10, _⟩ => ⟨S128x1024, .bf16⟩
  | .hbm, ⟨11, _⟩ => ⟨S1024x512, .bf16⟩
  | .hbm, ⟨12, _⟩ => ⟨S512x1024, .bf16⟩
  | .local _ .vmem, ⟨0, _⟩ => ⟨S80x1024, .f32⟩
  | .local _ .vmem, ⟨1, _⟩ => ⟨S80x1024, .f32⟩
  | .local _ .vmem, ⟨2, _⟩ => ⟨S32x1024, .f32⟩
  | .local _ .vmem, ⟨3, _⟩ => ⟨S32x1024, .f32⟩
  | .local _ .vmem, ⟨4, _⟩ => ⟨S256x512, .f32⟩
  | .local _ .vmem, ⟨5, _⟩ => ⟨S256x512, .f32⟩
  | .local _ .vmem, ⟨6, _⟩ => ⟨S128x1024, .f32⟩
  | .local _ .vmem, ⟨7, _⟩ => ⟨S128x1024, .f32⟩
  | .local _ .vmem, ⟨8, _⟩ => ⟨S80x1024, .bf16⟩
  | .local _ .vmem, ⟨9, _⟩ => ⟨S80x1024, .bf16⟩
  | .local _ .vmem, ⟨10, _⟩ => ⟨S32x1024, .bf16⟩
  | .local _ .vmem, ⟨11, _⟩ => ⟨S32x1024, .bf16⟩
  | .local _ .vmem, ⟨12, _⟩ => ⟨S256x512, .bf16⟩
  | .local _ .vmem, ⟨13, _⟩ => ⟨S256x512, .bf16⟩
  | .local _ .vmem, ⟨14, _⟩ => ⟨S128x1024, .bf16⟩
  | .local _ .vmem, ⟨15, _⟩ => ⟨S128x1024, .bf16⟩
  | _, _ => ⟨S1x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CastRefIdeal.lean ====
abbrev S1x1024x320 : Shape := ⟨3, ![1, 1024, 320]⟩
abbrev S1x128x1024 : Shape := ⟨3, ![1, 128, 1024]⟩
abbrev S1x1024x512 : Shape := ⟨3, ![1, 1024, 512]⟩
abbrev S1x512x1024 : Shape := ⟨3, ![1, 512, 1024]⟩
abbrev S1024x320 : Shape := ⟨2, ![1024, 320]⟩
abbrev S320x1024 : Shape := ⟨2, ![320, 1024]⟩
abbrev S128x1024 : Shape := ⟨2, ![128, 1024]⟩
abbrev S1024x512 : Shape := ⟨2, ![1024, 512]⟩
abbrev S512x1024 : Shape := ⟨2, ![512, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1x1024x320, .f32⟩
  | .hbm, ⟨1, _⟩ => ⟨S1x128x1024, .f32⟩
  | .hbm, ⟨2, _⟩ => ⟨S1x1024x512, .f32⟩
  | .hbm, ⟨3, _⟩ => ⟨S1x512x1024, .f32⟩
  | .hbm, ⟨4, _⟩ => ⟨S1024x320, .f32⟩
  | .hbm, ⟨5, _⟩ => ⟨S320x1024, .f32⟩
  | .hbm, ⟨6, _⟩ => ⟨S320x1024, .bf16⟩
  | .hbm, ⟨7, _⟩ => ⟨S128x1024, .f32⟩
  | .hbm, ⟨8, _⟩ => ⟨S128x1024, .bf16⟩
  | .hbm, ⟨9, _⟩ => ⟨S1024x512, .f32⟩
  | .hbm, ⟨10, _⟩ => ⟨S1024x512, .bf16⟩
  | .hbm, ⟨11, _⟩ => ⟨S512x1024, .f32⟩
  | .hbm, ⟨12, _⟩ => ⟨S512x1024, .bf16⟩
  | _, _ => ⟨S1x1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.DownVal.lean ====
module

public import proofs.«01_k».proof.Proof.Gen.DownIdeal.Value
public import proofs.«01_k».proof.Proof.Gen.DownRefIdeal.Read
public import Idealize.ShloMosaic.Lib.Pointwise.Tactic
public import Idealize.ShloMosaic.Lib.Pointwise
public import Idealize.ShloMosaic.Lib.Pipeline.ValueKit
public import Idealize.ShloMosaic.Lib.Pipeline.ReadBack

@[expose] public section

set_option maxRecDepth 16384
set_option pp.maxSteps 900

noncomputable section

namespace Cert.DownIdeal.Val

open Cert.DownIdeal Cert.DownIdeal.Gen Idealize.ShloMosaic Idealize.ShloMosaic.TcCoe Idealize.SL.Sem
open Idealize.ShloMosaic.Pipeline (Dat)
open Cert.DownRefIdeal.Read

variable (m : (ℓ : Loc nD τ sig) → Buf (Elt Ideal) ℓ)

/-- Where the blocks of each window sit, in the number of the grid point. -/
theorem idx : ∀ t : Fin cfg0.N, win0_0.index t = ![t.val % 8, t.val / 8] ∧ win0_1.index t = ![t.val % 8, 0] ∧ win0_2.index t = ![t.val / 8, 0, 0] :=
  (by decide +kernel : ∀ t : Fin grid0.N, _)

/-- The rectified rows and the gradient that came down, of one device. -/
abbrev U (c : Dev nD) : FVec Ideal S8192x4096 .f32 := m ((c : Thread nD τ).loc main_arg0)
abbrev D (c : Dev nD) : FVec Ideal S8192x1024 .f32 := m ((c : Thread nD τ).loc main_arg1)

/-- The squared rows of a block against its gradient, at a row of the weight. -/
def prod (u : Vec Ideal S1024x2048 .bf16) (d : Vec Ideal S1024x1024 .bf16) (j : S2048x1024.Idx) : EReal :=
  ∑ r : Fin 1024, u (ix2 r (j 0)) * u (ix2 r (j 0)) * d (ix2 r (j 1))

/-- What a point adds. -/
def share (c : Dev nD) (t : Fin cfg0.N) (j : S2048x1024.Idx) : EReal := prod (iblk m c 0 t) (iblk m c 1 t) j

theorem pay2_at (u : Vec Ideal S1024x2048 .bf16) (d : Vec Ideal S1024x1024 .bf16) (j : S2048x1024.Idx) :
    k0_pay2 u d j = prod u d j := by
  unfold prod
  pointwise [k0_pay2, k0_pay1]

theorem pay3_at (u : Vec Ideal S1024x2048 .bf16) (d : Vec Ideal S1024x1024 .bf16) (s : Vec Ideal S2048x1024 .f32) (j : S2048x1024.Idx) :
    k0_pay3 u d s j = s j + prod u d j := by
  unfold prod
  pointwise [k0_pay3, k0_pay1]

theorem first (c : Dev nD) (t : Fin cfg0.N) (h : t.val % 8 = 0) (j : S2048x1024.Idx) : (outsAt0 m c t.val t.isLt).2 j = 0 + share m c t j := by
  rw [outsAt0_A m c t h (by omega) (by omega)]
  frame_out
  rw [pay2_at, zero_add]
  rfl

theorem step (c : Dev nD) (t : Fin cfg0.N) (h : ¬ t.val % 8 = 0) (j : S2048x1024.Idx) :
    (outsAt0 m c t.val t.isLt).2 j = (outsAt0 m c (t.val - 1) (Nat.lt_of_le_of_lt (Nat.sub_le _ _) t.isLt)).2 j + share m c t j := by
  by_cases h7 : t.val % 8 = 7
  · rw [outsAt0_C m c t h (by omega) h7]
    frame_out
    rw [pay3_at, read_unread_whole]
    rfl
  · rw [outsAt0_B m c t h (by omega) h7]
    frame_out
    rw [pay3_at, read_unread_whole]
    rfl

theorem N16 (t : Fin cfg0.N) : t.val < 16 := lt_of_lt_of_eq t.isLt (N_0 : grid0.N = 16)

/-- At the last point of a run the scratch holds the whole sum over the rows. -/
theorem total (c : Dev nD) (t : Fin cfg0.N) (h : t.val % 8 = 7) (j : S2048x1024.Idx) : (outsAt0 m c t.val t.isLt).2 j
    = ∑ R : Fin 8192, U m c (ix2 R ⟨t.val / 8 * 2048 + (j 0).val, by have := N16 t; have := (j 0).isLt; simp at this; omega⟩)
        * U m c (ix2 R ⟨t.val / 8 * 2048 + (j 0).val, by have := N16 t; have := (j 0).isLt; simp at this; omega⟩) * D m c (ix2 R (j 1)) := by
  rw [Pipeline.eq_sum_fin_of_reset_step_apply_of_flush (fun n h => (outsAt0 m c n h).2) 8 (fun _ => 0) (share m c) (first m c) (step m c) t h j, zero_add,
    ← Fin.sum_mul_add_fin 8 1024 (fun R : Fin 8192 => U m c (ix2 R ⟨t.val / 8 * 2048 + (j 0).val, _⟩) * U m c (ix2 R ⟨t.val / 8 * 2048 + (j 0).val, _⟩) * D m c (ix2 R (j 1)))]
  refine Finset.sum_congr rfl fun s _ => ?_
  unfold share prod
  refine Finset.sum_congr rfl fun r _ => ?_
  have e : (8 * (t.val / 8) + s.val) % 8 = s.val := by omega
  have e' : (8 * (t.val / 8) + s.val) / 8 = t.val / 8 := by omega
  blk_point [iblk, V, idx _]

theorem ref_at (u : FVec Ideal S8192x4096 .f32) (d : FVec Ideal S8192x1024 .f32) (j : S8x512x1024.Idx) : val_main_v5 (F := Ideal) u d j
    = ∑ R : Fin 8192, u (ix2 R ⟨(j 0).val * 512 + (j 1).val, by have := (j 0).isLt; have := (j 1).isLt; simp at *; omega⟩)
        * u (ix2 R ⟨(j 0).val * 512 + (j 1).val, by have := (j 0).isLt; have := (j 1).isLt; simp at *; omega⟩) * d (ix2 R (j 2)) := by
  pointwise [val_main_v5, val_main_v4, val_main_v3, val_main_v1]
  exact Finset.sum_congr rfl fun _ _ => mul_comm _ _

theorem zeros (a : Fin 2) : (![0, 0] : Fin 2 → ℕ) a = 0 := by fin_cases a <;> rfl

/-- What is read of the scratch after it was filled: the rows from the quarter's first on. -/
theorem reread (w : Vec Ideal S2048x1024 .f32) (o : ℕ) (ho : o + 512 ≤ 2048) (inb : ∀ a, (![o, 0] : Fin 2 → ℕ) a + (![512, 1024] : Fin 2 → ℕ) a ≤ S2048x1024.size a)
    (a : Fin 512) (b : Fin 1024) :
    (View.whole cc0_scratch0).readCov (Val := Elt Ideal) [⟨Rect.unit ![0, 0] ![2048, 1024] inb_S2048x1024_S2048x1024_0_0, w⟩]
      (Rect.unit (s := S2048x1024) ![o, 0] ![512, 1024] inb).toLoadRect (ix2 a b) = w (ix2 ⟨o + a.val, by omega⟩ b) := by
  refine (congrFun (View.readCov_fill (s := S2048x1024) _ inb_S2048x1024_S2048x1024_0_0 w [] _ zeros) _).trans ?_
  pointwise

/-- The four slabs of a point are the four quarters of the scratch. -/
theorem slab (c : Dev nD) (t : Fin cfg0.N) (h : t.val % 8 = 7) (s : Vec Ideal S2048x1024 .f32) (hs : ∀ j, s j = (outsAt0 m c t.val t.isLt).2 j)
    (q : ℕ) (hq : q < 2048) (x : ℕ) (hx : x < 1024) (j : S8x512x1024.Idx) (h0 : (j 0).val * 512 + (j 1).val = t.val / 8 * 2048 + q) (h2 : (j 2).val = x) :
    s (ix2 ⟨q, hq⟩ ⟨x, hx⟩) = val_main_v5 (F := Ideal) (U m c) (D m c) j := by
  rw [hs, total m c t h, ref_at]
  obtain rfl := h2
  simp only [h0]
  rfl

set_option maxHeartbeats 400000 in
theorem final2 (c : Dev nD) : (dats m 0 c).arrAt 2 cfg0.N = val_main_v5 (F := Ideal) (U m c) (D m c) := by
  refine (dats m 0 c).arrAt_eq_of_covers 2 _ (by decide +kernel) fun t hf y => ?_
  have h7 : t.val % 8 = 7 := (flush0_2 t).mp hf
  have key : ∀ j, k0_pay3 (iblk m c 0 t) (iblk m c 1 t) (outsAt0 m c (t.val - 1) (Nat.lt_of_le_of_lt (Nat.sub_le _ _) t.isLt)).2 j = (outsAt0 m c t.val t.isLt).2 j := fun j => by
    rw [outsAt0_C m c t (by omega) (by omega) h7]; frame_out; rw [read_unread_whole]
  blk_simp
  rw [after0_2, outsAt0_C m c t (by omega) (by omega) h7]
  frame_out
  rw [read_unread_whole]
  canon_tiles x h
  · refine Eq.trans ?_ (slab m c t h7 _ key (1536 + (x 1).val) (by omega) (x 2).val x2_lt _ ?_ ?_)
    · pointwise [k0_pay7]
      exact reread _ 1536 (by decide) _ (x 1) (x 2)
    · blk_simp [idx t]; omega
    · blk_simp [idx t]; omega
  · refine Eq.trans ?_ (slab m c t h7 _ key (1024 + (x 1).val) (by omega) (x 2).val x2_lt _ ?_ ?_)
    · pointwise [k0_pay6]
      exact reread _ 1024 (by decide) _ (x 1) (x 2)
    · blk_simp [idx t]; omega
    · blk_simp [idx t]; omega
  · refine Eq.trans ?_ (slab m c t h7 _ key (512 + (x 1).val) (by omega) (x 2).val x2_lt _ ?_ ?_)
    · pointwise [k0_pay5]
      exact reread _ 512 (by decide) _ (x 1) (x 2)
    · blk_simp [idx t]; omega
    · blk_simp [idx t]; omega
  · refine Eq.trans ?_ (slab m c t h7 _ key (x 1).val (by omega) (x 2).val x2_lt _ ?_ ?_)
    · pointwise [k0_pay4]
      exact (reread _ 0 (by decide) _ (x 1) (x 2)).trans (congrArg (fun a => k0_pay3 _ _ _ (ix2 a (x 2))) (Fin.ext (Nat.zero_add _)))
    · blk_simp [idx t]; omega
    · blk_simp [idx t]; omega

end Cert.DownIdeal.Val

end
-- ==== Proof.DownClaim.lean ====
module

public import proofs.«01_k».proof.Defs
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.DownVal
public import Idealize.ShloMosaic.Lib.Claim

@[expose] public section

noncomputable section

namespace Cert.Proof.Down

open Idealize.ShloMosaic Idealize.ShloMosaic.TcCoe Idealize.SL.Sem

theorem frame_reference : Cert.quiescent_DownRefIdeal (hDownRefIdeal := Cert.DownRefIdeal.Gen.facts) := by
  intro m g _
  refine (θ_run _ _ _).mono (fun r h => ⟨fun c => ?_, ?_⟩) (Cert.DownRefIdeal.Value.run m g)
  · have := h c
    simp only [this, and_self]
  · funext s
    obtain ⟨_, s⟩ := s
    rcases s with s | s <;> exact s.elim0

open Cert.DownRefIdeal.Read in
/-- The result of the kernel is the gradient of the product of the squares. -/
theorem value : Cert.algebraic_DownIdeal_DownRefIdeal (hDownIdeal := Cert.DownIdeal.Gen.facts) (hDownRefIdeal := Cert.DownRefIdeal.Gen.facts) := by
  intro m g m' g' _ hagree
  refine ⟨_, Cert.DownIdeal.Value.run_blocks m g, (θ_run _ _ _).mono (fun r h c => ?_) (Cert.DownRefIdeal.Value.run m' g')⟩
  obtain ⟨h0, hargs⟩ := h c
  obtain ⟨a0, a1⟩ := hagree c
  refine ⟨h0.trans ?_, hargs⟩
  rw [val_main_v5_eq, a0, a1]; exact (Cert.DownIdeal.Val.final2 m c).symm

end Cert.Proof.Down

end
-- ==== Proof.AdamVal.lean ====
module

public import proofs.«01_k».proof.Proof.Gen.AdamIdeal.Value
public import proofs.«01_k».proof.Proof.Gen.AdamRefIdeal.Read
public import Idealize.ShloMosaic.Lib.Pointwise.Tactic
public import Idealize.ShloMosaic.Lib.Pointwise
public import Idealize.ShloMosaic.Lib.Pipeline.ValueKit

@[expose] public section

set_option maxRecDepth 16384
set_option pp.maxSteps 900

noncomputable section

namespace Cert.AdamIdeal.Val

open Cert.AdamIdeal Cert.AdamIdeal.Gen Idealize.ShloMosaic Idealize.ShloMosaic.TcCoe Idealize.SL.Sem
open Idealize.ShloMosaic.Pipeline (Dat)
open Cert.AdamRefIdeal.Read

/-- The two readings of one step of the optimiser: the change of the weight, and the two running means. -/
theorem delta_eq (g w mu nu : FVec Ideal S1024x320 .f32) : Value.G4 w g mu nu = val_main_v23 (F := Ideal) g w mu nu := by
  funext j
  pointwise [Value.G4, val_main_cst, val_main_v0, val_main_v1, val_main_cst_0, val_main_v2, val_main_v3, val_main_v4, val_main_cst_1, val_main_v5,
    val_main_v6, val_main_v7, val_main_cst_2, val_main_v8, val_main_v9, val_main_v10, val_main_cst_3, val_main_v11, val_main_v12, val_main_cst_4,
    val_main_v13, val_main_v14, val_main_v15, val_main_cst_5, val_main_v16, val_main_v17, val_main_v18, val_main_cst_6, val_main_v19, val_main_v20,
    val_main_v21, val_main_cst_7, val_main_v22, val_main_v23]

theorem mean_eq (g mu : FVec Ideal S1024x320 .f32) : Value.G5 g mu = val_main_v4 (F := Ideal) g mu := by
  funext j
  pointwise [Value.G5, val_main_cst, val_main_v0, val_main_v1, val_main_cst_0, val_main_v2, val_main_v3, val_main_v4]

theorem square_eq (g nu : FVec Ideal S1024x320 .f32) : Value.G6 g nu = val_main_v10 (F := Ideal) g nu := by
  funext j
  pointwise [Value.G6, val_main_cst_1, val_main_v5, val_main_v6, val_main_v7, val_main_cst_2, val_main_v8, val_main_v9, val_main_v10]

end Cert.AdamIdeal.Val

end
-- ==== Proof.AdamClaim.lean ====
module

public import proofs.«01_k».proof.Defs
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.AdamVal
public import Idealize.ShloMosaic.Lib.Claim

@[expose] public section

noncomputable section

namespace Cert.Proof.Adam

open Idealize.ShloMosaic Idealize.ShloMosaic.TcCoe Idealize.SL.Sem

theorem frame_reference : Cert.quiescent_AdamRefIdeal (hAdamRefIdeal := Cert.AdamRefIdeal.Gen.facts) := by
  intro m g _
  refine (θ_run _ _ _).mono (fun r h => ⟨fun c => ?_, ?_⟩) (Cert.AdamRefIdeal.Value.run m g)
  · have := h c
    simp only [this, and_self]
  · funext s
    obtain ⟨_, s⟩ := s
    rcases s with s | s <;> exact s.elim0

open Cert.AdamRefIdeal.Read in
/-- The change of the weight and the two running means of the kernel are the reference's. -/
theorem value : Cert.algebraic_AdamIdeal_AdamRefIdeal (hAdamIdeal := Cert.AdamIdeal.Gen.facts) (hAdamRefIdeal := Cert.AdamRefIdeal.Gen.facts) := by
  intro m g m' g' _ hagree
  refine ⟨_, _, _, Cert.AdamIdeal.Value.run m g, (θ_run _ _ _).mono (fun r h c => ?_) (Cert.AdamRefIdeal.Value.run m' g')⟩
  obtain ⟨h0, h1, h2, hargs⟩ := h c
  obtain ⟨a0, a1, a2, a3⟩ := hagree c
  refine ⟨h0.trans ?_, h1.trans ?_, h2.trans ?_, hargs⟩
  · rw [val_main_v23_eq, a0, a1, a2, a3]; exact (Cert.AdamIdeal.Val.delta_eq _ _ _ _).symm
  · rw [val_main_v4_eq, a0, a2]; exact (Cert.AdamIdeal.Val.mean_eq _ _).symm
  · rw [val_main_v10_eq, a0, a3]; exact (Cert.AdamIdeal.Val.square_eq _ _).symm

end Cert.Proof.Adam

end
-- ==== Proof.SumVal.lean ====
module

public import proofs.«01_k».proof.Proof.Gen.SumIdeal.Value
public import proofs.«01_k».proof.Proof.Gen.SumRefIdeal.Read
public import Idealize.ShloMosaic.Lib.Pointwise.Tactic
public import Idealize.ShloMosaic.Lib.Pointwise
public import Idealize.ShloMosaic.Lib.Pipeline.ValueKit

@[expose] public section

set_option maxRecDepth 16384
set_option pp.maxSteps 900

noncomputable section

namespace Cert.SumIdeal.Val

open Cert.SumIdeal Cert.SumIdeal.Gen Idealize.ShloMosaic Idealize.ShloMosaic.TcCoe Idealize.SL.Sem
open Idealize.ShloMosaic.Pipeline (Dat)
open Cert.SumRefIdeal.Read

variable (m : (ℓ : Loc nD τ sig) → Buf (Elt Ideal) ℓ)

theorem idx : ∀ t : Fin cfg0.N, win0_0.index t = ![0, 0, 0] ∧ win0_1.index t = ![0, 0] :=
  (by decide +kernel : ∀ t : Fin grid0.N, _)

theorem final1 (c : Dev nD) : (dats m 0 c).arrAt 1 cfg0.N = val_main_v0 (F := Ideal) (m ((c : Thread nD τ).loc main_arg0)) := by
  refine (dats m 0 c).arrAt_eq_of_covers 1 _ (by decide +kernel) fun t _ y => ?_
  blk_simp
  rw [after0_1]
  frame_out
  pointwise [k0_pay1, val_main_v0, val_main_cst]
  rw [Fin.sum_univ_eight]
  blk_point [iblk, V, idx t]
  trace_state

end Cert.SumIdeal.Val

end
-- ==== Proof.SumClaim.lean ====
module

public import proofs.«01_k».proof.Defs
public import proofs.«01_k».proof.Proof.Gen.Sum.Frame
public import proofs.«01_k».proof.Proof.Gen.SumIdeal.Frame
public import proofs.«01_k».proof.Proof.Gen.SumIdeal.Value
public import proofs.«01_k».proof.Proof.Gen.SumRefIdeal.Run
public import proofs.«01_k».proof.Proof.Gen.SumRefIdeal.Read
public import proofs.«01_k».proof.Proof.SumVal
public import Idealize.ShloMosaic.Lib.Claim

@[expose] public section

noncomputable section

namespace Cert.Proof.Sum

open Idealize.ShloMosaic Idealize.ShloMosaic.TcCoe Idealize.SL.Sem

theorem frame_reference : Cert.quiescent_SumRefIdeal (hSumRefIdeal := Cert.SumRefIdeal.Gen.facts) := by
  intro m g _
  refine (θ_run _ _ _).mono (fun r h => ⟨fun c => ?_, ?_⟩) (Cert.SumRefIdeal.Value.run m g)
  · have := h c
    simp only [this, and_self]
  · funext s
    obtain ⟨_, s⟩ := s
    rcases s with s | s <;> exact s.elim0

open Cert.SumRefIdeal.Read in
/-- The result of the kernel is the sum over the devices. -/
theorem value : Cert.algebraic_SumIdeal_SumRefIdeal (hSumIdeal := Cert.SumIdeal.Gen.facts) (hSumRefIdeal := Cert.SumRefIdeal.Gen.facts) := by
  intro m g m' g' _ hagree
  refine ⟨_, Cert.SumIdeal.Value.run_blocks m g, (θ_run _ _ _).mono (fun r h c => ?_) (Cert.SumRefIdeal.Value.run m' g')⟩
  obtain ⟨h0, hargs⟩ := h c
  have a0 := hagree c
  refine ⟨h0.trans ?_, hargs⟩
  rw [val_main_v0_eq, a0]; exact (Cert.SumIdeal.Val.final1 m c).symm

end Cert.Proof.Sum

end
-- ==== Proof.CastVal.lean ====
module

public import proofs.«01_k».proof.Proof.Gen.CastIdeal.Value
public import proofs.«01_k».proof.Proof.Gen.CastRefIdeal.Read
public import Idealize.ShloMosaic.Lib.Pointwise.Tactic
public import Idealize.ShloMosaic.Lib.Pointwise
public import Idealize.ShloMosaic.Lib.Pipeline.ValueKit
public import Idealize.ShloMosaic.Lib.Pipeline.ReadBack

@[expose] public section

set_option maxRecDepth 16384
set_option pp.maxSteps 900

noncomputable section

namespace Cert.CastIdeal.Val

open Cert.CastIdeal Cert.CastIdeal.Gen Idealize.ShloMosaic Idealize.ShloMosaic.Tactic Idealize.ShloMosaic.TcCoe Idealize.SL.Sem
open Idealize.ShloMosaic.Pipeline (Dat)
open Cert.CastRefIdeal.Read

variable (m : (ℓ : Loc nD τ sig) → Buf (Elt Ideal) ℓ) (c : Dev nD)

/-- The four shards of one device. -/
abbrev A : FVec Ideal S1x1024x320 .f32 := m ((c : Thread nD τ).loc main_arg0)
abbrev O : FVec Ideal S1x128x1024 .f32 := m ((c : Thread nD τ).loc main_arg1)
abbrev U : FVec Ideal S1x1024x512 .f32 := m ((c : Thread nD τ).loc main_arg2)
abbrev D : FVec Ideal S1x512x1024 .f32 := m ((c : Thread nD τ).loc main_arg3)

/-- What the host hands to the kernel: over the exact numbers, already the cast shards. -/
theorem read0 : (V m c main_v1 : FVec Ideal S320x1024 .f32) = val_main_v2 (F := Ideal) (A m c) := by
  simp only [V, hostOps0]
  entry_read
  rfl

theorem read1 : (V m c main_v2 : FVec Ideal S128x1024 .f32) = val_main_v4 (F := Ideal) (O m c) := by
  simp only [V, hostOps0]
  entry_read
  rfl

theorem read2 : (V m c main_v3 : FVec Ideal S1024x512 .f32) = val_main_v6 (F := Ideal) (U m c) := by
  simp only [V, hostOps0]
  entry_read
  rfl

theorem read3 : (V m c main_v4 : FVec Ideal S512x1024 .f32) = val_main_v8 (F := Ideal) (D m c) := by
  simp only [V, hostOps0]
  entry_read
  rfl

/-- A point takes the same block of rows of a shard as it writes. -/
theorem idx : ∀ t : Fin cfg0.N, (win0_0.index t = ![t.val, 0] ∧ win0_1.index t = ![t.val, 0] ∧ win0_2.index t = ![t.val, 0] ∧ win0_3.index t = ![t.val, 0])
    ∧ win0_4.index t = ![t.val, 0] ∧ win0_5.index t = ![t.val, 0] ∧ win0_6.index t = ![t.val, 0] ∧ win0_7.index t = ![t.val, 0] :=
  (by decide +kernel : ∀ t : Fin grid0.N, _)

theorem final4 : (dats m 0 c).arrAt 4 cfg0.N = val_main_v2 (F := Ideal) (A m c) := by
  refine (dats m 0 c).arrAt_eq_of_covers 4 _ (by decide +kernel) fun t _ y => ?_
  blk_simp
  rw [after0_4]
  frame_out
  refine Eq.trans (b := iblk m c 0 t y) (by pointwise [k0_pay1]) ?_
  exact (congrFun (read0 m c) _).trans (congrArg (val_main_v2 (F := Ideal) (A m c)) (by blk_ext! [idx t]))

theorem final5 : (dats m 0 c).arrAt 5 cfg0.N = val_main_v4 (F := Ideal) (O m c) := by
  refine (dats m 0 c).arrAt_eq_of_covers 5 _ (by decide +kernel) fun t _ y => ?_
  blk_simp
  rw [after0_5]
  frame_out
  refine Eq.trans (b := iblk m c 1 t y) (by pointwise [k0_pay2]) ?_
  exact (congrFun (read1 m c) _).trans (congrArg (val_main_v4 (F := Ideal) (O m c)) (by blk_ext! [idx t]))

theorem final6 : (dats m 0 c).arrAt 6 cfg0.N = val_main_v6 (F := Ideal) (U m c) := by
  refine (dats m 0 c).arrAt_eq_of_covers 6 _ (by decide +kernel) fun t _ y => ?_
  blk_simp
  rw [after0_6]
  frame_out
  refine Eq.trans (b := iblk m c 2 t y) (by pointwise [k0_pay3]) ?_
  exact (congrFun (read2 m c) _).trans (congrArg (val_main_v6 (F := Ideal) (U m c)) (by blk_ext! [idx t]))

theorem final7 : (dats m 0 c).arrAt 7 cfg0.N = val_main_v8 (F := Ideal) (D m c) := by
  refine (dats m 0 c).arrAt_eq_of_covers 7 _ (by decide +kernel) fun t _ y => ?_
  blk_simp
  rw [after0_7]
  frame_out
  refine Eq.trans (b := iblk m c 3 t y) (by pointwise [k0_pay4]) ?_
  exact (congrFun (read3 m c) _).trans (congrArg (val_main_v8 (F := Ideal) (D m c)) (by blk_ext! [idx t]))

end Cert.CastIdeal.Val

end
-- ==== Proof.CastClaim.lean ====
module

public import proofs.«01_k».proof.Defs
public import proofs.«01_k».proof.Proof.Gen.Cast.Frame
public import proofs.«01_k».proof.Proof.Gen.CastIdeal.Frame
public import proofs.«01_k».proof.Proof.Gen.CastIdeal.Value
public import proofs.«01_k».proof.Proof.Gen.CastRefIdeal.Run
public import proofs.«01_k».proof.Proof.Gen.CastRefIdeal.Read
public import proofs.«01_k».proof.Proof.CastVal
public import Idealize.ShloMosaic.Lib.Claim

@[expose] public section

noncomputable section

namespace Cert.Proof.Cast

open Idealize.ShloMosaic Idealize.ShloMosaic.TcCoe Idealize.SL.Sem

theorem frame_reference : Cert.quiescent_CastRefIdeal (hCastRefIdeal := Cert.CastRefIdeal.Gen.facts) := by
  intro m g _
  refine (θ_run _ _ _).mono (fun r h => ⟨fun c => ?_, ?_⟩) (Cert.CastRefIdeal.Value.run m g)
  · have := h c
    simp only [this, and_self]
  · funext s
    obtain ⟨_, s⟩ := s
    rcases s with s | s <;> exact s.elim0

open Cert.CastRefIdeal.Read in
/-- The four shards that the kernel writes are the reference's. -/
theorem value : Cert.algebraic_CastIdeal_CastRefIdeal (hCastIdeal := Cert.CastIdeal.Gen.facts) (hCastRefIdeal := Cert.CastRefIdeal.Gen.facts) := by
  intro m g m' g' _ hagree
  refine ⟨_, _, _, _, Cert.CastIdeal.Value.run_blocks m g, (θ_run _ _ _).mono (fun r h c => ?_) (Cert.CastRefIdeal.Value.run m' g')⟩
  obtain ⟨h0, h1, h2, h3, hargs⟩ := h c
  obtain ⟨a0, a1, a2, a3⟩ := hagree c
  refine ⟨h0.trans ?_, h1.trans ?_, h2.trans ?_, h3.trans ?_, hargs⟩
  · rw [val_main_v2_eq, a0]; exact (Cert.CastIdeal.Val.final4 m c).symm
  · rw [val_main_v4_eq, a1]; exact (Cert.CastIdeal.Val.final5 m c).symm
  · rw [val_main_v6_eq, a2]; exact (Cert.CastIdeal.Val.final6 m c).symm
  · rw [val_main_v8_eq, a3]; exact (Cert.CastIdeal.Val.final7 m c).symm

end Cert.Proof.Cast

end
-- ==== Proof.LruFClaim.lean ====
module

public import proofs.«01_k».proof.Defs
public import proofs.«01_k».proof.Proof.Gen.LruFRefIdeal.Run
public import Idealize.ShloMosaic.Lib.Claim

@[expose] public section

noncomputable section

namespace Cert.Proof.LruF

open Idealize.ShloMosaic Idealize.ShloMosaic.TcCoe Idealize.SL.Sem

/-- The reference's run leaves its arguments as they were and no signal standing. -/
theorem frame_reference : Cert.quiescent_LruFRefIdeal (hLruFRefIdeal := Cert.LruFRefIdeal.Gen.facts) := by
  intro m g _
  refine (θ_run _ _ _).mono (fun r h => ⟨fun c => ?_, ?_⟩) (Cert.LruFRefIdeal.Value.run m g)
  · have := h c
    simp only [this, and_self]
  · funext s
    obtain ⟨_, s⟩ := s
    rcases s with s | s <;> exact s.elim0

end Cert.Proof.LruF

end
-- ==== Proof.LruBody.lean ====
module

public import proofs.«01_k».proof.Proof.Gen.LruIdeal.Skeleton
public import Idealize.ShloMosaic.Lib.Exec
public import Idealize.ShloMosaic.Lib.Tactic
public import Idealize.ShloMosaic.Lib.Pipeline.FrameBody

@[expose] public section

set_option maxRecDepth 16384

noncomputable section

namespace Cert.LruIdeal.Run

open Cert.LruIdeal Cert.LruIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The buffers the body is called with. -/
structure Args where
  a3 : Memref sig .tc .vmem S1024x128 .f32
  h3 : a3.IsWhole
  a4 : Memref sig .tc .vmem S8x128 .f32
  h4 : a4.IsWhole
  a5 : Memref sig .tc .vmem S1024x128 .f32
  h5 : a5.IsWhole
  a6 : Memref sig .tc .vmem S1024x128 .f32
  h6 : a6.IsWhole
  a7 : Memref sig .tc .vmem S8x128 .f32
  h7 : a7.IsWhole
  a8 : Memref sig .tc .vmem S1024x128 .f32
  h8 : a8.IsWhole
  a9 : Memref sig .tc .vmem S4x128 .f32
  h9 : a9.IsWhole
  a10 : Memref sig .tc .vmem S1x128 .f32
  h10 : a10.IsWhole
  a11 : Memref sig .tc .vmem S1x128x128 .bf16
  h11 : a11.IsWhole
  a12 : Memref sig .tc .vmem S1x128x128 .bf16
  h12 : a12.IsWhole
  a13 : Memref sig .tc .vmem S1x128 .f32
  h13 : a13.IsWhole
  a14 : Memref sig .tc .vmem S1x128 .f32
  h14 : a14.IsWhole
  a15 : Memref sig .tc .vmem S1x128 .f32
  h15 : a15.IsWhole
  a16 : Memref sig .tc .vmem S1024x128 .bf16
  h16 : a16.IsWhole
  a17 : Memref sig .tc .vmem S1024x128 .bf16
  h17 : a17.IsWhole
  a18 : Memref sig .tc .vmem S4x128 .f32
  h18 : a18.IsWhole
  a19 : Memref sig .tc .vmem S1x128 .f32
  h19 : a19.IsWhole
  a20 : Memref sig .tc .vmem S1x128x128 .f32
  h20 : a20.IsWhole
  a21 : Memref sig .tc .vmem S1x128x128 .f32
  h21 : a21.IsWhole
  a22 : Memref sig .tc .vmem S1x128 .f32
  h22 : a22.IsWhole
  a23 : Memref sig .tc .vmem S1x128 .f32
  h23 : a23.IsWhole
  a24 : Memref sig .tc .vmem S1x128 .f32
  h24 : a24.IsWhole
  a25 : Memref sig .tc .vmem S1024x128 .f32
  h25 : a25.IsWhole
  a26 : Memref sig .tc .vmem S1024x128 .f32
  h26 : a26.IsWhole
  a27 : Memref sig .tc .vmem S1x128 .f32
  h27 : a27.IsWhole
  a28 : Memref sig .tc .vmem S1x128 .f32
  h28 : a28.IsWhole
  a29 : Memref sig .tc .vmem S8x128 .f32
  h29 : a29.IsWhole

/-- A buffer at whatever contents. -/
def any (c : Dev nD) {sh : Shape} {e : EltTy} (a : Memref sig .tc .vmem sh e) : sProp 𝕄 := iprop(∃ X, owns (c : Thread nD τ) a fullShare X)

theorem shut (c : Dev nD) {sh : Shape} {e : EltTy} (a : Memref sig .tc .vmem sh e) (f) :
    (a.view.loc (c : Thread nD τ) ↦[a.view.set]{fullShare} f : sProp 𝕄) ⊢ iprop(∃ X g, ⌜a.view.read (Elt F) g = X⌝ ∗ (a.view.loc (c : Thread nD τ) ↦[a.view.set]{fullShare} g)) := by
  iintro H
  iexists _
  iexists f
  isplitr
  swap; iexact H
  ipureintro; rfl

/-- The buffers the body is called with, at whatever contents. -/
def held (c : Dev nD) (A : Args) : sProp 𝕄 :=
  iprop(any c A.a3 ∗ any c A.a4 ∗ any c A.a5 ∗ any c A.a6 ∗ any c A.a7 ∗ any c A.a8 ∗ any c A.a9 ∗ any c A.a10 ∗ any c A.a11 ∗
    any c A.a12 ∗ any c A.a13 ∗ any c A.a14 ∗ any c A.a15 ∗ any c A.a16 ∗ any c A.a17 ∗ any c A.a18 ∗ any c A.a19 ∗ any c A.a20 ∗
    any c A.a21 ∗ any c A.a22 ∗ any c A.a23 ∗ any c A.a24 ∗ any c A.a25 ∗ any c A.a26 ∗ any c A.a27 ∗ any c A.a28 ∗ any c A.a29)

/-- A program of these buffers, handed them. -/
abbrev handed {β : Sort _} (A : Args) (f : (b3 : Memref sig .tc .vmem S1024x128 .f32) → b3.IsWhole → (b4 : Memref sig .tc .vmem S8x128 .f32) → b4.IsWhole → (b5 : Memref sig .tc .vmem S1024x128 .f32) → b5.IsWhole →
    (b6 : Memref sig .tc .vmem S1024x128 .f32) → b6.IsWhole → (b7 : Memref sig .tc .vmem S8x128 .f32) → b7.IsWhole → (b8 : Memref sig .tc .vmem S1024x128 .f32) → b8.IsWhole →
    (b9 : Memref sig .tc .vmem S4x128 .f32) → b9.IsWhole → (b10 : Memref sig .tc .vmem S1x128 .f32) → b10.IsWhole → (b11 : Memref sig .tc .vmem S1x128x128 .bf16) → b11.IsWhole →
    (b12 : Memref sig .tc .vmem S1x128x128 .bf16) → b12.IsWhole → (b13 : Memref sig .tc .vmem S1x128 .f32) → b13.IsWhole → (b14 : Memref sig .tc .vmem S1x128 .f32) → b14.IsWhole →
    (b15 : Memref sig .tc .vmem S1x128 .f32) → b15.IsWhole → (b16 : Memref sig .tc .vmem S1024x128 .bf16) → b16.IsWhole → (b17 : Memref sig .tc .vmem S1024x128 .bf16) → b17.IsWhole →
    (b18 : Memref sig .tc .vmem S4x128 .f32) → b18.IsWhole → (b19 : Memref sig .tc .vmem S1x128 .f32) → b19.IsWhole → (b20 : Memref sig .tc .vmem S1x128x128 .f32) → b20.IsWhole →
    (b21 : Memref sig .tc .vmem S1x128x128 .f32) → b21.IsWhole → (b22 : Memref sig .tc .vmem S1x128 .f32) → b22.IsWhole → (b23 : Memref sig .tc .vmem S1x128 .f32) → b23.IsWhole →
    (b24 : Memref sig .tc .vmem S1x128 .f32) → b24.IsWhole → (b25 : Memref sig .tc .vmem S1024x128 .f32) → b25.IsWhole → (b26 : Memref sig .tc .vmem S1024x128 .f32) → b26.IsWhole →
    (b27 : Memref sig .tc .vmem S1x128 .f32) → b27.IsWhole → (b28 : Memref sig .tc .vmem S1x128 .f32) → b28.IsWhole → (b29 : Memref sig .tc .vmem S8x128 .f32) → b29.IsWhole → β) : β :=
  f A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16
    A.a17 A.h17 A.a18 A.h18 A.a19 A.h19 A.a20 A.h20 A.a21 A.h21 A.a22 A.h22 A.a23 A.h23 A.a24 A.h24 A.a25 A.h25 A.a26 A.h26 A.a27 A.h27 A.a28 A.h28 A.a29 A.h29

/-- A program that runs whatever the buffers hold. -/
def Runs (c : Dev nD) (A : Args) {α : Type} (p : Prog (TpuEff nD τ sig (Elt F) Λ₀ .tc) α) : Prop :=
  ∀ E : Set ℕ, held c A ⊢ wp frame (wpE (defs₀ (F := F)) Variants.none (c : Thread nD τ) none) E p (fun _ => held c A)

theorem Runs.andThen {c : Dev nD} {A : Args} {α β : Type} {p : Prog (TpuEff nD τ sig (Elt F) Λ₀ .tc) α} {k : α → Prog (TpuEff nD τ sig (Elt F) Λ₀ .tc) β}
    (hp : Runs c A p) (hk : ∀ a, Runs c A (k a)) : Runs c A (p >>= k) := fun E => by
  rw [wp_bind]
  exact (hp E).trans (wp_mono _ _ _ fun a => hk a E)

set_option maxHeartbeats 16000000 in
/-- The body runs whatever its buffers hold, at every point. -/
theorem body_runs (c : Dev nD) (i : grid0.Coords) (A : Args) : Runs (F := F) c A (handed A (cc0_lru_bwd i)) := by
  unfold handed
  rw [cc0_lru_bwd_eq_skeleton]
  unfold cc0_lru_bwd_skel
  apply Runs.andThen; swap; rintro ⟨v0, v9, v15, v17, v19, v20, v31⟩
  apply Runs.andThen; swap; rintro ⟨v43, v58, v70, v71⟩
  apply Runs.andThen; swap; rintro ⟨v72, v99, v108, v112, v113, v114⟩
  apply Runs.andThen; swap; rintro ⟨v135, v137, v144, v145, v146, v154, cst⟩
  apply Runs.andThen; swap; rintro ⟨v190, v191, v192, v194, v195, v196⟩
  apply Runs.andThen; swap; rintro ⟨v235, v236, v238⟩
  apply Runs.andThen; swap; rintro ⟨v269, v277, v279⟩
  apply Runs.andThen; swap; rintro ⟨v310, v315⟩
  apply Runs.andThen; swap; rintro ⟨v337, v343, v354, v355, v356⟩
  apply Runs.andThen; swap; rintro ⟨v384, v387⟩
  apply Runs.andThen; swap; intro v392
  apply Runs.andThen; swap; intro _
  all_goals intro E
  on_goal 13 => rw [k0_part1_eq_skeleton]; unfold k0_part1_skel
  on_goal 12 => rw [k0_part2_eq_skeleton]; unfold k0_part2_skel
  on_goal 11 => rw [k0_part3_eq_skeleton]; unfold k0_part3_skel
  on_goal 10 => rw [k0_part4_eq_skeleton]; unfold k0_part4_skel
  on_goal 9 => rw [k0_part5_eq_skeleton]; unfold k0_part5_skel
  on_goal 8 => rw [k0_part6_eq_skeleton]; unfold k0_part6_skel
  on_goal 7 => rw [k0_part7_eq_skeleton]; unfold k0_part7_skel
  on_goal 6 => rw [k0_part8_eq_skeleton]; unfold k0_part8_skel
  on_goal 5 => rw [k0_part9_eq_skeleton]; unfold k0_part9_skel
  on_goal 4 => rw [k0_part10_eq_skeleton]; unfold k0_part10_skel
  on_goal 3 => rw [k0_part11_eq_skeleton]; unfold k0_part11_skel
  on_goal 2 => rw [k0_part12_eq_skeleton]; unfold k0_part12_skel
  all_goals
    unfold held any owns
    iintro ⟨⟨%x3, %f3, -, H3⟩, ⟨%x4, %f4, -, H4⟩, ⟨%x5, %f5, -, H5⟩, ⟨%x6, %f6, -, H6⟩, ⟨%x7, %f7, -, H7⟩, ⟨%x8, %f8, -, H8⟩, ⟨%x9, %f9, -, H9⟩,
        ⟨%x10, %f10, -, H10⟩, ⟨%x11, %f11, -, H11⟩, ⟨%x12, %f12, -, H12⟩, ⟨%x13, %f13, -, H13⟩, ⟨%x14, %f14, -, H14⟩, ⟨%x15, %f15, -, H15⟩, ⟨%x16, %f16, -, H16⟩,
        ⟨%x17, %f17, -, H17⟩, ⟨%x18, %f18, -, H18⟩, ⟨%x19, %f19, -, H19⟩, ⟨%x20, %f20, -, H20⟩, ⟨%x21, %f21, -, H21⟩, ⟨%x22, %f22, -, H22⟩, ⟨%x23, %f23, -, H23⟩,
        ⟨%x24, %f24, -, H24⟩, ⟨%x25, %f25, -, H25⟩, ⟨%x26, %f26, -, H26⟩, ⟨%x27, %f27, -, H27⟩, ⟨%x28, %f28, -, H28⟩, ⟨%x29, %f29, -, H29⟩⟩
    sl_exec
    sl_step
    isplitl [H3]; · iapply shut; iexact H3
    isplitl [H4]; · iapply shut; iexact H4
    isplitl [H5]; · iapply shut; iexact H5
    isplitl [H6]; · iapply shut; iexact H6
    isplitl [H7]; · iapply shut; iexact H7
    isplitl [H8]; · iapply shut; iexact H8
    isplitl [H9]; · iapply shut; iexact H9
    isplitl [H10]; · iapply shut; iexact H10
    isplitl [H11]; · iapply shut; iexact H11
    isplitl [H12]; · iapply shut; iexact H12
    isplitl [H13]; · iapply shut; iexact H13
    isplitl [H14]; · iapply shut; iexact H14
    isplitl [H15]; · iapply shut; iexact H15
    isplitl [H16]; · iapply shut; iexact H16
    isplitl [H17]; · iapply shut; iexact H17
    isplitl [H18]; · iapply shut; iexact H18
    isplitl [H19]; · iapply shut; iexact H19
    isplitl [H20]; · iapply shut; iexact H20
    isplitl [H21]; · iapply shut; iexact H21
    isplitl [H22]; · iapply shut; iexact H22
    isplitl [H23]; · iapply shut; iexact H23
    isplitl [H24]; · iapply shut; iexact H24
    isplitl [H25]; · iapply shut; iexact H25
    isplitl [H26]; · iapply shut; iexact H26
    isplitl [H27]; · iapply shut; iexact H27
    isplitl [H28]; · iapply shut; iexact H28
    iapply shut; iexact H29

end Cert.LruIdeal.Run

end
-- ==== Proof.LruFrame.lean ====
module

public import proofs.«01_k».proof.Proof.LruBody
public import proofs.«01_k».proof.Proof.Gen.LruIdeal.Points
public import proofs.«01_k».proof.Proof.Gen.LruIdeal.Launch
public import Idealize.ShloMosaic.Lib.Pipeline.FrameBody
public import Idealize.ShloMosaic.Lib.Claim

@[expose] public section

set_option maxRecDepth 16384

noncomputable section

namespace Cert.LruIdeal.Run

open Cert.LruIdeal Cert.LruIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the call. -/
abbrev lines : List (List (HloOp τ sig (Elt F))) := [hostOps0, hostOps0_1, hostOps0_2]

/-- What a buffer holds when the call is entered. -/
abbrev V (c : Dev nD) (b : Ref sig .tc) : Buf (Elt F) ((c : Thread nD τ).loc b) := StableHlo.after (List.flatten lines) (fun b => m (c, b)) b

theorem entered (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main lines
    (by simp only [lines, List.Forall]; exact ⟨hostOps0_sub, hostOps0_1_sub, hostOps0_2_sub⟩)
    (by simp only [lines, List.Forall]; repeat' constructor) main_chain

/-- The arguments. -/
def given (b : Ref sig .tc) : Prop := b ∈ [main_arg0, main_arg1, main_arg2, main_arg3, main_arg4, main_arg5, main_arg6, main_arg7, main_arg8]

/-- The host lines write no argument. -/
theorem V_arg (c : Dev nD) (b : Ref sig .tc) (hb : given b) : V m c b = m ((c : Thread nD τ).loc b) := by
  simp only [given, List.mem_cons, List.not_mem_nil, or_false] at hb
  refine StableHlo.after_of_forall_not_mem (b := Proc.devRef .tc b) _ _ (List.forall_iff_forall_mem.mp ?_)
  simp only [lines, hostOps0, hostOps0_1, hostOps0_2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  rcases hb with rfl | rfl | rfl | rfl | rfl | rfl | rfl | rfl | rfl <;>
  · repeat' apply And.intro
    all_goals exact StableHlo.devRef_ne_of_ne (by decide)

/-- The proof data of the pipeline: what a point leaves in its buffers is not named. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem inv_eq (c : Dev nD) (t : Fin (cfg0.N + 1)) : (dats m 0 c).Φ t = Pipeline.ΦA spec0 c := by
  dsimp only [dats]

theorem any_eq (c : Dev nD) : (Pipeline.ΦA spec0 c : sProp 𝕄) = iprop((any c (Memref.whole cc0_scratch0) ∗ any c (Memref.whole cc0_scratch1)
    ∗ any c (Memref.whole cc0_scratch2) ∗ any c (Memref.whole cc0_scratch3) ∗ any c (Memref.whole cc0_scratch4)) ∗ (∃ r, prngReg c r)) := by
  unfold Pipeline.ΦA any
  rw [scopedRest0_eq]
  simp only [owns_whole]

/-- The memrefs the body is called with. -/
def args (t : Fin cfg0.N) : Args where
  a3 := win0_0.stage (cfg0.slots t 0)
  h3 := hstage0_0 ((cfg0.slots t 0).cast nbuf0_0)
  a4 := win0_1.stage (cfg0.slots t 1)
  h4 := hstage0_1 ((cfg0.slots t 1).cast nbuf0_1)
  a5 := win0_2.stage (cfg0.slots t 2)
  h5 := hstage0_2 ((cfg0.slots t 2).cast nbuf0_2)
  a6 := win0_3.stage (cfg0.slots t 3)
  h6 := hstage0_3 ((cfg0.slots t 3).cast nbuf0_3)
  a7 := win0_4.stage (cfg0.slots t 4)
  h7 := hstage0_4 ((cfg0.slots t 4).cast nbuf0_4)
  a8 := win0_5.stage (cfg0.slots t 5)
  h8 := hstage0_5 ((cfg0.slots t 5).cast nbuf0_5)
  a9 := win0_6.stage (cfg0.slots t 6)
  h9 := hstage0_6 ((cfg0.slots t 6).cast nbuf0_6)
  a10 := win0_7.stage (cfg0.slots t 7)
  h10 := hstage0_7 ((cfg0.slots t 7).cast nbuf0_7)
  a11 := win0_8.stage (cfg0.slots t 8)
  h11 := hstage0_8 ((cfg0.slots t 8).cast nbuf0_8)
  a12 := win0_9.stage (cfg0.slots t 9)
  h12 := hstage0_9 ((cfg0.slots t 9).cast nbuf0_9)
  a13 := win0_10.stage (cfg0.slots t 10)
  h13 := hstage0_10 ((cfg0.slots t 10).cast nbuf0_10)
  a14 := win0_11.stage (cfg0.slots t 11)
  h14 := hstage0_11 ((cfg0.slots t 11).cast nbuf0_11)
  a15 := win0_12.stage (cfg0.slots t 12)
  h15 := hstage0_12 ((cfg0.slots t 12).cast nbuf0_12)
  a16 := win0_13.stage (cfg0.slots t 13)
  h16 := hstage0_13 ((cfg0.slots t 13).cast nbuf0_13)
  a17 := win0_14.stage (cfg0.slots t 14)
  h17 := hstage0_14 ((cfg0.slots t 14).cast nbuf0_14)
  a18 := win0_15.stage (cfg0.slots t 15)
  h18 := hstage0_15 ((cfg0.slots t 15).cast nbuf0_15)
  a19 := win0_16.stage (cfg0.slots t 16)
  h19 := hstage0_16 ((cfg0.slots t 16).cast nbuf0_16)
  a20 := win0_17.stage (cfg0.slots t 17)
  h20 := hstage0_17 ((cfg0.slots t 17).cast nbuf0_17)
  a21 := win0_18.stage (cfg0.slots t 18)
  h21 := hstage0_18 ((cfg0.slots t 18).cast nbuf0_18)
  a22 := win0_19.stage (cfg0.slots t 19)
  h22 := hstage0_19 ((cfg0.slots t 19).cast nbuf0_19)
  a23 := win0_20.stage (cfg0.slots t 20)
  h23 := hstage0_20 ((cfg0.slots t 20).cast nbuf0_20)
  a24 := win0_21.stage (cfg0.slots t 21)
  h24 := hstage0_21 ((cfg0.slots t 21).cast nbuf0_21)
  a25 := Memref.whole cc0_scratch0
  h25 := Memref.isWhole_whole _
  a26 := Memref.whole cc0_scratch1
  h26 := Memref.isWhole_whole _
  a27 := Memref.whole cc0_scratch2
  h27 := Memref.isWhole_whole _
  a28 := Memref.whole cc0_scratch3
  h28 := Memref.isWhole_whole _
  a29 := Memref.whole cc0_scratch4
  h29 := Memref.isWhole_whole _

theorem obligation (c : Dev nD) : BodyObligation (dats (F := F) m 0 c) (defs₀ (F := F)) Variants.none () Set.univ (fun _ => true) := fun t => by
  rw [bigSep_W0, show defs₀ (F := F) .tc cfg0.body (cfg0.bodyArgs t (cfg0.slots t)) = bodyAt0 t from by unfold defs₀; rw [Defs.onTc_tc]]
  dsimp only
  iintro ⟨HK, Ho, H3, H4, H5, H6, H7, H8, H9, H10, H11, H12, H13, H14, H15, H16, H17, H18, H19, H20, H21, H22, H23, H24⟩
  icases (show (dats m 0 c).Φ t.castSucc ⊢ _ from Entails.of_eq (any_eq c)) $$ HK with ⟨⟨H25, H26, H27, H28, H29⟩, Hg⟩
  iapply wp_wand_r
  isplitr [Ho Hg]
  · iapply (body_runs c (grid0.coords t) (args t) Set.univ)
    unfold held any
    dsimp only [args]
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    iexact H29
  unfold held any
  dsimp only [args]
  iintro %r ⟨H3, H4, H5, H6, H7, H8, H9, H10, H11, H12, H13, H14, H15, H16, H17, H18, H19, H20, H21, H22, H23, H24, H25, H26, H27, H28, H29⟩
  isplitl [H25 H26 H27 H28 H29 Hg]
  · iapply (show _ ⊢ (dats m 0 c).Φ t.succ from Entails.of_eq (any_eq c).symm)
    unfold any
    isplitr [Hg]
    · isplitl [H25]; · iexact H25
      isplitl [H26]; · iexact H26
      isplitl [H27]; · iexact H27
      isplitl [H28]; · iexact H28
      iexact H29
    iexact Hg
  isplitl [Ho]; · iexact Ho
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- What the run leaves: every input's array and every buffer the call does not use as they were. -/
abbrev Left (r : PUnit × MemSt nD τ sig (Elt F)) : Prop := RDat.FramePost cfg0 (fun c => (dats m 0 c).toRForget fun _ => true) (V m) r

set_option maxHeartbeats 1000000 in
set_option backward.isDefEq.respectTransparency.types false in
theorem run_all : θ_run defs (onTc (τ := τ) (main (F := F))) (s₀ m ρ) (fun r => Left m r ∧ r.2.sem = fun _ => 0) :=
  Pipeline.θ_run_frame_track_forget_shared (Q' := _) cfgs (dats m) (0 : Fin 1) launch₀0 defs₀ Variants.none (fun _ => true) m ρ main
    (hbody := fun c => (obligation m c).loose) (hq := fun _ _ _ => rfl)
    (howed := fun _ _ => rfl) (V := V m) (hmain := entered m Variants.none) (hA := A_eq m)
    (hin := fun c => Entails.of_eq (inv_eq m c _).symm) (hout := fun c => Entails.of_eq (inv_eq m c _))

theorem kept_in (r : PUnit × MemSt nD τ sig (Elt F)) (h : Left m r) (c : Dev nD) (w : Fin cfg0.W) (hw : (cfg0.win w).isOut = false) :
    r.2.mem ((cfg0.spec w).arr.view.loc (c : Thread nD τ)) = V m c (Pipeline.arrRef spec0 w) :=
  (RDat.FramePost.arr_in (cfg₁ := cfg0) (rdat := fun c => (dats m 0 c).toRForget fun _ => true) (V := V m) h c w hw).trans (A_eq m c w)

theorem kept_rest (r : PUnit × MemSt nD τ sig (Elt F)) (h : Left m r) (c : Dev nD) (b : Ref sig .tc) (hb : given b)
    (hr : b ∈ Pipeline.restRefs sig cfg0.spec) : r.2.mem ((c : Thread nD τ).loc b) = m ((c : Thread nD τ).loc b) :=
  ((h c).2 b hr).trans (V_arg m c b hb)

/-- Every run ends, with the arguments unchanged and no signal pending. -/
theorem frame_any : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) ∧ r.2.sem = fun _ => 0 := by
  refine (θ_run defs _ _).mono (fun r h => ⟨fun c => ⟨?_, ?_, ?_, ?_, ?_, ?_, ?_, ?_, ?_⟩, h.2⟩) (run_all m ρ)
  · exact (kept_in m r h.1 c 2 rfl).trans (V_arg m c main_arg0 (by simp [given]))
  · exact (kept_in m r h.1 c 5 rfl).trans (V_arg m c main_arg1 (by simp [given]))
  · exact kept_rest m r h.1 c main_arg2 (by simp [given]) (Pipeline.mem_restRefs_of _ (by decide) (by decide))
  · exact (kept_in m r h.1 c 7 rfl).trans (V_arg m c main_arg3 (by simp [given]))
  · exact kept_rest m r h.1 c main_arg4 (by simp [given]) (Pipeline.mem_restRefs_of _ (by decide) (by decide))
  · exact kept_rest m r h.1 c main_arg5 (by simp [given]) (Pipeline.mem_restRefs_of _ (by decide) (by decide))
  · exact kept_rest m r h.1 c main_arg6 (by simp [given]) (Pipeline.mem_restRefs_of _ (by decide) (by decide))
  · exact kept_rest m r h.1 c main_arg7 (by simp [given]) (Pipeline.mem_restRefs_of _ (by decide) (by decide))
  · exact (kept_in m r h.1 c 12 rfl).trans (V_arg m c main_arg8 (by simp [given]))

end Cert.LruIdeal.Run

end
-- ==== Proof.LruClaim.lean ====
module

public import proofs.«01_k».proof.Defs
public import proofs.«01_k».proof.Proof.Gen.Lru
public import proofs.«01_k».proof.Proof.LruFrame

@[expose] public section

noncomputable section

namespace Cert.Proof.Lru

open Idealize.ShloMosaic Idealize.ShloMosaic.TcCoe Idealize.SL.Sem

theorem frame_kernel_ideal : Cert.quiescent_LruIdeal (hLruIdeal := Cert.LruIdeal.Gen.facts) := fun m ρ _ => Cert.LruIdeal.Run.frame_any m ρ

/-- The kernel is the same text over machine numbers, so its run is the same run. -/
theorem frame_kernel : Cert.quiescent_Lru (hLru := Cert.Lru.Gen.facts) := fun m ρ _ =>
  Eq.mp (by sl_kernel_rfl) (Cert.LruIdeal.Run.frame_any (F := Bits) m ρ)

end Cert.Proof.Lru

end
-- ==== Proof.Norm.lean ====
/- The gradient of an RMS norm over the extended reals: the hand-written form (one mean, one subtraction) and the form
   that differentiating the forward lines gives are one value where the normed row is finite. -/
module

public import Idealize.ShloMosaic.PureOps.Ideal
public import Idealize.ShloMosaic.Lib.IdealHost
public import Idealize.ShloMosaic.Lib.ValueIdx

@[expose] public section

noncomputable section

namespace Cert.Norm

open Idealize.ShloMosaic

/-- The f32 pattern of the norm's epsilon, as an extended real. -/
abbrev eps : EReal := Ideal.ofBits .f32 0x358637BD#32

theorem ofBits_512 : Ideal.ofBits .f32 0x44000000#32 = ((512 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

/-- The epsilon is a positive real. -/
theorem eps_pos : ∃ e : ℝ, 0 < e ∧ eps = (e : EReal) := by
  refine ⟨_, ?_, by simp only [eps, Ideal.ofBits, Ideal.ieee]; simp [-EReal.coe_mul]; rfl⟩
  positivity

/-- A sum of reals is the extended reals' sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of a sum by a non-negative real is the sum of the products, whatever the terms. -/
theorem coe_mul_sum {ι : Type} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

theorem coe_mul_sub {r : ℝ} (hr : 0 ≤ r) (a b : EReal) : (r : EReal) * (a - b) = (r : EReal) * a - (r : EReal) * b := by
  rw [sub_eq_add_neg, EReal.left_distrib_of_nonneg_of_ne_top (EReal.coe_nonneg.mpr hr) (EReal.coe_ne_top r), mul_neg,
    ← sub_eq_add_neg]

/-- Twice a value is the value added to itself, at the infinities too. -/
theorem add_self_eq (y : EReal) : y + y = ((2 : ℝ) : EReal) * y := by
  induction y with
  | bot => simp [EReal.coe_mul_bot_of_pos]
  | top => simp [EReal.coe_mul_top_of_pos]
  | coe y => rw [← EReal.coe_add, ← EReal.coe_mul, two_mul]

/-- The row's reciprocal root: a positive real `r` with `r² (mean + ε) = 1`. -/
theorem rstd_spec (n : ℝ) (hn : 0 < n) {e : ℝ} (he : 0 < e) (q : ℝ) (hq : 0 ≤ q) :
    ∃ r v : ℝ, 0 < r ∧ 0 < v ∧ r * r * v = 1 ∧ Ideal.div (q : EReal) (n : EReal) + (e : EReal) = (v : EReal)
      ∧ Ideal.rsqrt (v : EReal) = (r : EReal) := by
  have hv : 0 < q * (1 / n) + e := by positivity
  refine ⟨(Real.sqrt (q * (1 / n) + e))⁻¹, q * (1 / n) + e, by positivity, hv, ?_, ?_, ?_⟩
  · rw [← mul_inv, Real.mul_self_sqrt hv.le, inv_mul_cancel₀ hv.ne']
  · rw [Ideal.div_coe hn.ne', ← EReal.coe_mul, ← EReal.coe_add]
  · rw [Ideal.rsqrt_coe, if_neg (not_lt.mpr hv.le), if_neg hv.ne']

/-- ONE ROW'S GRADIENT. `d` is the row of incoming gradients times the scale, `x` the normed row, finite. The left side
    is the hand-written gradient, the right side the derivative of `x · rsqrt(mean(x·x) + ε)`. -/
theorem row_grad {N : ℕ} (n : ℝ) (hn : 0 < n) (x : Fin N → ℝ) (d : Fin N → EReal) (j : Fin N) :
    let ms := Ideal.div (0 + ∑ k, (x k : EReal) * (x k : EReal)) (n : EReal) + eps
    Ideal.rsqrt ms * (d j - (x j : EReal) * Ideal.rsqrt ms
        * Ideal.div (0 + ∑ k, d k * ((x k : EReal) * Ideal.rsqrt ms)) (n : EReal))
      = d j * Ideal.rsqrt ms
        + (x j : EReal) * (0 + ∑ _k : Fin 1, Ideal.div ((0 + ∑ k, (x k : EReal) * d k)
            * (((-(1 / 2) : ℝ) : EReal) * Ideal.div (Ideal.rsqrt ms) ms)) (n : EReal))
        + (0 + ∑ _k : Fin 1, Ideal.div ((0 + ∑ k, (x k : EReal) * d k)
            * (((-(1 / 2) : ℝ) : EReal) * Ideal.div (Ideal.rsqrt ms) ms)) (n : EReal)) * (x j : EReal) := by
  intro ms
  obtain ⟨e, he, hee⟩ := eps_pos
  have hq : (∑ k, (x k : EReal) * (x k : EReal)) = ((∑ k, x k * x k : ℝ) : EReal) := by
    rw [coe_sum]; rfl
  obtain ⟨r, v, hr, hv, hrv, h1, h2⟩ := rstd_spec n hn he (∑ k, x k * x k) (Finset.sum_nonneg fun k _ => mul_self_nonneg _)
  have hms : ms = (v : EReal) := by simp only [ms]; rw [zero_add, hq, hee, h1]
  rw [hms, h2]
  have hS : ∑ k, d k * ((x k : EReal) * (r : EReal)) = (r : EReal) * ∑ k, (x k : EReal) * d k := by
    rw [coe_mul_sum _ hr.le]
    exact Finset.sum_congr rfl fun k _ => by rw [mul_comm (r : EReal), mul_comm (d k), mul_right_comm]
  simp only [zero_add, Finset.univ_unique, Finset.sum_const, Finset.card_singleton, one_smul]
  rw [hS]
  generalize (∑ k, (x k : EReal) * d k) = S
  rw [coe_mul_sub hr.le, Ideal.div_coe hn.ne', Ideal.div_coe hn.ne', Ideal.div_coe hv.ne']
  have hc : S * (((-(1 / 2) : ℝ) : EReal) * ((r : EReal) * ((1 / v : ℝ) : EReal))) * ((1 / n : ℝ) : EReal)
      = ((-(1 / 2) * (r * (1 / v)) * (1 / n) : ℝ) : EReal) * S := by
    rw [← EReal.coe_mul, ← EReal.coe_mul, mul_assoc, ← EReal.coe_mul, mul_comm S]
  have hl : (r : EReal) * ((x j : EReal) * (r : EReal) * ((r : EReal) * S * ((1 / n : ℝ) : EReal)))
      = ((r * (x j * r * (r * (1 / n))) : ℝ) : EReal) * S := by
    rw [mul_right_comm (r : EReal) S, ← mul_assoc, ← mul_assoc, ← EReal.coe_mul, ← EReal.coe_mul, ← EReal.coe_mul, ← EReal.coe_mul]
    congr 2; ring
  rw [hc, hl, mul_comm _ (x j : EReal), add_assoc, add_self_eq, ← mul_assoc (x j : EReal), ← EReal.coe_mul, ← mul_assoc ((2 : ℝ) : EReal),
    ← EReal.coe_mul, sub_eq_add_neg, ← neg_mul, ← EReal.coe_neg, mul_comm (r : EReal) (d j)]
  congr 3
  have : 1 / v = r * r := by field_simp; linarith
  rw [this]; ring

/-- A square is non-negative, at the infinities too. -/
theorem self_mul_nonneg (a : EReal) : 0 ≤ a * a := by
  induction a with
  | bot => simp
  | top => simp
  | coe a => rw [← EReal.coe_mul]; exact EReal.coe_nonneg.mpr (mul_self_nonneg a)

/-- A sum of non-negative values with an infinite one is infinite. -/
theorem sum_eq_top {N : ℕ} (f : Fin N → EReal) (hf : ∀ k, 0 ≤ f k) (k : Fin N) (hk : f k = ⊤) : ∑ k, f k = ⊤ := by
  rw [← Finset.add_sum_erase _ _ (Finset.mem_univ k), hk]
  refine EReal.top_add_of_ne_bot fun h => ?_
  have : (0 : EReal) ≤ ∑ i ∈ Finset.univ.erase k, f i := Finset.sum_nonneg fun i _ => hf i
  rw [h] at this
  exact absurd this (by simp)

/-- The row's gradient for any row: a row with an infinite entry has a zero reciprocal root and both sides are zero. -/
theorem row_grad_all {N : ℕ} {n e h : EReal} (hn : ∃ r : ℝ, 0 < r ∧ n = (r : EReal)) (he : e = eps)
    (hh : h = ((-(1 / 2) : ℝ) : EReal)) (x d : Fin N → EReal) (j : Fin N) :
    Ideal.rsqrt (Ideal.div (∑ k, x k * x k) n + e) * (d j - x j * Ideal.rsqrt (Ideal.div (∑ k, x k * x k) n + e)
        * Ideal.div (∑ k, d k * (x k * Ideal.rsqrt (Ideal.div (∑ k, x k * x k) n + e))) n)
      = d j * Ideal.rsqrt (Ideal.div (∑ k, x k * x k) n + e)
        + x j * (∑ _k : Fin 1, Ideal.div ((∑ k, x k * d k)
            * (h * Ideal.div (Ideal.rsqrt (Ideal.div (∑ k, x k * x k) n + e)) (Ideal.div (∑ k, x k * x k) n + e))) n)
        + (∑ _k : Fin 1, Ideal.div ((∑ k, x k * d k)
            * (h * Ideal.div (Ideal.rsqrt (Ideal.div (∑ k, x k * x k) n + e)) (Ideal.div (∑ k, x k * x k) n + e))) n) * x j := by
  obtain ⟨r, hr, rfl⟩ := hn
  subst he hh
  by_cases hx : ∀ k, x k ≠ ⊤ ∧ x k ≠ ⊥
  · obtain ⟨y, rfl⟩ : ∃ y : Fin N → ℝ, x = fun k => (y k : EReal) :=
      ⟨fun k => (x k).toReal, funext fun k => (EReal.coe_toReal (hx k).1 (hx k).2).symm⟩
    have := row_grad r hr y d j
    simp only [zero_add] at this
    exact this
  · simp only [not_forall, not_and_or, not_not] at hx
    obtain ⟨k, hk⟩ := hx
    obtain ⟨ε, hε, hee⟩ := eps_pos
    have hs : ∑ k, x k * x k = ⊤ := sum_eq_top _ (fun k => self_mul_nonneg _) k (by rcases hk with hk | hk <;> simp [hk])
    have hd : Ideal.div ⊤ (r : EReal) + eps = ⊤ := by
      rw [Ideal.div_coe hr.ne', hee, EReal.top_mul_coe_of_pos (by positivity)]; rfl
    rw [hs, hd, Ideal.rsqrt_top]
    simp [Ideal.div, hr.ne']

end Cert.Norm

end
-- ==== Proof.MixVal.lean ====
module

public import proofs.«01_k».proof.Proof.Gen.MixIdeal.Value
public import proofs.«01_k».proof.Proof.Gen.MixRefIdeal.Read
public import proofs.«01_k».proof.Proof.Norm
public import Idealize.ShloMosaic.Lib.Pointwise.Tactic
public import Idealize.ShloMosaic.Lib.Pointwise
public import Idealize.ShloMosaic.Lib.Pipeline.ValueKit

@[expose] public section

set_option maxRecDepth 16384

noncomputable section

namespace Cert.MixIdeal.Val

open Cert.MixIdeal Cert.MixIdeal.Gen Idealize.ShloMosaic Idealize.ShloMosaic.TcCoe Idealize.SL.Sem
open Idealize.ShloMosaic.Pipeline (Dat)
open Cert.MixRefIdeal.Read

variable (m : (ℓ : Loc nD τ sig) → Buf (Elt Ideal) ℓ)

/-- Where the blocks of each window sit, in the number of the grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

/-- The reference's gradient at an index, in the form written out by hand. -/
theorem ref_lru (dh : FVec Ideal S8192x1024 .f32) (w : FVec Ideal S1024x1024 .f32) (y : FVec Ideal S8192x512 .f32)
    (g : FVec Ideal S1x512 .f32) (r : Fin 8192) (q : Fin 512) : val_main_v72 (F := Ideal) dh w y g (ix2 r q)
    = Ideal.rsqrt (Ideal.div (∑ k, y (ix2 r k) * y (ix2 r k)) (Ideal.ofBits .f32 0x44000000#32) + Ideal.ofBits .f32 0x358637BD#32)
        * ((∑ x, dh (ix2 r x) * w (ix2 ⟨↑q, by omega⟩ x)) * g (ix2 0 q) - y (ix2 r q) * Ideal.rsqrt (Ideal.div (∑ k, y (ix2 r k) * y (ix2 r k)) (Ideal.ofBits .f32 0x44000000#32) + Ideal.ofBits .f32 0x358637BD#32)
          * Ideal.div (∑ k : Fin 512, (∑ x, dh (ix2 r x) * w (ix2 ⟨↑k, by omega⟩ x)) * g (ix2 0 k) * (y (ix2 r k) * Ideal.rsqrt (Ideal.div (∑ k, y (ix2 r k) * y (ix2 r k)) (Ideal.ofBits .f32 0x44000000#32) + Ideal.ofBits .f32 0x358637BD#32)))
            (Ideal.ofBits .f32 0x44000000#32)) := by
  pointwise [val_main_v0, val_main_cst, val_main_v1, val_main_v2, val_main_cst_0, val_main_v3, val_main_v4, val_main_cst_1, val_main_v5,
    val_main_v6, val_main_v7, val_main_v8, val_main_cst_2, val_main_v9, val_main_v10, val_main_v32, val_main_v33, val_main_v57,
    val_main_v58, val_main_v59, val_main_cst_12, val_main_v60, val_main_v61, val_main_v62, val_main_v63, val_main_v64,
    val_main_cst_13, val_main_v65, val_main_v66, val_main_cst_14, val_main_v67, val_main_v68, val_main_v69, val_main_v70,
    val_main_v71, val_main_v72]
  exact (Norm.row_grad_all ⟨_, by norm_num, Norm.ofBits_512⟩ rfl Norm.ofBits_neg_half (fun k => y (ix2 r k))
    (fun k : Fin 512 => (∑ x, dh (ix2 r x) * w (ix2 ⟨↑k, by omega⟩ x)) * g (ix2 0 k)) q).symm

/-- The reference's gradient at an index, in the form written out by hand. -/
theorem ref_sb (dh : FVec Ideal S8192x1024 .f32) (w : FVec Ideal S1024x1024 .f32) (y : FVec Ideal S8192x512 .f32)
    (g : FVec Ideal S1x512 .f32) (r : Fin 8192) (q : Fin 512) : val_main_v73 (F := Ideal) dh w y g (ix2 r q)
    = Ideal.rsqrt (Ideal.div (∑ k, y (ix2 r k) * y (ix2 r k)) (Ideal.ofBits .f32 0x44000000#32) + Ideal.ofBits .f32 0x358637BD#32)
        * ((∑ x, dh (ix2 r x) * w (ix2 ⟨512 + ↑q, by omega⟩ x)) * g (ix2 0 q) - y (ix2 r q) * Ideal.rsqrt (Ideal.div (∑ k, y (ix2 r k) * y (ix2 r k)) (Ideal.ofBits .f32 0x44000000#32) + Ideal.ofBits .f32 0x358637BD#32)
          * Ideal.div (∑ k : Fin 512, (∑ x, dh (ix2 r x) * w (ix2 ⟨512 + ↑k, by omega⟩ x)) * g (ix2 0 k) * (y (ix2 r k) * Ideal.rsqrt (Ideal.div (∑ k, y (ix2 r k) * y (ix2 r k)) (Ideal.ofBits .f32 0x44000000#32) + Ideal.ofBits .f32 0x358637BD#32)))
            (Ideal.ofBits .f32 0x44000000#32)) := by
  pointwise [val_main_v15, val_main_cst_3, val_main_v16, val_main_v17, val_main_cst_4, val_main_v18, val_main_v19, val_main_cst_5,
    val_main_v20, val_main_v21, val_main_v22, val_main_v23, val_main_cst_6, val_main_v24, val_main_v25, val_main_v32, val_main_v34,
    val_main_v38, val_main_v39, val_main_v40, val_main_cst_8, val_main_v41, val_main_v42, val_main_v43, val_main_v44, val_main_v45,
    val_main_cst_9, val_main_v46, val_main_v47, val_main_cst_10, val_main_v48, val_main_v49, val_main_v50, val_main_v51, val_main_v52,
    val_main_v53, val_main_v73]
  exact (Norm.row_grad_all ⟨_, by norm_num, Norm.ofBits_512⟩ rfl Norm.ofBits_neg_half (fun k => y (ix2 r k))
    (fun k : Fin 512 => (∑ x, dh (ix2 r x) * w (ix2 ⟨512 + ↑k, by omega⟩ x)) * g (ix2 0 k)) q).symm

/-- What the body leaves at point `t` is the reference's block. -/
theorem point6 (c : Dev nD) (t : Fin cfg0.N) (y : S1024x512.Idx) :
    k0_pay10 (k0_pay5 (iblk m c 2 t)) (k0_pay8 (iblk m c 0 t) (iblk m c 4 t) (View.ld (iblk m c 1 t) (Rect.unit ![0, 0] ![512, 1024] inb_S1024x1024_S512x1024_0_0))) (k0_pay9 (iblk m c 0 t) (iblk m c 4 t) (View.ld (iblk m c 1 t) (Rect.unit ![0, 0] ![512, 1024] inb_S1024x1024_S512x1024_0_0)) (iblk m c 2 t)) y
    = val_main_v72 (F := Ideal) (m ((c : Thread nD τ).loc main_arg0)) (m ((c : Thread nD τ).loc main_arg1)) (m ((c : Thread nD τ).loc main_arg2)) (m ((c : Thread nD τ).loc main_arg4)) (((cfg0.win 6).blk t).view.emb y) := by
  refine Eq.trans ?_ ((congrArg _ (eq_ix2 _)).trans (ref_lru _ _ _ _ _ _)).symm
  pointwise [k0_pay15, k0_pay14, k0_pay13, k0_pay12, k0_pay11, k0_pay10, k0_pay9, k0_pay8, k0_pay7, k0_pay6, k0_pay5, k0_pay4, k0_pay3]
  blk_point [iblk, V, idx t]

theorem final6 (c : Dev nD) : (dats m 0 c).arrAt 6 cfg0.N
    = val_main_v72 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t _ y => ?_
  blk_simp
  rw [after0_6]
  by_cases h : t.val % 8 = 0
  · rw [outsAt0_A m c t h]; frame_out
    exact point6 m c t y
  · rw [outsAt0_B m c t h]; frame_out
    exact point6 m c t y

/-- What the body leaves at point `t` is the reference's block. -/
theorem point7 (c : Dev nD) (t : Fin cfg0.N) (y : S1024x512.Idx) :
    k0_pay15 (k0_pay3 (iblk m c 0 t)) (iblk m c 5 t) (View.ld (iblk m c 1 t) (Rect.unit ![512, 0] ![512, 1024] inb_S1024x1024_S512x1024_512_0)) (iblk m c 3 t) y
    = val_main_v73 (F := Ideal) (m ((c : Thread nD τ).loc main_arg0)) (m ((c : Thread nD τ).loc main_arg1)) (m ((c : Thread nD τ).loc main_arg3)) (m ((c : Thread nD τ).loc main_arg5)) (((cfg0.win 7).blk t).view.emb y) := by
  refine Eq.trans ?_ ((congrArg _ (eq_ix2 _)).trans (ref_sb _ _ _ _ _ _)).symm
  pointwise [k0_pay15, k0_pay14, k0_pay13, k0_pay12, k0_pay11, k0_pay10, k0_pay9, k0_pay8, k0_pay7, k0_pay6, k0_pay5, k0_pay4, k0_pay3]
  blk_point [iblk, V, idx t]

theorem final7 (c : Dev nD) : (dats m 0 c).arrAt 7 cfg0.N
    = val_main_v73 (F := Ideal) (m ((c : Thread nD τ).loc main_arg0)) (m ((c : Thread nD τ).loc main_arg1)) (m ((c : Thread nD τ).loc main_arg3)) (m ((c : Thread nD τ).loc main_arg5)) := by
  refine (dats m 0 c).arrAt_eq_of_covers 7 _ (by decide +kernel) fun t _ y => ?_
  blk_simp
  rw [after0_7]
  by_cases h : t.val % 8 = 0
  · rw [outsAt0_A m c t h]; frame_out
    exact point7 m c t y
  · rw [outsAt0_B m c t h]; frame_out
    exact point7 m c t y

theorem k0_pay7_at (v3 : Vec Ideal S1024x1024 .f32) (v6 : Vec Ideal S512x1024 .bf16) (v9 : Vec Ideal S1024x512 .f32) (acc : Vec Ideal S1x512 .f32)
    (j : S1x512.Idx) : k0_pay7 v3 v6 v9 acc j
    = acc j + ∑ r : Fin 1024, (∑ x, v3 (ix2 r x) * v6 (ix2 (j 1) x))
        * (v9 (ix2 r (j 1)) * Ideal.rsqrt (Ideal.div (∑ k, v9 (ix2 r k) * v9 (ix2 r k)) (Ideal.ofBits .f32 0x44000000#32)
          + Ideal.ofBits .f32 0x358637BD#32)) := by
  pointwise [k0_pay15, k0_pay14, k0_pay13, k0_pay12, k0_pay11, k0_pay10, k0_pay9, k0_pay8, k0_pay7, k0_pay6, k0_pay5, k0_pay4, k0_pay3]

theorem k0_pay1_at (j : S1x512.Idx) : k0_pay1 (F := Ideal) j = 0 := by pointwise [k0_pay1]

theorem final8 (c : Dev nD) : (dats m 0 c).arrAt 8 cfg0.N
    = val_main_v56 (F := Ideal) (m ((c : Thread nD τ).loc main_arg0)) (m ((c : Thread nD τ).loc main_arg1)) (m ((c : Thread nD τ).loc main_arg2)) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0) _
    (fun t h j => by rw [outsAt0_A m c t h]; frame_out; rw [k0_pay7_at, k0_pay1_at])
    (fun t h j => by rw [outsAt0_B m c t h]; frame_out; rw [k0_pay7_at])
    (le_of_eq N_0) t0_7 rfl j, zero_add]
  pointwise [val_main_v0, val_main_cst, val_main_v1, val_main_v2, val_main_cst_0, val_main_v3, val_main_v4, val_main_cst_1, val_main_v5,
    val_main_v6, val_main_v7, val_main_v11, val_main_v12, val_main_v32, val_main_v33, val_main_v54, val_main_cst_11, val_main_v55,
    val_main_v56]
  refine Fin.sum_mul_add_congr fun t k hl => ?_
  rw [mul_comm]
  blk_point [iblk, V, idx t]

theorem k0_pay14_at (v3 : Vec Ideal S1024x1024 .f32) (v6 : Vec Ideal S512x1024 .bf16) (v9 : Vec Ideal S1024x512 .f32) (acc : Vec Ideal S1x512 .f32)
    (j : S1x512.Idx) : k0_pay14 (k0_pay3 v3) v6 v9 acc j
    = acc j + ∑ r : Fin 1024, (∑ x, v3 (ix2 r x) * v6 (ix2 (j 1) x))
        * (v9 (ix2 r (j 1)) * Ideal.rsqrt (Ideal.div (∑ k, v9 (ix2 r k) * v9 (ix2 r k)) (Ideal.ofBits .f32 0x44000000#32)
          + Ideal.ofBits .f32 0x358637BD#32)) := by
  pointwise [k0_pay15, k0_pay14, k0_pay13, k0_pay12, k0_pay11, k0_pay10, k0_pay9, k0_pay8, k0_pay7, k0_pay6, k0_pay5, k0_pay4, k0_pay3]

theorem k0_pay2_at (j : S1x512.Idx) : k0_pay2 (F := Ideal) j = 0 := by pointwise [k0_pay2]

theorem final9 (c : Dev nD) : (dats m 0 c).arrAt 9 cfg0.N
    = val_main_v37 (F := Ideal) (m ((c : Thread nD τ).loc main_arg0)) (m ((c : Thread nD τ).loc main_arg1)) (m ((c : Thread nD τ).loc main_arg3)) := by
  refine (dats m 0 c).arrAt_eq_of_after_last 9 t0_7 (by decide +kernel) _ fun j => ?_
  blk_simp
  rw [after0_9, Pipeline.eq_sum_fin_of_reset_step_apply_last (fun n h => (outsAt0 m c n h).2.2.2) 8 (fun _ => 0) _
    (fun t h j => by rw [outsAt0_A m c t h]; frame_out; rw [k0_pay14_at, k0_pay2_at])
    (fun t h j => by rw [outsAt0_B m c t h]; frame_out; rw [k0_pay14_at])
    (le_of_eq N_0) t0_7 rfl j, zero_add]
  pointwise [val_main_v15, val_main_cst_3, val_main_v16, val_main_v17, val_main_cst_4, val_main_v18, val_main_v19, val_main_cst_5,
    val_main_v20, val_main_v21, val_main_v22, val_main_v26, val_main_v27, val_main_v32, val_main_v34, val_main_v35, val_main_cst_7,
    val_main_v36, val_main_v37]
  refine Fin.sum_mul_add_congr fun t k hl => ?_
  rw [mul_comm]
  blk_point [iblk, V, idx t]

end Cert.MixIdeal.Val

end
-- ==== Proof.MixClaim.lean ====
module

public import proofs.«01_k».proof.Defs
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import proofs.«01_k».proof.Proof.MixVal
public import Idealize.ShloMosaic.Lib.Claim

@[expose] public section

noncomputable section

namespace Cert.Proof.Mix

open Idealize.ShloMosaic Idealize.ShloMosaic.TcCoe Idealize.SL.Sem

theorem frame_reference : Cert.quiescent_MixRefIdeal (hMixRefIdeal := Cert.MixRefIdeal.Gen.facts) := by
  intro m g _
  refine (θ_run _ _ _).mono (fun r h => ⟨fun c => ?_, ?_⟩) (Cert.MixRefIdeal.Value.run m g)
  · have := h c
    simp only [this, and_self]
  · funext s
    obtain ⟨_, s⟩ := s
    rcases s with s | s <;> exact s.elim0

open Cert.MixRefIdeal.Read in
/-- The pair: each result of the kernel is the reference's function of the arguments. -/
theorem value : Cert.algebraic_MixIdeal_MixRefIdeal (hMixIdeal := Cert.MixIdeal.Gen.facts) (hMixRefIdeal := Cert.MixRefIdeal.Gen.facts) := by
  intro m g m' g' _ hagree
  refine ⟨_, _, _, _, Cert.MixIdeal.Value.run_blocks m g, (θ_run _ _ _).mono (fun r h c => ?_) (Cert.MixRefIdeal.Value.run m' g')⟩
  obtain ⟨h0, h1, h2, h3, hargs⟩ := h c
  obtain ⟨a0, a1, a2, a3, a4, a5⟩ := hagree c
  refine ⟨h0.trans ?_, h1.trans ?_, h2.trans ?_, h3.trans ?_, hargs⟩
  · rw [val_main_v72_eq, a0, a1, a2, a4]; exact (Cert.MixIdeal.Val.final6 m c).symm
  · rw [val_main_v73_eq, a0, a1, a3, a5]; exact (Cert.MixIdeal.Val.final7 m c).symm
  · rw [val_main_v56_eq, a0, a1, a2]; exact (Cert.MixIdeal.Val.final8 m c).symm
  · rw [val_main_v37_eq, a0, a1, a3]; exact (Cert.MixIdeal.Val.final9 m c).symm

end Cert.Proof.Mix

end
-- ==== Proof.InVal.lean ====
module

public import proofs.«01_k».proof.Proof.Gen.InIdeal.Value
public import proofs.«01_k».proof.Proof.Gen.InRefIdeal.Read
public import proofs.«01_k».proof.Proof.Norm
public import Idealize.ShloMosaic.Lib.Pointwise.Tactic
public import Idealize.ShloMosaic.Lib.Pointwise
public import Idealize.ShloMosaic.Lib.Pipeline.ValueKit

@[expose] public section

set_option maxRecDepth 16384

noncomputable section

namespace Cert.InIdeal.Val

open Cert.InIdeal Cert.InIdeal.Gen Idealize.ShloMosaic Idealize.ShloMosaic.TcCoe Idealize.SL.Sem
open Idealize.ShloMosaic.Pipeline (Dat)
open Cert.InRefIdeal.Read

variable (m : (ℓ : Loc nD τ sig) → Buf (Elt Ideal) ℓ)

/-- Where the blocks of each window sit, in the number of the grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![0, 0] :=
  (by decide +kernel : ∀ t : Fin grid0.N, _)

/-- The gradient of the projection's input: the five pieces against their columns of the weight. -/
def dn (a b c d e : FVec Ideal S8192x512 .f32) (w : FVec Ideal S1024x2560 .f32) (r : Fin 8192) (q : Fin 1024) : EReal :=
  (∑ x : Fin 512, a (ix2 r x) * w (ix2 q ⟨↑x, by omega⟩)) + (∑ x : Fin 512, b (ix2 r x) * w (ix2 q ⟨512 + ↑x, by omega⟩))
    + (∑ x : Fin 512, c (ix2 r x) * w (ix2 q ⟨1024 + ↑x, by omega⟩)) + (∑ x : Fin 512, d (ix2 r x) * w (ix2 q ⟨1536 + ↑x, by omega⟩))
    + ∑ x : Fin 512, e (ix2 r x) * w (ix2 q ⟨2048 + ↑x, by omega⟩)

/-- The five pieces side by side, at a column of piece `p`. -/
theorem cat_at (a b c d e : FVec Ideal S8192x512 .f32) (p : Fin 5) (r : Fin 8192) (q : Fin 2560) (x : Fin 512) (h : q.val = 512 * p.val + x.val) :
    val_main_v0 (F := Ideal) a b c d e (ix2 r q) = ![a, b, c, d, e] p (ix2 r x) := by
  obtain ⟨q, hq⟩ := q
  obtain rfl : q = 512 * p.val + x.val := h
  have hx := x.isLt
  pointwise [val_main_v0]
  fin_cases p
  · rw [dif_pos (show 512 * 0 + x.val < 512 by omega)]; exact congrArg a ((ix2_inj ..).2 ⟨rfl, Fin.ext (show 512 * 0 + x.val = x.val by omega)⟩)
  · rw [dif_neg (show ¬512 * 1 + x.val < 512 by omega), dif_pos (show 512 * 1 + x.val - 512 < 512 by omega)]
    exact congrArg b ((ix2_inj ..).2 ⟨rfl, Fin.ext (show 512 * 1 + x.val - 512 = x.val by omega)⟩)
  · rw [dif_neg (show ¬512 * 2 + x.val < 512 by omega), dif_neg (show ¬512 * 2 + x.val - 512 < 512 by omega),
      dif_pos (show 512 * 2 + x.val - 512 - 512 < 512 by omega)]
    exact congrArg c ((ix2_inj ..).2 ⟨rfl, Fin.ext (show 512 * 2 + x.val - 512 - 512 = x.val by omega)⟩)
  · rw [dif_neg (show ¬512 * 3 + x.val < 512 by omega), dif_neg (show ¬512 * 3 + x.val - 512 < 512 by omega),
      dif_neg (show ¬512 * 3 + x.val - 512 - 512 < 512 by omega), dif_pos (show 512 * 3 + x.val - 512 - 512 - 512 < 512 by omega)]
    exact congrArg d ((ix2_inj ..).2 ⟨rfl, Fin.ext (show 512 * 3 + x.val - 512 - 512 - 512 = x.val by omega)⟩)
  · rw [dif_neg (show ¬512 * 4 + x.val < 512 by omega), dif_neg (show ¬512 * 4 + x.val - 512 < 512 by omega),
      dif_neg (show ¬512 * 4 + x.val - 512 - 512 < 512 by omega), dif_neg (show ¬512 * 4 + x.val - 512 - 512 - 512 < 512 by omega)]
    exact congrArg e ((ix2_inj ..).2 ⟨rfl, Fin.ext (show 512 * 4 + x.val - 512 - 512 - 512 - 512 = x.val by omega)⟩)

theorem dn_eq (a b c d e : FVec Ideal S8192x512 .f32) (w : FVec Ideal S1024x2560 .f32) (r : Fin 8192) (q : Fin 1024) :
    val_main_v17 (F := Ideal) a b c d e w (ix2 r q) = dn a b c d e w r q := by
  pointwise [val_main_v17]
  unfold dn
  rw [← Fin.sum_mul_add_fin 5 512, Fin.sum_univ_five]
  have piece (p : Fin 5) (k : Fin 512) (l : Fin 2560) (hl : l.val = 512 * p.val + k.val) (l' : Fin 2560) (h : l = l') :
      val_main_v0 (F := Ideal) a b c d e (ix2 r l) * w (ix2 q l) = ![a, b, c, d, e] p (ix2 r k) * w (ix2 q l') :=
    congrArg₂ (· * ·) (cat_at a b c d e p r l k hl) (congrArg w (congrArg (ix2 q) h))
  refine congrArg₂ (· + ·) (congrArg₂ (· + ·) (congrArg₂ (· + ·) (congrArg₂ (· + ·) ?_ ?_) ?_) ?_) ?_ <;>
    refine Finset.sum_congr rfl fun k _ => ?_
  · exact piece 0 k _ (congrArg (· + k.val) (Nat.zero_mul 512)) _ (Fin.ext (Nat.zero_add _))
  · exact piece 1 k _ rfl _ rfl
  · exact piece 2 k _ rfl _ rfl
  · exact piece 3 k _ rfl _ rfl
  · exact piece 4 k _ rfl _ rfl

/-- The reference's gradient at an index, in the form written out by hand. -/
theorem ref_dx (a b c d e : FVec Ideal S8192x512 .f32) (w : FVec Ideal S1024x2560 .f32) (y : FVec Ideal S8192x1024 .f32)
    (g : FVec Ideal S1x1024 .f32) (dh : FVec Ideal S8192x1024 .f32) (r : Fin 8192) (q : Fin 1024) :
    val_main_v37 (F := Ideal) a b c d e w y g dh (ix2 r q)
    = dh (ix2 r q) + Ideal.rsqrt (Ideal.div (∑ k, y (ix2 r k) * y (ix2 r k)) (Ideal.ofBits .f32 0x44800000#32) + Ideal.ofBits .f32 0x358637BD#32)
        * (dn a b c d e w r q * g (ix2 0 q) - y (ix2 r q) * Ideal.rsqrt (Ideal.div (∑ k, y (ix2 r k) * y (ix2 r k)) (Ideal.ofBits .f32 0x44800000#32) + Ideal.ofBits .f32 0x358637BD#32)
          * Ideal.div (∑ k, dn a b c d e w r k * g (ix2 0 k) * (y (ix2 r k) * Ideal.rsqrt (Ideal.div (∑ k, y (ix2 r k) * y (ix2 r k)) (Ideal.ofBits .f32 0x44800000#32) + Ideal.ofBits .f32 0x358637BD#32)))
            (Ideal.ofBits .f32 0x44800000#32)) := by
  have hd := fun k => dn_eq a b c d e w r k
  pointwise [val_main_v37, val_main_v36, val_main_v35, val_main_v34, val_main_v33, val_main_v32, val_main_v31, val_main_cst_6,
    val_main_v30, val_main_v29, val_main_cst_5, val_main_v28, val_main_v27, val_main_v26, val_main_v25, val_main_v24, val_main_cst_4,
    val_main_v23, val_main_v22, val_main_v21, val_main_v11, val_main_v10, val_main_cst_2, val_main_v9, val_main_v8, val_main_v7, val_main_v6,
    val_main_cst_1, val_main_v5, val_main_v4, val_main_cst_0, val_main_v3, val_main_v2, val_main_cst, val_main_v1, dn_eq]
  refine congrArg (dh (ix2 r q) + ·) ?_
  exact (Norm.row_grad_all ⟨_, by norm_num, Norm.ofBits_1024⟩ rfl Norm.ofBits_neg_half (fun k => y (ix2 r k))
    (fun k => dn a b c d e w r k * g (ix2 0 k)) q).symm

/-- The gradient that a point computes from its blocks. -/
theorem k0_pay9_at (a b c d e : Vec Ideal S512x512 .bf16) (wa wb wc wd we : Vec Ideal S512x1024 .bf16) (r : Fin 512) (q : Fin 1024) :
    k0_pay9 (k0_pay6 a wa b wb c wc) (k0_pay7 d) wd e we (ix2 r q)
    = (∑ x, a (ix2 r x) * wa (ix2 x q)) + (∑ x, b (ix2 r x) * wb (ix2 x q)) + (∑ x, c (ix2 r x) * wc (ix2 x q))
      + (∑ x, d (ix2 r x) * wd (ix2 x q)) + ∑ x, e (ix2 r x) * we (ix2 x q) := by
  pointwise [k0_pay3, k0_pay4, k0_pay5, k0_pay6, k0_pay7, k0_pay8, k0_pay9]

/-- The weight's block is the whole weight, transposed. -/
theorem weight_at (c : Dev nD) (t : Fin cfg0.N) (k : Fin 2560) (q : Fin 1024) :
    (iblk m c 5 t : Vec Ideal S2560x1024 .bf16) (ix2 k q) = (m ((c : Thread nD τ).loc main_arg5) : FVec Ideal S1024x2560 .f32) (ix2 q k) := by
  blk_simp [iblk, V, idx t]
  entry_read
  pointwise
  blk_ext! [idx t]

/-- The gradient that the body computes at point `t` is the reference's row. -/
theorem dn_point (c : Dev nD) (t : Fin cfg0.N) (r : Fin 512) (q : Fin 1024) (r' : Fin 8192) (hr : r'.val = t.val * 512 + r.val) :
    (k0_pay9
        (k0_pay6 (iblk m c 0 t) (View.ld (iblk m c 5 t) (Rect.unit ![0, 0] ![512, 1024] inb_S2560x1024_S512x1024_0_0))
          (iblk m c 1 t) (View.ld (iblk m c 5 t) (Rect.unit ![512, 0] ![512, 1024] inb_S2560x1024_S512x1024_512_0))
          (iblk m c 2 t) (View.ld (iblk m c 5 t) (Rect.unit ![1024, 0] ![512, 1024] inb_S2560x1024_S512x1024_1024_0)))
        (k0_pay7 (iblk m c 3 t))
        (View.ld (iblk m c 5 t) (Rect.unit ![1536, 0] ![512, 1024] inb_S2560x1024_S512x1024_1536_0)) (iblk m c 4 t)
        (View.ld (iblk m c 5 t) (Rect.unit ![2048, 0] ![512, 1024] inb_S2560x1024_S512x1024_2048_0))) (ix2 r q)
    = dn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r' q := by
  refine (k0_pay9_at ..).trans ?_
  unfold dn
  pointwise [weight_at m c t]
  blk_point [iblk, V, idx t]

/-- The gradient of the rows, from the gradient of the projection's input. -/
theorem k0_pay1_at (d : FVec Ideal S512x1024 .f32) (g : Vec Ideal S1x1024 .f32) (x dh : Vec Ideal S512x1024 .f32) (r : Fin 512) (q : Fin 1024) :
    k0_pay1 d g (k0_pay10 x) (k0_pay11 x) dh (ix2 r q)
    = dh (ix2 r q) + Ideal.rsqrt (Ideal.div (∑ k, x (ix2 r k) * x (ix2 r k)) (Ideal.ofBits .f32 0x44800000#32) + Ideal.ofBits .f32 0x358637BD#32)
        * (d (ix2 r q) * g (ix2 0 q) - x (ix2 r q) * Ideal.rsqrt (Ideal.div (∑ k, x (ix2 r k) * x (ix2 r k)) (Ideal.ofBits .f32 0x44800000#32) + Ideal.ofBits .f32 0x358637BD#32)
          * Ideal.div (∑ k, d (ix2 r k) * g (ix2 0 k) * (x (ix2 r k) * Ideal.rsqrt (Ideal.div (∑ k, x (ix2 r k) * x (ix2 r k)) (Ideal.ofBits .f32 0x44800000#32) + Ideal.ofBits .f32 0x358637BD#32)))
            (Ideal.ofBits .f32 0x44800000#32)) := by
  pointwise [k0_pay1, k0_pay10, k0_pay11]

theorem final9 (c : Dev nD) : (dats m 0 c).arrAt 9 cfg0.N = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have point (t : Fin cfg0.N) (r : Fin 512) (q : Fin 1024) (r' : Fin 8192) (hr : r'.val = t.val * 512 + r.val) :
      k0_pay1 (k0_pay9
        (k0_pay6 (iblk m c 0 t) (View.ld (iblk m c 5 t) (Rect.unit ![0, 0] ![512, 1024] inb_S2560x1024_S512x1024_0_0))
          (iblk m c 1 t) (View.ld (iblk m c 5 t) (Rect.unit ![512, 0] ![512, 1024] inb_S2560x1024_S512x1024_512_0))
          (iblk m c 2 t) (View.ld (iblk m c 5 t) (Rect.unit ![1024, 0] ![512, 1024] inb_S2560x1024_S512x1024_1024_0)))
        (k0_pay7 (iblk m c 3 t))
        (View.ld (iblk m c 5 t) (Rect.unit ![1536, 0] ![512, 1024] inb_S2560x1024_S512x1024_1536_0)) (iblk m c 4 t)
        (View.ld (iblk m c 5 t) (Rect.unit ![2048, 0] ![512, 1024] inb_S2560x1024_S512x1024_2048_0))) (iblk m c 7 t) (k0_pay10 (iblk m c 6 t)) (k0_pay11 (iblk m c 6 t)) (iblk m c 8 t) (ix2 r q)
      = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r' q) := by
    refine (k0_pay1_at _ _ _ _ _ _).trans (Eq.trans ?_ (ref_dx _ _ _ _ _ _ _ _ _ _ _).symm)
    simp only [dn_point m c t r _ r' hr]
    blk_point [iblk, V, idx t]
  have at_block (t : Fin cfg0.N) (y : S512x1024.Idx) :
      k0_pay1 (k0_pay9
        (k0_pay6 (iblk m c 0 t) (View.ld (iblk m c 5 t) (Rect.unit ![0, 0] ![512, 1024] inb_S2560x1024_S512x1024_0_0))
          (iblk m c 1 t) (View.ld (iblk m c 5 t) (Rect.unit ![512, 0] ![512, 1024] inb_S2560x1024_S512x1024_512_0))
          (iblk m c 2 t) (View.ld (iblk m c 5 t) (Rect.unit ![1024, 0] ![512, 1024] inb_S2560x1024_S512x1024_1024_0)))
        (k0_pay7 (iblk m c 3 t))
        (View.ld (iblk m c 5 t) (Rect.unit ![1536, 0] ![512, 1024] inb_S2560x1024_S512x1024_1536_0)) (iblk m c 4 t)
        (View.ld (iblk m c 5 t) (Rect.unit ![2048, 0] ![512, 1024] inb_S2560x1024_S512x1024_2048_0))) (iblk m c 7 t) (k0_pay10 (iblk m c 6 t)) (k0_pay11 (iblk m c 6 t)) (iblk m c 8 t) y
      = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
    refine (congrArg _ (eq_ix2 y)).trans ((point t (y 0) (y 1) (((cfg0.win 9).blk t).view.emb y 0) (by blk_simp [idx t])).trans
      (congrArg (val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
        ((congrArg (ix2 _) (Fin.ext ?_)).trans (eq_ix2 (((cfg0.win 9).blk t).view.emb y)).symm)))
    blk_simp [idx t]
  refine (dats m 0 c).arrAt_eq_of_covers 9 _ (by decide +kernel) fun t _ y => ?_
  blk_simp
  rw [after0_9]
  by_cases h : t.val % 16 = 0
  · rw [outsAt0_A m c t h]; frame_out
    exact at_block t y
  · rw [outsAt0_B m c t h]; frame_out
    exact at_block t y

theorem k0_pay13_at (a b c d e : Vec Ideal S512x512 .bf16) (wa wb wc wd we : Vec Ideal S512x1024 .bf16) (x : Vec Ideal S512x1024 .f32)
    (acc : Vec Ideal S1x1024 .f32) (j : S1x1024.Idx) :
    k0_pay13 (k0_pay6 a wa b wb c wc) (k0_pay7 d) wd e we x acc j
    = acc j + ∑ r : Fin 512, k0_pay9 (k0_pay6 a wa b wb c wc) (k0_pay7 d) wd e we (ix2 r (j 1))
        * (x (ix2 r (j 1)) * Ideal.rsqrt (Ideal.div (∑ k, x (ix2 r k) * x (ix2 r k)) (Ideal.ofBits .f32 0x44800000#32)
          + Ideal.ofBits .f32 0x358637BD#32)) := by
  pointwise [k0_pay13, k0_pay11, k0_pay10]

theorem k0_pay2_at (j : S1x1024.Idx) : k0_pay2 (F := Ideal) j = 0 := by pointwise [k0_pay2]

theorem final12 (c : Dev nD) : (dats m 0 c).arrAt 12 cfg0.N = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 12 t0_15 (by decide +kernel) _ fun j => ?_
  blk_simp
  rw [after0_12, Pipeline.eq_sum_fin_of_reset_step_apply_last (fun n h => (outsAt0 m c n h).2.2.2) 16 (fun _ => 0) _
    (fun t h j => by rw [outsAt0_A m c t h]; frame_out; rw [k0_pay13_at, k0_pay2_at])
    (fun t h j => by rw [outsAt0_B m c t h]; frame_out; rw [k0_pay13_at])
    (le_of_eq N_0) t0_15 rfl j, zero_add]
  pointwise [val_main_v20, val_main_v19, val_main_cst_3, val_main_v18, val_main_v13, val_main_v12, val_main_v8, val_main_v7, val_main_v6,
    val_main_cst_1, val_main_v5, val_main_v4, val_main_cst_0, val_main_v3, val_main_v2, val_main_cst, val_main_v1, dn_eq]
  refine Fin.sum_mul_add_congr fun t k hl => ?_
  rw [mul_comm]
  refine Ideal.mul_congr ?_ (dn_point m c t k (j 1) ⟨_, hl⟩ rfl)
  blk_point [iblk, V, idx t]

theorem cat16_at (a b c d e : FVec Ideal S8192x512 .f32) (p : Fin 5) (r : Fin 8192) (q : Fin 2560) (x : Fin 512) (h : q.val = 512 * p.val + x.val) :
    val_main_v38 (F := Ideal) a b c d e (ix2 r q) = ![a, b, c, d, e] p (ix2 r x) :=
  Eq.trans (by pointwise [val_main_v38]) (cat_at a b c d e p r q x h)

theorem final10 (c : Dev nD) : (dats m 0 c).arrAt 10 cfg0.N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t _ y => ?_
  blk_simp
  rw [after0_10]
  by_cases h : t.val % 16 = 0
  · rw [outsAt0_A m c t h]; frame_out
    clear h
    canon_tiles x h
    · refine Eq.trans ?_ ((congrArg _ (eq_ix2 _)).trans (cat16_at _ _ _ _ _ 4 _ _ (x 1) ?_)).symm
      · show _ = m ((c : Thread nD τ).loc main_arg4) _
        pointwise [k0_pay8]
        blk_point [iblk, V, idx t]
      · blk_simp [idx t]; omega
    · refine Eq.trans ?_ ((congrArg _ (eq_ix2 _)).trans (cat16_at _ _ _ _ _ 3 _ _ (x 1) ?_)).symm
      · show _ = m ((c : Thread nD τ).loc main_arg3) _
        pointwise [k0_pay7]
        blk_point [iblk, V, idx t]
      · blk_simp [idx t]; omega
    · refine Eq.trans ?_ ((congrArg _ (eq_ix2 _)).trans (cat16_at _ _ _ _ _ 2 _ _ (x 1) ?_)).symm
      · show _ = m ((c : Thread nD τ).loc main_arg2) _
        pointwise [k0_pay5]
        blk_point [iblk, V, idx t]
      · blk_simp [idx t]; omega
    · refine Eq.trans ?_ ((congrArg _ (eq_ix2 _)).trans (cat16_at _ _ _ _ _ 1 _ _ (x 1) ?_)).symm
      · show _ = m ((c : Thread nD τ).loc main_arg1) _
        pointwise [k0_pay4]
        blk_point [iblk, V, idx t]
      · blk_simp [idx t]; omega
    · refine Eq.trans ?_ ((congrArg _ (eq_ix2 _)).trans (cat16_at _ _ _ _ _ 0 _ _ (x 1) ?_)).symm
      · show _ = m ((c : Thread nD τ).loc main_arg0) _
        pointwise [k0_pay3]
        blk_point [iblk, V, idx t]
      · blk_simp [idx t]; omega
  · rw [outsAt0_B m c t h]; frame_out
    clear h
    canon_tiles x h
    · refine Eq.trans ?_ ((congrArg _ (eq_ix2 _)).trans (cat16_at _ _ _ _ _ 4 _ _ (x 1) ?_)).symm
      · show _ = m ((c : Thread nD τ).loc main_arg4) _
        pointwise [k0_pay8]
        blk_point [iblk, V, idx t]
      · blk_simp [idx t]; omega
    · refine Eq.trans ?_ ((congrArg _ (eq_ix2 _)).trans (cat16_at _ _ _ _ _ 3 _ _ (x 1) ?_)).symm
      · show _ = m ((c : Thread nD τ).loc main_arg3) _
        pointwise [k0_pay7]
        blk_point [iblk, V, idx t]
      · blk_simp [idx t]; omega
    · refine Eq.trans ?_ ((congrArg _ (eq_ix2 _)).trans (cat16_at _ _ _ _ _ 2 _ _ (x 1) ?_)).symm
      · show _ = m ((c : Thread nD τ).loc main_arg2) _
        pointwise [k0_pay5]
        blk_point [iblk, V, idx t]
      · blk_simp [idx t]; omega
    · refine Eq.trans ?_ ((congrArg _ (eq_ix2 _)).trans (cat16_at _ _ _ _ _ 1 _ _ (x 1) ?_)).symm
      · show _ = m ((c : Thread nD τ).loc main_arg1) _
        pointwise [k0_pay4]
        blk_point [iblk, V, idx t]
      · blk_simp [idx t]; omega
    · refine Eq.trans ?_ ((congrArg _ (eq_ix2 _)).trans (cat16_at _ _ _ _ _ 0 _ _ (x 1) ?_)).symm
      · show _ = m ((c : Thread nD τ).loc main_arg0) _
        pointwise [k0_pay3]
        blk_point [iblk, V, idx t]
      · blk_simp [idx t]; omega

theorem final11 (c : Dev nD) : (dats m 0 c).arrAt 11 cfg0.N
    = val_main_v39 (F := Ideal) (m ((c : Thread nD τ).loc main_arg6)) (m ((c : Thread nD τ).loc main_arg7)) := by
  have point (t : Fin cfg0.N) (y : S512x1024.Idx) : k0_pay12 (iblk m c 7 t) (iblk m c 6 t) y
      = val_main_v39 (F := Ideal) (m ((c : Thread nD τ).loc main_arg6)) (m ((c : Thread nD τ).loc main_arg7)) (((cfg0.win 11).blk t).view.emb y) := by
    pointwise [k0_pay12, k0_pay11, k0_pay10, val_main_v39, val_main_v15, val_main_v14, val_main_v13, val_main_v12, val_main_v8, val_main_v7, val_main_v6,
      val_main_cst_1, val_main_v5, val_main_v4, val_main_cst_0, val_main_v3, val_main_v2, val_main_cst, val_main_v1]
    blk_point [iblk, V, idx t]
  refine (dats m 0 c).arrAt_eq_of_covers 11 _ (by decide +kernel) fun t _ y => ?_
  blk_simp
  rw [after0_11]
  by_cases h : t.val % 16 = 0
  · rw [outsAt0_A m c t h]; frame_out
    exact point t y
  · rw [outsAt0_B m c t h]; frame_out
    exact point t y

end Cert.InIdeal.Val

end
-- ==== Proof.InClaim.lean ====
module

public import proofs.«01_k».proof.Defs
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.Gen.InRefIdeal.Read
public import proofs.«01_k».proof.Proof.InVal
public import Idealize.ShloMosaic.Lib.Claim

@[expose] public section

noncomputable section

namespace Cert.Proof.In

open Idealize.ShloMosaic Idealize.ShloMosaic.TcCoe Idealize.SL.Sem

theorem frame_reference : Cert.quiescent_InRefIdeal (hInRefIdeal := Cert.InRefIdeal.Gen.facts) := by
  intro m g _
  refine (θ_run _ _ _).mono (fun r h => ⟨fun c => ?_, ?_⟩) (Cert.InRefIdeal.Value.run m g)
  · have := h c
    simp only [this, and_self]
  · funext s
    obtain ⟨_, s⟩ := s
    rcases s with s | s <;> exact s.elim0

open Cert.InRefIdeal.Read in
/-- The pair: each result of the kernel is the reference's function of the arguments. -/
theorem value : Cert.algebraic_InIdeal_InRefIdeal (hInIdeal := Cert.InIdeal.Gen.facts) (hInRefIdeal := Cert.InRefIdeal.Gen.facts) := by
  intro m g m' g' _ hagree
  refine ⟨_, _, _, _, Cert.InIdeal.Value.run_blocks m g, (θ_run _ _ _).mono (fun r h c => ?_) (Cert.InRefIdeal.Value.run m' g')⟩
  obtain ⟨h0, h1, h2, h3, hargs⟩ := h c
  obtain ⟨a0, a1, a2, a3, a4, a5, a6, a7, a8⟩ := hagree c
  refine ⟨h0.trans ?_, h1.trans ?_, h2.trans ?_, h3.trans ?_, hargs⟩
  · rw [val_main_v37_eq, a0, a1, a2, a3, a4, a5, a6, a7, a8]; exact (Cert.InIdeal.Val.final9 m c).symm
  · rw [val_main_v38_eq, a0, a1, a2, a3, a4]; exact (Cert.InIdeal.Val.final10 m c).symm
  · rw [val_main_v39_eq, a6, a7]; exact (Cert.InIdeal.Val.final11 m c).symm
  · rw [val_main_v20_eq, a0, a1, a2, a3, a4, a5, a6]; exact (Cert.InIdeal.Val.final12 m c).symm

end Cert.Proof.In

end
-- ==== Proof.AttnOff.lean ====
module

public import proofs.«01_k».proof.Proof.Gen.AttnIdeal.Skeleton
public import Idealize.ShloMosaic.Lib.Exec
public import Idealize.ShloMosaic.Lib.Tactic
public import Idealize.ShloMosaic.Lib.VecWindow

@[expose] public section

set_option maxRecDepth 16384

noncomputable section

namespace Cert.AttnIdeal.Run

open Cert.AttnIdeal Cert.AttnIdeal.Gen Idealize.ShloMosaic Idealize.ShloMosaic.Tactic

/-- Where the loop over fours of key blocks reads the keys and the values, -/
theorem off1 : ∀ (i : grid0.Coords) (k : Fin (k0_t1_loop i).trips) (r : Fin 4), k0_off1 i k (BitVec.ofNat 32 r.val) = ![256 * (4 * k.val + r.val), 0] := by
  decide +kernel
/-- and where it adds to the gradients carried. -/
theorem off2 : ∀ (i : grid0.Coords) (k : Fin (k0_t1_loop i).trips) (r : Fin 4), k0_off2 i k (BitVec.ofNat 32 r.val) = ![4 * k.val + r.val, 0, 0] := by
  decide +kernel
/-- The pair of blocks after the fours. -/
theorem off5 : ∀ (i : grid0.Coords) (r : Fin 2), k0_off5 i (BitVec.ofNat 32 r.val) = ![256 * (4 * ((i 2).val / 4) + r.val), 0] := by
  decide +kernel
theorem off6 : ∀ (i : grid0.Coords) (r : Fin 2), k0_off6 i (BitVec.ofNat 32 r.val) = ![4 * ((i 2).val / 4) + r.val, 0, 0] := by
  decide +kernel
/-- The block before the diagonal, and the diagonal one. -/
theorem off7 : ∀ i : grid0.Coords, k0_cond3 i = 1#1 → k0_off7 i = ![256 * ((i 2).val - 1), 0] := by decide +kernel
theorem off8 : ∀ i : grid0.Coords, k0_off8 i = ![256 * (i 2).val, 0] := by decide +kernel
theorem off9 : ∀ i : grid0.Coords, k0_cond3 i = 1#1 → k0_off9 i = ![(i 2).val - 1, 0, 0] := by decide +kernel
theorem off10 : ∀ i : grid0.Coords, k0_off10 i = ![(i 2).val, 0, 0] := by decide +kernel
theorem off11 : ∀ i : grid0.Coords, k0_off11 i = ![256 * (i 2).val, 0] := by decide +kernel
theorem off12 : ∀ i : grid0.Coords, k0_off12 i = ![(i 2).val, 0, 0] := by decide +kernel

/-- The loop makes a trip for every whole four of blocks before the diagonal one, -/
theorem trips1 : ∀ i : grid0.Coords, (k0_t1_loop i).trips = (i 2).val / 4 := by decide +kernel
/-- and the second loop none. -/
theorem trips2 : ∀ i : grid0.Coords, (k0_t2_loop i).trips = 0 := by decide +kernel
theorem cond2 : ∀ i : grid0.Coords, k0_cond2 i = 1#1 ↔ 2 ≤ (i 2).val % 4 := by decide +kernel
theorem cond3 : ∀ i : grid0.Coords, k0_cond3 i = 1#1 ↔ (i 2).val % 2 = 1 := by decide +kernel
theorem cond4 : ∀ i : grid0.Coords, k0_cond4 i = 1#1 ↔ (i 2).val = 15 := by decide +kernel

theorem word1 : ∀ (i : grid0.Coords) (k : Fin (k0_t1_loop i).trips) (r : Fin 4),
    Scalar.addi (Scalar.muli 4#32 (Scf.iv 0#32 1#32 k)) (BitVec.ofNat 32 r.val) = BitVec.ofNat 32 (4 * k.val + r.val) := by decide +kernel

theorem off1_0 (i : grid0.Coords) (k : Fin (k0_t1_loop i).trips) : k0_off1 i k 0#32 = ![256 * (4 * k.val + 0), 0] := off1 i k 0
theorem off1_1 (i : grid0.Coords) (k : Fin (k0_t1_loop i).trips) : k0_off1 i k 1#32 = ![256 * (4 * k.val + 1), 0] := off1 i k 1
theorem off1_2 (i : grid0.Coords) (k : Fin (k0_t1_loop i).trips) : k0_off1 i k 2#32 = ![256 * (4 * k.val + 2), 0] := off1 i k 2
theorem off1_3 (i : grid0.Coords) (k : Fin (k0_t1_loop i).trips) : k0_off1 i k 3#32 = ![256 * (4 * k.val + 3), 0] := off1 i k 3
theorem off2_0 (i : grid0.Coords) (k : Fin (k0_t1_loop i).trips) : k0_off2 i k 0#32 = ![4 * k.val + 0, 0, 0] := off2 i k 0
theorem off2_1 (i : grid0.Coords) (k : Fin (k0_t1_loop i).trips) : k0_off2 i k 1#32 = ![4 * k.val + 1, 0, 0] := off2 i k 1
theorem off2_2 (i : grid0.Coords) (k : Fin (k0_t1_loop i).trips) : k0_off2 i k 2#32 = ![4 * k.val + 2, 0, 0] := off2 i k 2
theorem off2_3 (i : grid0.Coords) (k : Fin (k0_t1_loop i).trips) : k0_off2 i k 3#32 = ![4 * k.val + 3, 0, 0] := off2 i k 3
theorem off5_0 (i : grid0.Coords) : k0_off5 i 0#32 = ![256 * (4 * ((i 2).val / 4) + 0), 0] := off5 i 0
theorem off5_1 (i : grid0.Coords) : k0_off5 i 1#32 = ![256 * (4 * ((i 2).val / 4) + 1), 0] := off5 i 1
theorem off6_0 (i : grid0.Coords) : k0_off6 i 0#32 = ![4 * ((i 2).val / 4) + 0, 0, 0] := off6 i 0
theorem off6_1 (i : grid0.Coords) : k0_off6 i 1#32 = ![4 * ((i 2).val / 4) + 1, 0, 0] := off6 i 1

theorem off9_word : ∀ i : grid0.Coords, k0_off9 i = ![((i 2).val + 4294967295) % 4294967296, 0, 0] := by decide +kernel
instance (i : grid0.Coords) (k : Fin (k0_t1_loop i).trips) : ClosedOff (k0_off2 i k 0#32) := ⟨_, off2 i k 0⟩
instance (i : grid0.Coords) (k : Fin (k0_t1_loop i).trips) : ClosedOff (k0_off2 i k 1#32) := ⟨_, off2 i k 1⟩
instance (i : grid0.Coords) (k : Fin (k0_t1_loop i).trips) : ClosedOff (k0_off2 i k 2#32) := ⟨_, off2 i k 2⟩
instance (i : grid0.Coords) (k : Fin (k0_t1_loop i).trips) : ClosedOff (k0_off2 i k 3#32) := ⟨_, off2 i k 3⟩
instance (i : grid0.Coords) : ClosedOff (k0_off6 i 0#32) := ⟨_, off6 i 0⟩
instance (i : grid0.Coords) : ClosedOff (k0_off6 i 1#32) := ⟨_, off6 i 1⟩
instance (i : grid0.Coords) : ClosedOff (k0_off9 i) := ⟨_, off9_word i⟩
instance (i : grid0.Coords) : ClosedOff (k0_off10 i) := ⟨_, off10 i⟩
instance (i : grid0.Coords) : ClosedOff (k0_off12 i) := ⟨_, off12 i⟩

end Cert.AttnIdeal.Run

end
-- ==== Proof.AttnSpec.lean ====
module

public import proofs.«01_k».proof.Proof.AttnOff
public import Idealize.ShloMosaic.Lib.Pointwise

@[expose] public section

set_option maxRecDepth 16384

noncomputable section

namespace Cert.AttnIdeal.Run

open Cert.AttnIdeal Cert.AttnIdeal.Gen Idealize.ShloMosaic Idealize.ShloMosaic.Tactic

variable {F : FTy → Type} [FloatOps F]

/-- What one block of queries keeps while the key blocks pass: the two heads' queries and cotangents
    with the other head's lanes at zero, the two stacked for the products by the transposed blocks,
    the tables of the heads' row sums, the lanes' numbers and the heads' lanes, and the two triangles. -/
structure Pt (F : FTy → Type) where
  q0 : FVec F S256x128 .bf16
  q1 : FVec F S256x128 .bf16
  d0 : FVec F S256x128 .bf16
  d1 : FVec F S256x128 .bf16
  qt : FVec F S128x512 .bf16
  dt : FVec F S128x512 .bf16
  t0 : FVec F S256x128 .f32
  t1 : FVec F S256x128 .f32
  lane : IVec S1x128 32
  m0 : IVec S1x128 1
  m1 : IVec S1x128 1
  su : Vec F S256x256 .bf16
  pr : Vec F S256x256 .bf16

/-- What passes from a key block to the next: the two heads' sums so far, the queries' gradient so
    far, and the keys' and the values' gradients carried in scratch. -/
structure St (F : FTy → Type) where
  p0 : FVec F S256x1 .f32
  p1 : FVec F S256x1 .f32
  dq : FVec F S256x128 .f32
  xk : Vec F S16x128x256 .f32
  xv : Vec F S16x128x256 .f32

/-- Key block `j`, -/
def blk (x : Vec F S4096x128 .bf16) (j : ℕ) : Vec F S256x128 .bf16 :=
  fun y => x (ix2 (n0 := 4096) (n1 := 128) ⟨(256 * j + (y 0).val) % 4096, Nat.mod_lt _ (by decide)⟩ (y 1))
/-- the carried gradient of key block `j`, -/
def row (x : Vec F S16x128x256 .f32) (j : ℕ) : Vec F S1x128x256 .f32 :=
  fun y => x (ix3 (n0 := 16) (n1 := 128) (n2 := 256) ⟨(j + (y 0).val) % 16, Nat.mod_lt _ (by decide)⟩ (y 1) (y 2))
/-- and the carried gradients with that of key block `j` replaced. -/
def setRow (x : Vec F S16x128x256 .f32) (j : ℕ) (w : Vec F S1x128x256 .f32) : Vec F S16x128x256 .f32 :=
  fun y => if (y 0).val = j then w (ix3 (n0 := 1) (n1 := 128) (n2 := 256) 0 (y 1) (y 2)) else x y

/-- On the diagonal block only the keys before the query count. -/
def keep (m : Option (IVec S256x256 1)) (x : FVec F S256x256 .f32) : FVec F S256x256 .f32 :=
  match m with
  | none => x
  | some m => select m x (broadcast S256x256 (Scalar.ofBits .f32 0x00000000#32))

/-- The scores of a head. -/
def logits (q : FVec F S256x128 .bf16) (kb : FVec F S256x128 .bf16) : FVec F S256x256 .f32 :=
  matmul dot_S256x128_S256x128_S256x256_1_1_0_0_n_n none q kb (constant S256x256 .f32 0x00000000#32)

/-- The log-probability of passing a key by. -/
def pass (m : Option (IVec S256x256 1)) (z : FVec F S256x256 .f32) : FVec F S256x256 .f32 :=
  keep m (subf (broadcast S256x256 (Scalar.ofBits .f32 0x00000000#32))
    (addf (maximumf z (broadcast S256x256 (Scalar.ofBits .f32 0x00000000#32)))
      (log (addf (broadcast S256x256 (Scalar.ofBits .f32 0x3F800000#32))
        (exp (subf (broadcast S256x256 (Scalar.ofBits .f32 0x00000000#32)) (absf z)))))))

/-- The row sum of the blocks after this one: lane `w` of the table. -/
def after (P : Pt F) (tab : FVec F S256x128 .f32) (w : BitVec 32) : FVec F S256x1 .f32 :=
  shapeCast S256x1 (multiReduction .add [1] S256
    (select (broadcastTo S256x128 (shapeCast S1x128 (cmpi .eq P.lane (broadcast S1x128 w)) shapeCasts_S1x128_S1x128) broadcasts_S1x128_S256x128)
      tab (broadcast S256x128 (Scalar.ofBits .f32 0x00000000#32))) 0x00000000#32 reduces_S256x128_S256 (.inl rfl) rfl) shapeCasts_S256_S256x1

/-- The weights of the block. -/
def weights (P : Pt F) (m : Option (IVec S256x256 1)) (tab : FVec F S256x128 .f32) (w : BitVec 32) (z : FVec F S256x256 .f32) : FVec F S256x256 .f32 :=
  keep m (exp (addf (addf z
    (matmul dot_S256x256_S256x256_S256x256_1_0_0_1_n_n none (truncf .bf16 (pass m z) bitsLt_bf16_f32)
      (shapeCast S256x256 P.su shapeCasts_S256x256_S256x256 : FVec F S256x256 .bf16) (constant S256x256 .f32 0x00000000#32)))
    (broadcastTo S256x256 (after P tab w) broadcasts_S256x1_S256x256)))

/-- Weight times its cotangent, -/
def gain (P : Pt F) (m : Option (IVec S256x256 1)) (tab : FVec F S256x128 .f32) (w : BitVec 32) (z da : FVec F S256x256 .f32) : FVec F S256x256 .f32 :=
  mulf (weights P m tab w z) da

/-- its sums along the keys of the block, -/
def gains (P : Pt F) (m : Option (IVec S256x256 1)) (tab : FVec F S256x128 .f32) (w : BitVec 32) (z da : FVec F S256x256 .f32) : FVec F S256x256 .f32 :=
  matmul dot_S256x256_S256x256_S256x256_1_0_0_1_n_n none (truncf .bf16 (gain P m tab w z da) bitsLt_bf16_f32)
    (shapeCast S256x256 P.pr shapeCasts_S256x256_S256x256 : FVec F S256x256 .bf16) (constant S256x256 .f32 0x00000000#32)

/-- and the gradient of the scores. -/
def dscore (P : Pt F) (m : Option (IVec S256x256 1)) (tab : FVec F S256x128 .f32) (w : BitVec 32) (pre : FVec F S256x1 .f32) (z da : FVec F S256x256 .f32) : FVec F S256x256 .bf16 :=
  truncf .bf16 (keep m (subf (gain P m tab w z da)
    (mulf (exp (addf z (pass m z))) (addf (broadcastTo S256x256 pre broadcasts_S256x1_S256x256) (gains P m tab w z da))))) bitsLt_bf16_f32

/-- The sum carried to the next block. -/
def carry (P : Pt F) (m : Option (IVec S256x256 1)) (tab : FVec F S256x128 .f32) (w : BitVec 32) (pre : FVec F S256x1 .f32) (z da : FVec F S256x256 .f32) : FVec F S256x1 .f32 :=
  addf pre (extractStridedSlice S256x1 ![0, 255] (gains P m tab w z da) slices_S256x256_o0_255_S256x1)

/-- A key block's lanes of one head. -/
def lanes (m : IVec S1x128 1) (kb : FVec F S256x128 .bf16) : FVec F S256x128 .bf16 :=
  select (broadcastTo S256x128 (shapeCast S1x128 m shapeCasts_S1x128_S1x128) broadcasts_S1x128_S256x128) kb
    (broadcast S256x128 (Scalar.ofBits .bf16 0x0000#16))

/-- What one head adds to the queries' gradient. -/
def dquery (dz : FVec F S256x256 .bf16) (kb : FVec F S256x128 .bf16) : FVec F S256x128 .f32 :=
  matmul dot_S256x256_S256x128_S256x128_1_0_0_1_n_n none dz kb (constant S256x128 .f32 0x00000000#32)

/-- What both heads add to a block of the gradient carried. -/
def addBlock (x : Vec F S1x128x256 .f32) (l : FVec F S128x512 .bf16) (r0 r1 : FVec F S256x256 .bf16) : Vec F S1x128x256 .f32 :=
  (shapeCast S1x128x256 (addf (shapeCast S128x256 x shapeCasts_S1x128x256_S128x256 : FVec F S128x256 .f32)
    (matmul dot_S128x512_S512x256_S128x256_1_0_0_1_n_n none l
      (concatenate S512x256 0 [⟨S256x256, r0⟩, ⟨S256x256, r1⟩] concatenates_S256x256_S256x256_S512x256_d0)
      (constant S128x256 .f32 0x00000000#32))) shapeCasts_S128x256_S1x128x256 : FVec F S1x128x256 .f32)

/-- One key block, of number `j`, its number as the lane to look up, and the block's keys and values. -/
def step (P : Pt F) (m : Option (IVec S256x256 1)) (j : ℕ) (w : BitVec 32) (kb vb : FVec F S256x128 .bf16) (s : St F) : St F :=
  { p0 := carry P m P.t0 w s.p0 (logits P.q0 kb) (logits P.d0 vb)
    p1 := carry P m P.t1 w s.p1 (logits P.q1 kb) (logits P.d1 vb)
    dq := addf (addf s.dq (dquery (dscore P m P.t0 w s.p0 (logits P.q0 kb) (logits P.d0 vb)) (lanes P.m0 kb)))
      (dquery (dscore P m P.t1 w s.p1 (logits P.q1 kb) (logits P.d1 vb)) (lanes P.m1 kb))
    xk := setRow s.xk j (addBlock (row s.xk j) P.qt (dscore P m P.t0 w s.p0 (logits P.q0 kb) (logits P.d0 vb)) (dscore P m P.t1 w s.p1 (logits P.q1 kb) (logits P.d1 vb)))
    xv := setRow s.xv j (addBlock (row s.xv j) P.dt (truncf .bf16 (weights P m P.t0 w (logits P.q0 kb)) bitsLt_bf16_f32) (truncf .bf16 (weights P m P.t1 w (logits P.q1 kb)) bitsLt_bf16_f32)) }

/-- The block as the kernel reads it. -/
def rd (x : Vec F S4096x128 .bf16) (j : ℕ) : FVec F S256x128 .bf16 := shapeCast S256x128 (blk x j) shapeCasts_S256x128_S256x128

/-- A key block of the keys `xk` and the values `xv`. -/
def stepAt (P : Pt F) (xk xv : Vec F S4096x128 .bf16) (m : Option (IVec S256x256 1)) (j : ℕ) (s : St F) : St F :=
  step P m j (BitVec.ofNat 32 j) (rd xk j) (rd xv j) s

/-- The state before key block `n`, of blocks before the diagonal. -/
def upTo (P : Pt F) (xk xv : Vec F S4096x128 .bf16) (s : St F) : ℕ → St F
  | 0 => s
  | n + 1 => stepAt P xk xv none n (upTo P xk xv s n)

theorem read_blk (a : Memref sig .tc .vmem S4096x128 .bf16) (f : BufTy.Contents (Elt F) a.view.ty) {off : Fin 2 → ℕ} (j : ℕ)
    (h : off = ![256 * j, 0]) (inb : ∀ k, off k + (![256, 128] : Fin 2 → ℕ) k ≤ S4096x128.size k) :
    a.view.readAt (Elt F) (Rect.unit (s := S4096x128) off ![256, 128] inb).toLoadRect f = blk (a.view.read (Elt F) f) j := by
  subst h
  have hj : 256 * j + 256 ≤ 4096 := inb 0
  rw [View.readAt_unit a.view f inb rfl inb]
  funext y
  refine congrArg (a.view.read (Elt F) f) (funext fun k => Fin.ext ?_)
  have h0 : (y 0).val < 256 := (y 0).isLt
  have e := Nat.mod_eq_of_lt (show 256 * j + (y 0).val < 4096 by omega)
  match k with
  | 0 => show 256 * j + 1 * (y 0).val = (256 * j + (y 0).val) % 4096; omega
  | 1 => show 0 + 1 * (y 1).val = (y 1).val; omega

theorem read_row (a : Memref sig .tc .vmem S16x128x256 .f32) (f : BufTy.Contents (Elt F) a.view.ty) {off : Fin 3 → ℕ} (j : ℕ)
    (h : off = ![j, 0, 0]) (inb : ∀ k, off k + (![1, 128, 256] : Fin 3 → ℕ) k ≤ S16x128x256.size k) :
    a.view.readAt (Elt F) (Rect.unit (s := S16x128x256) off ![1, 128, 256] inb).toLoadRect f = row (a.view.read (Elt F) f) j := by
  subst h
  have hj : j + 1 ≤ 16 := inb 0
  rw [View.readAt_unit a.view f inb rfl inb]
  funext y
  refine congrArg (a.view.read (Elt F) f) (funext fun k => Fin.ext ?_)
  have h0 : (y 0).val < 1 := (y 0).isLt
  have e := Nat.mod_eq_of_lt (show j + (y 0).val < 16 by omega)
  match k with
  | 0 => show j + 1 * (y 0).val = (j + (y 0).val) % 16; omega
  | 1 => show 0 + 1 * (y 1).val = (y 1).val; omega
  | 2 => show 0 + 1 * (y 2).val = (y 2).val; omega

theorem write_row (a : Memref sig .tc .vmem S16x128x256 .f32) (f : BufTy.Contents (Elt F) a.view.ty) {off : Fin 3 → ℕ} (j : ℕ)
    (h : off = ![j, 0, 0]) (inb : ∀ k, off k + (![1, 128, 256] : Fin 3 → ℕ) k ≤ S16x128x256.size k) (w : Vec F S1x128x256 .f32) (L : List (View.Piece (Elt F) S16x128x256 .f32)) :
    a.view.read (Elt F) (a.view.writes (Elt F) f (⟨Rect.unit (s := S16x128x256) off ![1, 128, 256] inb, w⟩ :: L)) = setRow (a.view.read (Elt F) (a.view.writes (Elt F) f L)) j w := by
  rw [View.read_writes_cons_put a.view f inb w L h]
  funext y
  have h1 : (y 1).val < 128 := (y 1).isLt
  have h2 : (y 2).val < 256 := (y 2).isLt
  unfold VecWindow.put setRow
  by_cases hy : (y 0).val = j
  · have hm : ∀ k : Fin 3, (![j, 0, 0] : Fin 3 → ℕ) k ≤ (y k).val ∧ (y k).val < (![j, 0, 0] : Fin 3 → ℕ) k + S1x128x256.size k := fun k => by
      match k with
      | 0 => exact ⟨by show j ≤ (y 0).val; omega, by show (y 0).val < j + 1; omega⟩
      | 1 => exact ⟨Nat.zero_le _, by show (y 1).val < 0 + 128; omega⟩
      | 2 => exact ⟨Nat.zero_le _, by show (y 2).val < 0 + 256; omega⟩
    rw [if_pos hy, dif_pos hm]
    refine congrArg w (funext fun k => Fin.ext ?_)
    match k with
    | 0 => show (y 0).val - j = 0; omega
    | 1 => show (y 1).val - 0 = (y 1).val; omega
    | 2 => show (y 2).val - 0 = (y 2).val; omega
  · rw [if_neg hy, dif_neg]
    intro hm
    have h0 : j ≤ (y 0).val ∧ (y 0).val < j + 1 := hm 0
    omega

theorem read_tri (a : Memref sig .tc .vmem S256x256 .bf16) (f : BufTy.Contents (Elt F) a.view.ty) (inb : ∀ k, (![0, 0] : Fin 2 → ℕ) k + (![256, 256] : Fin 2 → ℕ) k ≤ S256x256.size k) :
    a.view.readAt (Elt F) (Rect.unit (s := S256x256) ![0, 0] ![256, 256] inb).toLoadRect f = a.view.read (Elt F) f := View.readAt_full a.view f inb

theorem row_setRow (x : Vec F S16x128x256 .f32) (j n : ℕ) (hn : n < 16) (w : Vec F S1x128x256 .f32) (h : n ≠ j) : row (setRow x j w) n = row x n := by
  funext y
  have h0 : (y 0).val < 1 := (y 0).isLt
  have e := Nat.mod_eq_of_lt (show n + (y 0).val < 16 by omega)
  show (if (n + (y 0).val) % 16 = j then _ else _) = _
  rw [if_neg (by omega)]
  rfl

end Cert.AttnIdeal.Run

end
-- ==== Proof.AttnTrip.lean ====
module

public import proofs.«01_k».proof.Proof.AttnSpec
public import Idealize.ShloMosaic.Lib.Pipeline.Kit

@[expose] public section

set_option maxRecDepth 16384

noncomputable section

namespace Cert.AttnIdeal.Run

open Cert.AttnIdeal Cert.AttnIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The blocks and the scratch of one grid point. -/
structure Args where
  a3 : Memref sig .tc .vmem S256x128 .bf16
  h3 : a3.IsWhole
  a4 : Memref sig .tc .vmem S4096x128 .bf16
  h4 : a4.IsWhole
  a5 : Memref sig .tc .vmem S4096x128 .bf16
  h5 : a5.IsWhole
  a6 : Memref sig .tc .vmem S256x256 .f32
  h6 : a6.IsWhole
  a7 : Memref sig .tc .vmem S256x128 .bf16
  h7 : a7.IsWhole
  a8 : Memref sig .tc .vmem S256x256 .bf16
  h8 : a8.IsWhole
  a9 : Memref sig .tc .vmem S256x256 .bf16
  h9 : a9.IsWhole
  a10 : Memref sig .tc .vmem S256x128 .bf16
  h10 : a10.IsWhole
  a11 : Memref sig .tc .vmem S4096x128 .bf16
  h11 : a11.IsWhole
  a12 : Memref sig .tc .vmem S4096x128 .bf16
  h12 : a12.IsWhole
  a13 : Memref sig .tc .vmem S16x128x256 .f32
  h13 : a13.IsWhole
  a14 : Memref sig .tc .vmem S16x128x256 .f32
  h14 : a14.IsWhole

/-- What every key block reads: the keys, the values and the two triangles. -/
def reads (c : Dev nD) (A : Args) (P : Pt F) (xk xv : Vec F S4096x128 .bf16) : sProp 𝕄 :=
  iprop(owns (c : Thread nD τ) A.a4 fullShare xk ∗ owns (c : Thread nD τ) A.a5 fullShare xv ∗ owns (c : Thread nD τ) A.a8 fullShare P.su ∗ owns (c : Thread nD τ) A.a9 fullShare P.pr)

/-- The carried gradients. -/
def held (c : Dev nD) (A : Args) (x y : Vec F S16x128x256 .f32) : sProp 𝕄 :=
  iprop(owns (c : Thread nD τ) A.a13 fullShare x ∗ owns (c : Thread nD τ) A.a14 fullShare y)

/-- A trip of the loop over fours of key blocks. -/
def body (i : grid0.Coords) (A : Args) (P : Pt F) (v16 v126 : BitVec 32) (v92 : FVec F S256x1 .f32) :=
  k0_t1_body (F := F) i A.a3 A.h3 A.a4 A.h4 A.a5 A.h5 A.a6 A.h6 A.a7 A.h7 A.a8 A.h8 A.a9 A.h9 A.a10 A.h10 A.a11 A.h11 A.a12 A.h12 A.a13 A.h13 A.a14 A.h14
    v16 P.lane P.m0 P.m1 P.q0 P.q1 P.d0 P.d1 P.qt P.dt P.t0 P.t1 v92 v126

set_option maxHeartbeats 4000000 in
theorem trip (c : Dev nD) (E : Set ℕ) (i : grid0.Coords) (A : Args) (P : Pt F) (xk xv : Vec F S4096x128 .bf16) (v16 v126 : BitVec 32)
    (v92 : FVec F S256x1 .f32) (k : Fin (k0_t1_loop i).trips) (s : St F) :
    iprop(reads c A P xk xv ∗ held c A (upTo P xk xv s (4 * k.val)).xk (upTo P xk xv s (4 * k.val)).xv)
    ⊢ wp frame (wpE (defs₀ (F := F)) Variants.none (c : Thread nD τ) none) E (body i A P v16 v126 v92 k ((upTo P xk xv s (4 * k.val)).p0, (upTo P xk xv s (4 * k.val)).p1, (upTo P xk xv s (4 * k.val)).dq))
      (fun r => iprop(⌜r = ((upTo P xk xv s (4 * (k.val + 1))).p0, (upTo P xk xv s (4 * (k.val + 1))).p1, (upTo P xk xv s (4 * (k.val + 1))).dq)⌝
        ∗ reads c A P xk xv ∗ held c A (upTo P xk xv s (4 * (k.val + 1))).xk (upTo P xk xv s (4 * (k.val + 1))).xv)) := by
  have hs : upTo P xk xv s (4 * (k.val + 1)) = stepAt P xk xv none (4 * k.val + 3) (stepAt P xk xv none (4 * k.val + 2) (stepAt P xk xv none (4 * k.val + 1) (stepAt P xk xv none (4 * k.val) (upTo P xk xv s (4 * k.val))))) := rfl
  rw [hs]
  generalize upTo P xk xv s (4 * k.val) = s
  unfold body k0_t1_body reads held owns
  iintro ⟨⟨⟨%f4, %e4, H4⟩, ⟨%f5, %e5, H5⟩, ⟨%f8, %e8, H8⟩, ⟨%f9, %e9, H9⟩⟩, ⟨%f13, %e13, H13⟩, ⟨%f14, %e14, H14⟩⟩
  sl_exec
  sl_step
  have w0 : Scalar.addi (Scalar.muli 4#32 (Scf.iv 0#32 1#32 k)) 0#32 = BitVec.ofNat 32 (4 * k.val) := word1 i k 0
  have w1 : Scalar.addi (Scalar.muli 4#32 (Scf.iv 0#32 1#32 k)) 1#32 = BitVec.ofNat 32 (4 * k.val + 1) := word1 i k 1
  have w2 : Scalar.addi (Scalar.muli 4#32 (Scf.iv 0#32 1#32 k)) 2#32 = BitVec.ofNat 32 (4 * k.val + 2) := word1 i k 2
  have w3 : Scalar.addi (Scalar.muli 4#32 (Scf.iv 0#32 1#32 k)) 3#32 = BitVec.ofNat 32 (4 * k.val + 3) := word1 i k 3
  isplitr
  · ipureintro
    sl_unfold_run_names
    simp only [read_blk _ _ _ (off1_0 i k), read_blk _ _ _ (off1_1 i k), read_blk _ _ _ (off1_2 i k), read_blk _ _ _ (off1_3 i k), read_tri, e4, e5, e8, e9, w0, w1, w2, w3]
    rfl
  isplitl [H4 H5 H8 H9]
  · isplitl [H4]
    · iexists f4; isplitr; (ipureintro; exact e4); iexact H4
    isplitl [H5]
    · iexists f5; isplitr; (ipureintro; exact e5); iexact H5
    isplitl [H8]
    · iexists f8; isplitr; (ipureintro; exact e8); iexact H8
    iexists f9; isplitr; (ipureintro; exact e9); iexact H9
  isplitl [H13]
  · iexists _; isplitr; swap; iexact H13
    ipureintro
    sl_unfold_run_names
    simp only [read_blk _ _ _ (off1_0 i k), read_blk _ _ _ (off1_1 i k), read_blk _ _ _ (off1_2 i k), read_blk _ _ _ (off1_3 i k), read_tri, e4, e5, e8, e9, w0, w1, w2, w3,
      read_row _ _ _ (off2_0 i k), read_row _ _ _ (off2_1 i k), read_row _ _ _ (off2_2 i k), read_row _ _ _ (off2_3 i k),
      write_row _ _ _ (off2_0 i k), write_row _ _ _ (off2_1 i k), write_row _ _ _ (off2_2 i k), write_row _ _ _ (off2_3 i k), View.writes_nil, e13, e14]
    rfl
  · iexists _; isplitr; swap; iexact H14
    ipureintro
    sl_unfold_run_names
    simp only [read_blk _ _ _ (off1_0 i k), read_blk _ _ _ (off1_1 i k), read_blk _ _ _ (off1_2 i k), read_blk _ _ _ (off1_3 i k), read_tri, e4, e5, e8, e9, w0, w1, w2, w3,
      read_row _ _ _ (off2_0 i k), read_row _ _ _ (off2_1 i k), read_row _ _ _ (off2_2 i k), read_row _ _ _ (off2_3 i k),
      write_row _ _ _ (off2_0 i k), write_row _ _ _ (off2_1 i k), write_row _ _ _ (off2_2 i k), write_row _ _ _ (off2_3 i k), View.writes_nil, e13, e14]
    rfl

end Cert.AttnIdeal.Run

end
-- ==== Proof.AttnParts.lean ====
module

public import proofs.«01_k».proof.Proof.AttnTrip

@[expose] public section

set_option maxRecDepth 16384

noncomputable section

namespace Cert.AttnIdeal.Run

open Cert.AttnIdeal Cert.AttnIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The number of the block of queries, as a word. -/
def num (i : grid0.Coords) : BitVec 32 := BitVec.ofNat 32 (i 2).val

/-- The gradients carried when a block of queries is begun: nothing at the first. -/
def cleared (i : grid0.Coords) (x : Vec F S16x128x256 .f32) : Vec F S16x128x256 .f32 := if (i 2).val = 0 then k0_pay378 else x

/-- The keys before the query, on the diagonal block. -/
def mask : IVec S256x256 1 :=
  cmpi .slt (addi (iota .tc S256x256 32 [1] iota_S256x256_d1_w32) (broadcast S256x256 (0#32))) (iota .tc S256x256 32 [0] iota_S256x256_d0_w32)

/-- What the prelude hands on. -/
def begun (i : grid0.Coords) : Σ' (_ : BitVec 32) (_ : BitVec 32) (_ : IVec S256x256 32) (_ : IVec S256x256 32) (_ : BitVec 32), BitVec 32 :=
  ⟨num i, num i, iota .tc S256x256 32 [0] iota_S256x256_d0_w32, iota .tc S256x256 32 [1] iota_S256x256_d1_w32, num i, 256#32⟩

theorem first_iff : ∀ i : grid0.Coords, (Scalar.cmpi .ne (Scalar.extui (Scalar.cmpi .eq (BitVec.ofNat 32 (i 2).val) 0#32)) (0#32 : BitVec 32) = 1#1) ↔ (i 2).val = 0 := by decide +kernel

theorem num_eq : ∀ i : grid0.Coords, Scalar.select (Scalar.andi (Scalar.cmpi .ne (Scalar.subi (Scalar.extui (Scalar.cmpi .sgt (BitVec.ofNat 32 (i 2).val) 0#32))
      (Scalar.extui (Scalar.cmpi .slt (BitVec.ofNat 32 (i 2).val) 0#32))) (Scalar.subi (Scalar.extui (Scalar.cmpi .sgt 1#32 0#32)) (Scalar.extui (Scalar.cmpi .slt 1#32 0#32)) : BitVec 32))
      (Scalar.cmpi .ne (Scalar.remsi (BitVec.ofNat 32 (i 2).val) 1#32) 0#32)) (Scalar.subi (Scalar.divsi (BitVec.ofNat 32 (i 2).val) 1#32) 1#32)
      (Scalar.divsi (BitVec.ofNat 32 (i 2).val) 1#32) = num i := by decide +kernel

/-- Half a word, rounded down. -/
def half (a : BitVec 32) : BitVec 32 := Scalar.select (Scalar.andi (Scalar.cmpi .ne (Scalar.subi (Scalar.extui (Scalar.cmpi .sgt a 0#32))
      (Scalar.extui (Scalar.cmpi .slt a 0#32))) (Scalar.subi (Scalar.extui (Scalar.cmpi .sgt 2#32 0#32)) (Scalar.extui (Scalar.cmpi .slt 2#32 0#32)) : BitVec 32))
      (Scalar.cmpi .ne (Scalar.remsi a 2#32) 0#32)) (Scalar.subi (Scalar.divsi a 2#32) 1#32) (Scalar.divsi a 2#32)
/-- The number of whole fours of blocks before the diagonal one. -/
def quad (i : grid0.Coords) : BitVec 32 := BitVec.ofNat 32 ((i 2).val / 4)
theorem quad_eq : ∀ i : grid0.Coords, half (half (num i)) = quad i := by decide +kernel
theorem pair_word : ∀ (i : grid0.Coords) (r : Fin 2), Scalar.addi (Scalar.muli 4#32 (quad i)) (BitVec.ofNat 32 r.val) = BitVec.ofNat 32 (4 * ((i 2).val / 4) + r.val) := by
  decide +kernel
theorem prev_word : ∀ i : grid0.Coords, k0_cond3 i = 1#1 → Scalar.subi (num i) 1#32 = BitVec.ofNat 32 ((i 2).val - 1) := by decide +kernel

theorem mask_eq (i : grid0.Coords) : k0_pay380 (num i) (iota .tc S256x256 32 [0] iota_S256x256_d0_w32) (iota .tc S256x256 32 [1] iota_S256x256_d1_w32) (num i) 256#32 = mask := by
  unfold k0_pay380 mask
  have h : Scalar.subi (Scalar.muli (num i) 256#32) (Scalar.muli (num i) 256#32) = 0#32 := BitVec.sub_self _
  simp only [h]

set_option maxHeartbeats 1000000 in
theorem part45 (c : Dev nD) (E : Set ℕ) (i : grid0.Coords) (A : Args) (x y : Vec F S16x128x256 .f32) :
    held c A x y
    ⊢ wp frame (wpE (defs₀ (F := F)) Variants.none (c : Thread nD τ) none) E
      (k0_part45 i A.a3 A.h3 A.a4 A.h4 A.a5 A.h5 A.a6 A.h6 A.a7 A.h7 A.a8 A.h8 A.a9 A.h9 A.a10 A.h10 A.a11 A.h11 A.a12 A.h12 A.a13 A.h13 A.a14 A.h14)
      (fun r => iprop(⌜r = begun i⌝ ∗ held c A (cleared i x) (cleared i y))) := by
  rw [k0_part45_eq_skeleton]
  unfold k0_part45_skel held owns cleared
  iintro ⟨⟨%f13, %e13, H13⟩, ⟨%f14, %e14, H14⟩⟩
  by_cases h : (i 2).val = 0
  · simp only [if_pos h]
    have hc := (first_iff i).mpr h
    sl_exec (disch := exact hc)
    sl_step
    isplitr
    · ipureintro
      simp only [num_eq]; rfl
    isplitl [H13]
    · iexists _; isplitr; swap; iexact H13
      ipureintro
      exact View.read_writes_full A.a13.view f13 _ _ []
    · iexists _; isplitr; swap; iexact H14
      ipureintro
      exact View.read_writes_full A.a14.view f14 _ _ []
  · simp only [if_neg h]
    have hc := mt (first_iff i).mp h
    sl_exec (disch := exact hc)
    sl_step
    isplitr
    · ipureintro
      simp only [num_eq]; rfl
    isplitl [H13]
    · iexists f13; isplitr; (ipureintro; exact e13); iexact H13
    · iexists f14; isplitr; (ipureintro; exact e14); iexact H14

/-- The two heads' tables. -/
def left (x : Vec F S256x256 .f32) : Vec F S256x128 .f32 := fun y => x (ix2 (n0 := 256) (n1 := 256) (y 0) ⟨(y 1).val, lt_of_lt_of_le (y 1).isLt (by decide)⟩)
def right (x : Vec F S256x256 .f32) : Vec F S256x128 .f32 := fun y => x (ix2 (n0 := 256) (n1 := 256) (y 0) ⟨128 + (y 1).val, by have : (y 1).val < 128 := (y 1).isLt; omega⟩)

theorem read_left (a : Memref sig .tc .vmem S256x256 .f32) (f : BufTy.Contents (Elt F) a.view.ty) (inb : ∀ k, (![0, 0] : Fin 2 → ℕ) k + S256x128.size k ≤ S256x256.size k) :
    a.view.readAt (Elt F) (Rect.unit (s := S256x256) ![0, 0] S256x128.size inb).toLoadRect f = left (a.view.read (Elt F) f) := by
  rw [View.readAt_unit a.view f inb rfl inb]
  funext y
  refine congrArg (a.view.read (Elt F) f) (funext fun k => Fin.ext ?_)
  match k with
  | 0 => show 0 + 1 * (y 0).val = (y 0).val; omega
  | 1 => show 0 + 1 * (y 1).val = (y 1).val; omega

theorem read_right (a : Memref sig .tc .vmem S256x256 .f32) (f : BufTy.Contents (Elt F) a.view.ty) (inb : ∀ k, (![0, 128] : Fin 2 → ℕ) k + S256x128.size k ≤ S256x256.size k) :
    a.view.readAt (Elt F) (Rect.unit (s := S256x256) ![0, 128] S256x128.size inb).toLoadRect f = right (a.view.read (Elt F) f) := by
  rw [View.readAt_unit a.view f inb rfl inb]
  funext y
  refine congrArg (a.view.read (Elt F) f) (funext fun k => Fin.ext ?_)
  match k with
  | 0 => show 0 + 1 * (y 0).val = (y 0).val; omega
  | 1 => show 128 + 1 * (y 1).val = 128 + (y 1).val; omega

/-- What one block of queries keeps, of its queries, its cotangents, its tables and the triangles. -/
def pt (x3 x7 : Vec F S256x128 .bf16) (x6 : Vec F S256x256 .f32) (su pr : Vec F S256x256 .bf16) : Pt F where
  q0 := k0_pay385 x3
  q1 := k0_pay386 x3
  d0 := k0_pay387 x7
  d1 := k0_pay388 x7
  qt := k0_pay389 x3
  dt := k0_pay392 (k0_pay390 x7) (k0_pay391 x7)
  t0 := k0_pay393 (left x6)
  t1 := k0_pay394 (right x6)
  lane := iota .tc S1x128 32 [1] iota_S1x128_d1_w32
  m0 := k0_pay381
  m1 := k0_pay382
  su := su
  pr := pr

set_option maxHeartbeats 1000000 in
theorem part46 (c : Dev nD) (E : Set ℕ) (i : grid0.Coords) (A : Args) (x3 x7 : Vec F S256x128 .bf16) (x6 : Vec F S256x256 .f32) (su pr : Vec F S256x256 .bf16) :
    (iprop(owns (c : Thread nD τ) A.a3 fullShare x3 ∗ owns (c : Thread nD τ) A.a7 fullShare x7) : sProp 𝕄)
    ⊢ wp frame (wpE (defs₀ (F := F)) Variants.none (c : Thread nD τ) none) E
      (k0_part46 i A.a3 A.h3 A.a4 A.h4 A.a5 A.h5 A.a6 A.h6 A.a7 A.h7 A.a8 A.h8 A.a9 A.h9 A.a10 A.h10 A.a11 A.h11 A.a12 A.h12 A.a13 A.h13 A.a14 A.h14 (num i) (iota .tc S256x256 32 [0] iota_S256x256_d0_w32) (iota .tc S256x256 32 [1] iota_S256x256_d1_w32) (num i) 256#32)
      (fun r => iprop(⌜r = ⟨mask, (pt x3 x7 x6 su pr).lane, (pt x3 x7 x6 su pr).m0, (pt x3 x7 x6 su pr).m1, (pt x3 x7 x6 su pr).q0, (pt x3 x7 x6 su pr).q1,
          (pt x3 x7 x6 su pr).d0, (pt x3 x7 x6 su pr).d1, (pt x3 x7 x6 su pr).qt, k0_pay390 x7, k0_pay391 x7⟩⌝
        ∗ owns (c : Thread nD τ) A.a3 fullShare x3 ∗ owns (c : Thread nD τ) A.a7 fullShare x7)) := by
  rw [k0_part46_eq_skeleton]
  unfold k0_part46_skel owns
  iintro ⟨⟨%f3, %e3, H3⟩, ⟨%f7, %e7, H7⟩⟩
  sl_exec
  sl_step
  isplitr
  · ipureintro
    sl_unfold_run_names
    simp only [View.readAt_full A.a3.view f3, View.readAt_full A.a7.view f7]
    subst e3 e7
    rw [← mask_eq i]
    rfl
  isplitl [H3]
  · iexists f3; isplitr; (ipureintro; exact e3); iexact H3
  · iexists f7; isplitr; (ipureintro; exact e7); iexact H7

set_option maxHeartbeats 1000000 in
theorem part47 (c : Dev nD) (E : Set ℕ) (i : grid0.Coords) (A : Args) (x3 x7 : Vec F S256x128 .bf16) (x6 : Vec F S256x256 .f32) (su pr : Vec F S256x256 .bf16) :
    (owns (c : Thread nD τ) A.a6 fullShare x6 : sProp 𝕄)
    ⊢ wp frame (wpE (defs₀ (F := F)) Variants.none (c : Thread nD τ) none) E
      (k0_part47 i A.a3 A.h3 A.a4 A.h4 A.a5 A.h5 A.a6 A.h6 A.a7 A.h7 A.a8 A.h8 A.a9 A.h9 A.a10 A.h10 A.a11 A.h11 A.a12 A.h12 A.a13 A.h13 A.a14 A.h14 (num i) (k0_pay390 x7) (k0_pay391 x7))
      (fun r => iprop(⌜r = ⟨(pt x3 x7 x6 su pr).dt, (pt x3 x7 x6 su pr).t0, (pt x3 x7 x6 su pr).t1, k0_pay395, quad i⟩⌝
        ∗ owns (c : Thread nD τ) A.a6 fullShare x6)) := by
  rw [k0_part47_eq_skeleton]
  unfold k0_part47_skel owns
  iintro ⟨%f6, %e6, H6⟩
  sl_exec
  sl_step
  isplitr
  · ipureintro
    subst e6
    sl_unfold_run_names
    simp only [read_left A.a6 f6, read_right A.a6 f6]
    rw [← quad_eq]
    rfl
  · iexists f6; isplitr; (ipureintro; exact e6); iexact H6

/-- The state in which the key blocks begin to pass, -/
def start (x y : Vec F S16x128x256 .f32) : St F := ⟨k0_pay395, k0_pay395, k0_pay396, x, y⟩
/-- before the last group, -/
def most (i : grid0.Coords) (P : Pt F) (xk xv : Vec F S4096x128 .bf16) (s : St F) : St F := upTo P xk xv s (2 * ((i 2).val / 2))
/-- and after all of them. -/
def all (i : grid0.Coords) (P : Pt F) (xk xv : Vec F S4096x128 .bf16) (s : St F) : St F := stepAt P xk xv (some mask) (i 2).val (upTo P xk xv s (i 2).val)

/-- What holds between the trips of the loop over fours. -/
def passed (c : Dev nD) (i : grid0.Coords) (A : Args) (P : Pt F) (xk xv : Vec F S4096x128 .bf16) (s : St F) (k : ℕ) (acc : FVec F S256x1 .f32 × FVec F S256x1 .f32 × FVec F S256x128 .f32) : sProp 𝕄 :=
  iprop(⌜acc = ((upTo P xk xv s (4 * k)).p0, (upTo P xk xv s (4 * k)).p1, (upTo P xk xv s (4 * k)).dq)⌝
    ∗ reads c A P xk xv ∗ held c A (upTo P xk xv s (4 * k)).xk (upTo P xk xv s (4 * k)).xv)

set_option maxHeartbeats 4000000 in
theorem part48 (c : Dev nD) (E : Set ℕ) (i : grid0.Coords) (A : Args) (P : Pt F) (xk xv : Vec F S4096x128 .bf16) (x y : Vec F S16x128x256 .f32) :
    iprop(reads c A P xk xv ∗ held c A x y)
    ⊢ wp frame (wpE (defs₀ (F := F)) Variants.none (c : Thread nD τ) none) E
      (k0_part48 i A.a3 A.h3 A.a4 A.h4 A.a5 A.h5 A.a6 A.h6 A.a7 A.h7 A.a8 A.h8 A.a9 A.h9 A.a10 A.h10 A.a11 A.h11 A.a12 A.h12 A.a13 A.h13 A.a14 A.h14 (num i) P.lane P.m0 P.m1 P.q0 P.q1 P.d0 P.d1 P.qt P.dt P.t0 P.t1 k0_pay395 (quad i))
      (fun r => iprop(⌜r = ⟨(most i P xk xv (start x y)).p0, (most i P xk xv (start x y)).p1, (most i P xk xv (start x y)).dq, 2#32⟩⌝
        ∗ reads c A P xk xv ∗ held c A (most i P xk xv (start x y)).xk (most i P xk xv (start x y)).xv)) := by
  rw [k0_part48_eq_skeleton]
  unfold k0_part48_skel
  iintro ⟨HR, HH⟩
  sl_exec
  sl_for (passed c i A P xk xv (start x y)) $$ [HR HH]
  case region =>
    intro k acc
    unfold passed
    iintro ⟨%h, HR, HH⟩
    subst h
    iapply (trip c E i A P xk xv _ _ _ k (start x y)) $$ [HR HH]
    isplitl [HR] <;> iassumption
  · unfold passed
    isplitr; · ipureintro; rfl
    isplitl [HR]; · iexact HR
    iexact HH
  iintro %acc HI
  unfold passed
  icases HI with ⟨%h, HR, HH⟩
  subst h
  generalize hs : upTo P xk xv (start x y) (4 * Scf.trips (k0_t1_loop i).lb (k0_t1_loop i).ub (k0_t1_loop i).st) = s
  have hm : most i P xk xv (start x y) = if 2 ≤ (i 2).val % 4 then stepAt P xk xv none (4 * ((i 2).val / 4) + 1) (stepAt P xk xv none (4 * ((i 2).val / 4)) s) else s := by
    rw [← hs, show Scf.trips (k0_t1_loop i).lb (k0_t1_loop i).ub (k0_t1_loop i).st = (i 2).val / 4 from trips1 i]
    unfold most
    split
    · rw [show 2 * ((i 2).val / 2) = 4 * ((i 2).val / 4) + 1 + 1 by omega]; rfl
    · rw [show 2 * ((i 2).val / 2) = 4 * ((i 2).val / 4) by omega]
  rw [hm]
  clear hm hs
  sl_exec
  sl_for0 (trips2 i)
  unfold reads held owns
  icases HR with ⟨⟨%f4, %e4, H4⟩, ⟨%f5, %e5, H5⟩, ⟨%f8, %e8, H8⟩, ⟨%f9, %e9, H9⟩⟩
  icases HH with ⟨⟨%f13, %e13, H13⟩, ⟨%f14, %e14, H14⟩⟩
  by_cases h : 2 ≤ (i 2).val % 4
  · simp only [if_pos h]
    have hc := (cond2 i).mpr h
    sl_exec (disch := exact hc)
    sl_step
    have w0 : Scalar.addi (Scalar.muli 4#32 (quad i)) 0#32 = BitVec.ofNat 32 (4 * ((i 2).val / 4)) := pair_word i 0
    have w1 : Scalar.addi (Scalar.muli 4#32 (quad i)) 1#32 = BitVec.ofNat 32 (4 * ((i 2).val / 4) + 1) := pair_word i 1
    isplitr
    · ipureintro
      sl_unfold_run_names
      simp only [read_blk _ _ _ (off5_0 i), read_blk _ _ _ (off5_1 i), read_tri, e4, e5, e8, e9, w0, w1]
      rfl
    isplitl [H4 H5 H8 H9]
    · isplitl [H4]
      · iexists f4; isplitr; (ipureintro; exact e4); iexact H4
      isplitl [H5]
      · iexists f5; isplitr; (ipureintro; exact e5); iexact H5
      isplitl [H8]
      · iexists f8; isplitr; (ipureintro; exact e8); iexact H8
      iexists f9; isplitr; (ipureintro; exact e9); iexact H9
    isplitl [H13]
    · iexists _; isplitr; swap; iexact H13
      ipureintro
      sl_unfold_run_names
      simp only [read_blk _ _ _ (off5_0 i), read_blk _ _ _ (off5_1 i), read_tri, e4, e5, e8, e9, w0, w1,
        read_row _ _ _ (off6_0 i), read_row _ _ _ (off6_1 i), write_row _ _ _ (off6_0 i), write_row _ _ _ (off6_1 i), View.writes_nil, e13, e14]
      rfl
    · iexists _; isplitr; swap; iexact H14
      ipureintro
      sl_unfold_run_names
      simp only [read_blk _ _ _ (off5_0 i), read_blk _ _ _ (off5_1 i), read_tri, e4, e5, e8, e9, w0, w1,
        read_row _ _ _ (off6_0 i), read_row _ _ _ (off6_1 i), write_row _ _ _ (off6_0 i), write_row _ _ _ (off6_1 i), View.writes_nil, e13, e14]
      rfl
  · simp only [if_neg h]
    have hc := mt (cond2 i).mp h
    sl_exec (disch := exact hc)
    sl_step
    isplitr
    · ipureintro; rfl
    isplitl [H4 H5 H8 H9]
    · isplitl [H4]
      · iexists f4; isplitr; (ipureintro; exact e4); iexact H4
      isplitl [H5]
      · iexists f5; isplitr; (ipureintro; exact e5); iexact H5
      isplitl [H8]
      · iexists f8; isplitr; (ipureintro; exact e8); iexact H8
      iexists f9; isplitr; (ipureintro; exact e9); iexact H9
    isplitl [H13]
    · iexists f13; isplitr; (ipureintro; exact e13); iexact H13
    · iexists f14; isplitr; (ipureintro; exact e14); iexact H14

end Cert.AttnIdeal.Run

end
-- ==== Proof.AttnBody.lean ====
module

public import proofs.«01_k».proof.Proof.AttnParts

@[expose] public section

set_option maxRecDepth 16384

noncomputable section

namespace Cert.AttnIdeal.Run

open Cert.AttnIdeal Cert.AttnIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Block `j` of a gradient laid out by rows replaced. -/
def setBlk (x : Vec F S4096x128 .bf16) (j : ℕ) (w : Vec F S256x128 .bf16) : Vec F S4096x128 .bf16 :=
  fun y => if (y 0).val / 256 = j then w (ix2 (n0 := 256) (n1 := 128) ⟨(y 0).val % 256, Nat.mod_lt _ (by decide)⟩ (y 1)) else x y

/-- The carried gradients, transposed and rounded. -/
def packed (x : Vec F S16x128x256 .f32) : Vec F S4096x128 .bf16 :=
  fun y => k0_pay5 (row x ((y 0).val / 256)) (ix2 (n0 := 256) (n1 := 128) ⟨(y 0).val % 256, Nat.mod_lt _ (by decide)⟩ (y 1))

theorem write_blk (a : Memref sig .tc .vmem S4096x128 .bf16) (f : BufTy.Contents (Elt F) a.view.ty) (n j : ℕ) (hn : n = 256 * j)
    (inb : ∀ k, (![n, 0] : Fin 2 → ℕ) k + (![256, 128] : Fin 2 → ℕ) k ≤ S4096x128.size k) (w : Vec F S256x128 .bf16) (L : List (View.Piece (Elt F) S4096x128 .bf16)) :
    a.view.read (Elt F) (a.view.writes (Elt F) f (⟨Rect.unit (s := S4096x128) ![n, 0] ![256, 128] inb, w⟩ :: L)) = setBlk (a.view.read (Elt F) (a.view.writes (Elt F) f L)) j w := by
  subst hn
  rw [View.read_writes_cons_put a.view f inb w L rfl]
  funext y
  have h1 : (y 1).val < 128 := (y 1).isLt
  unfold VecWindow.put setBlk
  by_cases hy : (y 0).val / 256 = j
  · have hm : ∀ k : Fin 2, (![256 * j, 0] : Fin 2 → ℕ) k ≤ (y k).val ∧ (y k).val < (![256 * j, 0] : Fin 2 → ℕ) k + S256x128.size k := fun k => by
      match k with
      | 0 => exact ⟨by show 256 * j ≤ (y 0).val; omega, by show (y 0).val < 256 * j + 256; omega⟩
      | 1 => exact ⟨Nat.zero_le _, by show (y 1).val < 0 + 128; omega⟩
    rw [if_pos hy, dif_pos hm]
    refine congrArg w (funext fun k => Fin.ext ?_)
    match k with
    | 0 => show (y 0).val - 256 * j = (y 0).val % 256; omega
    | 1 => show (y 1).val - 0 = (y 1).val; omega
  · rw [if_neg hy, dif_neg]
    intro hm
    have h0 : 256 * j ≤ (y 0).val ∧ (y 0).val < 256 * j + 256 := hm 0
    omega

/-- The blocks below `n` replaced. -/
def pack (x : Vec F S16x128x256 .f32) (o : Vec F S4096x128 .bf16) : ℕ → Vec F S4096x128 .bf16
  | 0 => o
  | j + 1 => setBlk (pack x o j) j (k0_pay5 (row x j))

theorem pack_at (x : Vec F S16x128x256 .f32) (o : Vec F S4096x128 .bf16) (y : S4096x128.Idx) (n : ℕ) :
    pack x o n y = if (y 0).val / 256 < n then packed x y else o y := by
  induction n with
  | zero => rfl
  | succ n ih =>
    show (if (y 0).val / 256 = n then k0_pay5 (row x n) _ else pack x o n y) = _
    rw [ih]
    by_cases h : (y 0).val / 256 = n
    · rw [if_pos h, if_pos (by omega)]
      subst h; rfl
    · by_cases h' : (y 0).val / 256 < n
      · rw [if_neg h, if_pos h', if_pos (by omega)]
      · rw [if_neg h, if_neg h', if_neg (by omega)]

theorem pack_eq (x : Vec F S16x128x256 .f32) (o : Vec F S4096x128 .bf16) : pack x o 16 = packed x := by
  funext y
  have h : (y 0).val < 4096 := (y 0).isLt
  rw [pack_at, if_pos (by omega)]

theorem read_lit (a : Memref sig .tc .vmem S16x128x256 .f32) (f : BufTy.Contents (Elt F) a.view.ty) (j : ℕ)
    (inb : ∀ k, (![j, 0, 0] : Fin 3 → ℕ) k + (![1, 128, 256] : Fin 3 → ℕ) k ≤ S16x128x256.size k) :
    a.view.readAt (Elt F) (Rect.unit (s := S16x128x256) ![j, 0, 0] ![1, 128, 256] inb).toLoadRect f = row (a.view.read (Elt F) f) j := read_row a f j rfl inb

/-- The gradients of the keys and of the values leave scratch with the last block of queries. -/
def out (i : grid0.Coords) (x : Vec F S16x128x256 .f32) (o : Vec F S4096x128 .bf16) : Vec F S4096x128 .bf16 := if (i 2).val = 15 then packed x else o

/-- What a point holds. -/
structure In (F : FTy → Type) where
  x3 : Vec F S256x128 .bf16
  xk : Vec F S4096x128 .bf16
  xv : Vec F S4096x128 .bf16
  x6 : Vec F S256x256 .f32
  x7 : Vec F S256x128 .bf16
  su : Vec F S256x256 .bf16
  pr : Vec F S256x256 .bf16

def In.pt (X : In F) : Pt F := Run.pt X.x3 X.x7 X.x6 X.su X.pr
/-- The state when a point's key blocks have passed. -/
def In.fin (X : In F) (i : grid0.Coords) (x y : Vec F S16x128x256 .f32) : St F := all i X.pt X.xk X.xv (start (cleared i x) (cleared i y))

/-- The blocks of queries, tables and cotangents. -/
def blocks (c : Dev nD) (A : Args) (X : In F) : sProp 𝕄 :=
  iprop(owns (c : Thread nD τ) A.a3 fullShare X.x3 ∗ owns (c : Thread nD τ) A.a6 fullShare X.x6 ∗ owns (c : Thread nD τ) A.a7 fullShare X.x7)
def outs (c : Dev nD) (A : Args) (o10 : Vec F S256x128 .bf16) (o11 o12 : Vec F S4096x128 .bf16) : sProp 𝕄 :=
  iprop(owns (c : Thread nD τ) A.a10 fullShare o10 ∗ owns (c : Thread nD τ) A.a11 fullShare o11 ∗ owns (c : Thread nD τ) A.a12 fullShare o12)

set_option maxHeartbeats 4000000 in
theorem point (c : Dev nD) (E : Set ℕ) (i : grid0.Coords) (A : Args) (X : In F) (x y : Vec F S16x128x256 .f32) (o10 : Vec F S256x128 .bf16) (o11 o12 : Vec F S4096x128 .bf16) :
    iprop(blocks c A X ∗ reads c A X.pt X.xk X.xv ∗ held c A x y ∗ outs c A o10 o11 o12)
    ⊢ wp frame (wpE (defs₀ (F := F)) Variants.none (c : Thread nD τ) none) E (cc0_attn_bwd i A.a3 A.h3 A.a4 A.h4 A.a5 A.h5 A.a6 A.h6 A.a7 A.h7 A.a8 A.h8 A.a9 A.h9 A.a10 A.h10 A.a11 A.h11 A.a12 A.h12 A.a13 A.h13 A.a14 A.h14)
      (fun _ => iprop(blocks c A X ∗ reads c A X.pt X.xk X.xv ∗ held c A (X.fin i x y).xk (X.fin i x y).xv
        ∗ outs c A (k0_pay4 (X.fin i x y).dq) (out i (X.fin i x y).xk o11) (out i (X.fin i x y).xv o12))) := by
  rw [cc0_attn_bwd_eq_skeleton]
  unfold cc0_attn_bwd_skel blocks
  iintro ⟨⟨H3, H6, H7⟩, HR, HH, HO⟩
  rw [wp_bind]
  iapply wp_wand_r
  isplitl [HH]
  · iapply (part45 c E i A x y); iexact HH
  iintro %r ⟨%h, HH⟩
  subst h
  unfold begun
  dsimp -zeta only
  rw [wp_bind]
  iapply wp_wand_r
  isplitl [H3 H7]
  · iapply (part46 c E i A X.x3 X.x7 X.x6 X.su X.pr)
    isplitl [H3]; · iexact H3
    iexact H7
  iintro %r ⟨%h, H3, H7⟩
  subst h
  dsimp -zeta only
  rw [wp_bind]
  iapply wp_wand_r
  isplitl [H6]
  · iapply (part47 c E i A X.x3 X.x7 X.x6 X.su X.pr)
    iexact H6
  iintro %r ⟨%h, H6⟩
  subst h
  dsimp -zeta only
  rw [wp_bind]
  iapply wp_wand_r
  isplitl [HR HH]
  · iapply (part48 c E i A X.pt X.xk X.xv (cleared i x) (cleared i y))
    isplitl [HR]; · iexact HR
    iexact HH
  iintro %r ⟨%h, HR, HH⟩
  subst h
  dsimp -zeta only
  generalize hs : most i X.pt X.xk X.xv (start (cleared i x) (cleared i y)) = s
  have hf : X.fin i x y = stepAt X.pt X.xk X.xv (some mask) (i 2).val (if (i 2).val % 2 = 1 then stepAt X.pt X.xk X.xv none ((i 2).val - 1) s else s) := by
    rw [← hs]
    unfold In.fin all most
    congr 1
    split
    · rw [show 2 * ((i 2).val / 2) = (i 2).val - 1 by omega, show upTo X.pt X.xk X.xv (start (cleared i x) (cleared i y)) (i 2).val = upTo X.pt X.xk X.xv (start (cleared i x) (cleared i y)) ((i 2).val - 1 + 1) by rw [show (i 2).val - 1 + 1 = (i 2).val by omega]]
      rfl
    · rw [show 2 * ((i 2).val / 2) = (i 2).val by omega]
  generalize X.fin i x y = t at hf ⊢
  clear hs
  unfold reads held outs owns
  icases H3 with ⟨%f3, %e3, H3⟩
  icases H6 with ⟨%f6, %e6, H6⟩
  icases H7 with ⟨%f7, %e7, H7⟩
  icases HR with ⟨⟨%f4, %e4, H4⟩, ⟨%f5, %e5, H5⟩, ⟨%f8, %e8, H8⟩, ⟨%f9, %e9, H9⟩⟩
  icases HH with ⟨⟨%f13, %e13, H13⟩, ⟨%f14, %e14, H14⟩⟩
  icases HO with ⟨⟨%f10, %e10, H10⟩, ⟨%f11, %e11, H11⟩, ⟨%f12, %e12, H12⟩⟩
  by_cases h3 : (i 2).val % 2 = 1
  · have hc := (cond3 i).mpr h3
    rw [if_pos h3] at hf
    sl_exec (disch := exact hc)
    subst hf
    sl_step
    isplitl [H3 H6 H7]
    · isplitl [H3]
      · iexists f3; isplitr; (ipureintro; exact e3); iexact H3
      isplitl [H6]
      · iexists f6; isplitr; (ipureintro; exact e6); iexact H6
      iexists f7; isplitr; (ipureintro; exact e7); iexact H7
    isplitl [H4 H5 H8 H9]
    · isplitl [H4]
      · iexists f4; isplitr; (ipureintro; exact e4); iexact H4
      isplitl [H5]
      · iexists f5; isplitr; (ipureintro; exact e5); iexact H5
      isplitl [H8]
      · iexists f8; isplitr; (ipureintro; exact e8); iexact H8
      iexists f9; isplitr; (ipureintro; exact e9); iexact H9
    isplitl [H13 H14]
    · isplitl [H13]
      · iexists _; isplitr; swap; iexact H13
        ipureintro
        sl_unfold_run_names
        simp only [read_tri, e4, e5, e8, e9, prev_word i hc, read_blk _ _ _ (off7 i hc), read_blk _ _ _ (off8 i), read_row _ _ _ (off9 i hc), read_row _ _ _ (off10 i), write_row _ _ _ (off9 i hc), write_row _ _ _ (off10 i), View.writes_nil, e13, e14]
        rfl
      · iexists _; isplitr; swap; iexact H14
        ipureintro
        sl_unfold_run_names
        simp only [read_tri, e4, e5, e8, e9, prev_word i hc, read_blk _ _ _ (off7 i hc), read_blk _ _ _ (off8 i), read_row _ _ _ (off9 i hc), read_row _ _ _ (off10 i), write_row _ _ _ (off9 i hc), write_row _ _ _ (off10 i), View.writes_nil, e13, e14]
        rfl
    isplitl [H10]
    · iexists _; isplitr; swap; iexact H10
      ipureintro
      refine (View.read_writes_full A.a10.view f10 _ _ []).trans ?_
      sl_unfold_run_names
      simp only [read_tri, e4, e5, e8, e9, prev_word i hc, read_blk _ _ _ (off7 i hc), read_blk _ _ _ (off8 i), read_row _ _ _ (off9 i hc), read_row _ _ _ (off10 i), write_row _ _ _ (off9 i hc), write_row _ _ _ (off10 i)]
      rfl
    isplitl [H11]
    · iexists _; isplitr; swap; iexact H11
      ipureintro
      unfold out
      by_cases h4 : (i 2).val = 15
      · rw [if_pos h4, dif_pos ((cond4 i).mpr h4)]
        sl_unfold_run_names
        simp only [read_blk _ _ _ (off7 i hc), read_blk _ _ _ (off8 i), read_row _ _ _ (off9 i hc), read_row _ _ _ (off10 i), write_row _ _ _ (off9 i hc), write_row _ _ _ (off10 i), read_tri, e4, e5, e8, e9, prev_word i hc, View.writes_nil, e13, e14, e11, e12, read_lit, write_blk _ _ 0 0 rfl, write_blk _ _ 256 1 rfl, write_blk _ _ 512 2 rfl, write_blk _ _ 768 3 rfl, write_blk _ _ 1024 4 rfl, write_blk _ _ 1280 5 rfl, write_blk _ _ 1536 6 rfl, write_blk _ _ 1792 7 rfl, write_blk _ _ 2048 8 rfl, write_blk _ _ 2304 9 rfl, write_blk _ _ 2560 10 rfl, write_blk _ _ 2816 11 rfl, write_blk _ _ 3072 12 rfl, write_blk _ _ 3328 13 rfl, write_blk _ _ 3584 14 rfl, write_blk _ _ 3840 15 rfl]
        exact pack_eq _ o11
      · rw [if_neg h4, dif_neg (mt (cond4 i).mp h4)]
        exact e11
    · iexists _; isplitr; swap; iexact H12
      ipureintro
      unfold out
      by_cases h4 : (i 2).val = 15
      · rw [if_pos h4, dif_pos ((cond4 i).mpr h4)]
        sl_unfold_run_names
        simp only [read_blk _ _ _ (off7 i hc), read_blk _ _ _ (off8 i), read_row _ _ _ (off9 i hc), read_row _ _ _ (off10 i), write_row _ _ _ (off9 i hc), write_row _ _ _ (off10 i), read_tri, e4, e5, e8, e9, prev_word i hc, View.writes_nil, e13, e14, e11, e12, read_lit, write_blk _ _ 0 0 rfl, write_blk _ _ 256 1 rfl, write_blk _ _ 512 2 rfl, write_blk _ _ 768 3 rfl, write_blk _ _ 1024 4 rfl, write_blk _ _ 1280 5 rfl, write_blk _ _ 1536 6 rfl, write_blk _ _ 1792 7 rfl, write_blk _ _ 2048 8 rfl, write_blk _ _ 2304 9 rfl, write_blk _ _ 2560 10 rfl, write_blk _ _ 2816 11 rfl, write_blk _ _ 3072 12 rfl, write_blk _ _ 3328 13 rfl, write_blk _ _ 3584 14 rfl, write_blk _ _ 3840 15 rfl]
        exact pack_eq _ o12
      · rw [if_neg h4, dif_neg (mt (cond4 i).mp h4)]
        exact e12
  · have hc := mt (cond3 i).mp h3
    rw [if_neg h3] at hf
    sl_exec (disch := exact hc)
    subst hf
    sl_step
    isplitl [H3 H6 H7]
    · isplitl [H3]
      · iexists f3; isplitr; (ipureintro; exact e3); iexact H3
      isplitl [H6]
      · iexists f6; isplitr; (ipureintro; exact e6); iexact H6
      iexists f7; isplitr; (ipureintro; exact e7); iexact H7
    isplitl [H4 H5 H8 H9]
    · isplitl [H4]
      · iexists f4; isplitr; (ipureintro; exact e4); iexact H4
      isplitl [H5]
      · iexists f5; isplitr; (ipureintro; exact e5); iexact H5
      isplitl [H8]
      · iexists f8; isplitr; (ipureintro; exact e8); iexact H8
      iexists f9; isplitr; (ipureintro; exact e9); iexact H9
    isplitl [H13 H14]
    · isplitl [H13]
      · iexists _; isplitr; swap; iexact H13
        ipureintro
        sl_unfold_run_names
        simp only [read_tri, e4, e5, e8, e9, read_blk _ _ _ (off11 i), read_row _ _ _ (off12 i), write_row _ _ _ (off12 i), View.writes_nil, e13, e14]
        rfl
      · iexists _; isplitr; swap; iexact H14
        ipureintro
        sl_unfold_run_names
        simp only [read_tri, e4, e5, e8, e9, read_blk _ _ _ (off11 i), read_row _ _ _ (off12 i), write_row _ _ _ (off12 i), View.writes_nil, e13, e14]
        rfl
    isplitl [H10]
    · iexists _; isplitr; swap; iexact H10
      ipureintro
      refine (View.read_writes_full A.a10.view f10 _ _ []).trans ?_
      sl_unfold_run_names
      simp only [read_tri, e4, e5, e8, e9, read_blk _ _ _ (off11 i), read_row _ _ _ (off12 i), write_row _ _ _ (off12 i)]
      rfl
    have h4 : ¬(i 2).val = 15 := by omega
    isplitl [H11]
    · iexists _; isplitr; swap; iexact H11
      ipureintro
      rw [dif_neg (mt (cond4 i).mp h4)]
      exact e11.trans (if_neg h4).symm
    · iexists _; isplitr; swap; iexact H12
      ipureintro
      rw [dif_neg (mt (cond4 i).mp h4)]
      exact e12.trans (if_neg h4).symm

end Cert.AttnIdeal.Run

end
-- ==== Proof.AttnFrame.lean ====
module

public import proofs.«01_k».proof.Proof.AttnBody
public import proofs.«01_k».proof.Proof.Gen.AttnIdeal.Points
public import proofs.«01_k».proof.Proof.Gen.AttnIdeal.Launch
public import Idealize.ShloMosaic.Lib.Pipeline.FrameBody
public import Idealize.ShloMosaic.Lib.Claim

@[expose] public section

set_option maxRecDepth 16384

noncomputable section

namespace Cert.AttnIdeal.Run

open Cert.AttnIdeal Cert.AttnIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the call. -/
abbrev lines : List (List (HloOp τ sig (Elt F))) := [hostOps0, hostOps0_1, hostOps0_2, hostOps0_3, hostOps0_4, hostOps0_5]

/-- What a buffer holds when the call is entered. -/
abbrev V (c : Dev nD) (b : Ref sig .tc) : Buf (Elt F) ((c : Thread nD τ).loc b) := StableHlo.after (List.flatten lines) (fun b => m (c, b)) b

theorem lines_fresh : (lines (F := F)).Forall fun l => l.Forall fun op => op.fresh = ∅ := by
  simp only [lines, List.Forall]
  repeat' constructor

theorem entered (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main lines
    (by simp only [lines, List.Forall]; exact ⟨hostOps0_sub, hostOps0_1_sub, hostOps0_2_sub, hostOps0_3_sub, hostOps0_4_sub, hostOps0_5_sub⟩)
    lines_fresh main_chain

/-- The host lines write neither argument. -/
theorem V_arg (c : Dev nD) : V m c main_arg0 = m ((c : Thread nD τ).loc main_arg0) ∧ V m c main_arg1 = m ((c : Thread nD τ).loc main_arg1) := by
  constructor <;>
  · refine StableHlo.after_of_forall_not_mem (b := Proc.devRef .tc _) _ _ (List.forall_iff_forall_mem.mp ?_)
    simp only [lines, hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the point's body works on. -/
def cell (c : Dev nD) (t : Fin cfg0.N) : In F where
  x3 := iblk m c 0 t
  xk := iblk m c 1 t
  xv := iblk m c 2 t
  x6 := iblk m c 3 t
  x7 := iblk m c 4 t
  su := iblk m c 5 t
  pr := iblk m c 6 t

/-- The carried gradients a point finds. -/
def found (c : Dev nD) : (n : ℕ) → n ≤ cfg0.N → Vec F S16x128x256 .f32 × Vec F S16x128x256 .f32
  | 0, _ => (k0_pay378, k0_pay378)
  | n + 1, h =>
    let s := (cell m c ⟨n, h⟩).fin (grid0.coords ⟨n, h⟩) (found c n (Nat.le_of_lt h)).1 (found c n (Nat.le_of_lt h)).2
    (s.xk, s.xv)

/-- The state a point ends with. -/
def state (c : Dev nD) (t : Fin cfg0.N) : St F :=
  (cell m c t).fin (grid0.coords t) (found m c t.val (Nat.le_of_lt t.isLt)).1 (found m c t.val (Nat.le_of_lt t.isLt)).2

theorem coord2 (t : Fin cfg0.N) : (grid0.coords t 2).val = t.val % 16 :=
  (Pipeline.Grid.coords_val (S := 1) t 2 (by decide) rfl).trans (by rw [Nat.div_one]; rfl)

/-- Scratch between points. -/
def kept (c : Dev nD) : (n : ℕ) → n ≤ cfg0.N → sProp 𝕄
  | 0, _ => Pipeline.ΦA spec0 c
  | n + 1, h => iprop(iprop(owns (c : Thread nD τ) (Memref.whole cc0_scratch0) fullShare (found m c (n + 1) h).1 ∗ owns (c : Thread nD τ) (Memref.whole cc0_scratch1) fullShare (found m c (n + 1) h).2) ∗ (∃ r, prngReg c r))

theorem any_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA
  rw [scopedRest0_eq]
  simp only [owns_whole]

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay4 (state m c t).dq
    | ⟨8, _⟩ => packed (state m c t).xk
    | ⟨9, _⟩ => packed (state m c t).xv
  Φ t := kept m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_eq (c : Dev nD) (t : Fin (cfg0.N + 1)) : (dats m 0 c).Φ t = kept m c t.val (Nat.le_of_lt_succ t.isLt) := by
  dsimp only [dats]

/-- An input's buffer holds its block at every point. -/
theorem before_block (c : Dev nD) (w : Fin cfg0.W) (hw : (cfg0.win w).isOut = false) (hl : ∀ i, cfg0.idle w i = false)
    (hc : ∀ t t' : Fin cfg0.N, (cfg0.win w).index t = (cfg0.win w).index t' → (cfg0.win w).clip (cfg0.grid.coords t) = (cfg0.win w).clip (cfg0.grid.coords t'))
    (hk : ∀ t, (cfg0.win w).cut (cfg0.grid.coords t) ((dats m 0 c).after w t) = iblk m c w t) (t : Fin cfg0.N) (d) :
    (dats m 0 c).before w t d = (dats m 0 c).fetched w t d :=
  (dats m 0 c).before_in_eq_fetched w hw hl hc (fun t => by rw [hk]; unfold Dat.blockOf iblk; rw [A_eq]) t d

theorem block_eq (c : Dev nD) (w : Fin cfg0.W) (t : Fin cfg0.N) : (dats m 0 c).blockOf w t = iblk m c w t := by
  unfold Dat.blockOf iblk
  rw [A_eq]

theorem before_in (c : Dev nD) (t : Fin cfg0.N) :
    (∀ d, (dats m 0 c).before 0 t d = (cell m c t).x3) ∧ (∀ d, (dats m 0 c).before 1 t d = (cell m c t).xk)
    ∧ (∀ d, (dats m 0 c).before 2 t d = (cell m c t).xv) ∧ (∀ d, (dats m 0 c).before 3 t d = (cell m c t).x6)
    ∧ (∀ d, (dats m 0 c).before 4 t d = (cell m c t).x7) ∧ (∀ d, (dats m 0 c).before 5 t d = (cell m c t).su)
    ∧ (∀ d, (dats m 0 c).before 6 t d = (cell m c t).pr) := by
  refine ⟨fun d => ?_, fun d => ?_, fun d => ?_, fun d => ?_, fun d => ?_, fun d => ?_, fun d => ?_⟩ <;>
  · refine (before_block m c _ rfl (fun _ => rfl) (fun _ _ _ => rfl) (fun t => by dsimp only [dats]) t d).trans ?_
    dsimp only [cell]
    unfold Dat.fetched Dat.blockOf iblk
    rw [A_eq]
    rfl

theorem last_written : ∀ t : Fin cfg0.N, t.val % 16 = 15 → cfg0.idle 8 (grid0.coords t) = false ∧ cfg0.idle 9 (grid0.coords t) = false := by
  decide +kernel

theorem not_last : ∀ t : Fin cfg0.N, t.val % 16 ≠ 15 → (cfg0.idle 8 (grid0.coords t) = true ∧ (cfg0.win 8).flush t = false)
    ∧ (cfg0.idle 9 (grid0.coords t) = true ∧ (cfg0.win 9).flush t = false) := by
  decide +kernel

/-- The memrefs the body is called with. -/
def args (t : Fin cfg0.N) : Args where
  a3 := win0_0.stage (cfg0.slots t 0)
  h3 := hstage0_0 ((cfg0.slots t 0).cast nbuf0_0)
  a4 := win0_1.stage (cfg0.slots t 1)
  h4 := hstage0_1 ((cfg0.slots t 1).cast nbuf0_1)
  a5 := win0_2.stage (cfg0.slots t 2)
  h5 := hstage0_2 ((cfg0.slots t 2).cast nbuf0_2)
  a6 := win0_3.stage (cfg0.slots t 3)
  h6 := hstage0_3 ((cfg0.slots t 3).cast nbuf0_3)
  a7 := win0_4.stage (cfg0.slots t 4)
  h7 := hstage0_4 ((cfg0.slots t 4).cast nbuf0_4)
  a8 := win0_5.stage (cfg0.slots t 5)
  h8 := hstage0_5 ((cfg0.slots t 5).cast nbuf0_5)
  a9 := win0_6.stage (cfg0.slots t 6)
  h9 := hstage0_6 ((cfg0.slots t 6).cast nbuf0_6)
  a10 := win0_7.stage (cfg0.slots t 7)
  h10 := hstage0_7 ((cfg0.slots t 7).cast nbuf0_7)
  a11 := win0_8.stage (cfg0.slots t 8)
  h11 := hstage0_8 ((cfg0.slots t 8).cast nbuf0_8)
  a12 := win0_9.stage (cfg0.slots t 9)
  h12 := hstage0_9 ((cfg0.slots t 9).cast nbuf0_9)
  a13 := Memref.whole cc0_scratch0
  h13 := Memref.isWhole_whole _
  a14 := Memref.whole cc0_scratch1
  h14 := Memref.isWhole_whole _

/-- The seven inputs' buffers at a point. -/
def ins (c : Dev nD) (t : Fin cfg0.N) : sProp 𝕄 :=
  iprop(owns (c : Thread nD τ) (args t).a3 fullShare (cell m c t).x3 ∗ owns (c : Thread nD τ) (args t).a4 fullShare (cell m c t).xk
    ∗ owns (c : Thread nD τ) (args t).a5 fullShare (cell m c t).xv ∗ owns (c : Thread nD τ) (args t).a6 fullShare (cell m c t).x6
    ∗ owns (c : Thread nD τ) (args t).a7 fullShare (cell m c t).x7 ∗ owns (c : Thread nD τ) (args t).a8 fullShare (cell m c t).su
    ∗ owns (c : Thread nD τ) (args t).a9 fullShare (cell m c t).pr)

theorem ins_eq (c : Dev nD) (t : Fin cfg0.N) : ins m c t ⊣⊢ iprop(blocks c (args t) (cell m c t) ∗ reads c (args t) (cell m c t).pt (cell m c t).xk (cell m c t).xv) := by
  unfold ins blocks reads
  constructor
  · iintro ⟨H0, H1, H2, H3, H4, H5, H6⟩
    isplitl [H0 H3 H4]
    · isplitl [H0]; · iexact H0
      isplitl [H3]; · iexact H3
      iexact H4
    isplitl [H1]; · iexact H1
    isplitl [H2]; · iexact H2
    isplitl [H5]; · iexact H5
    iexact H6
  · iintro ⟨⟨H0, H3, H4⟩, ⟨H1, H2, H5, H6⟩⟩
    isplitl [H0]; · iexact H0
    isplitl [H1]; · iexact H1
    isplitl [H2]; · iexact H2
    isplitl [H3]; · iexact H3
    isplitl [H4]; · iexact H4
    isplitl [H5]; · iexact H5
    iexact H6

/-- Whatever the first point finds, it ends with the same state. -/
theorem kept_state (c : Dev nD) (t : Fin cfg0.N) :
    kept m c t.val (Nat.le_of_lt t.isLt) ⊢ (iprop(∃ x y, ⌜(cell m c t).fin (grid0.coords t) x y = state m c t⌝
      ∗ held c (args t) x y ∗ (∃ r, prngReg c r)) : sProp 𝕄) := by
  unfold held
  obtain ⟨n, hn⟩ := t
  cases n with
  | zero =>
    show Pipeline.ΦA spec0 c ⊢ _
    rw [any_eq]
    iintro ⟨⟨⟨%x, H0⟩, ⟨%y, H1⟩⟩, Hg⟩
    iexists x, y
    isplitr
    · ipureintro
      have h : (grid0.coords ⟨0, hn⟩ 2).val = 0 := coord2 _
      unfold state In.fin cleared
      rw [if_pos h, if_pos h, if_pos h, if_pos h]
    isplitl [H0 H1]
    · isplitl [H0]
      · iexact H0
      iexact H1
    iexact Hg
  | succ n =>
    unfold kept
    iintro ⟨⟨H0, H1⟩, Hg⟩
    iexists _, _
    isplitr
    swap
    · isplitl [H0 H1]
      · isplitl [H0]
        · iexact H0
        iexact H1
      iexact Hg
    ipureintro
    rfl

theorem kept_next (c : Dev nD) (t : Fin cfg0.N) :
    (iprop(held c (args t) (state m c t).xk (state m c t).xv ∗ (∃ r, prngReg c r)) : sProp 𝕄) ⊢ kept m c (t.val + 1) t.isLt := by
  unfold held
  exact .rfl

/-- A point's body, over its inputs, scratch and outputs. -/
theorem body_at (c : Dev nD) (t : Fin cfg0.N) (o10 : Vec F S256x128 .bf16) (o11 o12 : Vec F S4096x128 .bf16) :
    (iprop(kept m c t.val (Nat.le_of_lt t.isLt) ∗ ins m c t ∗ outs c (args t) o10 o11 o12) : sProp 𝕄)
    ⊢ wp frame (wpE (defs₀ (F := F)) Variants.none (c : Thread nD τ) none) Set.univ (bodyAt0 t)
      (fun _ => iprop(kept m c (t.val + 1) t.isLt ∗ ins m c t ∗ outs c (args t) (k0_pay4 (state m c t).dq)
        (out (grid0.coords t) (state m c t).xk o11) (out (grid0.coords t) (state m c t).xv o12))) := by
  iintro ⟨HK, HI, HO⟩
  icases (kept_state m c t) $$ HK with ⟨%x, %y, %h, HS, Hg⟩
  icases (ins_eq m c t).1 $$ HI with ⟨HB, HR⟩
  iapply wp_wand_r
  isplitl [HB HR HO HS]
  · iapply (point c Set.univ (grid0.coords t) (args t) (cell m c t) x y o10 o11 o12)
    isplitl [HB]; · iexact HB
    isplitl [HR]; · iexact HR
    isplitl [HS]; · iexact HS
    iexact HO
  iintro %r ⟨HB, HR, HS, HO⟩
  rw [h]
  isplitl [HS Hg]
  · iapply (kept_next m c t)
    isplitl [HS]
    · iexact HS
    iexact Hg
  isplitl [HB HR]
  · iapply (ins_eq m c t).2
    isplitl [HB]; · iexact HB
    iexact HR
  iexact HO

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact
  rw [h]

/-- The inputs are left as they were. -/
theorem leaves_ins (c : Dev nD) (t : Fin cfg0.N) : ins m c t ⊢ (iprop((dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t ∗ (dats m 0 c).leavesExact 6 t) : sProp 𝕄) := by
  rw [leaves_live m c 0 t rfl, leaves_live m c 1 t rfl, leaves_live m c 2 t rfl, leaves_live m c 3 t rfl, leaves_live m c 4 t rfl, leaves_live m c 5 t rfl, leaves_live m c 6 t rfl]
  unfold ins
  dsimp only [dats, cell, args]
  exact .rfl

/-- What the outputs hold after a point is what the pipeline is to find there. -/
theorem leaves_outs (c : Dev nD) (t : Fin cfg0.N) (d8 d9) :
    outs c (args t) (k0_pay4 (state m c t).dq) (out (grid0.coords t) (state m c t).xk ((dats m 0 c).before 8 t d8)) (out (grid0.coords t) (state m c t).xv ((dats m 0 c).before 9 t d9))
    ⊢ (iprop((dats m 0 c).leavesExact 7 t ∗ (dats m 0 c).leavesExact 8 t ∗ (dats m 0 c).leavesExact 9 t) : sProp 𝕄) := by
  rw [leaves_live m c 7 t rfl]
  unfold outs out
  rw [coord2]
  by_cases h : t.val % 16 = 15
  · rw [leaves_live m c 8 t (last_written t h).1, leaves_live m c 9 t (last_written t h).2, if_pos h, if_pos h]
    dsimp only [dats]
    exact .rfl
  · rw [(dats m 0 c).leavesExact_idle 8 t (not_last t h).1.1 (not_last t h).1.2, (dats m 0 c).leavesExact_idle 9 t (not_last t h).2.1 (not_last t h).2.2, if_neg h, if_neg h]
    iintro ⟨H7, H8, H9⟩
    isplitl [H7]
    · iexact H7
    isplitl [H8]
    · iexists d8
      iexact H8
    iexists d9
    iexact H9

/-- The inputs as the pipeline hands them over. -/
theorem finds_ins (c : Dev nD) (t : Fin cfg0.N) (d0 d1 d2 d3 d4 d5 d6) :
    (iprop(owns (c : Thread nD τ) (args t).a3 fullShare ((dats m 0 c).before 0 t d0) ∗ owns (c : Thread nD τ) (args t).a4 fullShare ((dats m 0 c).before 1 t d1)
    ∗ owns (c : Thread nD τ) (args t).a5 fullShare ((dats m 0 c).before 2 t d2) ∗ owns (c : Thread nD τ) (args t).a6 fullShare ((dats m 0 c).before 3 t d3)
    ∗ owns (c : Thread nD τ) (args t).a7 fullShare ((dats m 0 c).before 4 t d4) ∗ owns (c : Thread nD τ) (args t).a8 fullShare ((dats m 0 c).before 5 t d5)
    ∗ owns (c : Thread nD τ) (args t).a9 fullShare ((dats m 0 c).before 6 t d6)) : sProp 𝕄) ⊢ ins m c t := by
  obtain ⟨h0, h1, h2, h3, h4, h5, h6⟩ := before_in m c t
  rw [h0, h1, h2, h3, h4, h5, h6]
  exact .rfl

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  dsimp only
  rw [inv_eq, inv_eq]
  iintro ⟨HK, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply wp_wand_r
  isplitr [Ho]
  · iapply (body_at m c t ((dats m 0 c).before 7 t d7) ((dats m 0 c).before 8 t d8) ((dats m 0 c).before 9 t d9))
    isplitl [HK]; · iexact HK
    isplitr [H7 H8 H9]
    · iapply (finds_ins m c t d0 d1 d2 d3 d4 d5 d6)
      isplitl [H0]; · iexact H0
      isplitl [H1]; · iexact H1
      isplitl [H2]; · iexact H2
      isplitl [H3]; · iexact H3
      isplitl [H4]; · iexact H4
      isplitl [H5]; · iexact H5
      iexact H6
    · unfold outs
      isplitl [H7]; · iexact H7
      isplitl [H8]; · iexact H8
      iexact H9
  iintro %r ⟨HK, HI, HO⟩
  icases (leaves_ins m c t) $$ HI with ⟨H0, H1, H2, H3, H4, H5, H6⟩
  icases (leaves_outs m c t d8 d9) $$ HO with ⟨H7, H8, H9⟩
  isplitl [HK]; · iexact HK
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem first (c : Dev nD) : Pipeline.ΦA spec0 c ⊢ (dats m 0 c).Φ 0 := by
  rw [inv_eq]
  exact .rfl

theorem last (c : Dev nD) : (dats m 0 c).Φ (Fin.last cfg0.N) ⊢ Pipeline.ΦA spec0 c := by
  have h : ∀ n (hn : n ≤ cfg0.N), kept m c n hn ⊢ Pipeline.ΦA spec0 c := fun n hn => by
    cases n with
    | zero => exact .rfl
    | succ n =>
      rw [any_eq]
      unfold kept
      iintro ⟨⟨H0, H1⟩, Hg⟩
      isplitl [H0 H1]
      · isplitl [H0]
        · iexists _; iexact H0
        iexists _; iexact H1
      iexact Hg
  rw [inv_eq]
  exact h _ _

set_option backward.isDefEq.respectTransparency.types false in
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := entered m Variants.none) (hA := A_eq m) (hin := first m) (hout := last m)

/-- Every run ends, with the three gradients as the pipeline leaves them, the arguments unchanged and no signal pending. -/
theorem run : θ_run defs (onTc (τ := τ) (main (F := F))) ⟨m, fun _ => 0, ρ⟩ fun r => (∀ c : Dev nD,
      r.2.mem ((c : Thread nD τ).loc main_v36_0) = (dats m 0 c).arrAt 7 cfg0.N
      ∧ r.2.mem ((c : Thread nD τ).loc main_v36_1) = (dats m 0 c).arrAt 8 cfg0.N
      ∧ r.2.mem ((c : Thread nD τ).loc main_v36_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => ⟨(h.1 c).1 7, (h.1 c).1 8, (h.1 c).1 9,
    ((h.1 c).2 main_arg0 (Pipeline.mem_restRefs_of main_arg0 (by decide) (by decide))).trans (V_arg m c).1,
    ((h.1 c).2 main_arg1 (Pipeline.mem_restRefs_of main_arg1 (by decide) (by decide))).trans (V_arg m c).2⟩, h.2⟩) (run_all m ρ)

theorem frame_any : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c => (h.1 c).2.2.2, h.2⟩) (run m ρ)

end Cert.AttnIdeal.Run

end
-- ==== Proof.AttnReal.lean ====
module

public import Idealize.ShloMosaic.Lib.Pointwise
public import Idealize.ShloMosaic.PureOps.Ideal.Laws

@[expose] public section

noncomputable section

namespace Cert.Stick

open Finset

/-- The softplus, and its derivative. -/
def sp (x : ℝ) : ℝ := Real.log (1 + Real.exp x)
def sg (x : ℝ) : ℝ := Real.exp (x - sp x)

theorem sub_sp (x : ℝ) : x - sp x = -sp (-x) := by
  unfold sp
  rw [show 1 + Real.exp x = Real.exp x * (1 + Real.exp (-x)) by rw [mul_add, mul_one, ← Real.exp_add]; simp [add_comm],
    Real.log_mul (Real.exp_pos _).ne' (by positivity), Real.log_exp]
  ring

theorem sg_add (x : ℝ) : sg x + sg (-x) = 1 := by
  have e (y : ℝ) : sg y = Real.exp y / (1 + Real.exp y) := by rw [sg, Real.exp_sub, sp, Real.exp_log (by positivity)]
  rw [e, e, Real.exp_neg]
  have := Real.exp_pos x
  field_simp
  ring

theorem sp_abs (x : ℝ) : max x 0 + Real.log (1 + Real.exp (-|x|)) = sp x := by
  rcases le_total 0 x with h | h
  · rw [max_eq_left h, abs_of_nonneg h]
    have := sub_sp x
    unfold sp at *
    linarith
  · rw [max_eq_right h, abs_of_nonpos h, neg_neg, zero_add]
    rfl

/-- Of query `s` with scores `z` and the cotangents `a` of its weights, by keys: the log-probability of passing
    a key by, that of passing every later one by, the weight, its gain, and the gradient of the score. -/
def lg (z : ℕ → ℝ) (s t : ℕ) : ℝ := if t < s then -sp (z t) else 0
def surv (z : ℕ → ℝ) (s t : ℕ) : ℝ := ∑ u ∈ Ico (t + 1) 4096, lg z s u
def att (z : ℕ → ℝ) (s t : ℕ) : ℝ := if t < s then Real.exp (z t + (lg z s t + surv z s t)) else 0
def gn (z a : ℕ → ℝ) (s t : ℕ) : ℝ := att z s t * a t
def dz (z a : ℕ → ℝ) (s t : ℕ) : ℝ := if t < s then gn z a s t - sg (z t) * ∑ u ∈ range (t + 1), gn z a s u else 0

theorem att_zero (z : ℕ → ℝ) {s t : ℕ} (h : s ≤ t) : att z s t = 0 := if_neg (not_lt.mpr h)
theorem dz_zero (z a : ℕ → ℝ) {s t : ℕ} (h : s ≤ t) : dz z a s t = 0 := if_neg (not_lt.mpr h)

/-- A sum against the triangle of the keys up to `c`, and of those from `c` on. -/
theorem sum_le (f : ℕ → ℝ) {c : ℕ} (hc : c < 256) : ∑ k : Fin 256, f k.val * (if k.val ≤ c then 1 else 0) = ∑ u ∈ range (c + 1), f u := by
  rw [Fin.sum_univ_eq_sum_range (fun k => f k * (if k ≤ c then 1 else 0)) 256]
  simp only [mul_ite, mul_one, mul_zero]
  rw [← sum_filter]
  refine sum_congr (Finset.ext fun u => ?_) fun _ _ => rfl
  simp only [mem_filter, mem_range]
  omega

theorem sum_ge (f : ℕ → ℝ) (c : ℕ) : ∑ k : Fin 256, f k.val * (if c ≤ k.val then 1 else 0) = ∑ u ∈ Ico c 256, f u := by
  rw [Fin.sum_univ_eq_sum_range (fun k => f k * (if c ≤ k then 1 else 0)) 256]
  simp only [mul_ite, mul_one, mul_zero]
  rw [← sum_filter]
  refine sum_congr (Finset.ext fun u => ?_) fun _ _ => rfl
  simp only [mem_filter, mem_range, mem_Ico]
  omega

theorem prefix_eq (f : ℕ → ℝ) (j : ℕ) {c : ℕ} (hc : c < 256) :
    ∑ u ∈ range (256 * j), f u + ∑ k : Fin 256, f (256 * j + k.val) * (if k.val ≤ c then 1 else 0) = ∑ u ∈ range (256 * j + c + 1), f u := by
  rw [sum_le (fun k => f (256 * j + k)) hc, add_assoc (256 * j), sum_range_add f (256 * j)]

theorem suffix_eq (z : ℕ → ℝ) (s : ℕ) {j : ℕ} (hj : j < 16) {c : ℕ} (hc : c < 256) :
    ∑ k : Fin 256, lg z s (256 * j + k.val) * (if c ≤ k.val then 1 else 0) + surv z s (256 * j + 255)
      = lg z s (256 * j + c) + surv z s (256 * j + c) := by
  rw [sum_ge (fun k => lg z s (256 * j + k)) c]
  unfold surv
  rw [sum_Ico_add (fun u => lg z s u) c 256 (256 * j), add_comm c, add_comm 256, show 256 * j + 255 + 1 = 256 * j + 256 by omega,
    sum_Ico_consecutive _ (by omega) (by omega), sum_eq_sum_Ico_succ_bot (by omega)]

/-- The lanes of one head. -/
theorem sum_lanes (f : ℕ → ℝ) (i : ℕ) (hi : i < 2) : ∑ l : Fin 128, (if l.val / 64 = i then f l.val else 0) = ∑ d : Fin 64, f (64 * i + d.val) := by
  rw [Fin.sum_univ_eq_sum_range (fun l => if l / 64 = i then f l else 0) 128, Fin.sum_univ_eq_sum_range (fun d => f (64 * i + d)) 64, ← sum_filter,
    ← sum_image (f := f) (g := fun d => 64 * i + d) (fun a _ b _ h => by simpa using h)]
  refine sum_congr (Finset.ext fun u => ?_) fun _ _ => rfl
  simp only [mem_filter, mem_range, mem_image]
  constructor
  · rintro ⟨h1, h2⟩
    exact ⟨u % 64, by omega, by omega⟩
  · rintro ⟨d, hd, rfl⟩
    omega

/-- A sum of reals, among the extended ones. -/
theorem coe_sum {ι : Type} [Fintype ι] (f : ι → ℝ) : ((∑ i, f i : ℝ) : EReal) = ∑ i, (f i : EReal) :=
  map_sum (⟨⟨Real.toEReal, EReal.coe_zero⟩, EReal.coe_add⟩ : ℝ →+ EReal) f univ

end Cert.Stick

end
-- ==== Proof.AttnTile.lean ====
module

public import proofs.«01_k».proof.Proof.AttnReal
public import proofs.«01_k».proof.Proof.AttnSpec
public import Idealize.ShloMosaic.Lib.Pointwise.Tactic
public import Idealize.ShloMosaic.Lib.Pipeline.ValueKit

@[expose] public section

set_option maxRecDepth 16384

noncomputable section

namespace Cert.AttnIdeal.Run

open Cert.AttnIdeal Cert.AttnIdeal.Gen Idealize.ShloMosaic Idealize.ShloMosaic.Tactic

/-- The keys a block lets count. -/
def holds (m : Option (IVec S256x256 1)) (r c : Fin 256) : Prop :=
  match m with
  | none => True
  | some m => m (ix2 (n0 := 256) (n1 := 256) r c) = 1#1

instance (m : Option (IVec S256x256 1)) (r c : Fin 256) : Decidable (holds m r c) := Classical.dec _

theorem keep_at (m : Option (IVec S256x256 1)) (x : FVec Ideal S256x256 .f32) (r c : Fin 256) :
    keep m x (ix2 r c) = if holds m r c then x (ix2 r c) else 0 := by
  unfold keep
  cases m with
  | none => exact (if_pos trivial).symm
  | some m =>
    pointwise
    unfold Scalar.select
    exact if_congr Iff.rfl rfl rfl

theorem coe_ite (p : Prop) [Decidable p] (x : ℝ) : (if p then (x : EReal) else 0) = ((if p then x else 0 : ℝ) : EReal) := by split <;> rfl

theorem logits_at (q kb : FVec Ideal S256x128 .bf16) (r c : Fin 256) : logits q kb (ix2 r c) = ∑ l : Fin 128, q (ix2 r l) * kb (ix2 c l) := by
  pointwise [logits]

theorem coe_max (x y : ℝ) : max (x : EReal) (y : EReal) = ((max x y : ℝ) : EReal) := (EReal.coe_strictMono.monotone.map_max).symm

theorem passing (x : ℝ) : (0 : EReal) - (max (x : EReal) 0 + Ideal.log (1 + Ideal.exp (0 - FloatOps.absf (F := Ideal) (φ := .f32) (x : EReal)))) = ((-Stick.sp x : ℝ) : EReal) := by
  have e : FloatOps.absf (F := Ideal) (φ := .f32) (x : EReal) = ((|x| : ℝ) : EReal) := by
    rw [Ideal.absf_def, ← EReal.coe_neg, coe_max]; rfl
  have p : 0 < 1 + Real.exp (-|x|) := by positivity
  rw [e, ← EReal.coe_zero, coe_max, ← EReal.coe_sub, Ideal.exp_coe, ← EReal.coe_one, ← EReal.coe_add, Ideal.log_coe, zero_sub, if_neg (not_le.mpr p),
    ← EReal.coe_add, Stick.sp_abs, ← EReal.coe_sub, zero_sub]

theorem after_at (P : Pt Ideal) (tab : FVec Ideal S256x128 .f32) (j : ℕ) (hj : j < 16) (h : P.lane = iota .tc S1x128 32 [1] iota_S1x128_d1_w32) (r : Fin 256) :
    after P tab (BitVec.ofNat 32 j) (ix2 r 0) = tab (ix2 r ⟨j, by omega⟩) := by
  unfold after
  rw [h]
  pointwise
  rw [Finset.sum_eq_single ⟨j, by omega⟩]
  · exact if_pos (IntOp.cmpi_eq.mpr rfl)
  · intro l _ hl
    refine if_neg fun e => hl (Fin.ext ?_)
    have e := congrArg BitVec.toNat (IntOp.cmpi_eq.mp e)
    have := l.isLt
    rwa [BitVec.toNat_ofNat, BitVec.toNat_ofNat, Nat.mod_eq_of_lt (by omega), Nat.mod_eq_of_lt (by omega)] at e
  · exact fun h => absurd (Finset.mem_univ _) h

/-- One head's tile: queries `256 q + r` against keys `256 j + c`. -/
structure Tile (P : Pt Ideal) (m : Option (IVec S256x256 1)) (tab : FVec Ideal S256x128 .f32) (w : BitVec 32) (Z D : FVec Ideal S256x256 .f32)
    (z a : ℕ → ℕ → ℝ) (q j : ℕ) : Prop where
  hz : ∀ r c : Fin 256, Z (ix2 r c) = ((z (256 * q + r.val) (256 * j + c.val) : ℝ) : EReal)
  ha : ∀ r c : Fin 256, D (ix2 r c) = ((a (256 * q + r.val) (256 * j + c.val) : ℝ) : EReal)
  hrun : ∀ r : Fin 256, after P tab w (ix2 r 0) = ((Stick.surv (z (256 * q + r.val)) (256 * q + r.val) (256 * j + 255) : ℝ) : EReal)
  hsu : ∀ k c : Fin 256, P.su (ix2 (n0 := 256) (n1 := 256) k c) = ((if c.val ≤ k.val then 1 else 0 : ℝ) : EReal)
  hpr : ∀ k c : Fin 256, P.pr (ix2 (n0 := 256) (n1 := 256) k c) = ((if k.val ≤ c.val then 1 else 0 : ℝ) : EReal)
  hm : ∀ r c : Fin 256, holds m r c ↔ 256 * j + c.val < 256 * q + r.val
  hj : j < 16

namespace Tile

variable {P : Pt Ideal} {m : Option (IVec S256x256 1)} {tab : FVec Ideal S256x128 .f32} {w : BitVec 32} {Z D : FVec Ideal S256x256 .f32}
  {z a : ℕ → ℕ → ℝ} {q j : ℕ} (T : Tile P m tab w Z D z a q j) (r c : Fin 256)

include T

theorem pass_eq : pass m Z (ix2 r c) = ((Stick.lg (z (256 * q + r.val)) (256 * q + r.val) (256 * j + c.val) : ℝ) : EReal) := by
  unfold pass Stick.lg
  rw [keep_at, ← coe_ite]
  refine if_congr (T.hm r c) ?_ rfl
  rw [← passing, ← T.hz r c]
  pointwise

theorem weights_eq : weights P m tab w Z (ix2 r c) = ((Stick.att (z (256 * q + r.val)) (256 * q + r.val) (256 * j + c.val) : ℝ) : EReal) := by
  unfold weights Stick.att
  rw [keep_at, ← coe_ite]
  refine if_congr (T.hm r c) ?_ rfl
  pointwise
  simp only [T.pass_eq, T.hz, T.hrun, T.hsu, ← EReal.coe_mul, ← Stick.coe_sum, ← EReal.coe_add, Ideal.exp_coe]
  rw [add_assoc, Stick.suffix_eq _ _ T.hj c.isLt]

theorem gain_eq : gain P m tab w Z D (ix2 r c) = ((Stick.gn (z (256 * q + r.val)) (a (256 * q + r.val)) (256 * q + r.val) (256 * j + c.val) : ℝ) : EReal) := by
  unfold gain
  pointwise
  rw [T.weights_eq, T.ha, ← EReal.coe_mul]
  rfl

theorem gains_eq (p : FVec Ideal S256x1 .f32) (hp : p (ix2 r 0) = ((∑ u ∈ Finset.range (256 * j), Stick.gn (z (256 * q + r.val)) (a (256 * q + r.val)) (256 * q + r.val) u : ℝ) : EReal)) :
    p (ix2 r 0) + gains P m tab w Z D (ix2 r c) = ((∑ u ∈ Finset.range (256 * j + c.val + 1), Stick.gn (z (256 * q + r.val)) (a (256 * q + r.val)) (256 * q + r.val) u : ℝ) : EReal) := by
  unfold gains
  pointwise
  simp only [hp, T.gain_eq, T.hpr, ← EReal.coe_mul, ← Stick.coe_sum, ← EReal.coe_add]
  rw [Stick.prefix_eq _ _ c.isLt]

theorem dscore_eq (p : FVec Ideal S256x1 .f32) (hp : p (ix2 r 0) = ((∑ u ∈ Finset.range (256 * j), Stick.gn (z (256 * q + r.val)) (a (256 * q + r.val)) (256 * q + r.val) u : ℝ) : EReal)) :
    dscore P m tab w p Z D (ix2 r c) = ((Stick.dz (z (256 * q + r.val)) (a (256 * q + r.val)) (256 * q + r.val) (256 * j + c.val) : ℝ) : EReal) := by
  unfold dscore Stick.dz
  refine (keep_at m _ r c).trans ?_
  by_cases h : holds m r c
  · have ht := (T.hm r c).mp h
    rw [if_pos h, if_pos ht]
    pointwise
    rw [T.gains_eq r c p hp, T.gain_eq, T.pass_eq, T.hz, Stick.lg, if_pos ht, ← EReal.coe_add, Ideal.exp_coe, ← EReal.coe_mul, ← EReal.coe_sub, ← sub_eq_add_neg]
    rfl
  · rw [if_neg h, if_neg (mt (T.hm r c).mpr h)]
    rfl

theorem carry_eq (p : FVec Ideal S256x1 .f32) (hp : p (ix2 r 0) = ((∑ u ∈ Finset.range (256 * j), Stick.gn (z (256 * q + r.val)) (a (256 * q + r.val)) (256 * q + r.val) u : ℝ) : EReal)) :
    carry P m tab w p Z D (ix2 r 0) = ((∑ u ∈ Finset.range (256 * (j + 1)), Stick.gn (z (256 * q + r.val)) (a (256 * q + r.val)) (256 * q + r.val) u : ℝ) : EReal) := by
  unfold carry
  pointwise
  refine (T.gains_eq r ⟨255, by decide⟩ p hp).trans ?_
  rfl

end Tile

theorem lanes_at (mk : IVec S1x128 1) (kb : FVec Ideal S256x128 .bf16) (k : Fin 256) (l : Fin 128) :
    lanes mk kb (ix2 k l) = if mk (ix2 0 l) = 1#1 then kb (ix2 k l) else 0 := by
  unfold lanes
  pointwise
  rfl

theorem dquery_at (d : FVec Ideal S256x256 .bf16) (kb : FVec Ideal S256x128 .bf16) (r : Fin 256) (l : Fin 128) :
    dquery d kb (ix2 r l) = ∑ c : Fin 256, d (ix2 r c) * kb (ix2 c l) := by
  unfold dquery
  pointwise

theorem addBlock_at (x : Vec Ideal S1x128x256 .f32) (l : FVec Ideal S128x512 .bf16) (r0 r1 : FVec Ideal S256x256 .bf16) (i : Fin 128) (c : Fin 256) :
    addBlock x l r0 r1 (ix3 0 i c) = x (ix3 (n0 := 1) (n1 := 128) (n2 := 256) 0 i c)
      + (∑ r : Fin 256, l (ix2 i ⟨r.val, by omega⟩) * r0 (ix2 r c) + ∑ r : Fin 256, l (ix2 i ⟨256 + r.val, by omega⟩) * r1 (ix2 r c)) := by
  unfold addBlock
  pointwise

end Cert.AttnIdeal.Run

end
-- ==== Proof.AttnPoint.lean ====
module

public import proofs.«01_k».proof.Proof.AttnTile
public import proofs.«01_k».proof.Proof.AttnBody
public import Idealize.ShloMosaic.Lib.WordCmp

@[expose] public section

set_option maxRecDepth 16384

noncomputable section

namespace Cert.Stick

open Finset

/-- Of the rows `Q`, `K`, `V`, `O` of queries, keys, values and cotangents: head `i`'s score of key `t` for query `s`,
    the cotangent of its weight, -/
def score (Q K : ℕ → ℕ → ℝ) (i s t : ℕ) : ℝ := (∑ d : Fin 64, Q s (64 * i + d.val) * K t (64 * i + d.val)) * (1 / 8)
def cot (O V : ℕ → ℕ → ℝ) (i s t : ℕ) : ℝ := ∑ d : Fin 64, O s (64 * i + d.val) * V t (64 * i + d.val)
/-- the weight, its gain and the gradient of the score. -/
def wt (Q K : ℕ → ℕ → ℝ) (i s t : ℕ) : ℝ := att (score Q K i s) s t
def gw (Q K V O : ℕ → ℕ → ℝ) (i s t : ℕ) : ℝ := gn (score Q K i s) (cot O V i s) s t
def ds (Q K V O : ℕ → ℕ → ℝ) (i s t : ℕ) : ℝ := dz (score Q K i s) (cot O V i s) s t

theorem wt_zero (Q K : ℕ → ℕ → ℝ) (i : ℕ) {s t : ℕ} (h : s ≤ t) : wt Q K i s t = 0 := att_zero _ h
theorem ds_zero (Q K V O : ℕ → ℕ → ℝ) (i : ℕ) {s t : ℕ} (h : s ≤ t) : ds Q K V O i s t = 0 := dz_zero _ _ h

theorem sum_next (f : ℕ → ℝ) (n : ℕ) : ∑ u ∈ range (256 * (n + 1)), f u = ∑ u ∈ range (256 * n), f u + ∑ c : Fin 256, f (256 * n + c.val) := by
  rw [Nat.mul_succ, sum_range_add f (256 * n), Fin.sum_univ_eq_sum_range (fun c => f (256 * n + c)) 256]

/-- Both heads' parts of a lane: one of them is nothing. -/
theorem sum_heads (f g : ℕ → ℝ) (h : ℕ → ℕ → ℝ) (b l : ℕ) (hl : l < 128) (hf : l / 64 = 0 → ∀ c, h (l / 64) c = f c) (hg : l / 64 = 1 → ∀ c, h (l / 64) c = g c) (k : ℕ → ℝ) :
    ∑ c : Fin 256, f (b + c.val) * (if l / 64 = 0 then k (b + c.val) else 0) + ∑ c : Fin 256, g (b + c.val) * (if l / 64 = 1 then k (b + c.val) else 0)
      = ∑ c : Fin 256, h (l / 64) (b + c.val) * k (b + c.val) := by
  rcases (by omega : l / 64 = 0 ∨ l / 64 = 1) with e | e
  · simp [e, ← hf e]
  · simp [e, ← hg e]

end Cert.Stick

namespace Cert.AttnIdeal.Run

open Cert.AttnIdeal Cert.AttnIdeal.Gen Idealize.ShloMosaic Idealize.ShloMosaic.Tactic Finset
open Stick (score cot wt gw ds)

theorem eighth_bf16 : Ideal.ofBits .bf16 0x3E00#16 = ((1 / 8 : ℝ) : EReal) := by
  simp [Ideal.ofBits, Ideal.ieee, -EReal.coe_mul]; norm_num
theorem eighth_f32 : Ideal.ofBits .f32 0x3E000000#32 = ((1 / 8 : ℝ) : EReal) := by
  simp [Ideal.ofBits, Ideal.ieee, -EReal.coe_mul]; norm_num

/-- The lanes of the two heads. -/
theorem head0 (l : Fin 128) : (k0_pay381 (ix2 (n0 := 1) (n1 := 128) 0 l) = 1#1) ↔ l.val / 64 = 0 := by
  revert l; decide +kernel
theorem head1 (l : Fin 128) : (k0_pay382 (ix2 (n0 := 1) (n1 := 128) 0 l) = 1#1) ↔ l.val / 64 = 1 := by
  revert l; decide +kernel

theorem select_ite (w : BitVec 1) (p : Prop) [Decidable p] (h : w = 1#1 ↔ p) (x y : EReal) : Scalar.select w x y = if p then x else y := if_congr h rfl rfl

theorem q0_at (x : Vec Ideal S256x128 .bf16) (r : Fin 256) (l : Fin 128) : k0_pay385 x (ix2 r l) = if l.val / 64 = 0 then x (ix2 r l) * ((1 / 8 : ℝ) : EReal) else 0 := by
  rw [← eighth_bf16]
  unfold k0_pay385
  pointwise [k0_pay383]
  exact select_ite _ _ (head0 l) _ _
theorem q1_at (x : Vec Ideal S256x128 .bf16) (r : Fin 256) (l : Fin 128) : k0_pay386 x (ix2 r l) = if l.val / 64 = 1 then x (ix2 r l) * ((1 / 8 : ℝ) : EReal) else 0 := by
  rw [← eighth_bf16]
  unfold k0_pay386
  pointwise [k0_pay383]
  exact select_ite _ _ (head1 l) _ _
theorem d0_at (x : Vec Ideal S256x128 .bf16) (r : Fin 256) (l : Fin 128) : k0_pay387 x (ix2 r l) = if l.val / 64 = 0 then x (ix2 r l) else 0 := by
  unfold k0_pay387
  pointwise [k0_pay384]
  exact select_ite _ _ (head0 l) _ _
theorem d1_at (x : Vec Ideal S256x128 .bf16) (r : Fin 256) (l : Fin 128) : k0_pay388 x (ix2 r l) = if l.val / 64 = 1 then x (ix2 r l) else 0 := by
  unfold k0_pay388
  pointwise [k0_pay384]
  exact select_ite _ _ (head1 l) _ _
theorem qt0_at (x : Vec Ideal S256x128 .bf16) (i : Fin 128) (r : Fin 256) : k0_pay389 x (ix2 i ⟨r.val, by omega⟩) = k0_pay385 x (ix2 r i) := by
  unfold k0_pay389
  generalize k0_pay385 x = y
  generalize k0_pay386 x = z
  pointwise
theorem qt1_at (x : Vec Ideal S256x128 .bf16) (i : Fin 128) (r : Fin 256) : k0_pay389 x (ix2 i ⟨256 + r.val, by omega⟩) = k0_pay386 x (ix2 r i) := by
  unfold k0_pay389
  generalize k0_pay385 x = y
  generalize k0_pay386 x = z
  pointwise
theorem dt0_at (x : Vec Ideal S256x128 .bf16) (i : Fin 128) (r : Fin 256) : k0_pay392 (k0_pay390 x) (k0_pay391 x) (ix2 i ⟨r.val, by omega⟩) = k0_pay387 x (ix2 r i) := by
  unfold k0_pay392 k0_pay390 k0_pay391
  generalize k0_pay387 x = y
  generalize k0_pay388 x = z
  pointwise
theorem dt1_at (x : Vec Ideal S256x128 .bf16) (i : Fin 128) (r : Fin 256) : k0_pay392 (k0_pay390 x) (k0_pay391 x) (ix2 i ⟨256 + r.val, by omega⟩) = k0_pay388 x (ix2 r i) := by
  unfold k0_pay392 k0_pay390 k0_pay391
  generalize k0_pay387 x = y
  generalize k0_pay388 x = z
  pointwise
theorem mask_at (r c : Fin 256) : (mask (ix2 (n0 := 256) (n1 := 256) r c) = 1#1) ↔ c.val < r.val := by
  unfold mask
  pointwise
  have hr := r.isLt
  have hc := c.isLt
  rw [show IntOp.addi (BitVec.ofNat 32 c.val) 0#32 = BitVec.ofNat 32 c.val from BitVec.add_zero _, WordCmp.cmpi_slt_ofNat (by omega) (by omega)]
  by_cases h : c.val < r.val <;> simp [h]
theorem rd_at (x : Vec Ideal S4096x128 .bf16) (j : ℕ) (hj : j < 16) (c : Fin 256) (l : Fin 128) : rd x j (ix2 c l) = x (ix2 (n0 := 4096) (n1 := 128) ⟨256 * j + c.val, by omega⟩ l) := by
  unfold rd blk
  pointwise
  exact congrArg (fun a => x (ix2 (n0 := 4096) (n1 := 128) a l)) (Fin.ext (Nat.mod_eq_of_lt (by omega)))
theorem t0_at (x : Vec Ideal S256x256 .f32) (r : Fin 256) (l : Fin 128) : k0_pay393 (left x) (ix2 r l) = x (ix2 (n0 := 256) (n1 := 256) r ⟨l.val, by omega⟩) := by
  unfold k0_pay393 left
  pointwise
theorem t1_at (x : Vec Ideal S256x256 .f32) (r : Fin 256) (l : Fin 128) : k0_pay394 (right x) (ix2 r l) = x (ix2 (n0 := 256) (n1 := 256) r ⟨128 + l.val, by omega⟩) := by
  unfold k0_pay394 right
  pointwise

/-- What a point of the grid works on, by the rows behind it: query block `q`. -/
structure Rows (X : In Ideal) (Q K V O : ℕ → ℕ → ℝ) (q : ℕ) : Prop where
  hq : ∀ (r : Fin 256) (l : Fin 128), X.x3 (ix2 r l) = ((Q (256 * q + r.val) l.val : ℝ) : EReal)
  ho : ∀ (r : Fin 256) (l : Fin 128), X.x7 (ix2 r l) = ((O (256 * q + r.val) l.val : ℝ) : EReal)
  hk : ∀ (t : Fin 4096) (l : Fin 128), X.xk (ix2 t l) = ((K t.val l.val : ℝ) : EReal)
  hv : ∀ (t : Fin 4096) (l : Fin 128), X.xv (ix2 t l) = ((V t.val l.val : ℝ) : EReal)
  hsu : ∀ k c : Fin 256, X.su (ix2 k c) = ((if c.val ≤ k.val then 1 else 0 : ℝ) : EReal)
  hpr : ∀ k c : Fin 256, X.pr (ix2 k c) = ((if k.val ≤ c.val then 1 else 0 : ℝ) : EReal)
  ht : ∀ (i : Fin 2) (r : Fin 256) (j : Fin 16), X.x6 (ix2 (n0 := 256) (n1 := 256) r ⟨128 * i.val + j.val, by omega⟩)
    = ((Stick.surv (score Q K i.val (256 * q + r.val)) (256 * q + r.val) (256 * j.val + 255) : ℝ) : EReal)

/-- The state when key blocks before `n` have passed. -/
structure Upto (Q K V O : ℕ → ℕ → ℝ) (q n : ℕ) (s : St Ideal) : Prop where
  hp0 : ∀ r : Fin 256, s.p0 (ix2 r 0) = ((∑ u ∈ range (256 * n), gw Q K V O 0 (256 * q + r.val) u : ℝ) : EReal)
  hp1 : ∀ r : Fin 256, s.p1 (ix2 r 0) = ((∑ u ∈ range (256 * n), gw Q K V O 1 (256 * q + r.val) u : ℝ) : EReal)
  hdq : ∀ (r : Fin 256) (l : Fin 128), s.dq (ix2 r l) = ((∑ u ∈ range (256 * n), ds Q K V O (l.val / 64) (256 * q + r.val) u * K u l.val : ℝ) : EReal)
  hxk : ∀ (j : Fin 16) (i : Fin 128) (c : Fin 256), s.xk (ix3 j i c)
    = ((∑ u ∈ range (256 * if j.val < n then q + 1 else q), ds Q K V O (i.val / 64) u (256 * j.val + c.val) * (Q u i.val * (1 / 8)) : ℝ) : EReal)
  hxv : ∀ (j : Fin 16) (i : Fin 128) (c : Fin 256), s.xv (ix3 j i c)
    = ((∑ u ∈ range (256 * if j.val < n then q + 1 else q), wt Q K (i.val / 64) u (256 * j.val + c.val) * O u i.val : ℝ) : EReal)

section
variable {X : In Ideal} {Q K V O : ℕ → ℕ → ℝ} {q : ℕ} (R : Rows X Q K V O q)
include R

theorem Rows.tile0 {m : Option (IVec S256x256 1)} {n : ℕ} (hn : n < 16) (hm : ∀ r c : Fin 256, holds m r c ↔ 256 * n + c.val < 256 * q + r.val) :
    Tile X.pt m X.pt.t0 (BitVec.ofNat 32 n) (logits X.pt.q0 (rd X.xk n)) (logits X.pt.d0 (rd X.xv n)) (score Q K 0) (cot O V 0) q n where
  hm := hm
  hj := hn
  hsu := R.hsu
  hpr := R.hpr
  hrun r := by
    rw [after_at _ _ n hn rfl]
    exact (t0_at _ _ _).trans ((congrArg (fun a => X.x6 (ix2 (n0 := 256) (n1 := 256) r a)) (Fin.ext (by simp))).trans (R.ht 0 r ⟨n, hn⟩))
  hz r c := by
    rw [logits_at]
    have e (l : Fin 128) : X.pt.q0 (ix2 r l) * rd X.xk n (ix2 c l) = ((if l.val / 64 = 0 then Q (256 * q + r.val) l.val * K (256 * n + c.val) l.val * (1 / 8) else 0 : ℝ) : EReal) := by
      rw [rd_at _ _ hn, R.hk, show X.pt.q0 = k0_pay385 X.x3 from rfl, q0_at, R.hq, ← EReal.coe_mul, coe_ite, ← EReal.coe_mul]
      congr 1
      split
      · ring
      · ring
    simp only [e, ← Stick.coe_sum]
    rw [Stick.sum_lanes (fun l => Q (256 * q + r.val) l * K (256 * n + c.val) l * (1 / 8)) 0 (by decide), score, sum_mul]
  ha r c := by
    rw [logits_at]
    have e (l : Fin 128) : X.pt.d0 (ix2 r l) * rd X.xv n (ix2 c l) = ((if l.val / 64 = 0 then O (256 * q + r.val) l.val * V (256 * n + c.val) l.val else 0 : ℝ) : EReal) := by
      rw [rd_at _ _ hn, R.hv, show X.pt.d0 = k0_pay387 X.x7 from rfl, d0_at, R.ho, coe_ite, ← EReal.coe_mul]
      congr 1
      split
      · ring
      · ring
    simp only [e, ← Stick.coe_sum]
    rw [Stick.sum_lanes (fun l => O (256 * q + r.val) l * V (256 * n + c.val) l) 0 (by decide), cot]

theorem Rows.tile1 {m : Option (IVec S256x256 1)} {n : ℕ} (hn : n < 16) (hm : ∀ r c : Fin 256, holds m r c ↔ 256 * n + c.val < 256 * q + r.val) :
    Tile X.pt m X.pt.t1 (BitVec.ofNat 32 n) (logits X.pt.q1 (rd X.xk n)) (logits X.pt.d1 (rd X.xv n)) (score Q K 1) (cot O V 1) q n where
  hm := hm
  hj := hn
  hsu := R.hsu
  hpr := R.hpr
  hrun r := by
    rw [after_at _ _ n hn rfl]
    exact (t1_at _ _ _).trans (R.ht 1 r ⟨n, hn⟩)
  hz r c := by
    rw [logits_at]
    have e (l : Fin 128) : X.pt.q1 (ix2 r l) * rd X.xk n (ix2 c l) = ((if l.val / 64 = 1 then Q (256 * q + r.val) l.val * K (256 * n + c.val) l.val * (1 / 8) else 0 : ℝ) : EReal) := by
      rw [rd_at _ _ hn, R.hk, show X.pt.q1 = k0_pay386 X.x3 from rfl, q1_at, R.hq, ← EReal.coe_mul, coe_ite, ← EReal.coe_mul]
      congr 1
      split
      · ring
      · ring
    simp only [e, ← Stick.coe_sum]
    rw [Stick.sum_lanes (fun l => Q (256 * q + r.val) l * K (256 * n + c.val) l * (1 / 8)) 1 (by decide), score, sum_mul]
  ha r c := by
    rw [logits_at]
    have e (l : Fin 128) : X.pt.d1 (ix2 r l) * rd X.xv n (ix2 c l) = ((if l.val / 64 = 1 then O (256 * q + r.val) l.val * V (256 * n + c.val) l.val else 0 : ℝ) : EReal) := by
      rw [rd_at _ _ hn, R.hv, show X.pt.d1 = k0_pay388 X.x7 from rfl, d1_at, R.ho, coe_ite, ← EReal.coe_mul]
      congr 1
      split
      · ring
      · ring
    simp only [e, ← Stick.coe_sum]
    rw [Stick.sum_lanes (fun l => O (256 * q + r.val) l * V (256 * n + c.val) l) 1 (by decide), cot]

/-- What both heads add to a block of a gradient carried. -/
theorem added (x : Vec Ideal S16x128x256 .f32) (l : FVec Ideal S128x512 .bf16) (r0 r1 : FVec Ideal S256x256 .bf16) (n : ℕ) (hn : n < 16)
    (f : ℕ → ℕ → ℕ → ℝ) (W : ℕ → ℕ → ℝ)
    (h0 : ∀ r c : Fin 256, r0 (ix2 r c) = ((f 0 (256 * q + r.val) (256 * n + c.val) : ℝ) : EReal))
    (h1 : ∀ r c : Fin 256, r1 (ix2 r c) = ((f 1 (256 * q + r.val) (256 * n + c.val) : ℝ) : EReal))
    (l0 : ∀ (i : Fin 128) (r : Fin 256), l (ix2 i ⟨r.val, by omega⟩) = ((if i.val / 64 = 0 then W (256 * q + r.val) i.val else 0 : ℝ) : EReal))
    (l1 : ∀ (i : Fin 128) (r : Fin 256), l (ix2 i ⟨256 + r.val, by omega⟩) = ((if i.val / 64 = 1 then W (256 * q + r.val) i.val else 0 : ℝ) : EReal))
    (hx : ∀ (j : Fin 16) (i : Fin 128) (c : Fin 256), x (ix3 j i c)
      = ((∑ u ∈ range (256 * if j.val < n then q + 1 else q), f (i.val / 64) u (256 * j.val + c.val) * W u i.val : ℝ) : EReal))
    (j : Fin 16) (i : Fin 128) (c : Fin 256) :
    setRow x n (addBlock (row x n) l r0 r1) (ix3 j i c)
      = ((∑ u ∈ range (256 * if j.val < n + 1 then q + 1 else q), f (i.val / 64) u (256 * j.val + c.val) * W u i.val : ℝ) : EReal) := by
  by_cases hj : j.val = n
  · refine (if_pos hj).trans ((addBlock_at _ _ _ _ i c).trans ?_)
    rw [show row x n (ix3 (n0 := 1) (n1 := 128) (n2 := 256) 0 i c) = x (ix3 j i c) from
      congrArg (fun a => x (ix3 (n0 := 16) (n1 := 128) (n2 := 256) a i c)) (Fin.ext (by show (n + 0) % 16 = j.val; omega)), hx, if_neg (by omega), if_pos (by omega)]
    simp only [h0, h1, l0, l1, ← EReal.coe_mul, ← Stick.coe_sum, ← EReal.coe_add]
    congr 1
    rw [Stick.sum_next, hj]
    congr 1
    refine Eq.trans ?_ (Stick.sum_heads (fun u => f 0 u (256 * n + c.val)) (fun u => f 1 u (256 * n + c.val)) (fun h u => f h u (256 * n + c.val)) (256 * q) i.val i.isLt
      (fun e u => by rw [e]) (fun e u => by rw [e]) (fun u => W u i.val))
    congr 1 <;> exact sum_congr rfl fun u _ => mul_comm _ _
  · refine (if_neg hj).trans ((hx j i c).trans ?_)
    rw [show (if j.val < n + 1 then q + 1 else q) = if j.val < n then q + 1 else q from if_congr (by omega) rfl rfl]

theorem Rows.step {m : Option (IVec S256x256 1)} {n : ℕ} (hn : n < 16) (hm : ∀ r c : Fin 256, holds m r c ↔ 256 * n + c.val < 256 * q + r.val) {s : St Ideal} (H : Upto Q K V O q n s) :
    Upto Q K V O q (n + 1) (stepAt X.pt X.xk X.xv m n s) where
  hp0 r := (R.tile0 hn hm).carry_eq r _ (H.hp0 r)
  hp1 r := (R.tile1 hn hm).carry_eq r _ (H.hp1 r)
  hdq r l := by
    have T0 := R.tile0 hn hm
    have T1 := R.tile1 hn hm
    unfold stepAt Run.step
    pointwise
    simp only [dquery_at, lanes_at, T0.dscore_eq r _ _ (H.hp0 r), T1.dscore_eq r _ _ (H.hp1 r), H.hdq, rd_at _ _ hn, R.hk]
    have e0 (k : ℝ) : (if X.pt.m0 (ix2 0 l) = 1#1 then (k : EReal) else 0) = ((if l.val / 64 = 0 then k else 0 : ℝ) : EReal) := (if_congr (head0 l) rfl rfl).trans (coe_ite _ _)
    have e1 (k : ℝ) : (if X.pt.m1 (ix2 0 l) = 1#1 then (k : EReal) else 0) = ((if l.val / 64 = 1 then k else 0 : ℝ) : EReal) := (if_congr (head1 l) rfl rfl).trans (coe_ite _ _)
    simp only [e0, e1, ← EReal.coe_mul, ← Stick.coe_sum, ← EReal.coe_add]
    rw [Stick.sum_next, add_assoc]
    exact congrArg (fun a : ℝ => (((∑ u ∈ range (256 * n), ds Q K V O (l.val / 64) (256 * q + r.val) u * K u l.val) + a : ℝ) : EReal))
      (Stick.sum_heads (ds Q K V O 0 (256 * q + r.val)) (ds Q K V O 1 (256 * q + r.val)) (fun h u => ds Q K V O h (256 * q + r.val) u) (256 * n) l.val l.isLt
        (fun e u => by rw [e]) (fun e u => by rw [e]) (fun u => K u l.val))
  hxk j i c := added R s.xk X.pt.qt _ _ n hn (ds Q K V O) (fun u l => Q u l * (1 / 8))
    (fun r c => (R.tile0 hn hm).dscore_eq r c _ (H.hp0 r)) (fun r c => (R.tile1 hn hm).dscore_eq r c _ (H.hp1 r))
    (fun i r => (qt0_at _ i r).trans (by rw [q0_at, R.hq, ← EReal.coe_mul, coe_ite]))
    (fun i r => (qt1_at _ i r).trans (by rw [q1_at, R.hq, ← EReal.coe_mul, coe_ite])) H.hxk j i c
  hxv j i c := added R s.xv X.pt.dt _ _ n hn (wt Q K) O
    (fun r c => (R.tile0 hn hm).weights_eq r c) (fun r c => (R.tile1 hn hm).weights_eq r c)
    (fun i r => (dt0_at _ i r).trans (by rw [d0_at, R.ho, coe_ite]))
    (fun i r => (dt1_at _ i r).trans (by rw [d1_at, R.ho, coe_ite])) H.hxv j i c

theorem Rows.upTo (hq : q < 16) {s : St Ideal} (H : Upto Q K V O q 0 s) : ∀ n ≤ q, Upto Q K V O q n (upTo X.pt X.xk X.xv s n)
  | 0, _ => H
  | n + 1, h => R.step (m := none) (by omega) (fun r c => ⟨fun _ => by omega, fun _ => trivial⟩) (Rows.upTo hq H n (by omega))

theorem Rows.all (i : grid0.Coords) (hi : (i 2).val = q) {x y : Vec Ideal S16x128x256 .f32}
    (hx : q ≠ 0 → ∀ (j : Fin 16) (l : Fin 128) (c : Fin 256), x (ix3 j l c) = ((∑ u ∈ range (256 * q), ds Q K V O (l.val / 64) u (256 * j.val + c.val) * (Q u l.val * (1 / 8)) : ℝ) : EReal))
    (hy : q ≠ 0 → ∀ (j : Fin 16) (l : Fin 128) (c : Fin 256), y (ix3 j l c) = ((∑ u ∈ range (256 * q), wt Q K (l.val / 64) u (256 * j.val + c.val) * O u l.val : ℝ) : EReal)) :
    Upto Q K V O q (q + 1) (X.fin i x y) := by
  have hq : q < 16 := hi ▸ (i 2).isLt
  unfold In.fin Run.all
  rw [hi]
  refine R.step (m := some mask) hq (fun r c => (mask_at r c).trans (by omega)) (R.upTo hq ?_ q le_rfl)
  constructor
  · intro r
    simp only [Nat.mul_zero, range_zero, sum_empty]
    unfold start; pointwise [k0_pay395]; exact EReal.coe_zero.symm
  · intro r
    simp only [Nat.mul_zero, range_zero, sum_empty]
    unfold start; pointwise [k0_pay395]; exact EReal.coe_zero.symm
  · intro r l
    simp only [Nat.mul_zero, range_zero, sum_empty]
    unfold start; pointwise [k0_pay396]; exact EReal.coe_zero.symm
  · intro j l c
    simp only [Nat.not_lt_zero, if_false]
    show cleared i x (ix3 j l c) = _
    unfold cleared
    by_cases h : q = 0
    · rw [if_pos (hi.trans h), h]
      simp only [Nat.mul_zero, range_zero, sum_empty]
      pointwise [k0_pay378]; exact EReal.coe_zero.symm
    · rw [if_neg (fun e => h (hi.symm.trans e))]
      exact hx h j l c
  · intro j l c
    simp only [Nat.not_lt_zero, if_false]
    show cleared i y (ix3 j l c) = _
    unfold cleared
    by_cases h : q = 0
    · rw [if_pos (hi.trans h), h]
      simp only [Nat.mul_zero, range_zero, sum_empty]
      pointwise [k0_pay378]; exact EReal.coe_zero.symm
    · rw [if_neg (fun e => h (hi.symm.trans e))]
      exact hy h j l c

end

/-- Key blocks after the diagonal add nothing. -/
theorem sum_tail (f : ℕ → ℝ) {a b : ℕ} (h : a ≤ b) (hf : ∀ u, a ≤ u → f u = 0) : ∑ u ∈ range a, f u = ∑ u ∈ range b, f u :=
  sum_subset (range_subset_range.mpr h) fun u _ hu => hf u (by simpa using hu)

theorem Upto.dq {Q K V O : ℕ → ℕ → ℝ} {q : ℕ} {s : St Ideal} (H : Upto Q K V O q (q + 1) s) (hq : q < 16) (r : Fin 256) (l : Fin 128) :
    s.dq (ix2 r l) = ((∑ u ∈ range 4096, ds Q K V O (l.val / 64) (256 * q + r.val) u * K u l.val : ℝ) : EReal) := by
  rw [H.hdq, sum_tail _ (show 256 * (q + 1) ≤ 4096 by omega) fun u hu => by rw [Stick.ds_zero _ _ _ _ _ (by omega), zero_mul]]

theorem Upto.xk {Q K V O : ℕ → ℕ → ℝ} {q : ℕ} {s : St Ideal} (H : Upto Q K V O q (q + 1) s) (j : Fin 16) (l : Fin 128) (c : Fin 256) :
    s.xk (ix3 j l c) = ((∑ u ∈ range (256 * (q + 1)), ds Q K V O (l.val / 64) u (256 * j.val + c.val) * (Q u l.val * (1 / 8)) : ℝ) : EReal) := by
  rw [H.hxk]
  by_cases h : j.val < q + 1
  · rw [if_pos h]
  · rw [if_neg h, Stick.sum_next, Finset.sum_eq_zero (s := univ) fun u _ => by rw [Stick.ds_zero _ _ _ _ _ (by omega), zero_mul], add_zero]

theorem Upto.xv {Q K V O : ℕ → ℕ → ℝ} {q : ℕ} {s : St Ideal} (H : Upto Q K V O q (q + 1) s) (j : Fin 16) (l : Fin 128) (c : Fin 256) :
    s.xv (ix3 j l c) = ((∑ u ∈ range (256 * (q + 1)), wt Q K (l.val / 64) u (256 * j.val + c.val) * O u l.val : ℝ) : EReal) := by
  rw [H.hxv]
  by_cases h : j.val < q + 1
  · rw [if_pos h]
  · rw [if_neg h, Stick.sum_next, Finset.sum_eq_zero (s := univ) fun u _ => by rw [Stick.wt_zero _ _ _ (by omega), zero_mul], add_zero]

end Cert.AttnIdeal.Run

end
-- ==== Proof.AttnRef.lean ====
module

public import proofs.«01_k».proof.Proof.AttnPoint
public import proofs.«01_k».proof.Proof.Gen.AttnRefIdeal.Read

@[expose] public section

set_option maxRecDepth 16384

noncomputable section

namespace Cert.Stick

open Idealize.ShloMosaic

/-- A matrix of reals, by numbers; and the 128 columns from `128 p + k` on of the rows of batch element `b`. -/
def real {n0 n1 : ℕ} [NeZero n0] [NeZero n1] (x : (⟨2, ![n0, n1]⟩ : Shape).Idx → EReal) (r c : ℕ) : ℝ := (x (ix2 (Fin.ofNat n0 r) (Fin.ofNat n1 c))).toReal
def rows {n0 n1 : ℕ} [NeZero n0] [NeZero n1] (x : (⟨2, ![n0, n1]⟩ : Shape).Idx → EReal) (k b p s l : ℕ) : ℝ := real x (4096 * b + s) (k + 128 * p + l)

end Cert.Stick

namespace Cert.AttnRefIdeal.Val

open Cert.AttnRefIdeal Cert.AttnRefIdeal.Gen Idealize.ShloMosaic Finset
open Cert.AttnRefIdeal.Read
open Stick (score cot wt gw ds rows)

variable (x : FVec Ideal S8192x1536 .f32) (y : FVec Ideal S8192x512 .f32)

theorem foldl_add {ι : Type} (g : ι → EReal) (l : List ι) (v : EReal) : l.foldl (fun r n => r + g n) v = v + (l.map g).sum := by
  induction l generalizing v with
  | nil => simp
  | cons a l ih => simp [ih, add_assoc]

/-- A running sum along the last axis, in either direction: `L` zeros are put before the operand. -/
theorem window_at (L H : ℕ) (h : S2x8x4096x4096.ReduceWindows (![1, 1, 1, 4096] : Fin 4 → ℕ) ![1, 1, 1, 1] ![0, 0, 0, L] ![0, 0, 0, H] S2x8x4096x4096) (hu : 0 < S_.numel)
    (v : FVec Ideal S2x8x4096x4096 .f32) (e : FVec Ideal S_ .f32) (he : ∀ i, e i = 0) (f : ℕ → ℝ) (b : Fin 2) (hd : Fin 8) (s t : Fin 4096)
    (hv : ∀ u : Fin 4096, v (ix4 b hd s u) = ((f u.val : ℝ) : EReal)) :
    Host.reduceWindowAdd (![1, 1, 1, 4096] : Fin 4 → ℕ) ![1, 1, 1, 1] ![0, 0, 0, L] ![0, 0, 0, H] v e h hu (ix4 b hd s t)
      = ((∑ n ∈ range 4096, if L ≤ t.val + n ∧ t.val + n - L < 4096 then f (t.val + n - L) else 0 : ℝ) : EReal) := by
  unfold Host.reduceWindowAdd
  rw [he]
  simp only [Ideal.hostReduceWindowAdd_def]
  unfold Ideal.hostReduceWindowAdd Host.reduceWindow
  refine (foldl_add _ _ _).trans ?_
  rw [zero_add, ← Fin.sum_univ_def]
  have hN : (⟨4, ![1, 1, 1, 4096]⟩ : Shape).numel = 4096 := by decide
  have key : ∀ n : Fin (⟨4, ![1, 1, 1, 4096]⟩ : Shape).numel, ((⟨4, ![1, 1, 1, 4096]⟩ : Shape).rowMajor.symm n 3).val = n.val := fun n => by
    have e := Shape.rowMajor_val_four ((⟨4, ![1, 1, 1, 4096]⟩ : Shape).rowMajor.symm n)
    have h0 : ((⟨4, ![1, 1, 1, 4096]⟩ : Shape).rowMajor.symm n 0).val < 1 := ((⟨4, ![1, 1, 1, 4096]⟩ : Shape).rowMajor.symm n 0).isLt
    have h1 : ((⟨4, ![1, 1, 1, 4096]⟩ : Shape).rowMajor.symm n 1).val < 1 := ((⟨4, ![1, 1, 1, 4096]⟩ : Shape).rowMajor.symm n 1).isLt
    have h2 : ((⟨4, ![1, 1, 1, 4096]⟩ : Shape).rowMajor.symm n 2).val < 1 := ((⟨4, ![1, 1, 1, 4096]⟩ : Shape).rowMajor.symm n 2).isLt
    rw [Equiv.apply_symm_apply] at e
    rw [e, Nat.lt_one_iff.mp h0, Nat.lt_one_iff.mp h1, Nat.lt_one_iff.mp h2]
    simp
  have small (n : Fin (⟨4, ![1, 1, 1, 4096]⟩ : Shape).numel) : ((⟨4, ![1, 1, 1, 4096]⟩ : Shape).rowMajor.symm n 0).val = 0
      ∧ ((⟨4, ![1, 1, 1, 4096]⟩ : Shape).rowMajor.symm n 1).val = 0 ∧ ((⟨4, ![1, 1, 1, 4096]⟩ : Shape).rowMajor.symm n 2).val = 0 :=
    ⟨Nat.lt_one_iff.mp ((⟨4, ![1, 1, 1, 4096]⟩ : Shape).rowMajor.symm n 0).isLt, Nat.lt_one_iff.mp ((⟨4, ![1, 1, 1, 4096]⟩ : Shape).rowMajor.symm n 1).isLt,
      Nat.lt_one_iff.mp ((⟨4, ![1, 1, 1, 4096]⟩ : Shape).rowMajor.symm n 2).isLt⟩
  refine Eq.trans (sum_congr rfl fun n _ => ?_) (((Stick.coe_sum fun n : Fin (⟨4, ![1, 1, 1, 4096]⟩ : Shape).numel =>
    if L ≤ t.val + n.val ∧ t.val + n.val - L < 4096 then f (t.val + n.val - L) else 0).symm.trans
    (congrArg _ (Fin.sum_univ_eq_sum_range (fun n => if L ≤ t.val + n ∧ t.val + n - L < 4096 then f (t.val + n - L) else 0) _))).trans (by rw [hN]))
  obtain ⟨n0, n1, n2⟩ := small n
  have n3 := key n
  let w : (⟨4, ![1, 1, 1, 4096]⟩ : Shape).Idx := (⟨4, ![1, 1, 1, 4096]⟩ : Shape).rowMajor.symm n
  change (w 0).val = 0 at n0
  change (w 1).val = 0 at n1
  change (w 2).val = 0 at n2
  change (w 3).val = n.val at n3
  by_cases hc : L ≤ t.val + n.val ∧ t.val + n.val - L < 4096
  · rw [if_pos hc, dif_pos (fun a => by
      match a with
      | ⟨0, _⟩ => exact ⟨Nat.zero_le _, by show b.val * 1 + (w 0).val - 0 < 2; omega⟩
      | ⟨1, _⟩ => exact ⟨Nat.zero_le _, by show hd.val * 1 + (w 1).val - 0 < 8; omega⟩
      | ⟨2, _⟩ => exact ⟨Nat.zero_le _, by show s.val * 1 + (w 2).val - 0 < 4096; omega⟩
      | ⟨3, _⟩ => exact ⟨by show L ≤ t.val * 1 + (w 3).val; omega, by show t.val * 1 + (w 3).val - L < 4096; omega⟩)]
    refine Eq.trans (congrArg v (funext fun a => Fin.ext ?_)) (hv ⟨t.val + n.val - L, hc.2⟩)
    match a with
    | ⟨0, _⟩ => show b.val * 1 + (w 0).val - 0 = b.val; omega
    | ⟨1, _⟩ => show hd.val * 1 + (w 1).val - 0 = hd.val; omega
    | ⟨2, _⟩ => show s.val * 1 + (w 2).val - 0 = s.val; omega
    | ⟨3, _⟩ => show t.val * 1 + (w 3).val - L = t.val + n.val - L; omega
  · rw [if_neg hc, dif_neg (fun hall => hc (by
      obtain ⟨p, q⟩ := hall 3
      have p : L ≤ t.val * 1 + (w 3).val := p
      have q : t.val * 1 + (w 3).val - L < 4096 := q
      omega))]
    rfl

/-- The entry of a finite argument by its number among the columns of its pair of heads. -/
theorem row_at {n1 : ℕ} [NeZero n1] {w : (⟨2, ![8192, n1]⟩ : Shape).Idx → EReal} (hw : ∀ r c, w (ix2 r c) = ((Stick.real w r.val c.val : ℝ) : EReal))
    (r : Fin 8192) (c : Fin n1) (k b p s l : ℕ) (hr : r.val = 4096 * b + s) (hc : c.val = k + 128 * p + l) :
    w (ix2 r c) = ((rows w k b p s l : ℝ) : EReal) := by
  rw [hw, hr, hc]
  rfl

/-- The logits and the gradients of the weights of one head at one query. -/
def zs (b h s : ℕ) : ℕ → ℝ := score (rows x 0 b (h / 2)) (rows x 512 b (h / 2)) (h % 2) s
def cs (b h s : ℕ) : ℕ → ℝ := cot (rows y 0 b (h / 2)) (rows x 1024 b (h / 2)) (h % 2) s

/-- The weight before the mask. -/
def raw (b h s t : ℕ) : ℝ := Real.exp (-Stick.sp (-zs x b h s t) + Stick.surv (zs x b h s) s t)

theorem raw_eq (b h s t : ℕ) : (if t < s then raw x b h s t else 0) = Stick.att (zs x b h s) s t := by
  unfold raw Stick.att
  split
  · rw [← Stick.sub_sp, Stick.lg, if_pos ‹_›]
    congr 1
    ring
  · rfl

/-- The sums from an entry on, and up to an entry. -/
theorem from_on (f : ℕ → ℝ) {t : ℕ} (ht : t < 4096) : ∑ n ∈ range 4096, (if 0 ≤ t + n ∧ t + n - 0 < 4096 then f (t + n - 0) else 0) = ∑ u ∈ Ico t 4096, f u := by
  rw [sum_Ico_eq_sum_range, ← sum_filter]
  refine sum_congr (Finset.ext fun u => ?_) fun _ _ => rfl
  simp only [mem_filter, mem_range]
  omega
theorem up_to (f : ℕ → ℝ) {t : ℕ} (ht : t < 4096) : ∑ n ∈ range 4096, (if 4095 ≤ t + n ∧ t + n - 4095 < 4096 then f (t + n - 4095) else 0) = ∑ u ∈ range (t + 1), f u := by
  rw [← sum_filter]
  refine sum_nbij' (fun n => t + n - 4095) (fun u => u + 4095 - t) ?_ ?_ ?_ ?_ fun _ _ => rfl <;>
    simp only [mem_filter, mem_range] <;> omega

section
variable {x y}
variable (hx : ∀ r c, x (ix2 r c) = ((Stick.real x r.val c.val : ℝ) : EReal)) (hy : ∀ r c, y (ix2 r c) = ((Stick.real y r.val c.val : ℝ) : EReal))
variable (b : Fin 2) (h : Fin 8) (s t : Fin 4096)
include hx

theorem z_at : val_main_v9 (F := Ideal) x (ix4 b h s t) = ((zs x b.val h.val s.val t.val : ℝ) : EReal) := by
  pointwise [val_main_v9, val_main_v8, val_main_cst, val_main_v7, val_main_v4, val_main_v3, val_main_v0, val_main_v6, val_main_v5, val_main_v1]
  rw [zs, score, EReal.coe_mul, Stick.coe_sum]
  refine Ideal.mul_congr (sum_congr rfl fun d _ => ?_) AttnIdeal.Run.eighth_f32
  rw [EReal.coe_mul]
  exact Ideal.mul_congr (row_at hx _ _ 0 b.val (h.val / 2) _ _ (by show _ * _ + _ = _; omega) (by show _ * _ + _ = _; omega))
    (row_at hx _ _ 512 b.val (h.val / 2) _ _ (by show _ * _ + _ = _; omega) (by show _ + (_ * _ + _) = _; omega))

omit hx in
theorem soft (z : ℝ) : (if (z : EReal) ≠ z then (z : EReal) else max (z : EReal) 0 + Ideal.log1p (Ideal.exp (-FloatOps.absf (F := Ideal) (φ := .f32) (z : EReal)))) = ((Stick.sp z : ℝ) : EReal) := by
  rw [if_neg (not_not.mpr rfl), ← Stick.sp_abs]
  have e : FloatOps.absf (F := Ideal) (φ := .f32) (z : EReal) = ((|z| : ℝ) : EReal) := by
    rw [Ideal.absf_def, ← EReal.coe_neg, AttnIdeal.Run.coe_max]
    rfl
  rw [e, ← EReal.coe_neg, Ideal.exp_coe, show ∀ r : EReal, Ideal.log1p r = Ideal.log (1 + r) from fun _ => rfl, ← EReal.coe_one, ← EReal.coe_add, Ideal.log_coe, if_neg (not_le.mpr (show 0 < 1 + Real.exp (-|z|) by positivity)), ← EReal.coe_zero,
    AttnIdeal.Run.coe_max, ← EReal.coe_add]

omit hx in
theorem top_bits : Ideal.ofBits .f32 0x7F800000#32 = ⊤ := by simp [Ideal.ofBits, Ideal.ieee]

omit hx in
theorem sigm (z : ℝ) : Ideal.exp ((if (z : EReal) = ⊤ then (0 : EReal) else z) - (if ((Stick.sp z : ℝ) : EReal) = ⊤ then (0 : EReal) else ((Stick.sp z : ℝ) : EReal))) = ((Stick.sg z : ℝ) : EReal) := by
  rw [if_neg (EReal.coe_ne_top _), if_neg (EReal.coe_ne_top _), ← EReal.coe_sub, Ideal.exp_coe]
  rfl

theorem softplus_at : val_main_call0_v1_0 (F := Ideal) x (ix4 b h s t) = ((Stick.sp (zs x b.val h.val s.val t.val) : ℝ) : EReal) := by
  pointwise [val_main_call0_v1_0, val_main_call0_call0_v4, val_main_call0_call0_v6, val_main_call0_call0_v11, val_main_call0_call0_v3,
    val_main_call0_call0_v1, val_main_call0_call0_v10, val_main_call0_v0, val_main_v17, val_main_call0_call0_v9, val_main_call0_call0_v8,
    val_main_call0_call0_v7, val_main_call0_call0_v0, val_main_call0_call0_v2, val_main_call0_call0_v5, val_main_call0_call0_cst, z_at hx b h s t]
  rw [neg_neg]
  exact soft _

theorem softplus_neg_at : val_main_call3_v1_0 (F := Ideal) x (ix4 b h s t) = ((Stick.sp (-zs x b.val h.val s.val t.val) : ℝ) : EReal) := by
  pointwise [val_main_call3_v1_0, val_main_call3_call0_v4, val_main_call3_call0_v6, val_main_call3_call0_v11, val_main_call3_call0_v3,
    val_main_call3_call0_v1, val_main_call3_call0_v10, val_main_call3_v0, val_main_call3_call0_v9, val_main_call3_call0_v8,
    val_main_call3_call0_v7, val_main_call3_call0_v0, val_main_call3_call0_v2, val_main_call3_call0_v5, val_main_call3_call0_cst, z_at hx b h s t]
  rw [← EReal.coe_neg]
  exact soft _

theorem sigmoid_at : val_main_v18_1 (F := Ideal) x (ix4 b h s t) = ((Stick.sg (zs x b.val h.val s.val t.val) : ℝ) : EReal) := by
  pointwise [val_main_v18_1, val_main_call0_call0_v21, val_main_call0_call0_v16, val_main_call0_call0_v20, val_main_call0_call0_v14,
    val_main_call0_call0_v15, val_main_call0_call0_v18, val_main_call0_call0_v19, val_main_call0_call0_v13, val_main_call0_call0_v17,
    val_main_call0_call0_cst_0, val_main_call0_call0_cst_1, val_main_call0_call0_cst_2, val_main_call0_call0_cst_3, val_main_call0_v0, val_main_v17,
    z_at hx b h s t, softplus_at hx b h s t]
  rw [neg_neg, top_bits]
  exact sigm _

theorem sigmoid_neg_at : val_main_v22_1 (F := Ideal) x (ix4 b h s t) = ((Stick.sg (-zs x b.val h.val s.val t.val) : ℝ) : EReal) := by
  pointwise [val_main_v22_1, val_main_call3_call0_v21, val_main_call3_call0_v16, val_main_call3_call0_v20, val_main_call3_call0_v14,
    val_main_call3_call0_v15, val_main_call3_call0_v18, val_main_call3_call0_v19, val_main_call3_call0_v13, val_main_call3_call0_v17,
    val_main_call3_call0_cst_0, val_main_call3_call0_cst_1, val_main_call3_call0_cst_2, val_main_call3_call0_cst_3, val_main_call3_v0,
    z_at hx b h s t, softplus_neg_at hx b h s t]
  rw [← EReal.coe_neg, top_bits]
  exact sigm _

omit hx in
theorem mask_at : IntOp.cmpi .slt (BitVec.ofNat 32 t.val) (BitVec.ofNat 32 s.val) = 1#1 ↔ t.val < s.val :=
  WordCmp.cmpi_slt_ofNat_eq_one_iff (by omega) (by omega)

omit hx in
theorem choose (u v : ℝ) : Scalar.select (IntOp.cmpi .slt (BitVec.ofNat 32 t.val) (BitVec.ofNat 32 s.val)) (u : EReal) (v : EReal)
    = ((if t.val < s.val then u else v : ℝ) : EReal) := by
  rw [AttnIdeal.Run.select_ite _ _ (mask_at s t)]
  exact (apply_ite Real.toEReal _ _ _).symm

omit hx in
theorem zero_lg : val_main_call1_v0 (F := Ideal) ix0 = 0 := Ideal.ofBits_zero_f32
omit hx in
theorem zero_att : val_main_call4_v0 (F := Ideal) ix0 = 0 := Ideal.ofBits_zero_f32

theorem lg_at : val_main_v19_0 (F := Ideal) x (ix4 b h s t) = ((Stick.lg (zs x b.val h.val s.val) s.val t.val : ℝ) : EReal) := by
  pointwise [val_main_v19_0, val_main_v19_1, val_main_v16, val_main_v14, val_main_v15, val_main_v11, val_main_v13, val_main_v10, val_main_v12,
    val_main_v18_0, val_main_call1_v2, zero_lg, softplus_at hx b h s t]
  rw [← EReal.coe_neg, ← EReal.coe_zero]
  exact choose s t _ _

theorem surv_at : val_main_v21 (F := Ideal) x (ix4 b h s t) = ((Stick.surv (zs x b.val h.val s.val) s.val t.val : ℝ) : EReal) := by
  pointwise [val_main_v21, lg_at hx b h s t]
  unfold val_main_v20
  rw [window_at 0 4095 _ _ _ _ (fun i => by pointwise [val_main_call2_v0, val_main_call2_cst]) _ b h s t (fun u => lg_at hx b h s u), ← EReal.coe_sub]
  rw [from_on _ t.isLt, sum_eq_sum_Ico_succ_bot t.isLt, add_sub_cancel_left]
  rfl

theorem raw_at : val_main_v24 (F := Ideal) x (ix4 b h s t) = ((raw x b.val h.val s.val t.val : ℝ) : EReal) := by
  pointwise [val_main_v24, val_main_v23, val_main_v22_0, surv_at hx b h s t, softplus_neg_at hx b h s t]
  rw [← EReal.coe_neg, ← EReal.coe_add, Ideal.exp_coe]
  rfl

theorem att_at : val_main_v25_0 (F := Ideal) x (ix4 b h s t) = ((Stick.att (zs x b.val h.val s.val) s.val t.val : ℝ) : EReal) := by
  pointwise [val_main_v25_0, val_main_v25_1, val_main_v16, val_main_v14, val_main_v15, val_main_v11, val_main_v13, val_main_v10, val_main_v12,
    val_main_call4_v2, zero_att, raw_at hx b h s t]
  rw [← EReal.coe_zero, choose s t, raw_eq]

include hy

theorem cot_at : val_main_v35 (F := Ideal) x y (ix4 b h s t) = ((cs x y b.val h.val s.val t.val : ℝ) : EReal) := by
  pointwise [val_main_v35, val_main_v32, val_main_v31, val_main_v27, val_main_v26, val_main_v2]
  rw [cs, cot, Stick.coe_sum]
  refine sum_congr rfl fun d _ => ?_
  rw [EReal.coe_mul]
  exact Ideal.mul_congr (row_at hy _ _ 0 b.val (h.val / 2) _ _ (by show _ * _ + _ = _; omega) (by show _ * _ + _ = _; omega))
    (row_at hx _ _ 1024 b.val (h.val / 2) _ _ (by show _ * _ + _ = _; omega) (by show _ + (_ * _ + _) = _; omega))

theorem gn_at : val_main_v39 (F := Ideal) x y (ix4 b h s t) = ((Stick.gn (zs x b.val h.val s.val) (cs x y b.val h.val s.val) s.val t.val : ℝ) : EReal) := by
  pointwise [val_main_v39, val_main_v38, val_main_v25_1, val_main_v16, val_main_v14, val_main_v15, val_main_v11, val_main_v13, val_main_v10, val_main_v12,
    val_main_call5_v0, val_main_call5_cst, raw_at hx b h s t, cot_at hx hy b h s t]
  rw [← EReal.coe_mul, ← EReal.coe_zero, choose s t, Stick.gn, ← raw_eq]
  split <;> simp [mul_comm]

theorem sums_at : val_main_v42 (F := Ideal) x y (ix4 b h s t)
    = ((∑ u ∈ range (t.val + 1), Stick.gn (zs x b.val h.val s.val) (cs x y b.val h.val s.val) s.val u : ℝ) : EReal) := by
  unfold val_main_v42
  rw [window_at 4095 0 _ _ _ _ (fun i => by pointwise [val_main_call7_v0, val_main_call7_cst]) _ b h s t (fun u => gn_at hx hy b h s u)]
  rw [up_to _ t.isLt]

theorem dz_at : val_main_v47 (F := Ideal) x y (ix4 b h s t) = ((Stick.dz (zs x b.val h.val s.val) (cs x y b.val h.val s.val) s.val t.val : ℝ) : EReal) := by
  pointwise [val_main_v47, val_main_v40, val_main_v46, val_main_v45, val_main_call6_v1, val_main_call6_v0, val_main_call9_v1, val_main_call9_v0,
    val_main_v44, val_main_v43, val_main_v41, val_main_v19_1, val_main_v16, val_main_v14, val_main_v15, val_main_v11, val_main_v13, val_main_v10, val_main_v12,
    val_main_call8_v0, val_main_call8_cst, gn_at hx hy b h s t, sums_at hx hy b h s t, sigmoid_at hx b h s t, sigmoid_neg_at hx b h s t]
  rw [← EReal.coe_zero, ← EReal.coe_neg, ← EReal.coe_add, choose s t]
  simp only [← EReal.coe_neg, ← EReal.coe_mul, ← EReal.coe_add]
  congr 1
  have e := Stick.sg_add (zs x b.val h.val s.val t.val)
  unfold Stick.dz
  split
  · linear_combination (Stick.gn (zs x b.val h.val s.val) (cs x y b.val h.val s.val) s.val t.val) * e
  · rw [Stick.gn, Stick.att, if_neg ‹_›]
    ring

theorem dq_at (R : Fin 8192) (C : Fin 512) : val_main_v56 (F := Ideal) x y (ix2 R C) = ((∑ u ∈ range 4096, Stick.dz (zs x (R.val / 4096) (C.val / 64) (R.val % 4096)) (cs x y (R.val / 4096) (C.val / 64) (R.val % 4096)) (R.val % 4096) u
      * (1 / 8) * rows x 512 (R.val / 4096) (C.val / 128) u (C.val % 128) : ℝ) : EReal) := by
  pointwise [val_main_v56, val_main_v55, val_main_v54, val_main_v51, val_main_v49, val_main_v48, val_main_cst_2, val_main_v6, val_main_v5, val_main_v1]
  rw [← Fin.sum_univ_eq_sum_range (fun u => Stick.dz (zs x (R.val / 4096) (C.val / 64) (R.val % 4096)) (cs x y (R.val / 4096) (C.val / 64) (R.val % 4096)) (R.val % 4096) u * (1 / 8) * rows x 512 (R.val / 4096) (C.val / 128) u (C.val % 128)) 4096, Stick.coe_sum]
  refine sum_congr rfl fun u _ => ?_
  rw [EReal.coe_mul, EReal.coe_mul]
  exact Ideal.mul_congr (Ideal.mul_congr (dz_at hx hy ⟨R.val / 4096, by omega⟩ ⟨C.val / 64, by omega⟩ ⟨R.val % 4096, by omega⟩ u) AttnIdeal.Run.eighth_f32) (row_at hx _ _ 512 (R.val / 4096) (C.val / 128) u.val (C.val % 128) (by show _ * _ + _ = _; omega) (by show _ + _ = _; omega))

theorem dk_at (R : Fin 8192) (C : Fin 512) : val_main_v57 (F := Ideal) x y (ix2 R C) = ((∑ u ∈ range 4096, Stick.dz (zs x (R.val / 4096) (C.val / 64) u) (cs x y (R.val / 4096) (C.val / 64) u) u (R.val % 4096)
      * (1 / 8) * rows x 0 (R.val / 4096) (C.val / 128) u (C.val % 128) : ℝ) : EReal) := by
  pointwise [val_main_v57, val_main_v53, val_main_v52, val_main_v50, val_main_v49, val_main_v48, val_main_cst_2, val_main_v4, val_main_v3, val_main_v0]
  rw [← Fin.sum_univ_eq_sum_range (fun u => Stick.dz (zs x (R.val / 4096) (C.val / 64) u) (cs x y (R.val / 4096) (C.val / 64) u) u (R.val % 4096) * (1 / 8) * rows x 0 (R.val / 4096) (C.val / 128) u (C.val % 128)) 4096, Stick.coe_sum]
  refine sum_congr rfl fun u _ => ?_
  rw [EReal.coe_mul, EReal.coe_mul]
  exact Ideal.mul_congr (Ideal.mul_congr (dz_at hx hy ⟨R.val / 4096, by omega⟩ ⟨C.val / 64, by omega⟩ u ⟨R.val % 4096, by omega⟩) AttnIdeal.Run.eighth_f32) (row_at hx _ _ 0 (R.val / 4096) (C.val / 128) u.val (C.val % 128) (by show _ * _ + _ = _; omega) (by show C.val = _; omega))

theorem dv_at (R : Fin 8192) (C : Fin 512) : val_main_v58 (F := Ideal) x y (ix2 R C) = ((∑ u ∈ range 4096, rows y 0 (R.val / 4096) (C.val / 128) u (C.val % 128)
      * Stick.att (zs x (R.val / 4096) (C.val / 64) u) u (R.val % 4096) : ℝ) : EReal) := by
  pointwise [val_main_v58, val_main_v37, val_main_v36, val_main_v34, val_main_v33, val_main_v32, val_main_v31]
  rw [← Fin.sum_univ_eq_sum_range (fun u => rows y 0 (R.val / 4096) (C.val / 128) u (C.val % 128) * Stick.att (zs x (R.val / 4096) (C.val / 64) u) u (R.val % 4096)) 4096, Stick.coe_sum]
  refine sum_congr rfl fun u _ => ?_
  rw [EReal.coe_mul]
  exact Ideal.mul_congr (row_at hy _ _ 0 (R.val / 4096) (C.val / 128) u.val (C.val % 128) (by show _ * _ + _ = _; omega) (by show C.val = _; omega)) (att_at hx ⟨R.val / 4096, by omega⟩ ⟨C.val / 64, by omega⟩ u ⟨R.val % 4096, by omega⟩)

end

end Cert.AttnRefIdeal.Val

end
-- ==== Proof.AttnVal.lean ====
module

public import proofs.«01_k».proof.Proof.AttnRef
public import proofs.«01_k».proof.Proof.AttnFrame

@[expose] public section

set_option maxRecDepth 16384

noncomputable section

namespace Cert.AttnIdeal.Run

open Cert.AttnIdeal Cert.AttnIdeal.Gen Idealize.ShloMosaic Idealize.ShloMosaic.Tactic Idealize.ShloMosaic.TcCoe
open Idealize.ShloMosaic.Pipeline (Dat)

variable (m : (ℓ : Loc nD τ sig) → Buf (Elt Ideal) ℓ) (c : Dev nD)

/-- The arguments. -/
def X : FVec Ideal S8192x1536 .f32 := m ((c : Thread nD τ).loc main_arg0)
def Y : FVec Ideal S8192x512 .f32 := m ((c : Thread nD τ).loc main_arg1)

theorem V_eq (b : Ref sig .tc) : V m c b = StableHlo.after (hostOps0 ++ (hostOps0_1 ++ (hostOps0_2 ++ (hostOps0_3 ++ (hostOps0_4 ++ hostOps0_5))))) (fun b => m (c, b)) (Proc.tc.devRef b) := by
  simp only [V, lines, List.flatten_cons, List.flatten_nil, List.append_nil]

theorem qkv_read : (V m c main_v26 : FVec Ideal S8192x1536 .bf16) = X m c := by
  rw [V_eq]
  simp only [hostOps0, hostOps0_1, hostOps0_2, hostOps0_3, hostOps0_4, hostOps0_5, List.cons_append, List.nil_append]
  entry_read
  rfl

theorem dy_read : (V m c main_v27 : FVec Ideal S8192x512 .bf16) = Y m c := by
  rw [V_eq]
  simp only [hostOps0, hostOps0_1, hostOps0_2, hostOps0_3, hostOps0_4, hostOps0_5, List.cons_append, List.nil_append]
  entry_read
  rfl

theorem bit_at (w : BitVec 1) (p : Prop) [Decidable p] (h : w = 1#1 ↔ p) : (FloatOps.uitofp .bf16 w : Ideal .bf16) = ((if p then 1 else 0 : ℝ) : EReal) := by
  by_cases hp : p
  · rw [if_pos hp, h.mpr hp]
    show (((1#1 : BitVec 1).toNat : ℝ) : EReal) = _
    simp
  · rw [if_neg hp, show w = 0#1 from (show ∀ v : BitVec 1, v ≠ 1#1 → v = 0#1 by decide) w (mt h.mp hp)]
    show (((0#1 : BitVec 1).toNat : ℝ) : EReal) = _
    simp

theorem from_read (k l : Fin 256) : (V m c main_v31 : FVec Ideal S256x256 .bf16) (ix2 k l) = ((if l.val ≤ k.val then 1 else 0 : ℝ) : EReal) := by
  rw [V_eq]
  simp only [hostOps0, hostOps0_1, hostOps0_2, hostOps0_3, hostOps0_4, hostOps0_5, List.cons_append, List.nil_append]
  entry_read
  pointwise
  exact bit_at _ _ (WordCmp.cmpi_sge_ofNat_eq_one_iff (by omega) (by omega))

theorem upto_read (k l : Fin 256) : (V m c main_v35 : FVec Ideal S256x256 .bf16) (ix2 k l) = ((if k.val ≤ l.val then 1 else 0 : ℝ) : EReal) := by
  rw [V_eq]
  simp only [hostOps0, hostOps0_1, hostOps0_2, hostOps0_3, hostOps0_4, hostOps0_5, List.cons_append, List.nil_append]
  entry_read
  pointwise
  exact bit_at _ _ (WordCmp.cmpi_sle_ofNat_eq_one_iff (by omega) (by omega))

theorem table_eq : (V m c main_v25 : FVec Ideal S8192x1024 .f32)
    = shapeCast S8192x1024 (concatenate S2x4096x8x128 3 [⟨S2x4096x8x16, transpose S2x4096x8x16 [0, 2, 1, 3] (Host.slice S2x8x4096x16 ![0, 0, 0, 255] ![1, 1, 1, 256]
        (AttnRefIdeal.Read.val_main_v21 (F := Ideal) (X m c)) slicesBy_S2x8x4096x4096_S2x8x4096x16_0s1_0s1_0s1_255s256) transposes_S2x8x4096x16_S2x4096x8x16_0_2_1_3⟩,
      ⟨S2x4096x8x112, broadcastInDim S2x4096x8x112 ![] bcast_S_S2x4096x8x112 (constant S_ .f32 0x00000000#32 : FVec Ideal S_ .f32)⟩] concatenates_S2x4096x8x16_S2x4096x8x112_S2x4096x8x128_d3)
      shapeCasts_S2x4096x8x128_S8192x1024 := by
  rw [V_eq]
  simp only [hostOps0, hostOps0_1, hostOps0_2, hostOps0_3, hostOps0_4, hostOps0_5, List.cons_append, List.nil_append]
  entry_read
  rfl

/-- The arguments are finite. -/
structure Finite : Prop where
  hx : ∀ r k, X m c (ix2 r k) = ((Stick.real (X m c) r.val k.val : ℝ) : EReal)
  hy : ∀ r k, Y m c (ix2 r k) = ((Stick.real (Y m c) r.val k.val : ℝ) : EReal)

variable {m c} (H : Finite m c)
include H

theorem table_read (y : S8192x1024.Idx) (b h s j : ℕ) (hb : b < 2) (hh : h < 8) (hs : s < 4096) (hj : j < 16) (h0 : (y 0).val = 4096 * b + s) (h1 : (y 1).val = 128 * h + j) :
    (V m c main_v25 : FVec Ideal S8192x1024 .f32) y = ((Stick.surv (AttnRefIdeal.Val.zs (X m c) b h s) s (256 * j + 255) : ℝ) : EReal) := by
  have e : y = ix2 (n0 := 8192) (n1 := 1024) ⟨4096 * b + s, by omega⟩ ⟨128 * h + j, by omega⟩ := (eq_ix2 y).trans (congrArg₂ _ (Fin.ext h0) (Fin.ext h1))
  rw [table_eq, e]
  pointwise
  refine (dif_pos (by omega)).trans ((AttnRefIdeal.Val.surv_at H.hx _ _ _ _).trans ?_)
  simp only [show (4096 * b + s) / 4096 = b by omega, show (4096 * b + s) % 4096 = s by omega, show (128 * h + j) / 128 = h by omega, show (128 * h + j) % 128 = j by omega]
  rw [add_comm 255]

omit H in
theorem idx : ∀ t : Fin cfg0.N, win0_0.index t = ![t.val / 64 * 16 + t.val % 16, t.val / 16 % 4] ∧ win0_1.index t = ![t.val / 64, 4 + t.val / 16 % 4]
    ∧ win0_2.index t = ![t.val / 64, 8 + t.val / 16 % 4] ∧ win0_3.index t = ![t.val / 64 * 16 + t.val % 16, t.val / 16 % 4]
    ∧ win0_4.index t = ![t.val / 64 * 16 + t.val % 16, t.val / 16 % 4] ∧ win0_5.index t = ![0, 0] ∧ win0_6.index t = ![0, 0]
    ∧ win0_7.index t = ![t.val / 64 * 16 + t.val % 16, t.val / 16 % 4] ∧ win0_8.index t = ![t.val / 64, t.val / 16 % 4]
    ∧ win0_9.index t = ![t.val / 64, t.val / 16 % 4] := (by decide +kernel : ∀ t : Fin grid0.N, _)

open Stick (rows)

open AttnRefIdeal.Val (row_at)

theorem totals (t : Fin cfg0.N) (i : Fin 2) (r : Fin 256) (j : Fin 16) (y : S256x256.Idx) (h0 : (y 0).val = r.val) (h1 : (y 1).val = 128 * i.val + j.val) :
    (cell m c t).x6 y = ((Stick.surv (Stick.score (rows (X m c) 0 (t.val / 64) (t.val / 16 % 4)) (rows (X m c) 512 (t.val / 64) (t.val / 16 % 4))
      i.val (256 * (t.val % 16) + r.val)) (256 * (t.val % 16) + r.val) (256 * j.val + 255) : ℝ) : EReal) := by
  have ht : t.val < 128 := t.isLt
  refine (table_read H ((win0_3.blk t).view.emb y) (t.val / 64) (2 * (t.val / 16 % 4) + i.val) (256 * (t.val % 16) + r.val) j.val (by omega) (by omega) (by omega) j.isLt
    (by blk_simp [idx t]; omega) (by blk_simp [idx t]; omega)).trans ?_
  rw [AttnRefIdeal.Val.zs, show (2 * (t.val / 16 % 4) + i.val) / 2 = t.val / 16 % 4 by omega, show (2 * (t.val / 16 % 4) + i.val) % 2 = i.val by omega]

theorem q_at (t : Fin cfg0.N) (a : Fin 256) (l : Fin 128) : (cell m c t).x3 (ix2 a l) = ((rows (X m c) 0 (t.val / 64) (t.val / 16 % 4) (256 * (t.val % 16) + a.val) l.val : ℝ) : EReal) :=
  (congrFun (qkv_read m c) _).trans ((congrArg (X m c) (eq_ix2 ((win0_0.blk t).view.emb (ix2 a l)))).trans
    (row_at H.hx _ _ 0 _ _ _ _ (by blk_simp [idx t]; omega) (by blk_simp [idx t]; omega)))

theorem o_at (t : Fin cfg0.N) (a : Fin 256) (l : Fin 128) : (cell m c t).x7 (ix2 a l) = ((rows (Y m c) 0 (t.val / 64) (t.val / 16 % 4) (256 * (t.val % 16) + a.val) l.val : ℝ) : EReal) :=
  (congrFun (dy_read m c) _).trans ((congrArg (Y m c) (eq_ix2 ((win0_4.blk t).view.emb (ix2 a l)))).trans
    (row_at H.hy _ _ 0 _ _ _ _ (by blk_simp [idx t]; omega) (by blk_simp [idx t]; omega)))

theorem k_at (t : Fin cfg0.N) (a : Fin 4096) (l : Fin 128) : (cell m c t).xk (ix2 a l) = ((rows (X m c) 512 (t.val / 64) (t.val / 16 % 4) a.val l.val : ℝ) : EReal) :=
  (congrFun (qkv_read m c) _).trans ((congrArg (X m c) (eq_ix2 ((win0_1.blk t).view.emb (ix2 a l)))).trans
    (row_at H.hx _ _ 512 _ _ _ _ (by blk_simp [idx t]; omega) (by blk_simp [idx t]; omega)))

theorem v_at (t : Fin cfg0.N) (a : Fin 4096) (l : Fin 128) : (cell m c t).xv (ix2 a l) = ((rows (X m c) 1024 (t.val / 64) (t.val / 16 % 4) a.val l.val : ℝ) : EReal) :=
  (congrFun (qkv_read m c) _).trans ((congrArg (X m c) (eq_ix2 ((win0_2.blk t).view.emb (ix2 a l)))).trans
    (row_at H.hx _ _ 1024 _ _ _ _ (by blk_simp [idx t]; omega) (by blk_simp [idx t]; omega)))

omit H in
theorem from_at (t : Fin cfg0.N) (a : Fin 256) (l : Fin 256) : (cell m c t).su (ix2 a l) = ((if l.val ≤ a.val then 1 else 0 : ℝ) : EReal) :=
  (congrArg (V m c main_v31 : FVec Ideal S256x256 .bf16) ((eq_ix2 ((win0_5.blk t).view.emb (ix2 a l))).trans
    (congrArg₂ ix2 (Fin.ext (by blk_simp [idx t])) (Fin.ext (by blk_simp [idx t]))))).trans (from_read m c a l)

omit H in
theorem upto_at (t : Fin cfg0.N) (a : Fin 256) (l : Fin 256) : (cell m c t).pr (ix2 a l) = ((if a.val ≤ l.val then 1 else 0 : ℝ) : EReal) :=
  (congrArg (V m c main_v35 : FVec Ideal S256x256 .bf16) ((eq_ix2 ((win0_6.blk t).view.emb (ix2 a l))).trans
    (congrArg₂ ix2 (Fin.ext (by blk_simp [idx t])) (Fin.ext (by blk_simp [idx t]))))).trans (upto_read m c a l)

theorem cell_rows (t : Fin cfg0.N) : Rows (cell m c t) (rows (X m c) 0 (t.val / 64) (t.val / 16 % 4)) (rows (X m c) 512 (t.val / 64) (t.val / 16 % 4))
    (rows (X m c) 1024 (t.val / 64) (t.val / 16 % 4)) (rows (Y m c) 0 (t.val / 64) (t.val / 16 % 4)) (t.val % 16) := by
  constructor
  · exact q_at H t
  · exact o_at H t
  · exact k_at H t
  · exact v_at H t
  · exact from_at (m := m) (c := c) t
  · exact upto_at (m := m) (c := c) t
  · intro i r j
    exact totals H t i r j (ix2 (n0 := 256) (n1 := 256) r ⟨128 * i.val + j.val, by omega⟩) rfl rfl

theorem ended : ∀ (n : ℕ) (h : n < cfg0.N), Upto (rows (X m c) 0 (n / 64) (n / 16 % 4)) (rows (X m c) 512 (n / 64) (n / 16 % 4))
    (rows (X m c) 1024 (n / 64) (n / 16 % 4)) (rows (Y m c) 0 (n / 64) (n / 16 % 4)) (n % 16) (n % 16 + 1) (state m c ⟨n, h⟩)
  | 0, h => (cell_rows H ⟨0, h⟩).all _ (coord2 ⟨0, h⟩) (fun e => absurd rfl e) (fun e => absurd rfl e)
  | n + 1, h => by
    have before := ended n (by omega)
    refine (cell_rows H ⟨n + 1, h⟩).all _ (coord2 ⟨n + 1, h⟩) (fun e j l u => ?_) (fun e j l u => ?_)
    all_goals
      dsimp only at e
      have e1 : (n + 1) / 64 = n / 64 := by omega
      have e2 : (n + 1) / 16 % 4 = n / 16 % 4 := by omega
      have e3 : (n + 1) % 16 = n % 16 + 1 := by omega
      dsimp only
      rw [e1, e2, e3]
    · exact before.xk j l u
    · exact before.xv j l u

omit H in
theorem packed_at (x : Vec Ideal S16x128x256 .f32) (r : Fin 4096) (l : Fin 128) : packed x (ix2 r l) = x (ix3 ⟨r.val / 256, by omega⟩ l ⟨r.val % 256, by omega⟩) := by
  unfold packed
  pointwise [k0_pay5]
  exact congrArg (fun j => x (ix3 (n0 := 16) (n1 := 128) (n2 := 256) j l ⟨r.val % 256, by omega⟩)) (Fin.ext (Nat.mod_eq_of_lt (by show r.val / 256 + 0 < 16; omega)))

omit H in
theorem scaled_at (x : FVec Ideal S256x128 .f32) (r : Fin 256) (l : Fin 128) : k0_pay4 x (ix2 r l) = x (ix2 r l) * ((1 / 8 : ℝ) : EReal) := by
  rw [← eighth_f32]
  pointwise [k0_pay4]

theorem dq_point (t : Fin cfg0.N) (r : Fin 256) (l : Fin 128) (R : Fin 8192) (C : Fin 512) (hR : R.val = (t.val / 64 * 16 + t.val % 16) * 256 + r.val) (hC : C.val = t.val / 16 % 4 * 128 + l.val) :
    k0_pay4 (state m c t).dq (ix2 r l) = AttnRefIdeal.Read.val_main_v56 (F := Ideal) (X m c) (Y m c) (ix2 R C) := by
  have ht : t.val < 128 := t.isLt
  rw [scaled_at, (ended H t.val t.isLt).dq (by omega), AttnRefIdeal.Val.dq_at H.hx H.hy, ← EReal.coe_mul, Finset.sum_mul]
  congr 1
  refine Finset.sum_congr rfl fun u _ => ?_
  unfold AttnRefIdeal.Val.zs AttnRefIdeal.Val.cs Stick.ds
  rw [show R.val / 4096 = t.val / 64 by omega, show R.val % 4096 = 256 * (t.val % 16) + r.val by omega, show C.val / 64 / 2 = t.val / 16 % 4 by omega,
    show C.val / 128 = t.val / 16 % 4 by omega, show C.val / 64 % 2 = l.val / 64 by omega, show C.val % 128 = l.val by omega]
  ring

theorem dk_point (t : Fin cfg0.N) (h : t.val % 16 = 15) (r : Fin 4096) (l : Fin 128) (R : Fin 8192) (C : Fin 512) (hR : R.val = t.val / 64 * 4096 + r.val) (hC : C.val = t.val / 16 % 4 * 128 + l.val) :
    packed (state m c t).xk (ix2 r l) = AttnRefIdeal.Read.val_main_v57 (F := Ideal) (X m c) (Y m c) (ix2 R C) := by
  have ht : t.val < 128 := t.isLt
  rw [packed_at, (ended H t.val t.isLt).xk, AttnRefIdeal.Val.dk_at H.hx H.hy, h]
  congr 1
  refine Finset.sum_congr rfl fun u _ => ?_
  unfold AttnRefIdeal.Val.zs AttnRefIdeal.Val.cs Stick.ds
  rw [show R.val / 4096 = t.val / 64 by omega, show R.val % 4096 = 256 * (r.val / 256) + r.val % 256 by omega, show C.val / 64 / 2 = t.val / 16 % 4 by omega,
    show C.val / 128 = t.val / 16 % 4 by omega, show C.val / 64 % 2 = l.val / 64 by omega, show C.val % 128 = l.val by omega]
  ring

theorem dv_point (t : Fin cfg0.N) (h : t.val % 16 = 15) (r : Fin 4096) (l : Fin 128) (R : Fin 8192) (C : Fin 512) (hR : R.val = t.val / 64 * 4096 + r.val) (hC : C.val = t.val / 16 % 4 * 128 + l.val) :
    packed (state m c t).xv (ix2 r l) = AttnRefIdeal.Read.val_main_v58 (F := Ideal) (X m c) (Y m c) (ix2 R C) := by
  have ht : t.val < 128 := t.isLt
  rw [packed_at, (ended H t.val t.isLt).xv, AttnRefIdeal.Val.dv_at H.hx H.hy, h]
  congr 1
  refine Finset.sum_congr rfl fun u _ => ?_
  unfold AttnRefIdeal.Val.zs Stick.wt
  rw [show R.val / 4096 = t.val / 64 by omega, show R.val % 4096 = 256 * (r.val / 256) + r.val % 256 by omega, show C.val / 64 / 2 = t.val / 16 % 4 by omega,
    show C.val / 128 = t.val / 16 % 4 by omega, show C.val / 64 % 2 = l.val / 64 by omega, show C.val % 128 = l.val by omega]
  ring

theorem final7 : (dats m 0 c).arrAt 7 cfg0.N = AttnRefIdeal.Read.val_main_v56 (F := Ideal) (X m c) (Y m c) := by
  refine (dats m 0 c).arrAt_eq_of_covers 7 _ (by decide +kernel) fun t _ y => ?_
  blk_simp
  exact (congrArg _ (eq_ix2 y)).trans ((dq_point H t (y 0) (y 1) _ _ (by blk_simp [idx t]) (by blk_simp [idx t])).trans
    (congrArg (AttnRefIdeal.Read.val_main_v56 (F := Ideal) (X m c) (Y m c)) (eq_ix2 ((win0_7.blk t).view.emb y)).symm))

theorem final8 : (dats m 0 c).arrAt 8 cfg0.N = AttnRefIdeal.Read.val_main_v57 (F := Ideal) (X m c) (Y m c) := by
  refine (dats m 0 c).arrAt_eq_of_covers 8 _ (by decide +kernel) fun t h y => ?_
  have h := (flush0_8 t).mp h
  blk_simp
  exact (congrArg _ (eq_ix2 y)).trans ((dk_point H t h (y 0) (y 1) _ _ (by blk_simp [idx t]) (by blk_simp [idx t])).trans
    (congrArg (AttnRefIdeal.Read.val_main_v57 (F := Ideal) (X m c) (Y m c)) (eq_ix2 ((win0_8.blk t).view.emb y)).symm))

theorem final9 : (dats m 0 c).arrAt 9 cfg0.N = AttnRefIdeal.Read.val_main_v58 (F := Ideal) (X m c) (Y m c) := by
  refine (dats m 0 c).arrAt_eq_of_covers 9 _ (by decide +kernel) fun t h y => ?_
  have h := (flush0_9 t).mp h
  blk_simp
  exact (congrArg _ (eq_ix2 y)).trans ((dv_point H t h (y 0) (y 1) _ _ (by blk_simp [idx t]) (by blk_simp [idx t])).trans
    (congrArg (AttnRefIdeal.Read.val_main_v58 (F := Ideal) (X m c) (Y m c)) (eq_ix2 ((win0_9.blk t).view.emb y)).symm))

end Cert.AttnIdeal.Run

end
-- ==== Proof.AttnClaim.lean ====
module

public import proofs.«01_k».proof.Defs
public import proofs.«01_k».proof.Proof.Gen.Attn
public import proofs.«01_k».proof.Proof.Gen.AttnIdeal
public import proofs.«01_k».proof.Proof.Gen.AttnRefIdeal.Run
public import proofs.«01_k».proof.Proof.AttnFrame
public import proofs.«01_k».proof.Proof.AttnVal

@[expose] public section

noncomputable section

namespace Cert.Proof.Attn

open Idealize.ShloMosaic Idealize.ShloMosaic.TcCoe Idealize.SL.Sem

theorem frame_kernel_ideal : Cert.quiescent_AttnIdeal (hAttnIdeal := Cert.AttnIdeal.Gen.facts) := fun m ρ _ => Cert.AttnIdeal.Run.frame_any m ρ

/-- The kernel is the same text over machine numbers, so its run is the same run. -/
theorem frame_kernel : Cert.quiescent_Attn (hAttn := Cert.Attn.Gen.facts) := fun m ρ _ =>
  Eq.mp (by sl_kernel_rfl) (Cert.AttnIdeal.Run.frame_any (F := Bits) m ρ)

theorem frame_reference : Cert.quiescent_AttnRefIdeal (hAttnRefIdeal := Cert.AttnRefIdeal.Gen.facts) := by
  intro m g _
  refine (θ_run _ _ _).mono (fun r h => ⟨fun c => ?_, ?_⟩) (Cert.AttnRefIdeal.Value.run m g)
  · have := h c
    simp only [this, and_self]
  · funext s
    obtain ⟨_, s⟩ := s
    rcases s with s | s <;> exact s.elim0

theorem finite_facts : Cert.Pre_attn_finite.Facts where
  bcast_S_S8192x1536 := by decide
  bcast_S_S8192x512 := by decide

/-- A number whose size is below infinity is the number of its real value. -/
theorem real_of_lt (a : EReal) (h : FloatOps.cmpf (F := Ideal) (φ := .f32) .olt (FloatOps.hostAbsf (F := Ideal) (φ := .f32) a) (FloatOps.ofBits (F := Ideal) .f32 0x7F800000#32) = 1#1) :
    a = ((a.toReal : ℝ) : EReal) := by
  have h : max a (-a) < ⊤ := by
    have t : FloatOps.ofBits (F := Ideal) .f32 0x7F800000#32 = (⊤ : EReal) := Cert.AttnRefIdeal.Val.top_bits
    rw [t] at h
    by_contra hn
    simp [FloatOps.cmpf, FloatOps.hostAbsf, Ideal.cmp, hn] at h
  refine (EReal.coe_toReal ?_ ?_).symm
  · rintro rfl
    simp at h
  · rintro rfl
    simp at h

theorem real_at {n0 n1 : ℕ} [NeZero n0] [NeZero n1] (x : (⟨2, ![n0, n1]⟩ : Shape).Idx → EReal) (r : Fin n0) (k : Fin n1) :
    (x (ix2 r k)).toReal = Cert.Stick.real x r.val k.val :=
  congrArg (fun i => (x i).toReal) (congrArg₂ ix2 (Fin.ofNat_val_eq_self r).symm (Fin.ofNat_val_eq_self k).symm)

open Cert.AttnIdeal Cert.AttnIdeal.Run in
theorem finite_of_pre (m : (ℓ : Loc nD τ sig) → Buf (Elt Ideal) ℓ) (h : Cert.Pre_AttnIdeal_attn_finite (hPre_attn_finite := finite_facts) m) (c : Dev nD) : Finite m c where
  hx r k := by
    have e := congrFun (h c).1 (ix2 (n0 := 8192) (n1 := 1536) r k)
    refine (real_of_lt _ e).trans (congrArg _ (real_at _ r k))
  hy r k := by
    have e := congrFun (h c).2 (ix2 (n0 := 8192) (n1 := 512) r k)
    refine (real_of_lt _ e).trans (congrArg _ (real_at _ r k))

open Cert.AttnRefIdeal.Read in
/-- The pair: the three gradients of the kernel are the reference's, of finite arguments. -/
theorem value : Cert.algebraic_AttnIdeal_AttnRefIdeal_pre_attn_finite (hAttnIdeal := Cert.AttnIdeal.Gen.facts) (hAttnRefIdeal := Cert.AttnRefIdeal.Gen.facts)
    (hPre_attn_finite := finite_facts) := by
  intro m g m' g' hpre hagree
  refine ⟨_, _, _, (θ_run _ _ _).mono (fun r h => h.1) (Cert.AttnIdeal.Run.run m g), (θ_run _ _ _).mono (fun r h c => ?_) (Cert.AttnRefIdeal.Value.run m' g')⟩
  obtain ⟨h0, h1, h2, hargs⟩ := h c
  obtain ⟨a0, a1⟩ := hagree c
  have H := finite_of_pre m hpre c
  refine ⟨h0.trans ?_, h1.trans ?_, h2.trans ?_, hargs⟩
  · rw [val_main_v56_eq, a0, a1]; exact (Cert.AttnIdeal.Run.final7 H).symm
  · rw [val_main_v57_eq, a0, a1]; exact (Cert.AttnIdeal.Run.final8 H).symm
  · rw [val_main_v58_eq, a0, a1]; exact (Cert.AttnIdeal.Run.final9 H).symm

end Cert.Proof.Attn

end
-- ==== Proof.LossVal.lean ====
module

public import proofs.«01_k».proof.Proof.Gen.LossIdeal.Value
public import proofs.«01_k».proof.Proof.Gen.LossRefIdeal.Read
public import proofs.«01_k».proof.Proof.Norm
public import Idealize.ShloMosaic.Lib.Pointwise.Tactic
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LossIdeal.Val

open Cert.LossIdeal Cert.LossIdeal.Gen Idealize.ShloMosaic Idealize.ShloMosaic.TcCoe Idealize.SL.Sem
open Idealize.ShloMosaic.Pipeline (Dat)
open Cert.LossRefIdeal.Read

variable (m : (ℓ : Loc nD τ sig) → Buf (Elt Ideal) ℓ)

/-- Where the blocks of each window sit, in the number of the grid point. -/
theorem idx : ∀ t : Fin cfg0.N, win0_0.index t = ![t.val / 4, 0] ∧ win0_1.index t = ![0, 0] ∧ win0_2.index t = ![t.val % 4, 0, 0]
    ∧ win0_3.index t = ![t.val % 4, 0] ∧ win0_4.index t = ![0, 0] ∧ win0_5.index t = ![t.val / 4, 0] ∧ win0_6.index t = ![t.val / 4, t.val % 4]
    ∧ win0_7.index t = ![t.val / 4, 0] ∧ win0_8.index t = ![0, 0] ∧ win0_9.index t = ![0, 0] :=
  (by decide +kernel : ∀ t : Fin grid0.N, _)

abbrev X0 (c : Dev nD) : FVec Ideal S8192x1024 .f32 := m ((c : Thread nD τ).loc main_arg0)
abbrev X1 (c : Dev nD) : FVec Ideal S1x1024 .f32 := m ((c : Thread nD τ).loc main_arg1)
abbrev X2 (c : Dev nD) : FVec Ideal S1024x4096 .f32 := m ((c : Thread nD τ).loc main_arg2)
abbrev X3 (c : Dev nD) : FVec Ideal S4096x1024 .f32 := m ((c : Thread nD τ).loc main_arg3)
abbrev X4 (c : Dev nD) : FVec Ideal S1x1024 .f32 := m ((c : Thread nD τ).loc main_arg4)
abbrev X5 (c : Dev nD) : FVec Ideal S8192x1024 .f32 := m ((c : Thread nD τ).loc main_arg5)

/-- The row of the array that row `r` of point `t`'s block is. -/
def row (t : Fin cfg0.N) (r : Fin 1024) : Fin 8192 := ⟨t.val / 4 * 1024 + r.val, by have := lt_of_lt_of_eq t.isLt N_0; omega⟩

theorem normed (c : Dev nD) (t : Fin cfg0.N) (r q : Fin 1024) :
    k0_pay13 (iblk m c 0 t) (iblk m c 1 t) (ix2 r q) = val_main_v11 (F := Ideal) (X0 m c) (X1 m c) (ix2 (row t r) q) := by
  pointwise [k0_pay13, val_main_v0, val_main_cst, val_main_v1, val_main_v2, val_main_cst_0, val_main_v3, val_main_v4, val_main_cst_1, val_main_v5, val_main_v6, val_main_v7, val_main_v8, val_main_v9, val_main_v10, val_main_v11]
  blk_point [iblk, V, idx t, row]

theorem hn_at (c : Dev nD) (t : Fin cfg0.N) (r q : Fin 1024) :
    (outsAt0 m c t.val t.isLt).2.2.2.2.1 (ix2 r q) = val_main_v11 (F := Ideal) (X0 m c) (X1 m c) (ix2 (row t r) q) := by
  obtain ⟨n, hn⟩ := t
  induction n with
  | zero => rw [outsAt0_A m c ⟨0, hn⟩ rfl rfl (by simp)]; frame_out; exact normed m c ⟨0, hn⟩ r q
  | succ n ih =>
    by_cases h0 : (n + 1) % 4 = 0
    · by_cases h1 : (n + 1) % 32 = 0
      · rw [outsAt0_A m c ⟨n + 1, hn⟩ h0 h1 (by simp; omega)]; frame_out; exact normed m c ⟨n + 1, hn⟩ r q
      · rw [outsAt0_D m c ⟨n + 1, hn⟩ h0 h1 (by simp; omega)]; frame_out; exact normed m c ⟨n + 1, hn⟩ r q
    · have e : row ⟨n, by omega⟩ r = row ⟨n + 1, hn⟩ r := Fin.ext (by show n / 4 * 1024 + r.val = (n + 1) / 4 * 1024 + r.val; omega)
      by_cases h2 : (n + 1) % 4 = 3
      · rw [outsAt0_C m c ⟨n + 1, hn⟩ h0 (by simp; omega) h2]; frame_out
        exact (ih (by omega)).trans (by rw [e])
      · rw [outsAt0_B m c ⟨n + 1, hn⟩ h0 (by simp; omega) h2]; frame_out; exact (ih (by omega)).trans (by rw [e])

theorem up_at (x0 : FVec Ideal S8192x1024 .f32) (x1 : FVec Ideal S1x1024 .f32) (x2 : FVec Ideal S1024x4096 .f32) (r : Fin 8192) (f : Fin 4096) :
    val_main_v13 (F := Ideal) x0 x1 x2 (ix2 r f) = max (∑ k, val_main_v11 (F := Ideal) x0 x1 (ix2 r k) * x2 (ix2 k f)) 0 := by
  pointwise [val_main_v13, val_main_v12, val_main_call0_v0, val_main_call0_cst]

theorem wide_at (x0 : FVec Ideal S8192x1024 .f32) (x1 : FVec Ideal S1x1024 .f32) (x2 : FVec Ideal S1024x4096 .f32) (x3 : FVec Ideal S4096x1024 .f32) (r : Fin 8192) (q : Fin 1024) :
    val_main_v16 (F := Ideal) x0 x1 x2 x3 (ix2 r q) = x0 (ix2 r q) + ∑ f : Fin 4096, val_main_v13 (F := Ideal) x0 x1 x2 (ix2 r f) * val_main_v13 (F := Ideal) x0 x1 x2 (ix2 r f) * x3 (ix2 f q) := by
  pointwise [val_main_v14, val_main_v15, val_main_v16]

/-- The columns of the wide matrices that half `h` of point `t` handles. -/
def col (t : Fin cfg0.N) (h : Fin 2) (q : Fin 512) : Fin 4096 := ⟨(t.val % 4 * 2 + h.val) * 512 + q.val, by omega⟩

/-- What half `h` of point `t` adds to the row of the residual stream. -/
def part (c : Dev nD) (t : Fin cfg0.N) (h : Fin 2) (r q : Fin 1024) : EReal :=
  ∑ f : Fin 512, val_main_v13 (F := Ideal) (X0 m c) (X1 m c) (X2 m c) (ix2 (row t r) (col t h f))
    * val_main_v13 (F := Ideal) (X0 m c) (X1 m c) (X2 m c) (ix2 (row t r) (col t h f)) * X3 m c (ix2 (col t h f) q)

section
variable {m} {c : Dev nD} {t : Fin cfg0.N} {Hn : Vec Ideal S1024x1024 .bf16}
  (hH : ∀ r q : Fin 1024, Hn (ix2 r q) = val_main_v11 (F := Ideal) (X0 m c) (X1 m c) (ix2 (row t r) q))
include hH

theorem up_left (r : Fin 1024) (q : Fin 512) :
    k0_pay15 Hn (View.ld (iblk m c 2 t) (Rect.unit ![0, 0, 0] ![1, 1024, 512] inb_S2x1024x512_S1x1024x512_0_0_0)) (ix2 r q)
      = val_main_v13 (F := Ideal) (X0 m c) (X1 m c) (X2 m c) (ix2 (row t r) (col t 0 q)) := by
  refine Eq.trans ?_ (up_at _ _ _ _ _).symm
  pointwise [k0_pay15]
  simp only [hH]
  blk_point [iblk, V, idx t, col]

theorem up_right (r : Fin 1024) (q : Fin 512) :
    k0_pay18 Hn (View.ld (iblk m c 2 t) (Rect.unit ![1, 0, 0] ![1, 1024, 512] inb_S2x1024x512_S1x1024x512_1_0_0)) (ix2 r q)
      = val_main_v13 (F := Ideal) (X0 m c) (X1 m c) (X2 m c) (ix2 (row t r) (col t 1 q)) := by
  refine Eq.trans ?_ (up_at _ _ _ _ _).symm
  pointwise [k0_pay18]
  simp only [hH]
  blk_point [iblk, V, idx t, col]

theorem part_left (r q : Fin 1024) :
    k0_pay17 Hn (View.ld (iblk m c 2 t) (Rect.unit ![0, 0, 0] ![1, 1024, 512] inb_S2x1024x512_S1x1024x512_0_0_0))
      (View.ld (iblk m c 3 t) (Rect.unit ![0, 0] ![512, 1024] inb_S1024x1024_S512x1024_0_0)) (ix2 r q)
      = part m c t 0 r q := by
  pointwise [k0_pay17]
  simp only [up_left hH, part]
  blk_point [iblk, V, idx t, col]

theorem part_right (r q : Fin 1024) :
    k0_pay20 Hn (View.ld (iblk m c 2 t) (Rect.unit ![1, 0, 0] ![1, 1024, 512] inb_S2x1024x512_S1x1024x512_1_0_0))
      (View.ld (iblk m c 3 t) (Rect.unit ![512, 0] ![512, 1024] inb_S1024x1024_S512x1024_512_0)) (ix2 r q)
      = part m c t 1 r q := by
  pointwise [k0_pay20]
  simp only [up_right hH, part]
  blk_point [iblk, V, idx t, col]

theorem acc_step (A : Vec Ideal S1024x1024 .f32) (r q : Fin 1024) :
    k0_pay1 (k0_pay17 Hn (View.ld (iblk m c 2 t) (Rect.unit ![0, 0, 0] ![1, 1024, 512] inb_S2x1024x512_S1x1024x512_0_0_0))
        (View.ld (iblk m c 3 t) (Rect.unit ![0, 0] ![512, 1024] inb_S1024x1024_S512x1024_0_0)))
      (k0_pay20 Hn (View.ld (iblk m c 2 t) (Rect.unit ![1, 0, 0] ![1, 1024, 512] inb_S2x1024x512_S1x1024x512_1_0_0))
        (View.ld (iblk m c 3 t) (Rect.unit ![512, 0] ![512, 1024] inb_S1024x1024_S512x1024_512_0))) A (ix2 r q)
      = A (ix2 r q) + (part m c t 0 r q + part m c t 1 r q) := by
  pointwise [k0_pay1]
  rw [part_left hH, part_right hH]

/-- Both halves of the saved block: the rectified products. -/
theorem up_block (y : ((cfg0.win 6).xblock (cfg0.grid.coords t)).Idx) :
    View.canon (Val := Elt Ideal) (s := S1024x1024) (e := .bf16) [⟨Rect.unit ![0, 512] ![1024, 512] inb_S1024x1024_S1024x512_0_512,
        k0_pay19 Hn (View.ld (iblk m c 2 t) (Rect.unit ![1, 0, 0] ![1, 1024, 512] inb_S2x1024x512_S1x1024x512_1_0_0))⟩,
      ⟨Rect.unit ![0, 0] ![1024, 512] inb_S1024x1024_S1024x512_0_0,
        k0_pay16 Hn (View.ld (iblk m c 2 t) (Rect.unit ![0, 0, 0] ![1, 1024, 512] inb_S2x1024x512_S1x1024x512_0_0_0))⟩] y
      = val_main_v67 (F := Ideal) (X0 m c) (X1 m c) (X2 m c) (((View.whole main_v4_0).slice (win0_6.rect t)).emb y) := by
  canon_tiles x h
  · refine (congrArg _ (eq_ix2 _)).trans ((up_right hH _ _).trans (congrArg (val_main_v13 (F := Ideal) (X0 m c) (X1 m c) (X2 m c)) ?_))
    blk_ext! [idx t, row, col]
  · refine (congrArg _ (eq_ix2 _)).trans ((up_left hH _ _).trans (congrArg (val_main_v13 (F := Ideal) (X0 m c) (X1 m c) (X2 m c)) ?_))
    blk_ext! [idx t, row, col]

end

theorem hn_prev (c : Dev nD) (t : Fin cfg0.N) (h : ¬ t.val % 4 = 0) (r q : Fin 1024) :
    (outsAt0 m c (t.val - 1) (Nat.lt_of_le_of_lt (Nat.sub_le _ _) t.isLt)).2.2.2.2.1 (ix2 r q) = val_main_v11 (F := Ideal) (X0 m c) (X1 m c) (ix2 (row t r) q) := by
  have e : row ⟨t.val - 1, Nat.lt_of_le_of_lt (Nat.sub_le _ _) t.isLt⟩ r = row t r :=
    Fin.ext (by show (t.val - 1) / 4 * 1024 + r.val = t.val / 4 * 1024 + r.val; omega)
  exact (hn_at m c ⟨t.val - 1, Nat.lt_of_le_of_lt (Nat.sub_le _ _) t.isLt⟩ r q).trans (by rw [e])

theorem acc_first (c : Dev nD) (t : Fin cfg0.N) (h : t.val % 4 = 0) (r q : Fin 1024) :
    (outsAt0 m c t.val t.isLt).2.2.2.2.2 (ix2 r q) = X0 m c (ix2 (row t r) q) + (part m c t 0 r q + part m c t 1 r q) := by
  have e : k0_pay14 (iblk m c 0 t) (ix2 r q) = X0 m c (ix2 (row t r) q) := by
    pointwise [k0_pay14]; blk_point [iblk, V, idx t, row]
  by_cases h1 : t.val % 32 = 0
  · rw [outsAt0_A m c t h h1 (by omega)]; frame_out
    exact (acc_step (normed m c t) _ r q).trans (by rw [e])
  · rw [outsAt0_D m c t h h1 (by omega)]; frame_out
    exact (acc_step (normed m c t) _ r q).trans (by rw [e])

theorem acc_next (c : Dev nD) (t : Fin cfg0.N) (h : ¬ t.val % 4 = 0) (r q : Fin 1024) :
    (outsAt0 m c t.val t.isLt).2.2.2.2.2 (ix2 r q) = (outsAt0 m c (t.val - 1) (Nat.lt_of_le_of_lt (Nat.sub_le _ _) t.isLt)).2.2.2.2.2 (ix2 r q)
      + (part m c t 0 r q + part m c t 1 r q) := by
  by_cases h2 : t.val % 4 = 3
  · rw [outsAt0_C m c t h (by omega) h2]; frame_out; simp only [read_unread_whole]
    exact acc_step (hn_prev m c t h) _ r q
  · rw [outsAt0_B m c t h (by omega) h2]; frame_out; simp only [read_unread_whole]
    exact acc_step (hn_prev m c t h) _ r q

/-- At the last chunk the accumulator is the residual stream after the layer. -/
theorem acc_last (c : Dev nD) (t : Fin cfg0.N) (h : t.val % 4 = 3) (r q : Fin 1024) :
    (outsAt0 m c t.val t.isLt).2.2.2.2.2 (ix2 r q) = val_main_v16 (F := Ideal) (X0 m c) (X1 m c) (X2 m c) (X3 m c) (ix2 (row t r) q) := by
  rw [wide_at, ← Fin.sum_mul_add_fin 8 512, Fin.sum_univ_eight]
  have hN := lt_of_lt_of_eq t.isLt N_0
  have e : ∀ (s : Fin cfg0.N) (k : Fin 4) (b : Fin 2), s.val + 3 = t.val + k.val → part m c s b r q
      = ∑ f : Fin 512, val_main_v13 (F := Ideal) (X0 m c) (X1 m c) (X2 m c) (ix2 (row t r) ⟨(k.val * 2 + b.val) * 512 + f.val, by omega⟩)
        * val_main_v13 (F := Ideal) (X0 m c) (X1 m c) (X2 m c) (ix2 (row t r) ⟨(k.val * 2 + b.val) * 512 + f.val, by omega⟩)
        * X3 m c (ix2 ⟨(k.val * 2 + b.val) * 512 + f.val, by omega⟩ q) := by
    intro s k b hs
    have e1 : row s r = row t r := Fin.ext (by show s.val / 4 * 1024 + r.val = t.val / 4 * 1024 + r.val; omega)
    have e2 : ∀ f, col s b f = ⟨(k.val * 2 + b.val) * 512 + f.val, by omega⟩ := fun f =>
      Fin.ext (by show (s.val % 4 * 2 + b.val) * 512 + f.val = (k.val * 2 + b.val) * 512 + f.val; omega)
    simp only [part, e1, e2]
  have e0 : row ⟨t.val - 1 - 1 - 1, by omega⟩ r = row t r := Fin.ext (by show (t.val - 1 - 1 - 1) / 4 * 1024 + r.val = t.val / 4 * 1024 + r.val; omega)
  rw [acc_next m c t (by omega), acc_next m c ⟨t.val - 1, by omega⟩ (by show ¬ (t.val - 1) % 4 = 0; omega),
    acc_next m c ⟨t.val - 1 - 1, by omega⟩ (by show ¬ (t.val - 1 - 1) % 4 = 0; omega),
    acc_first m c ⟨t.val - 1 - 1 - 1, by omega⟩ (by show (t.val - 1 - 1 - 1) % 4 = 0; omega), e0]
  rw [e t 3 0 rfl, e t 3 1 rfl, e ⟨t.val - 1, by omega⟩ 2 0 (by show t.val - 1 + 3 = t.val + 2; omega),
    e ⟨t.val - 1, by omega⟩ 2 1 (by show t.val - 1 + 3 = t.val + 2; omega),
    e ⟨t.val - 1 - 1, by omega⟩ 1 0 (by show t.val - 1 - 1 + 3 = t.val + 1; omega),
    e ⟨t.val - 1 - 1, by omega⟩ 1 1 (by show t.val - 1 - 1 + 3 = t.val + 1; omega),
    e ⟨t.val - 1 - 1 - 1, by omega⟩ 0 0 (by show t.val - 1 - 1 - 1 + 3 = t.val + 0; omega),
    e ⟨t.val - 1 - 1 - 1, by omega⟩ 0 1 (by show t.val - 1 - 1 - 1 + 3 = t.val + 0; omega)]
  simp only [← add_assoc]
  rfl

theorem final6 (c : Dev nD) : (dats m 0 c).arrAt 6 cfg0.N = val_main_v67 (F := Ideal) (X0 m c) (X1 m c) (X2 m c) := by
  refine (dats m 0 c).arrAt_eq_of_covers 6 _ (by decide +kernel) fun t _ y => ?_
  blk_simp
  rw [after0_6]
  by_cases h0 : t.val % 4 = 0
  · by_cases h1 : t.val % 32 = 0
    · rw [outsAt0_A m c t h0 h1 (by omega)]; frame_out
      exact up_block (normed m c t) y
    · rw [outsAt0_D m c t h0 h1 (by omega)]; frame_out
      exact up_block (normed m c t) y
  · by_cases h2 : t.val % 4 = 3
    · rw [outsAt0_C m c t h0 (by omega) h2]; frame_out; simp only [read_unread_whole]
      exact up_block (hn_prev m c t h0) y
    · rw [outsAt0_B m c t h0 (by omega) h2]; frame_out; simp only [read_unread_whole]
      exact up_block (hn_prev m c t h0) y

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_inv : Ideal.ofBits .f32 0x3A800000#32 = ((1 / 1024 : ℝ) : EReal) := by
  simp [Ideal.ofBits, Ideal.ieee, -EReal.coe_mul]; norm_num

/-- Half of twice a residual over the row length is the residual over the row length. -/
theorem half_twice (e : EReal) : e * Ideal.ofBits .f32 0x3A800000#32
    = Ideal.div (Ideal.ofBits .f32 0x3F000000#32) (Ideal.ofBits .f32 0x44800000#32) * (Ideal.ofBits .f32 0x40000000#32 * e) := by
  rw [ofBits_inv, ofBits_half, ofBits_two, Norm.ofBits_1024, ← mul_assoc, mul_comm e]
  refine congrArg (· * e) ?_
  rw [Ideal.div_coe (by norm_num), ← EReal.coe_mul, ← EReal.coe_mul]
  exact congrArg _ (by norm_num)

section
variable {m} {c : Dev nD} {t : Fin cfg0.N} {A : Vec Ideal S1024x1024 .f32}
  (hA : ∀ r q : Fin 1024, A (ix2 r q) = val_main_v16 (F := Ideal) (X0 m c) (X1 m c) (X2 m c) (X3 m c) (ix2 (row t r) q))
include hA

theorem err_block (r q : Fin 1024) :
    k0_pay8 (iblk m c 4 t) A (iblk m c 5 t) (ix2 r q)
      = val_main_v32 (F := Ideal) (X0 m c) (X1 m c) (X2 m c) (X3 m c) (X4 m c) (X5 m c) (ix2 (row t r) q) := by
  pointwise [k0_pay8, k0_pay7, k0_pay6, val_main_v17, val_main_v18, val_main_v19, val_main_v20, val_main_v21, val_main_v22, val_main_v23, val_main_v24, val_main_v28, val_main_v29, val_main_v30, val_main_v31, val_main_v32, val_main_cst_2, val_main_cst_3, val_main_cst_4]
  simp only [hA]
  blk_point [iblk, V, idx t, row]

theorem cot_block (r q : Fin 1024) :
    k0_pay10 (iblk m c 4 t) A (iblk m c 5 t) (ix2 r q)
      = val_main_v46 (F := Ideal) (X0 m c) (X1 m c) (X2 m c) (X3 m c) (X4 m c) (X5 m c) (ix2 (row t r) q) := by
  pointwise [k0_pay10, val_main_v46, val_main_v45, val_main_v44, val_main_v43, val_main_v42, val_main_v41, val_main_v35, val_main_v34,
    val_main_cst_11, val_main_cst_12, val_main_cst_13, val_main_cst_6]
  simp only [err_block hA]
  exact half_twice _

theorem dh2_block (r q : Fin 1024) :
    k0_pay5 (iblk m c 4 t) (k0_pay6 A) (k0_pay7 A) (k0_pay10 (iblk m c 4 t) A (iblk m c 5 t)) (ix2 r q)
      = val_main_v65 (F := Ideal) (X0 m c) (X1 m c) (X2 m c) (X3 m c) (X4 m c) (X5 m c) (ix2 (row t r) q) := by
  have hg : ∀ k, iblk m c 4 t (ix2 0 k) = X4 m c (ix2 0 k) := fun k => by blk_point [iblk, V, idx t]
  pointwise [k0_pay5, k0_pay6, k0_pay7, val_main_v50, val_main_v51, val_main_v52, val_main_v53, val_main_v54, val_main_v55, val_main_v56, val_main_v57, val_main_v58, val_main_v59, val_main_v60, val_main_v61, val_main_v62, val_main_v63, val_main_v64, val_main_v65, val_main_v17, val_main_v18, val_main_v19, val_main_v20, val_main_v21, val_main_v22, val_main_v23, val_main_v24, val_main_v25, val_main_v26, val_main_v27, val_main_cst_2, val_main_cst_3, val_main_cst_4, val_main_cst_5, val_main_cst_15, val_main_cst_16, val_main_cst_17]
  simp only [hA, cot_block hA, hg]
  exact Norm.row_grad_all ⟨_, by norm_num, Norm.ofBits_1024⟩ rfl Norm.ofBits_neg_half
    (fun k => val_main_v16 (F := Ideal) (X0 m c) (X1 m c) (X2 m c) (X3 m c) (ix2 (row t r) k))
    (fun k => val_main_v46 (F := Ideal) (X0 m c) (X1 m c) (X2 m c) (X3 m c) (X4 m c) (X5 m c) (ix2 (row t r) k) * X4 m c (ix2 0 k)) q

theorem dgf_block (D : Vec Ideal S1x1024 .f32) (q : Fin 1024) :
    k0_pay4 (k0_pay11 D) (k0_pay12 (iblk m c 4 t) A (iblk m c 5 t)) (ix2 0 q)
      = D (ix2 0 q) + ∑ r : Fin 1024, val_main_v47 (F := Ideal) (X0 m c) (X1 m c) (X2 m c) (X3 m c) (X4 m c) (X5 m c) (ix2 (row t r) q) := by
  pointwise [k0_pay4, k0_pay11, k0_pay12, k0_pay7, k0_pay6, val_main_v47, val_main_v29, val_main_v28, val_main_v24, val_main_v23, val_main_v22, val_main_v21, val_main_v20, val_main_v19, val_main_v18, val_main_v17, val_main_cst_2, val_main_cst_3, val_main_cst_4]
  simp only [hA, cot_block hA]
  exact congrArg _ (Finset.sum_congr rfl fun x _ => mul_comm _ _)

theorem loss_block (L : Vec Ideal S1x128 .f32) (q : Fin 128) :
    k0_pay9 (iblk m c 4 t) A (iblk m c 5 t) L (ix2 0 q)
      = L (ix2 0 q) + ∑ r : Fin 1024, Ideal.ofBits .f32 0x3F000000#32 * val_main_v38 (F := Ideal) (X0 m c) (X1 m c) (X2 m c) (X3 m c) (X4 m c) (X5 m c) (ix1 (row t r)) := by
  pointwise [k0_pay9, val_main_v38, val_main_v37, val_main_v36, val_main_v33, val_main_cst_7, val_main_cst_8]
  simp only [err_block hA]
  refine congrArg _ (Finset.sum_congr rfl fun x _ => ?_)
  rw [Fin.sum_univ_one, ofBits_inv, Norm.ofBits_1024, Ideal.div_coe (by norm_num), mul_assoc]

end

/-- The accumulator that the last chunk leaves, as its own step spells it. -/
theorem acc_here (c : Dev nD) (t : Fin cfg0.N) (h : t.val % 4 = 3) (r q : Fin 1024) :
    k0_pay1 (k0_pay17 (outsAt0 m c (t.val - 1) (Nat.lt_of_le_of_lt (Nat.sub_le _ _) t.isLt)).2.2.2.2.1
        (View.ld (iblk m c 2 t) (Rect.unit ![0, 0, 0] ![1, 1024, 512] inb_S2x1024x512_S1x1024x512_0_0_0))
        (View.ld (iblk m c 3 t) (Rect.unit ![0, 0] ![512, 1024] inb_S1024x1024_S512x1024_0_0)))
      (k0_pay20 (outsAt0 m c (t.val - 1) (Nat.lt_of_le_of_lt (Nat.sub_le _ _) t.isLt)).2.2.2.2.1
        (View.ld (iblk m c 2 t) (Rect.unit ![1, 0, 0] ![1, 1024, 512] inb_S2x1024x512_S1x1024x512_1_0_0))
        (View.ld (iblk m c 3 t) (Rect.unit ![512, 0] ![512, 1024] inb_S1024x1024_S512x1024_512_0)))
      (outsAt0 m c (t.val - 1) (Nat.lt_of_le_of_lt (Nat.sub_le _ _) t.isLt)).2.2.2.2.2 (ix2 r q)
      = val_main_v16 (F := Ideal) (X0 m c) (X1 m c) (X2 m c) (X3 m c) (ix2 (row t r) q) :=
  (acc_step (hn_prev m c t (by omega)) _ r q).trans ((acc_next m c t (by omega) r q).symm.trans (acc_last m c t h r q))

theorem final7 (c : Dev nD) : (dats m 0 c).arrAt 7 cfg0.N = val_main_v65 (F := Ideal) (X0 m c) (X1 m c) (X2 m c) (X3 m c) (X4 m c) (X5 m c) := by
  refine (dats m 0 c).arrAt_eq_of_covers 7 _ (by decide +kernel) fun t h y => ?_
  have h2 := (flush0_7 t).mp h
  blk_simp
  rw [after0_7, outsAt0_C m c t (by omega) (by omega) h2]; frame_out; simp only [read_unread_whole]
  refine (congrArg _ (eq_ix2 _)).trans ((dh2_block (acc_here m c t h2) _ _).trans
    (congrArg (val_main_v65 (F := Ideal) (X0 m c) (X1 m c) (X2 m c) (X3 m c) (X4 m c) (X5 m c)) ?_))
  blk_ext! [idx t, row]

/-- A sum over the points to which only the last of each four adds, its block of rows, is the sum over the rows. -/
theorem sum_runs (T : Fin cfg0.N → EReal) (g : Fin 8192 → EReal) (h0 : ∀ t : Fin cfg0.N, ¬ t.val % 4 = 3 → T t = 0)
    (h : ∀ t : Fin cfg0.N, t.val % 4 = 3 → T t = ∑ r, g (row t r)) : ∑ t, T t = ∑ R, g R := by
  rw [← Fin.sum_mul_add_fin 8 4 T N_0, ← Fin.sum_mul_add_fin 8 1024 g]
  refine Finset.sum_congr rfl fun s _ => ?_
  rw [Fin.sum_univ_four, h0 _ (by show ¬ (s.val * 4 + 0) % 4 = 3; omega), h0 _ (by show ¬ (s.val * 4 + 1) % 4 = 3; omega),
    h0 _ (by show ¬ (s.val * 4 + 2) % 4 = 3; omega), h _ (by show (s.val * 4 + 3) % 4 = 3; omega), zero_add, zero_add, zero_add]
  exact Finset.sum_congr rfl fun r _ => congrArg g (Fin.ext (by show (s.val * 4 + 3) / 4 * 1024 + r.val = s.val * 1024 + r.val; omega))

theorem dgf_step (c : Dev nD) (t : Fin cfg0.N) (q : Fin 1024) (h : t.val % 4 = 3) :
    (outsAt0 m c t.val t.isLt).2.2.1 (ix2 0 q) = (outsAt0 m c (t.val - 1) (Nat.lt_of_le_of_lt (Nat.sub_le _ _) t.isLt)).2.2.1 (ix2 0 q)
      + ∑ r, val_main_v47 (F := Ideal) (X0 m c) (X1 m c) (X2 m c) (X3 m c) (X4 m c) (X5 m c) (ix2 (row t r) q) := by
  rw [outsAt0_C m c t (by omega) (by omega) h]; frame_out; simp only [read_unread_whole]
  exact dgf_block (acc_here m c t h) _ q

theorem loss_step (c : Dev nD) (t : Fin cfg0.N) (q : Fin 128) (h : t.val % 4 = 3) :
    (outsAt0 m c t.val t.isLt).2.2.2.1 (ix2 0 q) = (outsAt0 m c (t.val - 1) (Nat.lt_of_le_of_lt (Nat.sub_le _ _) t.isLt)).2.2.2.1 (ix2 0 q)
      + ∑ r, Ideal.ofBits .f32 0x3F000000#32 * val_main_v38 (F := Ideal) (X0 m c) (X1 m c) (X2 m c) (X3 m c) (X4 m c) (X5 m c) (ix1 (row t r)) := by
  rw [outsAt0_C m c t (by omega) (by omega) h]; frame_out; simp only [read_unread_whole]
  exact loss_block (acc_here m c t h) _ q

/-- A point that ends no run of four leaves the sums over rows as they are; the first point clears them. -/
theorem sums_keep (c : Dev nD) (t : Fin cfg0.N) (h : ¬ t.val % 4 = 3) (h1 : ¬ t.val % 32 = 0) :
    (outsAt0 m c t.val t.isLt).2.2.1 = (outsAt0 m c (t.val - 1) (Nat.lt_of_le_of_lt (Nat.sub_le _ _) t.isLt)).2.2.1
      ∧ (outsAt0 m c t.val t.isLt).2.2.2.1 = (outsAt0 m c (t.val - 1) (Nat.lt_of_le_of_lt (Nat.sub_le _ _) t.isLt)).2.2.2.1 := by
  by_cases h0 : t.val % 4 = 0
  · rw [outsAt0_D m c t h0 h1 h]
    exact ⟨rfl, rfl⟩
  · rw [outsAt0_B m c t h0 h1 h]
    exact ⟨rfl, rfl⟩

theorem sums_clear (c : Dev nD) (t : Fin cfg0.N) (h1 : t.val % 32 = 0) :
    (outsAt0 m c t.val t.isLt).2.2.1 = k0_pay2 (F := Ideal) ∧ (outsAt0 m c t.val t.isLt).2.2.2.1 = k0_pay3 (F := Ideal) := by
  rw [outsAt0_A m c t (by omega) h1 (by omega)]
  exact ⟨by frame_out, by frame_out⟩

/-- The last grid point. -/
def tLast : Fin cfg0.N := ⟨31, lt_of_lt_of_eq (by omega) (N_0 : grid0.N = 32).symm⟩

/-- A value that the first point clears and the last of each four adds to ends as the sum over all rows. -/
theorem sum_points (f : (n : Nat) → n < cfg0.N → EReal) (g : Fin 8192 → EReal) (h0 : ∀ t : Fin cfg0.N, t.val % 32 = 0 → f t.val t.isLt = 0)
    (hk : ∀ t : Fin cfg0.N, ¬ t.val % 4 = 3 → ¬ t.val % 32 = 0 → f t.val t.isLt = f (t.val - 1) (Nat.lt_of_le_of_lt (Nat.sub_le _ _) t.isLt))
    (hs : ∀ t : Fin cfg0.N, t.val % 4 = 3 → f t.val t.isLt = f (t.val - 1) (Nat.lt_of_le_of_lt (Nat.sub_le _ _) t.isLt) + ∑ r, g (row t r)) :
    f tLast.val tLast.isLt = ∑ R, g R := by
  refine (Pipeline.eq_sum_fin_of_reset_step_apply_last (ι := Unit) (fun n h _ => f n h) 32 (fun _ => 0)
    (fun t _ => if t.val % 4 = 3 then ∑ r, g (row t r) else 0) (fun t h _ => ?_) (fun t h _ => ?_) (le_of_eq N_0) tLast rfl ()).trans ?_
  · rw [if_neg (by omega), h0 t h, zero_add]
  · by_cases h3 : t.val % 4 = 3
    · rw [if_pos h3, hs t h3]
    · rw [if_neg h3, hk t h3 h, add_zero]
  · rw [zero_add]
    exact sum_runs _ g (fun t h => if_neg h) (fun t h => if_pos h)

theorem row_idx {n : ℕ} (j : (Shape.mk 2 ![1, n]).Idx) : j = ix2 0 (j 1) :=
  (eq_ix2 j).trans (congrArg (fun a => ix2 a (j 1)) (Subsingleton.elim (α := Fin 1) _ _))

theorem dgf_total (c : Dev nD) (q : Fin 1024) : (outsAt0 m c tLast.val tLast.isLt).2.2.1 (ix2 0 q)
    = val_main_v49 (F := Ideal) (X0 m c) (X1 m c) (X2 m c) (X3 m c) (X4 m c) (X5 m c) (ix2 0 q) := by
  refine (sum_points (fun n h => (outsAt0 m c n h).2.2.1 (ix2 0 q))
    (fun R => val_main_v47 (F := Ideal) (X0 m c) (X1 m c) (X2 m c) (X3 m c) (X4 m c) (X5 m c) (ix2 R q)) (fun t h => ?_)
    (fun t h h1 => congrFun (sums_keep m c t h h1).1 _) (fun t h => dgf_step m c t _ h)).trans ?_
  · beta_reduce; rw [(sums_clear m c t h).1]; pointwise [k0_pay2]
  · pointwise [val_main_v49, val_main_v48, val_main_cst_14]

theorem loss_total (c : Dev nD) (q : Fin 128) : (outsAt0 m c tLast.val tLast.isLt).2.2.2.1 (ix2 0 q)
    = val_main_v66 (F := Ideal) (X0 m c) (X1 m c) (X2 m c) (X3 m c) (X4 m c) (X5 m c) (ix2 0 q) := by
  refine (sum_points (fun n h => (outsAt0 m c n h).2.2.2.1 (ix2 0 q))
    (fun R => Ideal.ofBits .f32 0x3F000000#32 * val_main_v38 (F := Ideal) (X0 m c) (X1 m c) (X2 m c) (X3 m c) (X4 m c) (X5 m c) (ix1 R)) (fun t h => ?_)
    (fun t h h1 => congrFun (sums_keep m c t h h1).2 _) (fun t h => loss_step m c t _ h)).trans ?_
  · beta_reduce; rw [(sums_clear m c t h).2]; pointwise [k0_pay3]
  · rw [ofBits_half, ← Norm.coe_mul_sum _ (by norm_num), ← ofBits_half]
    pointwise [val_main_v66, val_main_v40, val_main_v39, val_main_cst_9, val_main_cst_10]

theorem final8 (c : Dev nD) : (dats m 0 c).arrAt 8 cfg0.N = val_main_v49 (F := Ideal) (X0 m c) (X1 m c) (X2 m c) (X3 m c) (X4 m c) (X5 m c) := by
  refine (dats m 0 c).arrAt_eq_of_after_last 8 tLast (by decide +kernel) _ fun j => ?_
  blk_simp
  rw [after0_8]
  rw [row_idx j]
  exact dgf_total m c (j 1)

theorem final9 (c : Dev nD) : (dats m 0 c).arrAt 9 cfg0.N = val_main_v66 (F := Ideal) (X0 m c) (X1 m c) (X2 m c) (X3 m c) (X4 m c) (X5 m c) := by
  refine (dats m 0 c).arrAt_eq_of_after_last 9 tLast (by decide +kernel) _ fun j => ?_
  blk_simp
  rw [after0_9]
  rw [row_idx j]
  exact loss_total m c (j 1)

end Cert.LossIdeal.Val

end
-- ==== Proof.LossClaim.lean ====
module

public import proofs.«01_k».proof.Defs
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.LossVal
public import Idealize.ShloMosaic.Lib.Claim

@[expose] public section

noncomputable section

namespace Cert.Proof.Loss

open Idealize.ShloMosaic Idealize.ShloMosaic.TcCoe Idealize.SL.Sem

theorem frame_reference : Cert.quiescent_LossRefIdeal (hLossRefIdeal := Cert.LossRefIdeal.Gen.facts) := by
  intro m g _
  refine (θ_run _ _ _).mono (fun r h => ⟨fun c => ?_, ?_⟩) (Cert.LossRefIdeal.Value.run m g)
  · have := h c
    simp only [this, and_self]
  · funext s
    obtain ⟨_, s⟩ := s
    rcases s with s | s <;> exact s.elim0

open Cert.LossRefIdeal.Read in
/-- The pair: each result of the kernel is the reference's function of the arguments. -/
theorem value : Cert.algebraic_LossIdeal_LossRefIdeal (hLossIdeal := Cert.LossIdeal.Gen.facts) (hLossRefIdeal := Cert.LossRefIdeal.Gen.facts) := by
  intro m g m' g' _ hagree
  refine ⟨_, _, _, _, (θ_run _ _ _).mono (fun r h c => by obtain ⟨k0, k1, k2, k3, kargs⟩ := h c; exact ⟨k3, k2, k1, k0, kargs⟩)
    (Cert.LossIdeal.Value.run_blocks m g), (θ_run _ _ _).mono (fun r h c => ?_) (Cert.LossRefIdeal.Value.run m' g')⟩
  obtain ⟨h0, h1, h2, h3, hargs⟩ := h c
  obtain ⟨a0, a1, a2, a3, a4, a5⟩ := hagree c
  refine ⟨h0.trans ?_, h1.trans ?_, h2.trans ?_, h3.trans ?_, hargs⟩
  · rw [val_main_v66_eq, a0, a1, a2, a3, a4, a5]; exact (Cert.LossIdeal.Val.final9 m c).symm
  · rw [val_main_v49_eq, a0, a1, a2, a3, a4, a5]; exact (Cert.LossIdeal.Val.final8 m c).symm
  · rw [val_main_v65_eq, a0, a1, a2, a3, a4, a5]; exact (Cert.LossIdeal.Val.final7 m c).symm
  · rw [val_main_v67_eq, a0, a1, a2]; exact (Cert.LossIdeal.Val.final6 m c).symm

end Cert.Proof.Loss

end
-- ==== Proof.MlpBody.lean ====
module

public import proofs.«01_k».proof.Proof.Gen.MlpIdeal.Skeleton
public import Idealize.ShloMosaic.Lib.Exec
public import Idealize.ShloMosaic.Lib.Tactic
public import Idealize.ShloMosaic.Lib.VecWindow
public import Idealize.ShloMosaic.Lib.Pointwise
public import Idealize.ShloMosaic.Lib.Pipeline.FrameBody

@[expose] public section

set_option maxRecDepth 16384

noncomputable section

namespace Cert.MlpIdeal.Run

open Cert.MlpIdeal Cert.MlpIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The buffers the body is called with. -/
structure Args where
  a2 : Memref sig .tc .vmem S512x1024 .f32
  h2 : a2.IsWhole
  a3 : Memref sig .tc .vmem S512x2048 .bf16
  h3 : a3.IsWhole
  a4 : Memref sig .tc .vmem S512x1024 .f32
  h4 : a4.IsWhole
  a5 : Memref sig .tc .vmem S1x1024 .f32
  h5 : a5.IsWhole
  a6 : Memref sig .tc .vmem S4x1024x512 .bf16
  h6 : a6.IsWhole
  a7 : Memref sig .tc .vmem S2048x1024 .bf16
  h7 : a7.IsWhole
  a8 : Memref sig .tc .vmem S512x2048 .bf16
  h8 : a8.IsWhole
  a9 : Memref sig .tc .vmem S512x1024 .f32
  h9 : a9.IsWhole
  a10 : Memref sig .tc .vmem S512x1024 .bf16
  h10 : a10.IsWhole
  a11 : Memref sig .tc .vmem S512x1024 .bf16
  h11 : a11.IsWhole
  a12 : Memref sig .tc .vmem S1x1024 .f32
  h12 : a12.IsWhole
  a13 : Memref sig .tc .vmem S512x1024 .f32
  h13 : a13.IsWhole

/-- What a point reads: the cotangent, the activations, the input of the norm, its scale and the two weights. -/
structure In (F : FTy → Type) where
  d : Vec F S512x1024 .f32
  u : Vec F S512x2048 .bf16
  x : Vec F S512x1024 .f32
  g : Vec F S1x1024 .f32
  wu : Vec F S4x1024x512 .bf16
  wd : Vec F S2048x1024 .bf16

/-- A chunk of 512 columns of the activations, -/
def cols (x : Vec F S512x2048 .bf16) (k : Fin 4) : Vec F S512x512 .bf16 :=
  fun y => x (ix2 (n0 := 512) (n1 := 2048) (y 0) ⟨512 * k.val + (y 1).val, by have : (y 1).val < 512 := (y 1).isLt; omega⟩)
/-- of 512 rows of the second weight, -/
def rows (x : Vec F S2048x1024 .bf16) (k : Fin 4) : Vec F S512x1024 .bf16 :=
  fun y => x (ix2 (n0 := 2048) (n1 := 1024) ⟨512 * k.val + (y 0).val, by have : (y 0).val < 512 := (y 0).isLt; omega⟩ (y 1))
/-- and of the first. -/
def slab (x : Vec F S4x1024x512 .bf16) (k : Fin 4) : Vec F S1x1024x512 .bf16 :=
  fun y => x (ix3 (n0 := 4) (n1 := 1024) (n2 := 512) k (y 1) (y 2))

theorem read_cols (a : Memref sig .tc .vmem S512x2048 .bf16) (f : BufTy.Contents (Elt F) a.view.ty) (k : Fin 4) (o : ℕ) (ho : o = 512 * k.val)
    (inb : ∀ j, (![0, o] : Fin 2 → ℕ) j + S512x512.size j ≤ S512x2048.size j) :
    a.view.readAt (Elt F) (Rect.unit (s := S512x2048) ![0, o] S512x512.size inb).toLoadRect f = cols (a.view.read (Elt F) f) k := by
  subst ho
  rw [View.readAt_unit a.view f inb rfl inb]
  funext y
  refine congrArg (a.view.read (Elt F) f) (funext fun j => Fin.ext ?_)
  match j with
  | 0 => show 0 + 1 * (y 0).val = (y 0).val; omega
  | 1 => show 512 * k.val + 1 * (y 1).val = 512 * k.val + (y 1).val; omega

theorem read_rows (a : Memref sig .tc .vmem S2048x1024 .bf16) (f : BufTy.Contents (Elt F) a.view.ty) (k : Fin 4) (o : ℕ) (ho : o = 512 * k.val)
    (inb : ∀ j, (![o, 0] : Fin 2 → ℕ) j + S512x1024.size j ≤ S2048x1024.size j) :
    a.view.readAt (Elt F) (Rect.unit (s := S2048x1024) ![o, 0] S512x1024.size inb).toLoadRect f = rows (a.view.read (Elt F) f) k := by
  subst ho
  rw [View.readAt_unit a.view f inb rfl inb]
  funext y
  refine congrArg (a.view.read (Elt F) f) (funext fun j => Fin.ext ?_)
  match j with
  | 0 => show 512 * k.val + 1 * (y 0).val = 512 * k.val + (y 0).val; omega
  | 1 => show 0 + 1 * (y 1).val = (y 1).val; omega

theorem read_slab (a : Memref sig .tc .vmem S4x1024x512 .bf16) (f : BufTy.Contents (Elt F) a.view.ty) (k : Fin 4) (o : ℕ) (ho : o = k.val)
    (inb : ∀ j, (![o, 0, 0] : Fin 3 → ℕ) j + S1x1024x512.size j ≤ S4x1024x512.size j) :
    a.view.readAt (Elt F) (Rect.unit (s := S4x1024x512) ![o, 0, 0] S1x1024x512.size inb).toLoadRect f = slab (a.view.read (Elt F) f) k := by
  subst ho
  rw [View.readAt_unit a.view f inb rfl inb]
  funext y
  refine congrArg (a.view.read (Elt F) f) (funext fun j => Fin.ext ?_)
  have h0 : (y 0).val < 1 := (y 0).isLt
  match j with
  | 0 => show k.val + 1 * (y 0).val = k.val; omega
  | 1 => show 0 + 1 * (y 1).val = (y 1).val; omega
  | 2 => show 0 + 1 * (y 2).val = (y 2).val; omega

theorem read_whole {s : Shape} {e : EltTy} (a : Memref sig .tc .vmem s e) (f : BufTy.Contents (Elt F) a.view.ty) (o : Fin s.rank → ℕ) (ho : ∀ j, o j = 0)
    (inb : ∀ j, o j + s.size j ≤ s.size j) : a.view.readAt (Elt F) (Rect.unit (s := s) o s.size inb).toLoadRect f = a.view.read (Elt F) f := by
  rw [View.readAt_unit a.view f inb rfl inb]
  funext y
  refine congrArg (a.view.read (Elt F) f) (funext fun j => Fin.ext ?_)
  show o j + 1 * (y j).val = (y j).val
  rw [ho]; omega

theorem zeros : ∀ j : Fin 2, (![0, 0] : Fin 2 → ℕ) j = 0 := by decide

/-- Four chunks of columns written fill a block. -/
def fill (T : Fin 4 → Vec F S512x512 .bf16) : Vec F S512x2048 .bf16 := fun y =>
  T ⟨(y 1).val / 512, by have h : (y 1).val < 2048 := (y 1).isLt; omega⟩ (ix2 (n0 := 512) (n1 := 512) (y 0) ⟨(y 1).val % 512, Nat.mod_lt _ (by decide)⟩)

theorem write_cols (a : Memref sig .tc .vmem S512x2048 .bf16) (f : BufTy.Contents (Elt F) a.view.ty) (k o : ℕ) (ho : o = 512 * k)
    (inb : ∀ j, (![0, o] : Fin 2 → ℕ) j + S512x512.size j ≤ S512x2048.size j) (w : Vec F S512x512 .bf16) (L : List (View.Piece (Elt F) S512x2048 .bf16)) (y : S512x2048.Idx) :
    a.view.read (Elt F) (a.view.writes (Elt F) f (⟨Rect.unit (s := S512x2048) ![0, o] S512x512.size inb, w⟩ :: L)) y
      = if (y 1).val / 512 = k then w (ix2 (n0 := 512) (n1 := 512) (y 0) ⟨(y 1).val % 512, Nat.mod_lt _ (by decide)⟩) else a.view.read (Elt F) (a.view.writes (Elt F) f L) y := by
  subst ho
  rw [View.read_writes_cons_put a.view f inb w L rfl]
  have h0 : (y 0).val < 512 := (y 0).isLt
  unfold VecWindow.put
  by_cases hy : (y 1).val / 512 = k
  · have hm : ∀ j : Fin 2, (![0, 512 * k] : Fin 2 → ℕ) j ≤ (y j).val ∧ (y j).val < (![0, 512 * k] : Fin 2 → ℕ) j + S512x512.size j := fun j => by
      match j with
      | 0 => exact ⟨Nat.zero_le _, by show (y 0).val < 0 + 512; omega⟩
      | 1 => exact ⟨by show 512 * k ≤ (y 1).val; omega, by show (y 1).val < 512 * k + 512; omega⟩
    rw [if_pos hy, dif_pos hm]
    refine congrArg w (funext fun j => Fin.ext ?_)
    match j with
    | 0 => show (y 0).val - 0 = (y 0).val; omega
    | 1 => show (y 1).val - 512 * k = (y 1).val % 512; omega
  · rw [if_neg hy, dif_neg]
    intro hm
    have h1 : 512 * k ≤ (y 1).val ∧ (y 1).val < 512 * k + 512 := hm 1
    omega

theorem read_fill (a : Memref sig .tc .vmem S512x2048 .bf16) (f : BufTy.Contents (Elt F) a.view.ty) (T : Fin 4 → Vec F S512x512 .bf16) (i0 i1 i2 i3) :
    a.view.read (Elt F) (a.view.writes (Elt F) f [⟨Rect.unit (s := S512x2048) ![0, 1536] S512x512.size i3, T 3⟩, ⟨Rect.unit (s := S512x2048) ![0, 1024] S512x512.size i2, T 2⟩,
      ⟨Rect.unit (s := S512x2048) ![0, 512] S512x512.size i1, T 1⟩, ⟨Rect.unit (s := S512x2048) ![0, 0] S512x512.size i0, T 0⟩]) = fill T := by
  funext y
  have h : (y 1).val < 2048 := (y 1).isLt
  rw [write_cols a f 3 1536 rfl, write_cols a f 2 1024 rfl, write_cols a f 1 512 rfl, write_cols a f 0 0 rfl]
  unfold fill
  generalize hk : (⟨(y 1).val / 512, _⟩ : Fin 4) = k
  have hk : (y 1).val / 512 = k.val := congrArg Fin.val hk
  rw [hk]
  fin_cases k <;> rfl

/-- The gradient of the product before the gate, a chunk of columns, -/
def tile (X : In F) (b : Vec F S512x1024 .bf16) (k : Fin 4) : Vec F S512x512 .bf16 := k0_pay11 (cols X.u k) b (rows X.wd k)
/-- all of it, -/
def dup (X : In F) (b : Vec F S512x1024 .bf16) : Vec F S512x2048 .bf16 := fill (tile X b)
/-- and what it adds to the gradient of the normed rows. -/
def more (X : In F) (b : Vec F S512x1024 .bf16) (s : Vec F S512x1024 .f32) : Vec F S512x1024 .f32 :=
  k0_pay2 (k0_pay15 (k0_pay12 (cols X.u 0) b (rows X.wd 0) (slab X.wu 0)) (k0_pay13 (cols X.u 1) b (rows X.wd 1)) (slab X.wu 1) (cols X.u 2) b (rows X.wd 2) (slab X.wu 2))
    (k0_pay16 (cols X.u 3)) (k0_pay17 b) (k0_pay18 (rows X.wd 3)) (constant S512x512 .f32 0x00000000#32) (slab X.wu 3) s

theorem cond1 : ∀ i : grid0.Coords, k0_cond1 i = 1#1 ↔ (i 1).val = 0 := by decide +kernel
theorem cond2 : ∀ i : grid0.Coords, k0_cond2 i = 1#1 ↔ (i 0).val = 0 ∧ (i 1).val = 0 := by decide +kernel
theorem cond3 : ∀ i : grid0.Coords, k0_cond3 i = 1#1 ↔ (i 1).val = 1 := by decide +kernel

def ins (c : Dev nD) (A : Args) (X : In F) : sProp 𝕄 :=
  iprop(owns (c : Thread nD τ) A.a2 fullShare X.d ∗ owns (c : Thread nD τ) A.a3 fullShare X.u ∗ owns (c : Thread nD τ) A.a4 fullShare X.x
    ∗ owns (c : Thread nD τ) A.a5 fullShare X.g ∗ owns (c : Thread nD τ) A.a6 fullShare X.wu ∗ owns (c : Thread nD τ) A.a7 fullShare X.wd)

/-- What a point writes. -/
structure Out (F : FTy → Type) where
  du : Vec F S512x2048 .bf16
  dx : Vec F S512x1024 .f32
  n : Vec F S512x1024 .bf16
  b : Vec F S512x1024 .bf16
  dg : Vec F S1x1024 .f32
  s : Vec F S512x1024 .f32

def outs (c : Dev nD) (A : Args) (O : Out F) : sProp 𝕄 :=
  iprop(owns (c : Thread nD τ) A.a8 fullShare O.du ∗ owns (c : Thread nD τ) A.a9 fullShare O.dx ∗ owns (c : Thread nD τ) A.a10 fullShare O.n
    ∗ owns (c : Thread nD τ) A.a11 fullShare O.b ∗ owns (c : Thread nD τ) A.a12 fullShare O.dg ∗ owns (c : Thread nD τ) A.a13 fullShare O.s)

/-- After the first half of the columns, -/
def first (i : grid0.Coords) (X : In F) (O : Out F) : Out F where
  du := dup X (k0_pay9 X.d)
  dx := O.dx
  n := k0_pay8 X.x X.g
  b := k0_pay9 X.d
  dg := if (i 0).val = 0 then k0_pay3 else O.dg
  s := more X (k0_pay9 X.d) k0_pay10

/-- and after the second. -/
def second (X : In F) (O : Out F) : Out F where
  du := dup X O.b
  dx := k0_pay7 X.g X.x (more X O.b O.s) X.d
  n := O.n
  b := O.b
  dg := k0_pay6 X.x (more X O.b O.s) O.dg
  s := more X O.b O.s

/-- The body on its buffers. -/
abbrev call (i : grid0.Coords) (A : Args) :=
  cc0_bwd_mlp (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13

set_option maxHeartbeats 4000000 in
theorem second_half (c : Dev nD) (E : Set ℕ) (i : grid0.Coords) (h : (i 1).val = 1) (A : Args) (X : In F) (O : Out F) :
    iprop(ins c A X ∗ outs c A O)
    ⊢ wp frame (wpE (defs₀ (F := F)) Variants.none (c : Thread nD τ) none) E (call i A) (fun _ => iprop(ins c A X ∗ outs c A (second X O))) := by
  have hc1 := mt (cond1 i).mp (by omega)
  have hc2 := mt (cond2 i).mp (by omega)
  have hc3 := (cond3 i).mpr h
  unfold call
  rw [cc0_bwd_mlp_eq_skeleton]
  unfold cc0_bwd_mlp_skel ins outs owns
  rw [k0_part1_eq_skeleton, k0_part2_eq_skeleton]
  unfold k0_part1_skel k0_part2_skel
  iintro ⟨⟨⟨%f2, %e2, H2⟩, ⟨%f3, %e3, H3⟩, ⟨%f4, %e4, H4⟩, ⟨%f5, %e5, H5⟩, ⟨%f6, %e6, H6⟩, ⟨%f7, %e7, H7⟩⟩,
    ⟨⟨%f8, %e8, H8⟩, ⟨%f9, %e9, H9⟩, ⟨%f10, %e10, H10⟩, ⟨%f11, %e11, H11⟩, ⟨%f12, %e12, H12⟩, ⟨%f13, %e13, H13⟩⟩⟩
  sl_exec (disch := first | exact hc1 | exact hc2 | exact hc3)
  sl_step
  isplitl [H2 H3 H4 H5 H6 H7]
  · isplitl [H2]; · iexists f2; isplitr; (ipureintro; exact e2); iexact H2
    isplitl [H3]; · iexists f3; isplitr; (ipureintro; exact e3); iexact H3
    isplitl [H4]; · iexists f4; isplitr; (ipureintro; exact e4); iexact H4
    isplitl [H5]; · iexists f5; isplitr; (ipureintro; exact e5); iexact H5
    isplitl [H6]; · iexists f6; isplitr; (ipureintro; exact e6); iexact H6
    iexists f7; isplitr; (ipureintro; exact e7); iexact H7
  isplitl [H8]
  · iexists _; isplitr; swap; iexact H8
    ipureintro
    sl_unfold_run_names
    simp only [read_cols _ _ 0 0 rfl, read_cols _ _ 1 512 rfl, read_cols _ _ 2 1024 rfl, read_cols _ _ 3 1536 rfl, read_rows _ _ 0 0 rfl, read_rows _ _ 1 512 rfl, read_rows _ _ 2 1024 rfl, read_rows _ _ 3 1536 rfl,
      read_slab _ _ 0 0 rfl, read_slab _ _ 1 1 rfl, read_slab _ _ 2 2 rfl, read_slab _ _ 3 3 rfl, read_whole (s := S512x1024) _ _ _ zeros, read_whole (s := S1x1024) _ _ _ zeros, View.readCov_cons_toLoadRect, e2, e3, e4, e5, e6, e7, e11, e12, e13]
    exact read_fill A.a8 f8 (tile X O.b) _ _ _ _
  isplitl [H9]
  · iexists _; isplitr; swap; iexact H9
    ipureintro
    refine (View.read_writes_full A.a9.view f9 _ _ []).trans ?_
    sl_unfold_run_names
    simp only [read_cols _ _ 0 0 rfl, read_cols _ _ 1 512 rfl, read_cols _ _ 2 1024 rfl, read_cols _ _ 3 1536 rfl, read_rows _ _ 0 0 rfl, read_rows _ _ 1 512 rfl, read_rows _ _ 2 1024 rfl, read_rows _ _ 3 1536 rfl,
      read_slab _ _ 0 0 rfl, read_slab _ _ 1 1 rfl, read_slab _ _ 2 2 rfl, read_slab _ _ 3 3 rfl, read_whole (s := S512x1024) _ _ _ zeros, read_whole (s := S1x1024) _ _ _ zeros, View.readCov_cons_toLoadRect, e2, e3, e4, e5, e6, e7, e11, e12, e13]
    rfl
  isplitl [H10]; · iexists f10; isplitr; (ipureintro; exact e10); iexact H10
  isplitl [H11]; · iexists f11; isplitr; (ipureintro; exact e11); iexact H11
  isplitl [H12]
  · iexists _; isplitr; swap; iexact H12
    ipureintro
    refine (View.read_writes_full A.a12.view f12 _ _ []).trans ?_
    sl_unfold_run_names
    simp only [read_cols _ _ 0 0 rfl, read_cols _ _ 1 512 rfl, read_cols _ _ 2 1024 rfl, read_cols _ _ 3 1536 rfl, read_rows _ _ 0 0 rfl, read_rows _ _ 1 512 rfl, read_rows _ _ 2 1024 rfl, read_rows _ _ 3 1536 rfl,
      read_slab _ _ 0 0 rfl, read_slab _ _ 1 1 rfl, read_slab _ _ 2 2 rfl, read_slab _ _ 3 3 rfl, read_whole (s := S512x1024) _ _ _ zeros, read_whole (s := S1x1024) _ _ _ zeros, View.readCov_cons_toLoadRect, e2, e3, e4, e5, e6, e7, e11, e12, e13]
    rfl
  · iexists _; isplitr; swap; iexact H13
    ipureintro
    sl_unfold_run_names
    refine (View.read_writes_full A.a13.view f13 _ _ []).trans ?_
    simp only [read_cols _ _ 0 0 rfl, read_cols _ _ 1 512 rfl, read_cols _ _ 2 1024 rfl, read_cols _ _ 3 1536 rfl, read_rows _ _ 0 0 rfl, read_rows _ _ 1 512 rfl, read_rows _ _ 2 1024 rfl, read_rows _ _ 3 1536 rfl,
      read_slab _ _ 0 0 rfl, read_slab _ _ 1 1 rfl, read_slab _ _ 2 2 rfl, read_slab _ _ 3 3 rfl, read_whole (s := S512x1024) _ _ _ zeros, read_whole (s := S1x1024) _ _ _ zeros, View.readCov_cons_toLoadRect, e2, e3, e4, e5, e6, e7, e11, e12, e13]
    rfl

set_option maxHeartbeats 1000000 in
theorem first_half (c : Dev nD) (E : Set ℕ) (i : grid0.Coords) (h : (i 1).val = 0) (A : Args) (X : In F) (O : Out F) :
    iprop(ins c A X ∗ outs c A O)
    ⊢ wp frame (wpE (defs₀ (F := F)) Variants.none (c : Thread nD τ) none) E (call i A) (fun _ => iprop(ins c A X ∗ outs c A (first i X O))) := by
  have hc1 := (cond1 i).mpr h
  have hc3 := mt (cond3 i).mp (by omega)
  unfold call
  rw [cc0_bwd_mlp_eq_skeleton]
  unfold cc0_bwd_mlp_skel ins outs owns
  rw [k0_part1_eq_skeleton, k0_part2_eq_skeleton]
  unfold k0_part1_skel k0_part2_skel
  iintro ⟨⟨⟨%f2, %e2, H2⟩, ⟨%f3, %e3, H3⟩, ⟨%f4, %e4, H4⟩, ⟨%f5, %e5, H5⟩, ⟨%f6, %e6, H6⟩, ⟨%f7, %e7, H7⟩⟩,
    ⟨⟨%f8, %e8, H8⟩, ⟨%f9, %e9, H9⟩, ⟨%f10, %e10, H10⟩, ⟨%f11, %e11, H11⟩, ⟨%f12, %e12, H12⟩, ⟨%f13, %e13, H13⟩⟩⟩
  sl_exec (disch := first | exact hc1 | exact hc3)
  sl_step
  isplitl [H2 H3 H4 H5 H6 H7]
  · isplitl [H2]; · iexists f2; isplitr; (ipureintro; exact e2); iexact H2
    isplitl [H3]; · iexists f3; isplitr; (ipureintro; exact e3); iexact H3
    isplitl [H4]; · iexists f4; isplitr; (ipureintro; exact e4); iexact H4
    isplitl [H5]; · iexists f5; isplitr; (ipureintro; exact e5); iexact H5
    isplitl [H6]; · iexists f6; isplitr; (ipureintro; exact e6); iexact H6
    iexists f7; isplitr; (ipureintro; exact e7); iexact H7
  isplitl [H8]
  · iexists _; isplitr; swap; iexact H8
    ipureintro
    sl_unfold_run_names
    simp only [read_cols _ _ 0 0 rfl, read_cols _ _ 1 512 rfl, read_cols _ _ 2 1024 rfl, read_cols _ _ 3 1536 rfl, read_rows _ _ 0 0 rfl, read_rows _ _ 1 512 rfl, read_rows _ _ 2 1024 rfl, read_rows _ _ 3 1536 rfl,
      read_slab _ _ 0 0 rfl, read_slab _ _ 1 1 rfl, read_slab _ _ 2 2 rfl, read_slab _ _ 3 3 rfl, read_whole (s := S512x1024) _ _ _ zeros, read_whole (s := S1x1024) _ _ _ zeros, View.readCov_cons_toLoadRect, e2, e3, e4, e5, e6, e7]
    exact read_fill A.a8 f8 (tile X (k0_pay9 X.d)) _ _ _ _
  isplitl [H9]; · iexists f9; isplitr; (ipureintro; exact e9); iexact H9
  isplitl [H10]
  · iexists _; isplitr; swap; iexact H10
    ipureintro
    sl_unfold_run_names
    refine (View.read_writes_full A.a10.view f10 _ _ []).trans ?_
    simp only [read_cols _ _ 0 0 rfl, read_cols _ _ 1 512 rfl, read_cols _ _ 2 1024 rfl, read_cols _ _ 3 1536 rfl, read_rows _ _ 0 0 rfl, read_rows _ _ 1 512 rfl, read_rows _ _ 2 1024 rfl, read_rows _ _ 3 1536 rfl,
      read_slab _ _ 0 0 rfl, read_slab _ _ 1 1 rfl, read_slab _ _ 2 2 rfl, read_slab _ _ 3 3 rfl, read_whole (s := S512x1024) _ _ _ zeros, read_whole (s := S1x1024) _ _ _ zeros, View.readCov_cons_toLoadRect, e2, e3, e4, e5, e6, e7]
    rfl
  isplitl [H11]
  · iexists _; isplitr; swap; iexact H11
    ipureintro
    sl_unfold_run_names
    refine (View.read_writes_full A.a11.view f11 _ _ []).trans ?_
    simp only [read_cols _ _ 0 0 rfl, read_cols _ _ 1 512 rfl, read_cols _ _ 2 1024 rfl, read_cols _ _ 3 1536 rfl, read_rows _ _ 0 0 rfl, read_rows _ _ 1 512 rfl, read_rows _ _ 2 1024 rfl, read_rows _ _ 3 1536 rfl,
      read_slab _ _ 0 0 rfl, read_slab _ _ 1 1 rfl, read_slab _ _ 2 2 rfl, read_slab _ _ 3 3 rfl, read_whole (s := S512x1024) _ _ _ zeros, read_whole (s := S1x1024) _ _ _ zeros, View.readCov_cons_toLoadRect, e2, e3, e4, e5, e6, e7]
    rfl
  isplitl [H12]
  · iexists _; isplitr; swap; iexact H12
    ipureintro
    by_cases h0 : (i 0).val = 0
    · rw [dif_pos ((cond2 i).mpr ⟨h0, h⟩)]
      sl_unfold_run_names
      exact (View.read_writes_full A.a12.view f12 _ _ []).trans (if_pos h0).symm
    · rw [dif_neg (mt (cond2 i).mp fun h' => h0 h'.1)]
      exact e12.trans (if_neg h0).symm
  · iexists _; isplitr; swap; iexact H13
    ipureintro
    sl_unfold_run_names
    refine (View.read_writes_full A.a13.view f13 _ _ _).trans ?_
    simp only [read_cols _ _ 0 0 rfl, read_cols _ _ 1 512 rfl, read_cols _ _ 2 1024 rfl, read_cols _ _ 3 1536 rfl, read_rows _ _ 0 0 rfl, read_rows _ _ 1 512 rfl, read_rows _ _ 2 1024 rfl, read_rows _ _ 3 1536 rfl,
      read_slab _ _ 0 0 rfl, read_slab _ _ 1 1 rfl, read_slab _ _ 2 2 rfl, read_slab _ _ 3 3 rfl, read_whole (s := S512x1024) _ _ _ zeros, read_whole (s := S1x1024) _ _ _ zeros, View.readCov_cons_toLoadRect, e2, e3, e4, e5, e6, e7]
    rfl

end Cert.MlpIdeal.Run

end
-- ==== Proof.MlpFrame.lean ====
module

public import proofs.«01_k».proof.Proof.MlpBody
public import proofs.«01_k».proof.Proof.Gen.MlpIdeal.Points
public import proofs.«01_k».proof.Proof.Gen.MlpIdeal.Launch
public import Idealize.ShloMosaic.Lib.Pipeline.FrameBody
public import Idealize.ShloMosaic.Lib.Pipeline.TableIdle
public import Idealize.ShloMosaic.Lib.Claim

@[expose] public section

set_option maxRecDepth 16384

noncomputable section

namespace Cert.MlpIdeal.Run

open Cert.MlpIdeal Cert.MlpIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the call. -/
abbrev lines : List (List (HloOp τ sig (Elt F))) := [hostOps0, hostOps0_1, hostOps0_2]

/-- What a buffer holds when the call is entered. -/
abbrev V (c : Dev nD) (b : Ref sig .tc) : Buf (Elt F) ((c : Thread nD τ).loc b) := StableHlo.after (List.flatten lines) (fun b => m (c, b)) b

theorem lines_fresh : (lines (F := F)).Forall fun l => l.Forall fun op => op.fresh = ∅ := by
  simp only [lines, List.Forall]
  repeat' constructor

theorem entered (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main lines
    (by simp only [lines, List.Forall]; exact ⟨hostOps0_sub, hostOps0_1_sub, hostOps0_2_sub⟩)
    lines_fresh main_chain

/-- The host lines write no argument. -/
theorem V_arg (c : Dev nD) : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3) ∧ V m c main_arg4 = m ((c : Thread nD τ).loc main_arg4) := by
  refine ⟨?_, ?_, ?_, ?_, ?_⟩ <;>
  · refine StableHlo.after_of_forall_not_mem (b := Proc.devRef .tc _) _ _ (List.forall_iff_forall_mem.mp ?_)
    simp only [lines, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the point's body works on. -/
def cell (c : Dev nD) (t : Fin cfg0.N) : In F where
  d := iblk m c 0 t
  u := iblk m c 1 t
  x := iblk m c 2 t
  g := iblk m c 3 t
  wu := iblk m c 4 t
  wd := iblk m c 5 t

/-- What a point's outputs and its scratch become. -/
def step (i : grid0.Coords) (X : In F) (O : Out F) : Out F := if (i 1).val = 0 then first i X O else second X O

/-- The outputs and the scratch before each point. -/
def trail (c : Dev nD) : (n : ℕ) → n ≤ cfg0.N → Out F
  | 0, _ => ⟨dup (cell m c ⟨0, lt_of_lt_of_eq (by omega) (N_0 : grid0.N = 32).symm⟩) (k0_pay9 k0_pay10), k0_pay10, k0_pay9 k0_pay10, k0_pay9 k0_pay10, k0_pay3, k0_pay10⟩
  | n + 1, h => step (grid0.coords ⟨n, h⟩) (cell m c ⟨n, h⟩) (trail c n (Nat.le_of_lt h))

/-- After the point. -/
def state (c : Dev nD) (t : Fin cfg0.N) : Out F := trail m c (t.val + 1) t.isLt

theorem coord1 (t : Fin cfg0.N) : (grid0.coords t 1).val = t.val % 2 :=
  (Pipeline.Grid.coords_val (S := 1) t 1 (by decide) rfl).trans (by rw [Nat.div_one]; rfl)
theorem coord0 (t : Fin cfg0.N) : (grid0.coords t 0).val = t.val / 2 := by
  revert t; decide +kernel

theorem state_even (c : Dev nD) (t : Fin cfg0.N) (h : t.val % 2 = 0) : state m c t = first (grid0.coords t) (cell m c t) (trail m c t.val (Nat.le_of_lt t.isLt)) :=
  if_pos ((coord1 t).trans h)
theorem state_odd (c : Dev nD) (t : Fin cfg0.N) (h : t.val % 2 = 1) : state m c t = second (cell m c t) (trail m c t.val (Nat.le_of_lt t.isLt)) :=
  if_neg fun e => by have := (coord1 t).symm.trans e; omega
theorem trail_pos (c : Dev nD) (t : Fin cfg0.N) (h : t.val ≠ 0) : trail m c t.val (Nat.le_of_lt t.isLt) = state m c ⟨t.val - 1, Nat.lt_of_le_of_lt (Nat.sub_le _ _) t.isLt⟩ := by
  obtain ⟨n, hn⟩ := t
  cases n with
  | zero => exact absurd rfl h
  | succ n => rfl

/-- Scratch between points. -/
def kept (c : Dev nD) : (n : ℕ) → n ≤ cfg0.N → sProp 𝕄
  | 0, _ => Pipeline.ΦA spec0 c
  | n + 1, h => iprop(owns (c : Thread nD τ) (Memref.whole cc0_scratch0) fullShare (trail m c (n + 1) h).s ∗ (∃ r, prngReg c r))

theorem any_eq (c : Dev nD) : (Pipeline.ΦA spec0 c : sProp 𝕄)
    = iprop((∃ d, owns (c : Thread nD τ) (Memref.whole cc0_scratch0) fullShare d) ∗ (∃ r, prngReg c r)) := by
  unfold Pipeline.ΦA
  rw [scopedRest0_eq]
  simp only [owns_whole]

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (state m c t).du
    | ⟨7, _⟩ => (state m c t).dx
    | ⟨8, _⟩ => (state m c t).n
    | ⟨9, _⟩ => (state m c t).b
    | ⟨10, _⟩ => (state m c t).dg
  Φ t := kept m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_eq (c : Dev nD) (t : Fin (cfg0.N + 1)) : (dats m 0 c).Φ t = kept m c t.val (Nat.le_of_lt_succ t.isLt) := by
  dsimp only [dats]

/-- An input's buffer holds its block at every point. -/
theorem before_block (c : Dev nD) (w : Fin cfg0.W) (hw : (cfg0.win w).isOut = false) (hl : ∀ i, cfg0.idle w i = false)
    (hc : ∀ t t' : Fin cfg0.N, (cfg0.win w).index t = (cfg0.win w).index t' → (cfg0.win w).clip (cfg0.grid.coords t) = (cfg0.win w).clip (cfg0.grid.coords t'))
    (hk : ∀ t, (cfg0.win w).cut (cfg0.grid.coords t) ((dats m 0 c).after w t) = iblk m c w t) (t : Fin cfg0.N) (d) :
    (dats m 0 c).before w t d = (dats m 0 c).fetched w t d :=
  (dats m 0 c).before_in_eq_fetched w hw hl hc (fun t => by rw [hk]; unfold Dat.blockOf iblk; rw [A_eq]) t d

theorem block_eq (c : Dev nD) (w : Fin cfg0.W) (t : Fin cfg0.N) : (dats m 0 c).blockOf w t = iblk m c w t := by
  unfold Dat.blockOf iblk
  rw [A_eq]

theorem before_in (c : Dev nD) (t : Fin cfg0.N) :
    (∀ d, (dats m 0 c).before 0 t d = (cell m c t).d) ∧ (∀ d, (dats m 0 c).before 1 t d = (cell m c t).u)
    ∧ (∀ d, (dats m 0 c).before 2 t d = (cell m c t).x) ∧ (∀ d, (dats m 0 c).before 3 t d = (cell m c t).g)
    ∧ (∀ d, (dats m 0 c).before 4 t d = (cell m c t).wu) ∧ (∀ d, (dats m 0 c).before 5 t d = (cell m c t).wd) := by
  refine ⟨fun d => ?_, fun d => ?_, fun d => ?_, fun d => ?_, fun d => ?_, fun d => ?_⟩ <;>
  · refine (before_block m c _ rfl (fun _ => rfl) (fun _ _ _ => rfl) (fun t => by dsimp only [dats]) t d).trans ?_
    dsimp only [cell]
    unfold Dat.fetched Dat.blockOf iblk
    rw [A_eq]
    rfl

/-- Where the windows are written, and where they go back. -/
theorem even_idle : ∀ t : Fin cfg0.N, t.val % 2 = 0 → (cfg0.idle 7 (grid0.coords t) = true ∧ (cfg0.win 7).flush t = false)
    ∧ cfg0.idle 8 (grid0.coords t) = false ∧ cfg0.idle 9 (grid0.coords t) = false ∧ cfg0.idle 10 (grid0.coords t) = decide (t.val ≠ 0) ∧ (cfg0.win 10).flush t = false := by
  decide +kernel
theorem odd_idle : ∀ t : Fin cfg0.N, t.val % 2 = 1 → cfg0.idle 7 (grid0.coords t) = false ∧ (cfg0.idle 8 (grid0.coords t) = true ∧ (cfg0.win 8).flush t = true)
    ∧ (cfg0.idle 9 (grid0.coords t) = true ∧ (cfg0.win 9).flush t = true) ∧ cfg0.idle 10 (grid0.coords t) = false := by
  decide +kernel
theorem held_odd : ∀ t : Fin cfg0.N, t.val % 2 = 1 → cfg0.fresh 8 t.val = false ∧ cfg0.fresh 9 t.val = false := by
  decide +kernel
theorem held_dg : ∀ t : Fin cfg0.N, t.val ≠ 0 → cfg0.fresh 10 t.val = false := by
  decide +kernel

theorem odd_of_idle (t : Fin cfg0.N) (h : cfg0.idle 8 (grid0.coords t) = true ∨ cfg0.idle 9 (grid0.coords t) = true) : t.val % 2 = 1 := by
  by_contra hn
  obtain ⟨_, h8, h9, _⟩ := even_idle t (by omega)
  rcases h with h | h
  · exact Bool.false_ne_true (h8.symm.trans h)
  · exact Bool.false_ne_true (h9.symm.trans h)

theorem found_n (c : Dev nD) (t : Fin cfg0.N) (h : t.val % 2 = 1) (d) : (dats m 0 c).before 8 t d = (trail m c t.val (Nat.le_of_lt t.isLt)).n := by
  rw [(dats m 0 c).before_out_traj 8 rfl (fun _ _ => rfl) (fun t h0 hi _ => by
    have ho := odd_of_idle t (.inl hi)
    show (state m c t).n = (state m c _).n
    rw [state_odd m c t ho, ← trail_pos m c t h0]; rfl) t.val t rfl d, (held_odd t h).1, trail_pos m c t (by omega)]
  rfl
theorem found_b (c : Dev nD) (t : Fin cfg0.N) (h : t.val % 2 = 1) (d) : (dats m 0 c).before 9 t d = (trail m c t.val (Nat.le_of_lt t.isLt)).b := by
  rw [(dats m 0 c).before_out_traj 9 rfl (fun _ _ => rfl) (fun t h0 hi _ => by
    have ho := odd_of_idle t (.inr hi)
    show (state m c t).b = (state m c _).b
    rw [state_odd m c t ho, ← trail_pos m c t h0]; rfl) t.val t rfl d, (held_odd t h).2, trail_pos m c t (by omega)]
  rfl
theorem found_dg (c : Dev nD) (t : Fin cfg0.N) (h : t.val ≠ 0) (d) : (dats m 0 c).before 10 t d = (trail m c t.val (Nat.le_of_lt t.isLt)).dg := by
  rw [(dats m 0 c).before_out_traj 10 rfl (fun _ _ => rfl) (fun t h0 hi _ => by
    have he : t.val % 2 = 0 := by
      by_contra hn
      rw [(odd_idle t (by omega)).2.2.2] at hi
      exact Bool.false_ne_true hi
    show (state m c t).dg = (state m c _).dg
    rw [state_even m c t he, ← trail_pos m c t h0]
    exact if_neg (by rw [coord0]; omega)) t.val t rfl d, held_dg t h, trail_pos m c t h]
  rfl

/-- The memrefs the body is called with. -/
def args (t : Fin cfg0.N) : Args where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := Memref.whole cc0_scratch0
  h13 := Memref.isWhole_whole _

/-- Whatever the first point finds in scratch is overwritten there. -/
theorem kept_scratch (c : Dev nD) (t : Fin cfg0.N) :
    kept m c t.val (Nat.le_of_lt t.isLt) ⊢ (iprop(∃ x, ⌜t.val % 2 = 1 → x = (trail m c t.val (Nat.le_of_lt t.isLt)).s⌝
      ∗ owns (c : Thread nD τ) (args t).a13 fullShare x ∗ (∃ r, prngReg c r)) : sProp 𝕄) := by
  obtain ⟨n, hn⟩ := t
  cases n with
  | zero =>
    show Pipeline.ΦA spec0 c ⊢ _
    rw [any_eq]
    iintro ⟨⟨%x, H0⟩, Hg⟩
    iexists x
    isplitr
    · ipureintro
      intro h
      exact absurd h (by show ¬(0 % 2 = 1); decide)
    isplitl [H0]
    · iexact H0
    iexact Hg
  | succ n =>
    unfold kept
    iintro ⟨H0, Hg⟩
    iexists _
    isplitr
    swap
    · isplitl [H0]
      · iexact H0
      iexact Hg
    ipureintro
    exact fun _ => rfl

theorem kept_next (c : Dev nD) (t : Fin cfg0.N) :
    (iprop(owns (c : Thread nD τ) (args t).a13 fullShare (state m c t).s ∗ (∃ r, prngReg c r)) : sProp 𝕄) ⊢ kept m c (t.val + 1) t.isLt := .rfl

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact
  rw [h]

/-- The inputs are left as they were. -/
theorem leaves_ins (c : Dev nD) (t : Fin cfg0.N) : ins c (args t) (cell m c t) ⊢ (iprop((dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t) : sProp 𝕄) := by
  rw [leaves_live m c 0 t rfl, leaves_live m c 1 t rfl, leaves_live m c 2 t rfl, leaves_live m c 3 t rfl, leaves_live m c 4 t rfl, leaves_live m c 5 t rfl]
  unfold ins
  dsimp only [dats, cell, args]
  exact .rfl

/-- The inputs as the pipeline hands them over. -/
theorem finds_ins (c : Dev nD) (t : Fin cfg0.N) (d0 d1 d2 d3 d4 d5) :
    (iprop(owns (c : Thread nD τ) (args t).a2 fullShare ((dats m 0 c).before 0 t d0) ∗ owns (c : Thread nD τ) (args t).a3 fullShare ((dats m 0 c).before 1 t d1)
    ∗ owns (c : Thread nD τ) (args t).a4 fullShare ((dats m 0 c).before 2 t d2) ∗ owns (c : Thread nD τ) (args t).a5 fullShare ((dats m 0 c).before 3 t d3)
    ∗ owns (c : Thread nD τ) (args t).a6 fullShare ((dats m 0 c).before 4 t d4) ∗ owns (c : Thread nD τ) (args t).a7 fullShare ((dats m 0 c).before 5 t d5)) : sProp 𝕄) ⊢ ins c (args t) (cell m c t) := by
  obtain ⟨h0, h1, h2, h3, h4, h5⟩ := before_in m c t
  rw [h0, h1, h2, h3, h4, h5]
  exact .rfl

/-- What the outputs and the scratch hold when the point's body is entered. -/
def here (c : Dev nD) (t : Fin cfg0.N) (d6 : Vec F S512x2048 .bf16) (d7 : Vec F S512x1024 .f32) (d8 d9 : Vec F S512x1024 .bf16) (d10 : Vec F S1x1024 .f32) (x : Vec F S512x1024 .f32) : Out F :=
  ⟨(dats m 0 c).before 6 t d6, (dats m 0 c).before 7 t d7, (dats m 0 c).before 8 t d8, (dats m 0 c).before 9 t d9, (dats m 0 c).before 10 t d10, x⟩

/-- The windows' leavings. -/
def leaves (c : Dev nD) (t : Fin cfg0.N) : sProp 𝕄 :=
  iprop((dats m 0 c).leavesExact 6 t ∗ (dats m 0 c).leavesExact 7 t ∗ (dats m 0 c).leavesExact 8 t ∗ (dats m 0 c).leavesExact 9 t ∗ (dats m 0 c).leavesExact 10 t)

theorem leaves_even (c : Dev nD) (t : Fin cfg0.N) (h : t.val % 2 = 0) (d6 d7 d8 d9 d10) (x : Vec F S512x1024 .f32) :
    outs c (args t) (first (grid0.coords t) (cell m c t) (here m c t d6 d7 d8 d9 d10 x))
    ⊢ (iprop(leaves m c t ∗ owns (c : Thread nD τ) (args t).a13 fullShare (state m c t).s) : sProp 𝕄) := by
  obtain ⟨h7, h8, h9, h10, h10'⟩ := even_idle t h
  unfold leaves outs
  rw [leaves_live m c 6 t rfl, (dats m 0 c).leavesExact_idle 7 t h7.1 h7.2, leaves_live m c 8 t h8, leaves_live m c 9 t h9]
  have e : (dats m 0 c).after 6 t = (first (grid0.coords t) (cell m c t) (here m c t d6 d7 d8 d9 d10 x)).du
      ∧ (dats m 0 c).after 8 t = (first (grid0.coords t) (cell m c t) (here m c t d6 d7 d8 d9 d10 x)).n
      ∧ (dats m 0 c).after 9 t = (first (grid0.coords t) (cell m c t) (here m c t d6 d7 d8 d9 d10 x)).b
      ∧ (state m c t).s = (first (grid0.coords t) (cell m c t) (here m c t d6 d7 d8 d9 d10 x)).s := by
    dsimp only [dats]
    rw [state_even m c t h]
    exact ⟨rfl, rfl, rfl, rfl⟩
  rw [e.1, e.2.1, e.2.2.1, e.2.2.2]
  by_cases h0 : t.val = 0
  · rw [leaves_live m c 10 t (h10.trans (by simp [h0]))]
    have e10 : (dats m 0 c).after 10 t = (first (grid0.coords t) (cell m c t) (here m c t d6 d7 d8 d9 d10 x)).dg := by
      dsimp only [dats]
      rw [state_even m c t h]
      have hz : (grid0.coords t 0).val = 0 := by rw [coord0]; omega
      unfold first
      dsimp only
      rw [if_pos hz, if_pos hz]
    rw [e10]
    iintro ⟨H6, H7, H8, H9, H10, H13⟩
    isplitr [H13]
    · isplitl [H6]; · iexact H6
      isplitl [H7]; · iexists d7; iexact H7
      isplitl [H8]; · iexact H8
      isplitl [H9]; · iexact H9
      iexact H10
    iexact H13
  · rw [(dats m 0 c).leavesExact_idle 10 t (h10.trans (by simp [h0])) h10']
    have e10 : (first (grid0.coords t) (cell m c t) (here m c t d6 d7 d8 d9 d10 x)).dg = (dats m 0 c).before 10 t d10 :=
      if_neg (by rw [coord0]; omega)
    rw [e10]
    iintro ⟨H6, H7, H8, H9, H10, H13⟩
    isplitr [H13]
    · isplitl [H6]; · iexact H6
      isplitl [H7]; · iexists d7; iexact H7
      isplitl [H8]; · iexact H8
      isplitl [H9]; · iexact H9
      iexists d10; iexact H10
    iexact H13

theorem leaves_back (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact
  rw [h, hf]

theorem leaves_odd (c : Dev nD) (t : Fin cfg0.N) (h : t.val % 2 = 1) (d6 d7 d8 d9 d10) (x : Vec F S512x1024 .f32) (hx : x = (trail m c t.val (Nat.le_of_lt t.isLt)).s) :
    outs c (args t) (second (cell m c t) (here m c t d6 d7 d8 d9 d10 x))
    ⊢ (iprop(leaves m c t ∗ owns (c : Thread nD τ) (args t).a13 fullShare (state m c t).s) : sProp 𝕄) := by
  obtain ⟨h7, h8, h9, h10⟩ := odd_idle t h
  unfold leaves outs
  rw [leaves_live m c 6 t rfl, leaves_live m c 7 t h7, leaves_back m c 8 t h8.1 h8.2, leaves_back m c 9 t h9.1 h9.2, leaves_live m c 10 t h10]
  have e : second (cell m c t) (here m c t d6 d7 d8 d9 d10 x) = state m c t := by
    rw [state_odd m c t h]
    unfold second here
    dsimp only
    rw [hx, found_n m c t h, found_b m c t h, found_dg m c t (by omega)]
  rw [e]
  dsimp only [dats]
  iintro ⟨H6, H7, H8, H9, H10, H13⟩
  isplitr [H13]
  · isplitl [H6]; · iexact H6
    isplitl [H7]; · iexact H7
    isplitl [H8]; · iexact H8
    isplitl [H9]; · iexact H9
    iexact H10
  iexact H13

theorem body_at (c : Dev nD) (t : Fin cfg0.N) (d6 d7 d8 d9 d10) (x : Vec F S512x1024 .f32) (hx : t.val % 2 = 1 → x = (trail m c t.val (Nat.le_of_lt t.isLt)).s) :
    (iprop(ins c (args t) (cell m c t) ∗ outs c (args t) (here m c t d6 d7 d8 d9 d10 x)) : sProp 𝕄)
    ⊢ wp frame (wpE (defs₀ (F := F)) Variants.none (c : Thread nD τ) none) Set.univ (bodyAt0 t)
      (fun _ => iprop(ins c (args t) (cell m c t) ∗ leaves m c t ∗ owns (c : Thread nD τ) (args t).a13 fullShare (state m c t).s)) := by
  by_cases h : t.val % 2 = 0
  · exact (first_half c Set.univ (grid0.coords t) ((coord1 t).trans h) (args t) (cell m c t) (here m c t d6 d7 d8 d9 d10 x)).trans
      (wp_mono _ _ _ fun _ => sep_mono .rfl (leaves_even m c t h d6 d7 d8 d9 d10 x))
  · have h : t.val % 2 = 1 := by omega
    exact (second_half c Set.univ (grid0.coords t) ((coord1 t).trans h) (args t) (cell m c t) (here m c t d6 d7 d8 d9 d10 x)).trans
      (wp_mono _ _ _ fun _ => sep_mono .rfl (leaves_odd m c t h d6 d7 d8 d9 d10 x (hx h)))

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  dsimp only
  iintro ⟨HK, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  icases (show (dats m 0 c).Φ t.castSucc ⊢ _ from kept_scratch m c t) $$ HK with ⟨%x, %hx, HS, Hg⟩
  iapply wp_wand_r
  isplitr [Ho Hg]
  · iapply (body_at m c t d6 d7 d8 d9 d10 x hx)
    isplitl [H0 H1 H2 H3 H4 H5]
    · iapply (finds_ins m c t d0 d1 d2 d3 d4 d5)
      isplitl [H0]; · iexact H0
      isplitl [H1]; · iexact H1
      isplitl [H2]; · iexact H2
      isplitl [H3]; · iexact H3
      isplitl [H4]; · iexact H4
      iexact H5
    · unfold outs here
      isplitl [H6]; · iexact H6
      isplitl [H7]; · iexact H7
      isplitl [H8]; · iexact H8
      isplitl [H9]; · iexact H9
      isplitl [H10]; · iexact H10
      iexact HS
  iintro %r ⟨HI, HO, HS⟩
  icases (leaves_ins m c t) $$ HI with ⟨H0, H1, H2, H3, H4, H5⟩
  unfold leaves
  icases HO with ⟨H6, H7, H8, H9, H10⟩
  isplitl [HS Hg]
  · iapply (show _ ⊢ (dats m 0 c).Φ t.succ from kept_next m c t)
    isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem enters (c : Dev nD) : Pipeline.ΦA spec0 c ⊢ (dats m 0 c).Φ 0 := by
  rw [inv_eq]
  exact .rfl

theorem ends (c : Dev nD) : (dats m 0 c).Φ (Fin.last cfg0.N) ⊢ Pipeline.ΦA spec0 c := by
  have h : ∀ n (hn : n ≤ cfg0.N), kept m c n hn ⊢ Pipeline.ΦA spec0 c := fun n hn => by
    cases n with
    | zero => exact .rfl
    | succ n =>
      rw [any_eq]
      unfold kept
      iintro ⟨H0, Hg⟩
      isplitl [H0]
      · iexists _; iexact H0
      iexact Hg
  rw [inv_eq]
  exact h _ _

set_option backward.isDefEq.respectTransparency.types false in
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := entered m Variants.none) (hA := A_eq m) (hin := enters m) (hout := ends m)

/-- Every run ends, with the five gradients as the pipeline leaves them, the arguments unchanged and no signal pending. -/
theorem run : θ_run defs (onTc (τ := τ) (main (F := F))) ⟨m, fun _ => 0, ρ⟩ fun r => (∀ c : Dev nD,
      (∀ w : Fin cfg0.W, r.2.mem ((c : Thread nD τ).loc (Pipeline.arrRef spec0 w)) = (dats m 0 c).arrAt w cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 := by
  refine (θ_run defs _ _).mono (fun r h => ⟨fun c => ⟨(h.1 c).1, ?_, ?_, ?_, ?_, ?_⟩, h.2⟩) (run_all m ρ)
  · exact ((h.1 c).1 0).trans (((dats m 0 c).arrAt_in 0 rfl _).trans (V_arg m c).1)
  · exact ((h.1 c).1 2).trans (((dats m 0 c).arrAt_in 2 rfl _).trans (V_arg m c).2.1)
  · exact ((h.1 c).1 3).trans (((dats m 0 c).arrAt_in 3 rfl _).trans (V_arg m c).2.2.1)
  · exact ((h.1 c).2 main_arg3 (Pipeline.mem_restRefs_of main_arg3 (by decide) (by decide))).trans (V_arg m c).2.2.2.1
  · exact ((h.1 c).2 main_arg4 (Pipeline.mem_restRefs_of main_arg4 (by decide) (by decide))).trans (V_arg m c).2.2.2.2

theorem frame_any : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 :=
  (θ_run defs _ _).mono (fun _ h => ⟨fun c => (h.1 c).2, h.2⟩) (run m ρ)

end Cert.MlpIdeal.Run

end
-- ==== Proof.MlpVal.lean ====
module

public import proofs.«01_k».proof.Proof.MlpFrame
public import proofs.«01_k».proof.Proof.Gen.MlpRefIdeal.Read
public import proofs.«01_k».proof.Proof.Norm
public import Idealize.ShloMosaic.Lib.Pointwise.Tactic
public import Idealize.ShloMosaic.Lib.Pointwise
public import Idealize.ShloMosaic.Lib.Pipeline.ValueKit

@[expose] public section

set_option maxRecDepth 16384

noncomputable section

namespace Cert.MlpIdeal.Run

open Cert.MlpIdeal Cert.MlpIdeal.Gen Idealize.ShloMosaic Idealize.ShloMosaic.TcCoe Idealize.ShloMosaic.Tactic
open Idealize.ShloMosaic.Pipeline (Dat)
open Cert.MlpRefIdeal.Read

/-! ## The formulas -/

theorem two_f32 : Ideal.ofBits .f32 0x40000000#32 = ((2 : ℝ) : EReal) := by
  simp [Ideal.ofBits, Ideal.ieee, -EReal.coe_mul]; norm_num

section Reference
variable (d x : FVec Ideal S8192x1024 .f32) (g : FVec Ideal S1x1024 .f32) (u : FVec Ideal S1024x4096 .f32) (w : FVec Ideal S4096x1024 .f32)

/-- The derivative of the squared gate is twice the gate, also where it is shut. -/
theorem gate_at (r : Fin 8192) (k : Fin 4096) : Ideal.ofBits .f32 0x40000000#32 * val_main_v16 (F := Ideal) x g u (ix2 r k) * ∑ j, d (ix2 r j) * w (ix2 k j)
    = val_main_v33 (F := Ideal) d x g u w (ix2 r k) := by
  pointwise [val_main_v33, val_main_v32, val_main_v31, val_main_cst_8, val_main_v30, val_main_v29, val_main_cst_7, val_main_v28, val_main_v27, val_main_v26,
    val_main_v22, val_main_v21, val_main_cst_5, val_main_v20, val_main_call1_v0, val_main_call1_cst, val_main_v18, val_main_v17, val_main_cst_3,
    val_main_v16, val_main_call0_v0, val_main_call0_cst]
  by_cases h : 0 < val_main_v15 (F := Ideal) x g u (ix2 r k)
  · rw [if_pos h, if_pos h, mul_comm (∑ j, _) (max _ _), Norm.add_self_eq, two_f32, mul_assoc]
  · rw [if_neg h, if_neg h, max_eq_right (not_lt.mp h), mul_zero, zero_mul, add_zero]

/-- The gradient of the normed rows, by eight chunks of the columns. -/
theorem down_at (r : Fin 8192) (q : Fin 1024) (p : ℕ → EReal) (hp : ∀ a : Fin 8, p a.val = ∑ j : Fin 512, val_main_v33 (F := Ideal) d x g u w (ix2 r ⟨a.val * 512 + j.val, by omega⟩) * u (ix2 q ⟨a.val * 512 + j.val, by omega⟩)) :
    p 0 + p 1 + p 2 + p 3 + (p 4 + p 5 + p 6 + p 7) = val_main_v34 (F := Ideal) d x g u w (ix2 r q) := by
  pointwise [val_main_v34]
  rw [← Fin.sum_mul_add_fin 8 512, Fin.sum_univ_eight]
  rw [← hp 0, ← hp 1, ← hp 2, ← hp 3, ← hp 4, ← hp 5, ← hp 6, ← hp 7]
  simp only [← add_assoc]
  rfl

/-- The gradient of the rows, in the form written out by hand. -/
theorem rows_at (r : Fin 8192) (q : Fin 1024) : val_main_v55 (F := Ideal) d x g u w (ix2 r q)
    = d (ix2 r q) + Ideal.rsqrt (Ideal.div (∑ k, x (ix2 r k) * x (ix2 r k)) (Ideal.ofBits .f32 0x44800000#32) + Ideal.ofBits .f32 0x358637BD#32)
        * (val_main_v34 (F := Ideal) d x g u w (ix2 r q) * g (ix2 0 q) - x (ix2 r q) * Ideal.rsqrt (Ideal.div (∑ k, x (ix2 r k) * x (ix2 r k)) (Ideal.ofBits .f32 0x44800000#32) + Ideal.ofBits .f32 0x358637BD#32)
          * Ideal.div (∑ k, val_main_v34 (F := Ideal) d x g u w (ix2 r k) * g (ix2 0 k) * (x (ix2 r k) * Ideal.rsqrt (Ideal.div (∑ k, x (ix2 r k) * x (ix2 r k)) (Ideal.ofBits .f32 0x44800000#32) + Ideal.ofBits .f32 0x358637BD#32)))
            (Ideal.ofBits .f32 0x44800000#32)) := by
  generalize hn : val_main_v34 (F := Ideal) d x g u w = n
  pointwise [val_main_v55, val_main_v53, val_main_v52, val_main_v51, val_main_v50, val_main_v49, val_main_v48, val_main_cst_12, val_main_v47, val_main_v46, val_main_cst_11,
    val_main_v45, val_main_v44, val_main_v43, val_main_v42, val_main_v41, val_main_cst_10, val_main_v40, val_main_v39, val_main_v38, val_main_v10, val_main_v9, val_main_cst_2,
    val_main_v8, val_main_v7, val_main_v6, val_main_v5, val_main_cst_1, val_main_v4, val_main_v3, val_main_cst_0, val_main_v2, val_main_v1, val_main_cst, val_main_v0, hn]
  refine congrArg (d (ix2 r q) + ·) ?_
  exact (Norm.row_grad_all ⟨_, by norm_num, Norm.ofBits_1024⟩ rfl Norm.ofBits_neg_half (fun k => x (ix2 r k)) (fun k => n (ix2 r k) * g (ix2 0 k)) q).symm

end Reference

theorem tile_at (X : In Ideal) (b : Vec Ideal S512x1024 .bf16) (k : Fin 4) (r x : Fin 512) : tile X b k (ix2 r x)
    = Ideal.ofBits .f32 0x40000000#32 * X.u (ix2 r ⟨512 * k.val + x.val, by omega⟩) * ∑ j, b (ix2 r j) * X.wd (ix2 ⟨512 * k.val + x.val, by omega⟩ j) := by
  pointwise [tile, k0_pay11, cols, rows]

theorem more_at (X : In Ideal) (b : Vec Ideal S512x1024 .bf16) (s : Vec Ideal S512x1024 .f32) (r : Fin 512) (q : Fin 1024) : more X b s (ix2 r q)
    = s (ix2 r q) + ((∑ x, tile X b 0 (ix2 r x) * X.wu (ix3 0 q x)) + (∑ x, tile X b 1 (ix2 r x) * X.wu (ix3 1 q x))
      + (∑ x, tile X b 2 (ix2 r x) * X.wu (ix3 2 q x)) + ∑ x, tile X b 3 (ix2 r x) * X.wu (ix3 3 q x)) := by
  simp only [tile_at]
  pointwise [more, k0_pay2, k0_pay1, k0_pay12, k0_pay13, k0_pay14, k0_pay15, k0_pay16, k0_pay17, k0_pay18, k0_pay11, cols, rows, slab]

theorem pay7_at (g : Vec Ideal S1x1024 .f32) (x n d : Vec Ideal S512x1024 .f32) (r : Fin 512) (q : Fin 1024) : k0_pay7 g x n d (ix2 r q)
    = d (ix2 r q) + Ideal.rsqrt (Ideal.div (∑ k, x (ix2 r k) * x (ix2 r k)) (Ideal.ofBits .f32 0x44800000#32) + Ideal.ofBits .f32 0x358637BD#32)
        * (n (ix2 r q) * g (ix2 0 q) - x (ix2 r q) * Ideal.rsqrt (Ideal.div (∑ k, x (ix2 r k) * x (ix2 r k)) (Ideal.ofBits .f32 0x44800000#32) + Ideal.ofBits .f32 0x358637BD#32)
          * Ideal.div (∑ k, n (ix2 r k) * g (ix2 0 k) * (x (ix2 r k) * Ideal.rsqrt (Ideal.div (∑ k, x (ix2 r k) * x (ix2 r k)) (Ideal.ofBits .f32 0x44800000#32) + Ideal.ofBits .f32 0x358637BD#32)))
            (Ideal.ofBits .f32 0x44800000#32)) := by
  pointwise [k0_pay7, k0_pay5, k0_pay4]

theorem pay6_at (x n : Vec Ideal S512x1024 .f32) (a : Vec Ideal S1x1024 .f32) (q : Fin 1024) : k0_pay6 x n a (ix2 0 q)
    = a (ix2 0 q) + ∑ r, n (ix2 r q) * (x (ix2 r q) * Ideal.rsqrt (Ideal.div (∑ k, x (ix2 r k) * x (ix2 r k)) (Ideal.ofBits .f32 0x44800000#32) + Ideal.ofBits .f32 0x358637BD#32)) := by
  pointwise [k0_pay6, k0_pay5, k0_pay4]

theorem pay8_at (x : Vec Ideal S512x1024 .f32) (g : Vec Ideal S1x1024 .f32) (r : Fin 512) (q : Fin 1024) : k0_pay8 x g (ix2 r q)
    = x (ix2 r q) * Ideal.rsqrt (Ideal.div (∑ k, x (ix2 r k) * x (ix2 r k)) (Ideal.ofBits .f32 0x44800000#32) + Ideal.ofBits .f32 0x358637BD#32) * g (ix2 0 q) := by
  pointwise [k0_pay8]

/-! ## The blocks -/

variable (m : (ℓ : Loc nD τ sig) → Buf (Elt Ideal) ℓ) (c : Dev nD)

/-- The arguments. -/
def D : FVec Ideal S8192x1024 .f32 := m ((c : Thread nD τ).loc main_arg0)
def X : FVec Ideal S8192x1024 .f32 := m ((c : Thread nD τ).loc main_arg1)
def G : FVec Ideal S1x1024 .f32 := m ((c : Thread nD τ).loc main_arg2)
def U : FVec Ideal S1024x4096 .f32 := m ((c : Thread nD τ).loc main_arg3)
def W : FVec Ideal S4096x1024 .f32 := m ((c : Thread nD τ).loc main_arg4)

theorem V_eq (b : Ref sig .tc) : V m c b = StableHlo.after (hostOps0 ++ (hostOps0_1 ++ hostOps0_2)) (fun b => m (c, b)) (Proc.tc.devRef b) := by
  simp only [V, lines, List.flatten_cons, List.flatten_nil, List.append_nil]

theorem u_read : (V m c main_v17 : FVec Ideal S8192x4096 .bf16) = val_main_v16 (F := Ideal) (X m c) (G m c) (U m c) := by
  rw [V_eq]
  simp only [hostOps0, hostOps0_1, hostOps0_2, List.cons_append, List.nil_append]
  entry_read
  rfl

theorem wd_read : (V m c main_v18 : FVec Ideal S4096x1024 .bf16) = W m c := by
  rw [V_eq]
  simp only [hostOps0, hostOps0_1, hostOps0_2, List.cons_append, List.nil_append]
  entry_read
  rfl

theorem wu_read (a : Fin 8) (q : Fin 1024) (k : Fin 512) : (V m c main_v2 : FVec Ideal S8x1024x512 .bf16) (ix3 a q k) = U m c (ix2 q ⟨512 * a.val + k.val, by omega⟩) := by
  rw [V_eq]
  simp only [hostOps0, hostOps0_1, hostOps0_2, List.cons_append, List.nil_append]
  entry_read
  pointwise
  exact congrArg (U m c) (congrArg (ix2 q) (Fin.ext (by show a.val * 512 + k.val = 512 * a.val + k.val; omega)))

theorem idx : ∀ t : Fin cfg0.N, win0_0.index t = ![t.val / 2, 0] ∧ win0_1.index t = ![t.val / 2, t.val % 2] ∧ win0_2.index t = ![t.val / 2, 0]
    ∧ win0_3.index t = ![0, 0] ∧ win0_4.index t = ![t.val % 2, 0, 0] ∧ win0_5.index t = ![t.val % 2, 0]
    ∧ win0_6.index t = ![t.val / 2, t.val % 2] ∧ win0_7.index t = ![t.val / 2, 0] ∧ win0_8.index t = ![t.val / 2, 0]
    ∧ win0_9.index t = ![t.val / 2, 0] ∧ win0_10.index t = ![0, 0] := (by decide +kernel : ∀ t : Fin grid0.N, _)

theorem ltN (t : Fin cfg0.N) : t.val < 32 := lt_of_lt_of_eq t.isLt (N_0 : grid0.N = 32)

/-- The row of a point's block, -/
def row (t : Fin cfg0.N) (r : Fin 512) : Fin 8192 := ⟨t.val / 2 * 512 + r.val, by have := ltN t; omega⟩
/-- and its column. -/
def col (t : Fin cfg0.N) (k : Fin 2048) : Fin 4096 := ⟨t.val % 2 * 2048 + k.val, by have := ltN t; omega⟩

theorem d_at (t : Fin cfg0.N) (r : Fin 512) (k : Fin 1024) : (cell m c t).d (ix2 r k) = D m c (ix2 (row t r) k) :=
  (congrFun (V_arg m c).1 _).trans (congrArg (D m c) (by blk_ext! [idx t, row]))
theorem x_at (t : Fin cfg0.N) (r : Fin 512) (k : Fin 1024) : (cell m c t).x (ix2 r k) = X m c (ix2 (row t r) k) :=
  (congrFun (V_arg m c).2.1 _).trans (congrArg (X m c) (by blk_ext! [idx t, row]))
theorem g_at (t : Fin cfg0.N) (k : Fin 1024) : (cell m c t).g (ix2 0 k) = G m c (ix2 0 k) :=
  (congrFun (V_arg m c).2.2.1 _).trans (congrArg (G m c) (by blk_ext! [idx t]))
theorem u_at (t : Fin cfg0.N) (r : Fin 512) (k : Fin 2048) : (cell m c t).u (ix2 r k) = val_main_v16 (F := Ideal) (X m c) (G m c) (U m c) (ix2 (row t r) (col t k)) :=
  (congrFun (u_read m c) _).trans (congrArg (val_main_v16 (F := Ideal) (X m c) (G m c) (U m c)) (by blk_ext! [idx t, row, col]))
theorem wd_at (t : Fin cfg0.N) (k : Fin 2048) (q : Fin 1024) : (cell m c t).wd (ix2 k q) = W m c (ix2 (col t k) q) :=
  (congrFun (wd_read m c) _).trans (congrArg (W m c) (by blk_ext! [idx t, col]))
theorem wu_at (t : Fin cfg0.N) (a : Fin 4) (q : Fin 1024) (k : Fin 512) : (cell m c t).wu (ix3 a q k) = U m c (ix2 q (col t ⟨512 * a.val + k.val, by omega⟩)) := by
  have ht := ltN t
  refine (congrArg (V m c main_v2 : FVec Ideal S8x1024x512 .bf16) (?_ : _ = ix3 ⟨t.val % 2 * 4 + a.val, by omega⟩ q k)).trans ((wu_read m c _ q k).trans (congrArg (U m c) (congrArg (ix2 q) (Fin.ext ?_))))
  · blk_ext! [idx t]
  · show 512 * (t.val % 2 * 4 + a.val) + k.val = t.val % 2 * 2048 + (512 * a.val + k.val); omega

theorem row_prev (t : Fin cfg0.N) (h : t.val % 2 = 1) (r : Fin 512) : row ⟨t.val - 1, Nat.lt_of_le_of_lt (Nat.sub_le _ _) t.isLt⟩ r = row t r :=
  Fin.ext (by show (t.val - 1) / 2 * 512 + r.val = t.val / 2 * 512 + r.val; omega)

/-! ## The points -/

/-- The incoming gradient that the even point keeps for the odd one. -/
theorem held_at (t : Fin cfg0.N) (r : Fin 512) (k : Fin 1024) : (state m c t).b (ix2 r k) = D m c (ix2 (row t r) k) := by
  have at_even (t : Fin cfg0.N) (h : t.val % 2 = 0) : (state m c t).b (ix2 r k) = D m c (ix2 (row t r) k) := by
    rw [state_even m c t h]
    exact d_at m c t r k
  by_cases h : t.val % 2 = 0
  · exact at_even t h
  · rw [state_odd m c t (by omega)]
    show (trail m c t.val (Nat.le_of_lt t.isLt)).b (ix2 r k) = _
    rw [trail_pos m c t (by omega), at_even _ (by show (t.val - 1) % 2 = 0; omega), row_prev t (by omega)]

theorem du_eq (t : Fin cfg0.N) : (state m c t).du = dup (cell m c t) (state m c t).b := by
  by_cases h : t.val % 2 = 0
  · rw [state_even m c t h]; rfl
  · rw [state_odd m c t (by omega)]; rfl

theorem s_even (t : Fin cfg0.N) (h : t.val % 2 = 0) : (state m c t).s = more (cell m c t) (state m c t).b (k0_pay10 (F := Ideal)) := by
  rw [state_even m c t h]; rfl
theorem s_odd (t : Fin cfg0.N) (h : t.val % 2 = 1) : (state m c t).s = more (cell m c t) (state m c t).b (state m c ⟨t.val - 1, Nat.lt_of_le_of_lt (Nat.sub_le _ _) t.isLt⟩).s := by
  rw [← trail_pos m c t (by omega), state_odd m c t h]; rfl

theorem tile_point (t : Fin cfg0.N) (k : Fin 4) (r x : Fin 512) : tile (cell m c t) (state m c t).b k (ix2 r x)
    = val_main_v33 (F := Ideal) (D m c) (X m c) (G m c) (U m c) (W m c) (ix2 (row t r) (col t ⟨512 * k.val + x.val, by omega⟩)) := by
  rw [tile_at, u_at]
  simp only [held_at, wd_at]
  exact gate_at ..

theorem part (t : Fin cfg0.N) (s : Vec Ideal S512x1024 .f32) (r : Fin 512) (q : Fin 1024) (p : ℕ → EReal)
    (hp : ∀ a : Fin 8, p a.val = ∑ j : Fin 512, val_main_v33 (F := Ideal) (D m c) (X m c) (G m c) (U m c) (W m c) (ix2 (row t r) ⟨a.val * 512 + j.val, by omega⟩) * U m c (ix2 q ⟨a.val * 512 + j.val, by omega⟩)) :
    more (cell m c t) (state m c t).b s (ix2 r q) = s (ix2 r q) + (p (4 * (t.val % 2)) + p (4 * (t.val % 2) + 1) + p (4 * (t.val % 2) + 2) + p (4 * (t.val % 2) + 3)) := by
  have e (a : Fin 4) : ∑ x, tile (cell m c t) (state m c t).b a (ix2 r x) * (cell m c t).wu (ix3 a q x) = p (4 * (t.val % 2) + a.val) := by
    refine (Finset.sum_congr rfl fun x _ => ?_).trans (hp ⟨4 * (t.val % 2) + a.val, by omega⟩).symm
    rw [tile_point, wu_at]
    have : col t ⟨512 * a.val + x.val, by omega⟩ = ⟨(4 * (t.val % 2) + a.val) * 512 + x.val, by omega⟩ := Fin.ext (by show t.val % 2 * 2048 + (512 * a.val + x.val) = (4 * (t.val % 2) + a.val) * 512 + x.val; omega)
    rw [this]
  rw [more_at, e 0, e 1, e 2, e 3]
  rfl

/-- After the odd point the scratch is the gradient of the normed rows. -/
theorem down_point (t : Fin cfg0.N) (h : t.val % 2 = 1) (r : Fin 512) (q : Fin 1024) :
    (state m c t).s (ix2 r q) = val_main_v34 (F := Ideal) (D m c) (X m c) (G m c) (U m c) (W m c) (ix2 (row t r) q) := by
  have hr := row_prev t h r
  let p : ℕ → EReal := fun a => if h : a < 8 then ∑ j : Fin 512, val_main_v33 (F := Ideal) (D m c) (X m c) (G m c) (U m c) (W m c) (ix2 (row t r) ⟨a * 512 + j.val, by omega⟩) * U m c (ix2 q ⟨a * 512 + j.val, by omega⟩) else 0
  have hp (a : Fin 8) : p a.val = ∑ j : Fin 512, val_main_v33 (F := Ideal) (D m c) (X m c) (G m c) (U m c) (W m c) (ix2 (row t r) ⟨a.val * 512 + j.val, by omega⟩) * U m c (ix2 q ⟨a.val * 512 + j.val, by omega⟩) := dif_pos a.isLt
  rw [s_odd m c t h, part m c t _ r q p hp, s_even m c _ (by show (t.val - 1) % 2 = 0; omega), part m c _ _ r q p (by rw [hr]; exact hp)]
  rw [show (⟨t.val - 1, Nat.lt_of_le_of_lt (Nat.sub_le _ _) t.isLt⟩ : Fin cfg0.N).val % 2 = 0 by show (t.val - 1) % 2 = 0; omega, h]
  have hz : (k0_pay10 (F := Ideal)) (ix2 r q) = 0 := by pointwise [k0_pay10]
  rw [hz, zero_add]
  exact down_at _ _ _ _ _ _ _ p hp

/-! ## The results -/

theorem final6 : (dats m 0 c).arrAt 6 cfg0.N = val_main_v54 (F := Ideal) (D m c) (X m c) (G m c) (U m c) (W m c) := by
  refine (dats m 0 c).arrAt_eq_of_covers 6 _ (by decide +kernel) fun t _ y => ?_
  blk_simp
  show (state m c t).du y = _
  have hy : (y 1).val < 2048 := (y 1).isLt
  rw [du_eq]
  refine (tile_point m c t ⟨(y 1).val / 512, by omega⟩ (y 0) ⟨(y 1).val % 512, Nat.mod_lt _ (by decide)⟩).trans
    (congrArg (val_main_v33 (F := Ideal) (D m c) (X m c) (G m c) (U m c) (W m c)) ?_)
  blk_ext! [idx t, row, col]

theorem dx_point (t : Fin cfg0.N) (h : t.val % 2 = 1) (r : Fin 512) (q : Fin 1024) :
    (state m c t).dx (ix2 r q) = val_main_v55 (F := Ideal) (D m c) (X m c) (G m c) (U m c) (W m c) (ix2 (row t r) q) := by
  have e : (state m c t).dx = k0_pay7 (cell m c t).g (cell m c t).x (state m c t).s (cell m c t).d := by
    rw [state_odd m c t h]; rfl
  rw [e]
  refine (pay7_at _ _ _ _ r q).trans ?_
  simp only [x_at, d_at, g_at, down_point m c t h]
  exact (rows_at ..).symm

theorem final7 : (dats m 0 c).arrAt 7 cfg0.N = val_main_v55 (F := Ideal) (D m c) (X m c) (G m c) (U m c) (W m c) := by
  refine (dats m 0 c).arrAt_eq_of_covers 7 _ (by decide +kernel) fun t h y => ?_
  blk_simp
  show (state m c t).dx y = _
  refine (congrArg _ (eq_ix2 y)).trans ((dx_point m c t ((flush0_7 t).mp h) (y 0) (y 1)).trans (congrArg (val_main_v55 (F := Ideal) (D m c) (X m c) (G m c) (U m c) (W m c)) ?_))
  blk_ext! [idx t, row]

theorem n_point (t : Fin cfg0.N) (r : Fin 512) (q : Fin 1024) : (state m c t).n (ix2 r q) = val_main_v56 (F := Ideal) (X m c) (G m c) (ix2 (row t r) q) := by
  have at_even (t : Fin cfg0.N) (h : t.val % 2 = 0) : (state m c t).n (ix2 r q) = val_main_v56 (F := Ideal) (X m c) (G m c) (ix2 (row t r) q) := by
    rw [state_even m c t h]
    refine (pay8_at _ _ r q).trans ?_
    simp only [x_at, g_at]
    pointwise [val_main_v56, val_main_v14, val_main_v13, val_main_v12, val_main_v11, val_main_v7, val_main_v6, val_main_v5, val_main_cst_1, val_main_v4, val_main_v3, val_main_cst_0,
      val_main_v2, val_main_v1, val_main_cst, val_main_v0]
  by_cases h : t.val % 2 = 0
  · exact at_even t h
  · rw [state_odd m c t (by omega)]
    show (trail m c t.val (Nat.le_of_lt t.isLt)).n (ix2 r q) = _
    rw [trail_pos m c t (by omega), at_even _ (by show (t.val - 1) % 2 = 0; omega), row_prev t (by omega)]

theorem final8 : (dats m 0 c).arrAt 8 cfg0.N = val_main_v56 (F := Ideal) (X m c) (G m c) := by
  refine (dats m 0 c).arrAt_eq_of_covers 8 _ (by decide +kernel) fun t h y => ?_
  blk_simp
  show (state m c t).n y = _
  refine (congrArg _ (eq_ix2 y)).trans ((n_point m c t (y 0) (y 1)).trans (congrArg (val_main_v56 (F := Ideal) (X m c) (G m c)) ?_))
  blk_ext! [idx t, row]

theorem final9 : (dats m 0 c).arrAt 9 cfg0.N = val_main_v57 (F := Ideal) (D m c) := by
  refine (dats m 0 c).arrAt_eq_of_covers 9 _ (by decide +kernel) fun t _ y => ?_
  blk_simp
  show (state m c t).b y = _
  refine (congrArg _ (eq_ix2 y)).trans ((held_at m c t (y 0) (y 1)).trans (congrArg (D m c) ?_))
  blk_ext! [idx t, row]

/-- The last grid point. -/
def tLast : Fin cfg0.N := ⟨31, lt_of_lt_of_eq (by omega) (N_0 : grid0.N = 32).symm⟩

theorem sum_runs (T : Fin cfg0.N → EReal) (g : Fin 8192 → EReal) (h0 : ∀ t : Fin cfg0.N, ¬ t.val % 2 = 1 → T t = 0)
    (h : ∀ t : Fin cfg0.N, t.val % 2 = 1 → T t = ∑ r, g (row t r)) : ∑ t, T t = ∑ R, g R := by
  rw [← Fin.sum_mul_add_fin 16 2 T N_0, ← Fin.sum_mul_add_fin 16 512 g]
  refine Finset.sum_congr rfl fun s _ => ?_
  rw [Fin.sum_univ_two, h0 _ (by show ¬ (s.val * 2 + 0) % 2 = 1; omega), h _ (by show (s.val * 2 + 1) % 2 = 1; omega), zero_add]
  exact Finset.sum_congr rfl fun r _ => congrArg g (Fin.ext (by show (s.val * 2 + 1) / 2 * 512 + r.val = s.val * 512 + r.val; omega))

/-- What the points have added to the scale's gradient. -/
def added (q : Fin 1024) (n : ℕ) (h : n < cfg0.N) : EReal := (state m c ⟨n, h⟩).dg (ix2 0 q)

theorem added_first (q : Fin 1024) (t : Fin cfg0.N) (h : t.val % 32 = 0) : added m c q t.val t.isLt = 0 := by
  have ht := ltN t
  show (state m c t).dg (ix2 0 q) = 0
  rw [state_even m c t (by omega)]
  refine (congrFun (if_pos (by rw [coord0]; omega)) _).trans ?_
  pointwise [k0_pay3]

theorem added_even (q : Fin 1024) (t : Fin cfg0.N) (h : ¬ t.val % 2 = 1) (h0 : ¬ t.val % 32 = 0) :
    added m c q t.val t.isLt = added m c q (t.val - 1) (Nat.lt_of_le_of_lt (Nat.sub_le _ _) t.isLt) := by
  have ht := ltN t
  show (state m c t).dg (ix2 0 q) = (state m c ⟨t.val - 1, Nat.lt_of_le_of_lt (Nat.sub_le _ _) t.isLt⟩).dg (ix2 0 q)
  rw [state_even m c t (by omega), ← trail_pos m c t (by omega)]
  exact congrFun (if_neg (by rw [coord0]; omega)) _

theorem added_odd (q : Fin 1024) (t : Fin cfg0.N) (h : t.val % 2 = 1) :
    added m c q t.val t.isLt = added m c q (t.val - 1) (Nat.lt_of_le_of_lt (Nat.sub_le _ _) t.isLt)
      + ∑ r, val_main_v35 (F := Ideal) (D m c) (X m c) (G m c) (U m c) (W m c) (ix2 (row t r) q) := by
  have e : (state m c t).dg = k0_pay6 (cell m c t).x (state m c t).s (state m c ⟨t.val - 1, Nat.lt_of_le_of_lt (Nat.sub_le _ _) t.isLt⟩).dg := by
    rw [← trail_pos m c t (by omega), state_odd m c t h]; rfl
  show (state m c t).dg (ix2 0 q) = (state m c ⟨t.val - 1, Nat.lt_of_le_of_lt (Nat.sub_le _ _) t.isLt⟩).dg (ix2 0 q) + _
  rw [e]
  refine (pay6_at _ _ _ q).trans (congrArg (_ + ·) (Finset.sum_congr rfl fun r _ => ?_))
  simp only [x_at, down_point m c t h]
  generalize hn : val_main_v34 (F := Ideal) (D m c) (X m c) (G m c) (U m c) (W m c) = n
  pointwise [val_main_v35, val_main_v12, val_main_v11, val_main_v7, val_main_v6, val_main_v5, val_main_cst_1, val_main_v4, val_main_v3, val_main_cst_0,
      val_main_v2, val_main_v1, val_main_cst, val_main_v0, hn]
  exact mul_comm _ _

theorem total (q : Fin 1024) : (state m c tLast).dg (ix2 0 q) = val_main_v37 (F := Ideal) (D m c) (X m c) (G m c) (U m c) (W m c) (ix2 0 q) := by
  refine (Pipeline.eq_sum_fin_of_reset_step_apply_last (ι := Unit) (fun n h _ => added m c q n h) 32 (fun _ => 0)
    (fun t _ => if t.val % 2 = 1 then ∑ r, val_main_v35 (F := Ideal) (D m c) (X m c) (G m c) (U m c) (W m c) (ix2 (row t r) q) else 0)
    (fun t h _ => ?_) (fun t h _ => ?_) (le_of_eq N_0) tLast rfl ()).trans ?_
  · rw [if_neg (by omega), added_first m c q t h, zero_add]
  · by_cases h1 : t.val % 2 = 1
    · rw [if_pos h1, added_odd m c q t h1]
    · rw [if_neg h1, added_even m c q t h1 h, add_zero]
  · rw [zero_add]
    refine (sum_runs _ (fun R => val_main_v35 (F := Ideal) (D m c) (X m c) (G m c) (U m c) (W m c) (ix2 R q)) (fun t h => if_neg h) (fun t h => if_pos h)).trans ?_
    pointwise [val_main_v37, val_main_v36, val_main_cst_9]

theorem row_idx {n : ℕ} (j : (Shape.mk 2 ![1, n]).Idx) : j = ix2 0 (j 1) :=
  (eq_ix2 j).trans (congrArg (fun a => ix2 a (j 1)) (Subsingleton.elim (α := Fin 1) _ _))

theorem final10 : (dats m 0 c).arrAt 10 cfg0.N = val_main_v37 (F := Ideal) (D m c) (X m c) (G m c) (U m c) (W m c) := by
  refine (dats m 0 c).arrAt_eq_of_after_last 10 tLast (by decide +kernel) _ fun j => ?_
  blk_simp
  show (state m c tLast).dg j = _
  rw [row_idx j]
  exact total m c (j 1)

end Cert.MlpIdeal.Run

end
-- ==== Proof.MlpClaim.lean ====
module

public import proofs.«01_k».proof.Defs
public import proofs.«01_k».proof.Proof.Gen.Mlp
public import proofs.«01_k».proof.Proof.Gen.MlpIdeal
public import proofs.«01_k».proof.Proof.Gen.MlpRefIdeal.Run
public import proofs.«01_k».proof.Proof.MlpFrame
public import proofs.«01_k».proof.Proof.MlpVal

@[expose] public section

noncomputable section

namespace Cert.Proof.Mlp

open Idealize.ShloMosaic Idealize.ShloMosaic.TcCoe Idealize.SL.Sem

theorem frame_kernel_ideal : Cert.quiescent_MlpIdeal (hMlpIdeal := Cert.MlpIdeal.Gen.facts) := fun m ρ _ => Cert.MlpIdeal.Run.frame_any m ρ

/-- The kernel is the same text over machine numbers, so its run is the same run. -/
theorem frame_kernel : Cert.quiescent_Mlp (hMlp := Cert.Mlp.Gen.facts) := fun m ρ _ =>
  Eq.mp (by sl_kernel_rfl) (Cert.MlpIdeal.Run.frame_any (F := Bits) m ρ)

theorem frame_reference : Cert.quiescent_MlpRefIdeal (hMlpRefIdeal := Cert.MlpRefIdeal.Gen.facts) := by
  intro m g _
  refine (θ_run _ _ _).mono (fun r h => ⟨fun c => ?_, ?_⟩) (Cert.MlpRefIdeal.Value.run m g)
  · have := h c
    simp only [this, and_self]
  · funext s
    obtain ⟨_, s⟩ := s
    rcases s with s | s <;> exact s.elim0

open Cert.MlpRefIdeal.Read in
/-- The pair: the five results of the kernel are the reference's functions of the arguments. -/
theorem value : Cert.algebraic_MlpIdeal_MlpRefIdeal (hMlpIdeal := Cert.MlpIdeal.Gen.facts) (hMlpRefIdeal := Cert.MlpRefIdeal.Gen.facts) := by
  intro m g m' g' _ hagree
  refine ⟨_, _, _, _, _, (θ_run _ _ _).mono (fun r h c => by obtain ⟨k, kargs⟩ := h.1 c; exact ⟨k 6, k 7, k 8, k 9, k 10, kargs⟩)
    (Cert.MlpIdeal.Run.run m g), (θ_run _ _ _).mono (fun r h c => ?_) (Cert.MlpRefIdeal.Value.run m' g')⟩
  obtain ⟨h0, h1, h2, h3, h4, hargs⟩ := h c
  obtain ⟨a0, a1, a2, a3, a4⟩ := hagree c
  refine ⟨h0.trans ?_, h1.trans ?_, h2.trans ?_, h3.trans ?_, h4.trans ?_, hargs⟩
  · rw [val_main_v54_eq, a0, a1, a2, a3, a4]; exact (Cert.MlpIdeal.Run.final6 m c).symm
  · rw [val_main_v55_eq, a0, a1, a2, a3, a4]; exact (Cert.MlpIdeal.Run.final7 m c).symm
  · rw [val_main_v56_eq, a1, a2]; exact (Cert.MlpIdeal.Run.final8 m c).symm
  · rw [val_main_v57_eq, a0]; exact (Cert.MlpIdeal.Run.final9 m c).symm
  · rw [val_main_v37_eq, a0, a1, a2, a3, a4]; exact (Cert.MlpIdeal.Run.final10 m c).symm

end Cert.Proof.Mlp

end
-- ==== Proof.InFVal.lean ====
module

public import proofs.«01_k».proof.Proof.Gen.InFIdeal.Value
public import proofs.«01_k».proof.Proof.Gen.InFRefIdeal.Read
public import Idealize.ShloMosaic.Lib.Pointwise.Tactic
public import Idealize.ShloMosaic.Lib.Pointwise
public import Idealize.ShloMosaic.Lib.Pipeline.ValueKit

@[expose] public section

set_option maxRecDepth 16384
set_option pp.maxSteps 900

noncomputable section

namespace Cert.InFIdeal.Val

open Cert.InFIdeal Cert.InFIdeal.Gen Idealize.ShloMosaic Idealize.ShloMosaic.TcCoe Idealize.SL.Sem
open Idealize.ShloMosaic.Pipeline (Dat)
open Cert.InFRefIdeal.Read

variable (m : (ℓ : Loc nD τ sig) → Buf (Elt Ideal) ℓ)

/-- Where the blocks of each window sit, in the number of the grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- A normed row against a column of the weight. -/
def proj {n : ℕ} (x : (⟨2, ![n, 1024]⟩ : Shape).Idx → EReal) (g : (⟨2, ![1, 1024]⟩ : Shape).Idx → EReal) (w : Fin 1024 → EReal) (r : Fin n) : EReal :=
  ∑ k : Fin 1024, x (ix2 r k) * Ideal.rsqrt (Ideal.div (∑ l : Fin 1024, x (ix2 r l) * x (ix2 r l)) (Ideal.ofBits .f32 0x44800000#32)
    + Ideal.ofBits .f32 0x358637BD#32) * g (ix2 0 k) * w k

theorem ref_at (x : FVec Ideal S8192x1024 .f32) (g : FVec Ideal S1x1024 .f32) (w : FVec Ideal S1024x2560 .f32) (r : Fin 8192) (q : Fin 2560) :
    val_main_v12 (F := Ideal) x g w (ix2 r q) = proj x g (fun k => w (ix2 k q)) r := by
  unfold proj
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]

theorem lru_at (x : Vec Ideal S1024x1024 .f32) (g : Vec Ideal S1x1024 .f32) (w : Vec Ideal S1024x1024 .bf16) (r : Fin 1024) (q : Fin 1024) :
    k0_pay2 x g w (ix2 r q) = proj x g (fun k => w (ix2 q k)) r := by
  unfold proj
  pointwise [k0_pay2, k0_pay1]

theorem qkv_at (x : Vec Ideal S1024x1024 .f32) (g : Vec Ideal S1x1024 .f32) (w : Vec Ideal S1536x1024 .bf16) (r : Fin 1024) (q : Fin 1536) :
    k0_pay3 x g w (ix2 r q) = proj x g (fun k => w (ix2 q k)) r := by
  unfold proj
  pointwise [k0_pay3, k0_pay1]

/-- The weight's block is the whole weight, transposed. -/
theorem weight_at (c : Dev nD) (t : Fin cfg0.N) (k : Fin 2560) (q : Fin 1024) :
    (iblk m c 2 t : Vec Ideal S2560x1024 .bf16) (ix2 k q) = (m ((c : Thread nD τ).loc main_arg2) : FVec Ideal S1024x2560 .f32) (ix2 q k) := by
  blk_simp [iblk, V, idx t]
  entry_read
  pointwise
  blk_ext! [idx t]

/-- The rows of a point, against the same column of the weight. -/
theorem rows_eq (c : Dev nD) (t : Fin cfg0.N) (r : Fin 1024) (r' : Fin 8192) (h : r'.val = t.val * 1024 + r.val) (w w' : Fin 1024 → EReal) (hw : ∀ k, w k = w' k) :
    proj (iblk m c 0 t : Vec Ideal S1024x1024 .f32) (iblk m c 1 t : Vec Ideal S1x1024 .f32) w r
    = proj (m ((c : Thread nD τ).loc main_arg0) : FVec Ideal S8192x1024 .f32) (m ((c : Thread nD τ).loc main_arg1) : FVec Ideal S1x1024 .f32) w' r' := by
  obtain rfl : w = w' := funext hw
  unfold proj
  blk_point [iblk, V, idx t]

theorem lru_point (c : Dev nD) (t : Fin cfg0.N) (r : Fin 1024) (q : Fin 1024) (j : S8192x1024.Idx) (h0 : (j 0).val = t.val * 1024 + r.val) (h1 : (j 1).val = q.val) :
    k0_pay2 (iblk m c 0 t) (iblk m c 1 t) (View.ld (iblk m c 2 t) (Rect.unit ![0, 0] ![1024, 1024] inb_S2560x1024_S1024x1024_0_0)) (ix2 r q)
    = val_main_v13 (F := Ideal) (m ((c : Thread nD τ).loc main_arg0)) (m ((c : Thread nD τ).loc main_arg1)) (m ((c : Thread nD τ).loc main_arg2)) j := by
  obtain ⟨r', q', rfl⟩ : ∃ r' q', j = ix2 r' q' := ⟨j 0, j 1, eq_ix2 j⟩
  obtain rfl : q' = q := Fin.ext h1
  refine (lru_at _ _ _ r _).trans ?_
  pointwise [val_main_v13, ref_at]
  refine rows_eq m c t r _ h0 _ _ fun k => ?_
  pointwise [weight_at m c t]

theorem qkv_point (c : Dev nD) (t : Fin cfg0.N) (r : Fin 1024) (q : Fin 1536) (j : S8192x1536.Idx) (h0 : (j 0).val = t.val * 1024 + r.val) (h1 : (j 1).val = q.val) :
    k0_pay3 (iblk m c 0 t) (iblk m c 1 t) (View.ld (iblk m c 2 t) (Rect.unit ![1024, 0] ![1536, 1024] inb_S2560x1024_S1536x1024_1024_0)) (ix2 r q)
    = val_main_v15 (F := Ideal) (m ((c : Thread nD τ).loc main_arg0)) (m ((c : Thread nD τ).loc main_arg1)) (m ((c : Thread nD τ).loc main_arg2)) j := by
  obtain ⟨r', q', rfl⟩ : ∃ r' q', j = ix2 r' q' := ⟨j 0, j 1, eq_ix2 j⟩
  obtain rfl : q' = q := Fin.ext h1
  refine (qkv_at _ _ _ r _).trans ?_
  pointwise [val_main_v15, val_main_v14, ref_at]
  refine rows_eq m c t r _ h0 _ _ fun k => ?_
  pointwise [weight_at m c t]

theorem final3 (c : Dev nD) : (dats m 0 c).arrAt 3 cfg0.N
    = val_main_v13 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  rw [eq_ix2 y]
  exact lru_point m c t (y 0) (y 1) _ (by blk_simp [idx t]) (by blk_simp [idx t])

theorem final4 (c : Dev nD) : (dats m 0 c).arrAt 4 cfg0.N
    = val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  rw [eq_ix2 y]
  exact qkv_point m c t (y 0) (y 1) _ (by blk_simp [idx t]) (by blk_simp [idx t])

end Cert.InFIdeal.Val

end
-- ==== Proof.InFClaim.lean ====
module

public import proofs.«01_k».proof.Defs
public import proofs.«01_k».proof.Proof.Gen.InF.Frame
public import proofs.«01_k».proof.Proof.Gen.InFIdeal.Frame
public import proofs.«01_k».proof.Proof.Gen.InFIdeal.Value
public import proofs.«01_k».proof.Proof.Gen.InFRefIdeal.Run
public import proofs.«01_k».proof.Proof.Gen.InFRefIdeal.Read
public import proofs.«01_k».proof.Proof.InFVal
public import Idealize.ShloMosaic.Lib.Claim

@[expose] public section

noncomputable section

namespace Cert.Proof.InF

open Idealize.ShloMosaic Idealize.ShloMosaic.TcCoe Idealize.SL.Sem

theorem frame_reference : Cert.quiescent_InFRefIdeal (hInFRefIdeal := Cert.InFRefIdeal.Gen.facts) := by
  intro m g _
  refine (θ_run _ _ _).mono (fun r h => ⟨fun c => ?_, ?_⟩) (Cert.InFRefIdeal.Value.run m g)
  · have := h c
    simp only [this, and_self]
  · funext s
    obtain ⟨_, s⟩ := s
    rcases s with s | s <;> exact s.elim0

open Cert.InFRefIdeal.Read in
/-- The pair: each result of the kernel is the reference's function of the arguments. -/
theorem value : Cert.algebraic_InFIdeal_InFRefIdeal (hInFIdeal := Cert.InFIdeal.Gen.facts) (hInFRefIdeal := Cert.InFRefIdeal.Gen.facts) := by
  intro m g m' g' _ hagree
  refine ⟨_, _, Cert.InFIdeal.Value.run_blocks m g, (θ_run _ _ _).mono (fun r h c => ?_) (Cert.InFRefIdeal.Value.run m' g')⟩
  obtain ⟨h0, h1, hargs⟩ := h c
  obtain ⟨a0, a1, a2⟩ := hagree c
  refine ⟨h0.trans ?_, h1.trans ?_, hargs⟩
  · rw [val_main_v13_eq, a0, a1, a2]; exact (Cert.InFIdeal.Val.final3 m c).symm
  · rw [val_main_v15_eq, a0, a1, a2]; exact (Cert.InFIdeal.Val.final4 m c).symm

end Cert.Proof.InF

end
-- ==== Proof.MixFVal.lean ====
module

public import proofs.«01_k».proof.Proof.Gen.MixFIdeal.Value
public import proofs.«01_k».proof.Proof.Gen.MixFRefIdeal.Read
public import Idealize.ShloMosaic.Lib.Pointwise.Tactic
public import Idealize.ShloMosaic.Lib.Pointwise
public import Idealize.ShloMosaic.Lib.Pipeline.ValueKit

@[expose] public section

set_option maxRecDepth 16384
set_option pp.maxSteps 900

noncomputable section

namespace Cert.MixFIdeal.Val

open Cert.MixFIdeal Cert.MixFIdeal.Gen Idealize.ShloMosaic Idealize.ShloMosaic.TcCoe Idealize.SL.Sem
open Idealize.ShloMosaic.Pipeline (Dat)
open Cert.MixFRefIdeal.Read

variable (m : (ℓ : Loc nD τ sig) → Buf (Elt Ideal) ℓ)

/-- Where the blocks of each window sit, in the number of the grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- An entry of a normed row. -/
def normed {n : ℕ} (x : (⟨2, ![n, 512]⟩ : Shape).Idx → EReal) (g : (⟨2, ![1, 512]⟩ : Shape).Idx → EReal) (r : Fin n) (k : Fin 512) : EReal :=
  x (ix2 r k) * Ideal.rsqrt (Ideal.div (∑ l : Fin 512, x (ix2 r l) * x (ix2 r l)) (Ideal.ofBits .f32 0x44000000#32)
    + Ideal.ofBits .f32 0x358637BD#32) * g (ix2 0 k)

theorem lru_at (x : FVec Ideal S8192x512 .f32) (g : FVec Ideal S1x512 .f32) (r : Fin 8192) (k : Fin 512) :
    val_main_v11 (F := Ideal) x g (ix2 r k) = normed x g r k := by
  unfold normed
  pointwise [val_main_v11, val_main_v10, val_main_v9, val_main_v8, val_main_v7, val_main_v6, val_main_v5, val_main_cst_1,
    val_main_v4, val_main_v3, val_main_cst_0, val_main_v2, val_main_v1, val_main_cst, val_main_v0]

theorem sb_at (x : FVec Ideal S8192x512 .f32) (g : FVec Ideal S1x512 .f32) (r : Fin 8192) (k : Fin 512) :
    val_main_v23 (F := Ideal) x g (ix2 r k) = normed x g r k := by
  unfold normed
  pointwise [val_main_v23, val_main_v22, val_main_v21, val_main_v20, val_main_v19, val_main_v18, val_main_v17, val_main_cst_4,
    val_main_v16, val_main_v15, val_main_cst_3, val_main_v14, val_main_v13, val_main_cst_2, val_main_v12]

theorem left_at (x : Vec Ideal S1024x512 .f32) (g : Vec Ideal S1x512 .f32) (r : Fin 1024) (k : Fin 512) : k0_pay2 x g (ix2 r k) = normed x g r k := by
  unfold normed
  pointwise [k0_pay2]

theorem right_at (x : Vec Ideal S1024x512 .f32) (g : Vec Ideal S1x512 .f32) (r : Fin 1024) (k : Fin 512) : k0_pay3 x g (ix2 r k) = normed x g r k := by
  unfold normed
  pointwise [k0_pay3]

/-- The rows side by side, at a column of either half. -/
theorem cat_left (a b : FVec Ideal S8192x512 .f32) (ga gb : FVec Ideal S1x512 .f32) (r : Fin 8192) (q : Fin 1024) (k : Fin 512) (h : q.val = k.val) :
    val_main_v24 (F := Ideal) a b ga gb (ix2 r q) = normed a ga r k := by
  have hk := k.isLt
  pointwise [val_main_v24]
  rw [dif_pos (show q.val < 512 by omega)]
  exact (congrArg (val_main_v11 (F := Ideal) a ga) ((ix2_inj ..).2 ⟨rfl, Fin.ext h⟩)).trans (lru_at a ga r k)

theorem cat_right (a b : FVec Ideal S8192x512 .f32) (ga gb : FVec Ideal S1x512 .f32) (r : Fin 8192) (q : Fin 1024) (k : Fin 512) (h : q.val = 512 + k.val) :
    val_main_v24 (F := Ideal) a b ga gb (ix2 r q) = normed b gb r k := by
  have hk := k.isLt
  pointwise [val_main_v24]
  rw [dif_neg (show ¬q.val < 512 by omega)]
  exact (congrArg (val_main_v23 (F := Ideal) b gb) ((ix2_inj ..).2 ⟨rfl, Fin.ext (show q.val - 512 = k.val by omega)⟩)).trans (sb_at b gb r k)

theorem ref_at (a b : FVec Ideal S8192x512 .f32) (ga gb : FVec Ideal S1x512 .f32) (w : FVec Ideal S1024x1024 .f32) (x : FVec Ideal S8192x1024 .f32) (r : Fin 8192) (q : Fin 1024) :
    val_main_v26 (F := Ideal) a b ga gb w x (ix2 r q) = x (ix2 r q) + ((∑ k : Fin 512, normed a ga r k * w (ix2 ⟨k.val, by omega⟩ q))
      + ∑ k : Fin 512, normed b gb r k * w (ix2 ⟨512 + k.val, by omega⟩ q)) := by
  pointwise [val_main_v26, val_main_v25]
  refine congrArg (x (ix2 r q) + ·) ?_
  rw [← Fin.sum_mul_add_fin 2 512, Fin.sum_univ_two]
  refine congrArg₂ (· + ·) (Finset.sum_congr rfl fun k _ => ?_) (Finset.sum_congr rfl fun k _ => ?_)
  · exact congrArg₂ (· * ·) (cat_left a b ga gb r _ k (show 0 * 512 + k.val = k.val by omega)) (congrArg w (congrArg (ix2 · q) (Fin.ext (show 0 * 512 + k.val = k.val by omega))))
  · exact congrArg₂ (· * ·) (cat_right a b ga gb r _ k rfl) rfl

theorem out_at (l r : FVec Ideal S1024x512 .bf16) (x : Vec Ideal S1024x1024 .f32) (u v : Vec Ideal S512x1024 .bf16) (i : Fin 1024) (q : Fin 1024) :
    k0_pay1 l r x (k0_pay4 u) v (ix2 i q) = x (ix2 i q) + (∑ k : Fin 512, l (ix2 i k) * u (ix2 k q)) + ∑ k : Fin 512, r (ix2 i k) * v (ix2 k q) := by
  pointwise [k0_pay1, k0_pay4]

/-- A point's rows, normed, are the rows of the array, normed. -/
theorem rows0 (c : Dev nD) (t : Fin cfg0.N) (r : Fin 1024) (r' : Fin 8192) (h : r'.val = t.val * 1024 + r.val) (k : Fin 512) :
    normed (iblk m c 0 t : Vec Ideal S1024x512 .f32) (iblk m c 2 t : Vec Ideal S1x512 .f32) r k
    = normed (m ((c : Thread nD τ).loc main_arg0) : FVec Ideal S8192x512 .f32) (m ((c : Thread nD τ).loc main_arg2) : FVec Ideal S1x512 .f32) r' k := by
  unfold normed
  blk_point [iblk, V, idx t]

theorem rows1 (c : Dev nD) (t : Fin cfg0.N) (r : Fin 1024) (r' : Fin 8192) (h : r'.val = t.val * 1024 + r.val) (k : Fin 512) :
    normed (iblk m c 1 t : Vec Ideal S1024x512 .f32) (iblk m c 3 t : Vec Ideal S1x512 .f32) r k
    = normed (m ((c : Thread nD τ).loc main_arg1) : FVec Ideal S8192x512 .f32) (m ((c : Thread nD τ).loc main_arg3) : FVec Ideal S1x512 .f32) r' k := by
  unfold normed
  blk_point [iblk, V, idx t]

/-- What a point adds to its rows is the reference's. -/
theorem point6 (c : Dev nD) (t : Fin cfg0.N) (i : Fin 1024) (q : Fin 1024) (j : S8192x1024.Idx) (h : (j 0).val = t.val * 1024 + i.val) (h1 : (j 1).val = q.val) :
    k0_pay1 (k0_pay2 (iblk m c 0 t) (iblk m c 2 t)) (k0_pay3 (iblk m c 1 t) (iblk m c 3 t)) (iblk m c 5 t)
      (k0_pay4 (View.ld (iblk m c 4 t) (Rect.unit ![0, 0] ![512, 1024] inb_S1024x1024_S512x1024_0_0)))
      (View.ld (iblk m c 4 t) (Rect.unit ![512, 0] ![512, 1024] inb_S1024x1024_S512x1024_512_0)) (ix2 i q)
    = val_main_v26 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) j := by
  obtain ⟨r', q', rfl⟩ : ∃ r' q', j = ix2 r' q' := ⟨j 0, j 1, eq_ix2 j⟩
  obtain rfl : q' = q := Fin.ext h1
  refine (out_at _ _ _ _ _ _ _).trans (Eq.trans ?_ (ref_at _ _ _ _ _ _ r' _).symm)
  simp only [left_at, right_at, rows0 m c t i _ h, rows1 m c t i _ h]
  rw [add_assoc]
  blk_point [iblk, V, idx t]
  exact h.symm

theorem final6 (c : Dev nD) : (dats m 0 c).arrAt 6 cfg0.N
    = val_main_v26 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_covers 6 _ (by decide +kernel) fun t _ y => ?_
  blk_simp
  rw [after0_6]
  frame_out
  rw [eq_ix2 y]
  exact point6 m c t (y 0) (y 1) _ (by blk_simp [idx t]) (by blk_simp [idx t])

theorem final7 (c : Dev nD) : (dats m 0 c).arrAt 7 cfg0.N
    = val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  canon_tiles x h
  · refine Eq.trans ?_ ((congrArg _ (eq_ix2 _)).trans (cat_right _ _ _ _ _ _ (x 1) ?_)).symm
    · refine (congrArg _ (eq_ix2 x)).trans ((right_at _ _ (x 0) (x 1)).trans (rows1 m c t (x 0) _ ?_ (x 1)))
      blk_simp [idx t]; omega
    · blk_simp [idx t]; omega
  · refine Eq.trans ?_ ((congrArg _ (eq_ix2 _)).trans (cat_left _ _ _ _ _ _ (x 1) ?_)).symm
    · refine (congrArg _ (eq_ix2 x)).trans ((left_at _ _ (x 0) (x 1)).trans (rows0 m c t (x 0) _ ?_ (x 1)))
      blk_simp [idx t]; omega
    · blk_simp [idx t]; omega

end Cert.MixFIdeal.Val

end
-- ==== Proof.MixFClaim.lean ====
module

public import proofs.«01_k».proof.Defs
public import proofs.«01_k».proof.Proof.Gen.MixF.Frame
public import proofs.«01_k».proof.Proof.Gen.MixFIdeal.Frame
public import proofs.«01_k».proof.Proof.Gen.MixFIdeal.Value
public import proofs.«01_k».proof.Proof.Gen.MixFRefIdeal.Run
public import proofs.«01_k».proof.Proof.Gen.MixFRefIdeal.Read
public import proofs.«01_k».proof.Proof.MixFVal
public import Idealize.ShloMosaic.Lib.Claim

@[expose] public section

noncomputable section

namespace Cert.Proof.MixF

open Idealize.ShloMosaic Idealize.ShloMosaic.TcCoe Idealize.SL.Sem

theorem frame_reference : Cert.quiescent_MixFRefIdeal (hMixFRefIdeal := Cert.MixFRefIdeal.Gen.facts) := by
  intro m g _
  refine (θ_run _ _ _).mono (fun r h => ⟨fun c => ?_, ?_⟩) (Cert.MixFRefIdeal.Value.run m g)
  · have := h c
    simp only [this, and_self]
  · funext s
    obtain ⟨_, s⟩ := s
    rcases s with s | s <;> exact s.elim0

open Cert.MixFRefIdeal.Read in
/-- The pair: each result of the kernel is the reference's function of the arguments. -/
theorem value : Cert.algebraic_MixFIdeal_MixFRefIdeal (hMixFIdeal := Cert.MixFIdeal.Gen.facts) (hMixFRefIdeal := Cert.MixFRefIdeal.Gen.facts) := by
  intro m g m' g' _ hagree
  refine ⟨_, _, Cert.MixFIdeal.Value.run_blocks m g, (θ_run _ _ _).mono (fun r h c => ?_) (Cert.MixFRefIdeal.Value.run m' g')⟩
  obtain ⟨h0, h1, hargs⟩ := h c
  obtain ⟨a0, a1, a2, a3, a4, a5⟩ := hagree c
  refine ⟨h0.trans ?_, h1.trans ?_, hargs⟩
  · rw [val_main_v26_eq, a0, a1, a2, a3, a4, a5]; exact (Cert.MixFIdeal.Val.final6 m c).symm
  · rw [val_main_v27_eq, a0, a1, a2, a3]; exact (Cert.MixFIdeal.Val.final7 m c).symm

end Cert.Proof.MixF

end
-- ==== Proof.AttnFOff.lean ====
module

public import proofs.«01_k».proof.Proof.Gen.AttnFIdeal.Skeleton
public import Idealize.ShloMosaic.Lib.Exec
public import Idealize.ShloMosaic.Lib.Tactic
public import Idealize.ShloMosaic.Lib.VecWindow

@[expose] public section

set_option maxRecDepth 16384

noncomputable section

namespace Cert.AttnFIdeal.Run

open Cert.AttnFIdeal Cert.AttnFIdeal.Gen Idealize.ShloMosaic Idealize.ShloMosaic.Tactic

theorem cond1 : ∀ i : grid0.Coords, k0_cond1 i = 1#1 ↔ (i 2).val % 2 = 1 := by decide +kernel
theorem cond2 : ∀ i : grid0.Coords, k0_cond2 i = 1#1 ↔ 2 ≤ (i 2).val % 4 := by decide +kernel
/-- The diagonal block, with the one before it or alone, -/
theorem off1 : ∀ i : grid0.Coords, k0_off1 i = ![256 * (i 2).val, 0] := by decide +kernel
theorem off2 : ∀ i : grid0.Coords, k0_cond1 i = 1#1 → k0_off2 i = ![256 * ((i 2).val - 1), 0] := by decide +kernel
theorem off3 : ∀ i : grid0.Coords, k0_off3 i = ![256 * (i 2).val, 0] := by decide +kernel
/-- a pair of blocks before these, -/
theorem off4 : ∀ i : grid0.Coords, k0_cond2 i = 1#1 → ∀ r : Fin 2, k0_off4 i (BitVec.ofNat 32 r.val) = ![256 * ((i 2).val - ((i 2).val % 2 + r.val + 1)), 0] := by
  decide +kernel
/-- and the blocks of a trip of the loop over fours. -/
theorem off5 : ∀ (i : grid0.Coords) (k : Fin (k0_t1_loop i).trips) (r : Fin 4),
    k0_off5 i k (BitVec.ofNat 32 r.val) = ![256 * ((i 2).val - ((i 2).val % 4 + 4 * k.val + r.val + 1)), 0] := by
  decide +kernel

/-- The loop makes a trip for every whole four of blocks left, -/
theorem trips1 : ∀ i : grid0.Coords, (k0_t1_loop i).trips = (i 2).val / 4 := by decide +kernel
/-- and the second loop none. -/
theorem trips2 : ∀ i : grid0.Coords, (k0_t2_loop i).trips = 0 := by decide +kernel

/-- The first block that the loop over fours reads, as a word. -/
def top (i : grid0.Coords) : BitVec 32 := Scalar.subi (BitVec.ofNat 32 (4 * ((i 2).val / 4))) 1#32
theorem word5 : ∀ (i : grid0.Coords) (k : Fin (k0_t1_loop i).trips) (r : Fin 4),
    Scalar.subi (Scalar.subi (top i) (Scalar.muli 4#32 (Scf.iv 0#32 1#32 k))) (BitVec.ofNat 32 r.val)
      = BitVec.ofNat 32 ((i 2).val - ((i 2).val % 4 + 4 * k.val + r.val + 1)) := by decide +kernel

theorem off4_0 (i : grid0.Coords) (h : k0_cond2 i = 1#1) : k0_off4 i 0#32 = ![256 * ((i 2).val - ((i 2).val % 2 + 0 + 1)), 0] := off4 i h 0
theorem off4_1 (i : grid0.Coords) (h : k0_cond2 i = 1#1) : k0_off4 i 1#32 = ![256 * ((i 2).val - ((i 2).val % 2 + 1 + 1)), 0] := off4 i h 1
theorem off5_0 (i : grid0.Coords) (k : Fin (k0_t1_loop i).trips) : k0_off5 i k 0#32 = ![256 * ((i 2).val - ((i 2).val % 4 + 4 * k.val + 0 + 1)), 0] := off5 i k 0
theorem off5_1 (i : grid0.Coords) (k : Fin (k0_t1_loop i).trips) : k0_off5 i k 1#32 = ![256 * ((i 2).val - ((i 2).val % 4 + 4 * k.val + 1 + 1)), 0] := off5 i k 1
theorem off5_2 (i : grid0.Coords) (k : Fin (k0_t1_loop i).trips) : k0_off5 i k 2#32 = ![256 * ((i 2).val - ((i 2).val % 4 + 4 * k.val + 2 + 1)), 0] := off5 i k 2
theorem off5_3 (i : grid0.Coords) (k : Fin (k0_t1_loop i).trips) : k0_off5 i k 3#32 = ![256 * ((i 2).val - ((i 2).val % 4 + 4 * k.val + 3 + 1)), 0] := off5 i k 3

end Cert.AttnFIdeal.Run

end
-- ==== Proof.AttnFSpec.lean ====
module

public import proofs.«01_k».proof.Proof.AttnFOff
public import proofs.«01_k».proof.Proof.AttnParts

@[expose] public section

set_option maxRecDepth 16384

noncomputable section

namespace Cert.AttnFIdeal.Run

open Cert.AttnFIdeal Cert.AttnFIdeal.Gen Idealize.ShloMosaic Idealize.ShloMosaic.Tactic
open Cert.AttnIdeal.Run (keep logits pass lanes dquery blk rd mask half)

variable {F : FTy → Type} [FloatOps F]

/-- What one block of queries keeps while the key blocks pass: the two heads' queries with the other
    head's lanes at zero, the lanes' numbers and the heads' lanes, and the triangle of ones. -/
structure Pt (F : FTy → Type) where
  q0 : FVec F S256x128 .bf16
  q1 : FVec F S256x128 .bf16
  lane : IVec S1x128 32
  m0 : IVec S1x128 1
  m1 : IVec S1x128 1
  su : Vec F S256x256 .bf16

/-- What passes from a key block to the one before it: the two heads' sums over the blocks seen, their
    tables of these sums, and the output so far. -/
structure St (F : FTy → Type) where
  r0 : FVec F S256x1 .f32
  r1 : FVec F S256x1 .f32
  t0 : FVec F S256x128 .f32
  t1 : FVec F S256x128 .f32
  acc : FVec F S256x128 .f32

/-- The sums of the log-probabilities of passing by, from a key of the block to the block's last, -/
def suf (P : Pt F) (m : Option (IVec S256x256 1)) (z : FVec F S256x256 .f32) : FVec F S256x256 .f32 :=
  matmul dot_S256x256_S256x256_S256x256_1_0_0_1_n_n none (truncf .bf16 (pass m z) bitsLt_bf16_f32)
    (shapeCast S256x256 P.su shapeCasts_S256x256_S256x256 : FVec F S256x256 .bf16) (constant S256x256 .f32 0x00000000#32)

/-- the weights of the block, -/
def weights (P : Pt F) (m : Option (IVec S256x256 1)) (z : FVec F S256x256 .f32) (r : FVec F S256x1 .f32) : FVec F S256x256 .bf16 :=
  truncf .bf16 (keep m (exp (addf (addf z (suf P m z)) (broadcastTo S256x256 r broadcasts_S256x1_S256x256)))) bitsLt_bf16_f32

/-- the table with lane `w` filled, -/
def put (P : Pt F) (w : BitVec 32) (r : FVec F S256x1 .f32) (t : FVec F S256x128 .f32) : FVec F S256x128 .f32 :=
  select (broadcastTo S256x128 (shapeCast S1x128 (cmpi .eq P.lane (broadcast S1x128 w)) shapeCasts_S1x128_S1x128) broadcasts_S1x128_S256x128)
    (broadcastTo S256x128 (shapeCast S256x1 r shapeCasts_S256x1_S256x1) broadcasts_S256x1_S256x128) t

/-- and the sum with this block's added. -/
def next (P : Pt F) (m : Option (IVec S256x256 1)) (z : FVec F S256x256 .f32) (r : FVec F S256x1 .f32) : FVec F S256x1 .f32 :=
  addf r (extractStridedSlice S256x1 ![0, 0] (suf P m z) slices_S256x256_o0_0_S256x1)

/-- One key block, its number as a lane, and its keys and values. -/
def step (P : Pt F) (m : Option (IVec S256x256 1)) (w : BitVec 32) (kb vb : FVec F S256x128 .bf16) (s : St F) : St F :=
  { r0 := next P m (logits P.q0 kb) s.r0
    r1 := next P m (logits P.q1 kb) s.r1
    t0 := put P w s.r0 s.t0
    t1 := put P w s.r1 s.t1
    acc := addf (addf s.acc (dquery (weights P m (logits P.q0 kb) s.r0) (lanes P.m0 vb))) (dquery (weights P m (logits P.q1 kb) s.r1) (lanes P.m1 vb)) }

/-- A key block of the keys `xk` and the values `xv`. -/
def stepAt (P : Pt F) (xk xv : Vec F S4096x128 .bf16) (m : Option (IVec S256x256 1)) (j : ℕ) (s : St F) : St F :=
  step P m (BitVec.ofNat 32 j) (rd xk j) (rd xv j) s

/-- Before any block, -/
def start : St F := ⟨k0_pay198, k0_pay198, k0_pay199, k0_pay199, k0_pay199⟩

/-- and with the diagonal block `d` and the `n` blocks before it seen. -/
def passed (P : Pt F) (xk xv : Vec F S4096x128 .bf16) (d : ℕ) : ℕ → St F
  | 0 => stepAt P xk xv (some mask) d start
  | n + 1 => stepAt P xk xv none (d - (n + 1)) (passed P xk xv d n)

/-- What one block of queries keeps, of its queries and the triangle. -/
def pt (x3 : Vec F S256x128 .bf16) (su : Vec F S256x256 .bf16) : Pt F where
  q0 := k0_pay196 x3
  q1 := k0_pay197 x3
  lane := iota .tc S1x128 32 [1] iota_S1x128_d1_w32
  m0 := k0_pay193
  m1 := k0_pay194
  su := su

theorem read_blk (a : Memref sig .tc .vmem S4096x128 .bf16) (f : BufTy.Contents (Elt F) a.view.ty) {off : Fin 2 → ℕ} (j : ℕ)
    (h : off = ![256 * j, 0]) (inb : ∀ k, off k + (![256, 128] : Fin 2 → ℕ) k ≤ S4096x128.size k) :
    a.view.readAt (Elt F) (Rect.unit (s := S4096x128) off ![256, 128] inb).toLoadRect f = blk (a.view.read (Elt F) f) j := by
  subst h
  have hj : 256 * j + 256 ≤ 4096 := inb 0
  rw [View.readAt_unit a.view f inb rfl inb]
  funext y
  refine congrArg (a.view.read (Elt F) f) (funext fun k => Fin.ext ?_)
  have h0 : (y 0).val < 256 := (y 0).isLt
  have e := Nat.mod_eq_of_lt (show 256 * j + (y 0).val < 4096 by omega)
  match k with
  | 0 => show 256 * j + 1 * (y 0).val = (256 * j + (y 0).val) % 4096; omega
  | 1 => show 0 + 1 * (y 1).val = (y 1).val; omega

theorem read_tri (a : Memref sig .tc .vmem S256x256 .bf16) (f : BufTy.Contents (Elt F) a.view.ty) (inb : ∀ k, (![0, 0] : Fin 2 → ℕ) k + (![256, 256] : Fin 2 → ℕ) k ≤ S256x256.size k) :
    a.view.readAt (Elt F) (Rect.unit (s := S256x256) ![0, 0] ![256, 256] inb).toLoadRect f = a.view.read (Elt F) f := View.readAt_full a.view f inb

end Cert.AttnFIdeal.Run

end
-- ==== Proof.AttnFTrip.lean ====
module

public import proofs.«01_k».proof.Proof.AttnFSpec
public import Idealize.ShloMosaic.Lib.Pipeline.Kit

@[expose] public section

set_option maxRecDepth 16384

noncomputable section

namespace Cert.AttnFIdeal.Run

open Cert.AttnFIdeal Cert.AttnFIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Run (keep logits pass lanes dquery blk rd mask half)

variable {F : FTy → Type} [FloatOps F]

local notation "𝕄" => MT nD τ sig Unit (Elt F) ℕ (UR sig nD τ) ℕ

/-- The blocks of one grid point. -/
structure Args where
  a3 : Memref sig .tc .vmem S256x128 .bf16
  h3 : a3.IsWhole
  a4 : Memref sig .tc .vmem S4096x128 .bf16
  h4 : a4.IsWhole
  a5 : Memref sig .tc .vmem S4096x128 .bf16
  h5 : a5.IsWhole
  a6 : Memref sig .tc .vmem S256x256 .bf16
  h6 : a6.IsWhole
  a7 : Memref sig .tc .vmem S256x128 .f32
  h7 : a7.IsWhole
  a8 : Memref sig .tc .vmem S256x256 .f32
  h8 : a8.IsWhole

/-- What every key block reads: the keys, the values and the triangle. -/
def reads (c : Dev nD) (A : Args) (P : Pt F) (xk xv : Vec F S4096x128 .bf16) : sProp 𝕄 :=
  iprop(owns (c : Thread nD τ) A.a4 fullShare xk ∗ owns (c : Thread nD τ) A.a5 fullShare xv ∗ owns (c : Thread nD τ) A.a6 fullShare P.su)

/-- The values that a loop hands from trip to trip. -/
def St.tuple (s : St F) : FVec F S256x1 .f32 × FVec F S256x1 .f32 × FVec F S256x128 .f32 × FVec F S256x128 .f32 × FVec F S256x128 .f32 :=
  (s.r0, s.r1, s.t0, s.t1, s.acc)

/-- A trip of the loop over fours of key blocks. -/
def body (i : grid0.Coords) (A : Args) (P : Pt F) :=
  k0_t1_body (F := F) i A.a3 A.h3 A.a4 A.h4 A.a5 A.h5 A.a6 A.h6 A.a7 A.h7 A.a8 A.h8 P.lane P.m0 P.m1 P.q0 P.q1 (top i)

set_option maxHeartbeats 4000000 in
theorem trip (c : Dev nD) (E : Set ℕ) (i : grid0.Coords) (A : Args) (P : Pt F) (xk xv : Vec F S4096x128 .bf16) (k : Fin (k0_t1_loop i).trips) :
    reads c A P xk xv
    ⊢ wp frame (wpE (defs₀ (F := F)) Variants.none (c : Thread nD τ) none) E (body i A P k (passed P xk xv (i 2).val ((i 2).val % 4 + 4 * k.val)).tuple)
      (fun r => iprop(⌜r = (passed P xk xv (i 2).val ((i 2).val % 4 + 4 * (k.val + 1))).tuple⌝ ∗ reads c A P xk xv)) := by
  have w0 : Scalar.subi (Scalar.subi (top i) (Scalar.muli 4#32 (Scf.iv 0#32 1#32 k))) 0#32 = BitVec.ofNat 32 ((i 2).val - ((i 2).val % 4 + 4 * k.val + 0 + 1)) := word5 i k 0
  have w1 : Scalar.subi (Scalar.subi (top i) (Scalar.muli 4#32 (Scf.iv 0#32 1#32 k))) 1#32 = BitVec.ofNat 32 ((i 2).val - ((i 2).val % 4 + 4 * k.val + 1 + 1)) := word5 i k 1
  have w2 : Scalar.subi (Scalar.subi (top i) (Scalar.muli 4#32 (Scf.iv 0#32 1#32 k))) 2#32 = BitVec.ofNat 32 ((i 2).val - ((i 2).val % 4 + 4 * k.val + 2 + 1)) := word5 i k 2
  have w3 : Scalar.subi (Scalar.subi (top i) (Scalar.muli 4#32 (Scf.iv 0#32 1#32 k))) 3#32 = BitVec.ofNat 32 ((i 2).val - ((i 2).val % 4 + 4 * k.val + 3 + 1)) := word5 i k 3
  have o0 := off5_0 i k
  have o1 := off5_1 i k
  have o2 := off5_2 i k
  have o3 := off5_3 i k
  have hs : passed P xk xv (i 2).val ((i 2).val % 4 + 4 * (k.val + 1)) =
      stepAt P xk xv none ((i 2).val - ((i 2).val % 4 + 4 * k.val + 3 + 1)) (stepAt P xk xv none ((i 2).val - ((i 2).val % 4 + 4 * k.val + 2 + 1))
        (stepAt P xk xv none ((i 2).val - ((i 2).val % 4 + 4 * k.val + 1 + 1)) (stepAt P xk xv none ((i 2).val - ((i 2).val % 4 + 4 * k.val + 0 + 1))
          (passed P xk xv (i 2).val ((i 2).val % 4 + 4 * k.val))))) := rfl
  rw [hs]
  clear hs
  generalize passed P xk xv (i 2).val ((i 2).val % 4 + 4 * k.val) = s
  generalize (i 2).val - ((i 2).val % 4 + 4 * k.val + 0 + 1) = j0 at o0 w0 ⊢
  generalize (i 2).val - ((i 2).val % 4 + 4 * k.val + 1 + 1) = j1 at o1 w1 ⊢
  generalize (i 2).val - ((i 2).val % 4 + 4 * k.val + 2 + 1) = j2 at o2 w2 ⊢
  generalize (i 2).val - ((i 2).val % 4 + 4 * k.val + 3 + 1) = j3 at o3 w3 ⊢
  unfold St.tuple
  dsimp only
  unfold body k0_t1_body reads owns
  iintro ⟨⟨%f4, %e4, H4⟩, ⟨%f5, %e5, H5⟩, ⟨%f6, %e6, H6⟩⟩
  sl_exec
  sl_step
  isplitr
  · ipureintro
    sl_unfold_run_names
    simp only [read_blk _ _ _ o0, read_blk _ _ _ o1, read_blk _ _ _ o2, read_blk _ _ _ o3, read_tri, e4, e5, e6, w0, w1, w2, w3]
    rfl
  isplitl [H4]
  · iexists f4; isplitr; (ipureintro; exact e4); iexact H4
  isplitl [H5]
  · iexists f5; isplitr; (ipureintro; exact e5); iexact H5
  iexists f6; isplitr; (ipureintro; exact e6); iexact H6

end Cert.AttnFIdeal.Run

end
-- ==== Proof.AttnFParts.lean ====
module

public import proofs.«01_k».proof.Proof.AttnFTrip

@[expose] public section

set_option maxRecDepth 16384

noncomputable section

namespace Cert.AttnFIdeal.Run

open Cert.AttnFIdeal Cert.AttnFIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Run (keep logits pass lanes dquery blk rd mask half)

variable {F : FTy → Type} [FloatOps F]

local notation "𝕄" => MT nD τ sig Unit (Elt F) ℕ (UR sig nD τ) ℕ

/-- The number of the block of queries, as a word, -/
def num (i : grid0.Coords) : BitVec 32 := BitVec.ofNat 32 (i 2).val
/-- and of the last block left when the first one or two have passed. -/
def last (i : grid0.Coords) : BitVec 32 := Scalar.subi (Scalar.subi (num i) 1#32) (BitVec.ofNat 32 ((i 2).val % 2))

theorem num_eq : ∀ i : grid0.Coords, Scalar.select (Scalar.andi (Scalar.cmpi .ne (Scalar.subi (Scalar.extui (Scalar.cmpi .sgt (BitVec.ofNat 32 (i 2).val) 0#32))
      (Scalar.extui (Scalar.cmpi .slt (BitVec.ofNat 32 (i 2).val) 0#32))) (Scalar.subi (Scalar.extui (Scalar.cmpi .sgt 1#32 0#32)) (Scalar.extui (Scalar.cmpi .slt 1#32 0#32)) : BitVec 32))
      (Scalar.cmpi .ne (Scalar.remsi (BitVec.ofNat 32 (i 2).val) 1#32) 0#32)) (Scalar.subi (Scalar.divsi (BitVec.ofNat 32 (i 2).val) 1#32) 1#32)
      (Scalar.divsi (BitVec.ofNat 32 (i 2).val) 1#32) = num i := by decide +kernel

/-- A word's remainder by two. -/
def rest (a : BitVec 32) : BitVec 32 := Scalar.select (Scalar.andi (Scalar.xori (Scalar.cmpi .slt (Scalar.remsi a 2#32) 0#32) 0#1) (Scalar.cmpi .ne (Scalar.remsi a 2#32) 0#32))
    (Scalar.addi (Scalar.remsi a 2#32) 2#32) (Scalar.remsi a 2#32)
theorem last_eq : ∀ i : grid0.Coords, Scalar.subi (Scalar.subi (num i) 1#32) (rest (num i)) = last i := by decide +kernel
theorem last_odd : ∀ i : grid0.Coords, k0_cond1 i = 1#1 → Scalar.subi (BitVec.ofNat 32 ((i 2).val - 1)) (rest (num i)) = last i := by decide +kernel
theorem top_eq : ∀ i : grid0.Coords, Scalar.subi (last i) (Scalar.muli 2#32 (rest (half (Scalar.addi (last i) 1#32)))) = top i := by decide +kernel
theorem prev_word : ∀ i : grid0.Coords, k0_cond1 i = 1#1 → Scalar.subi (num i) 1#32 = BitVec.ofNat 32 ((i 2).val - 1) := by decide +kernel
theorem pair_word : ∀ i : grid0.Coords, k0_cond2 i = 1#1 → ∀ r : Fin 2,
    Scalar.subi (last i) (BitVec.ofNat 32 r.val) = BitVec.ofNat 32 ((i 2).val - ((i 2).val % 2 + r.val + 1)) := by decide +kernel

theorem mask_eq (i : grid0.Coords) : k0_pay192 (iota .tc S256x256 32 [0] iota_S256x256_d0_w32) (k0_pay191 i) = mask := by
  unfold k0_pay191 k0_pay192 mask
  dsimp only
  rw [num_eq]
  have h : Scalar.subi (Scalar.muli (num i) 256#32) (Scalar.muli (BitVec.ofNat 32 (i 2).val) 256#32) = 0#32 := BitVec.sub_self _
  rw [h]

theorem part23 (c : Dev nD) (E : Set ℕ) (i : grid0.Coords) (A : Args) (R : sProp 𝕄) :
    R ⊢ wp frame (wpE (defs₀ (F := F)) Variants.none (c : Thread nD τ) none) E (k0_part23 (F := F) i A.a3 A.h3 A.a4 A.h4 A.a5 A.h5 A.a6 A.h6 A.a7 A.h7 A.a8 A.h8)
      (fun r => iprop(⌜r = ⟨num i, iota .tc S256x256 32 [0] iota_S256x256_d0_w32, k0_pay191 i⟩⌝ ∗ R)) := by
  rw [k0_part23_eq_skeleton]
  unfold k0_part23_skel
  iintro HR
  sl_exec
  sl_step
  isplitr
  · ipureintro
    sl_unfold_run_names
    rw [← num_eq i]
    rfl
  iexact HR

set_option maxHeartbeats 4000000 in
theorem part24 (c : Dev nD) (E : Set ℕ) (i : grid0.Coords) (A : Args) (x3 : Vec F S256x128 .bf16) (su : Vec F S256x256 .bf16) (xk xv : Vec F S4096x128 .bf16) (s : St F)
    (hs : s = passed (pt x3 su) xk xv (i 2).val ((i 2).val % 2)) :
    iprop(owns (c : Thread nD τ) A.a3 fullShare x3 ∗ reads c A (pt x3 su) xk xv)
    ⊢ wp frame (wpE (defs₀ (F := F)) Variants.none (c : Thread nD τ) none) E (k0_part24 i A.a3 A.h3 A.a4 A.h4 A.a5 A.h5 A.a6 A.h6 A.a7 A.h7 A.a8 A.h8 (num i) (iota .tc S256x256 32 [0] iota_S256x256_d0_w32) (k0_pay191 i))
      (fun r => iprop(⌜r = ⟨(pt x3 su).lane, (pt x3 su).m0, (pt x3 su).m1, (pt x3 su).q0, (pt x3 su).q1, s.r0, s.r1, s.t0, s.t1, s.acc, last i, Scalar.addi (last i) 1#32, 2#32⟩⌝
        ∗ owns (c : Thread nD τ) A.a3 fullShare x3 ∗ reads c A (pt x3 su) xk xv)) := by
  rw [k0_part24_eq_skeleton]
  unfold k0_part24_skel reads owns
  iintro ⟨⟨%f3, %e3, H3⟩, ⟨%f4, %e4, H4⟩, ⟨%f5, %e5, H5⟩, ⟨%f6, %e6, H6⟩⟩
  by_cases h : (i 2).val % 2 = 1
  · rw [h] at hs
    have hc := (cond1 i).mpr h
    sl_exec (disch := exact hc)
    sl_step
    isplitr
    · ipureintro
      sl_unfold_run_names
      simp only [View.readAt_full A.a3.view f3, read_blk _ _ _ (off1 i), read_blk _ _ _ (off2 i hc), read_tri, e3, e4, e5, e6, prev_word i hc]
      rw [mask_eq, hs, ← last_odd i hc]
      rfl
    isplitl [H3]
    · iexists f3; isplitr; (ipureintro; exact e3); iexact H3
    isplitl [H4]
    · iexists f4; isplitr; (ipureintro; exact e4); iexact H4
    isplitl [H5]
    · iexists f5; isplitr; (ipureintro; exact e5); iexact H5
    iexists f6; isplitr; (ipureintro; exact e6); iexact H6
  · rw [show (i 2).val % 2 = 0 by omega] at hs
    have hc := mt (cond1 i).mp h
    sl_exec (disch := exact hc)
    sl_step
    isplitr
    · ipureintro
      sl_unfold_run_names
      simp only [View.readAt_full A.a3.view f3, read_blk _ _ _ (off3 i), read_tri, e3, e4, e5, e6]
      rw [mask_eq, hs, ← last_eq]
      rfl
    isplitl [H3]
    · iexists f3; isplitr; (ipureintro; exact e3); iexact H3
    isplitl [H4]
    · iexists f4; isplitr; (ipureintro; exact e4); iexact H4
    isplitl [H5]
    · iexists f5; isplitr; (ipureintro; exact e5); iexact H5
    iexists f6; isplitr; (ipureintro; exact e6); iexact H6

set_option maxHeartbeats 4000000 in
theorem part25 (c : Dev nD) (E : Set ℕ) (i : grid0.Coords) (A : Args) (P : Pt F) (xk xv : Vec F S4096x128 .bf16) (s t : St F)
    (ht : t = if 2 ≤ (i 2).val % 4 then stepAt P xk xv none ((i 2).val - ((i 2).val % 2 + 1 + 1)) (stepAt P xk xv none ((i 2).val - ((i 2).val % 2 + 0 + 1)) s) else s) :
    reads c A P xk xv
    ⊢ wp frame (wpE (defs₀ (F := F)) Variants.none (c : Thread nD τ) none) E (k0_part25 i A.a3 A.h3 A.a4 A.h4 A.a5 A.h5 A.a6 A.h6 A.a7 A.h7 A.a8 A.h8 P.lane P.m0 P.m1 P.q0 P.q1 s.r0 s.r1 s.t0 s.t1 s.acc (last i) (Scalar.addi (last i) 1#32) 2#32)
      (fun r => iprop(⌜r = ⟨t.r0, t.r1, t.t0, t.t1, t.acc, top i, Scalar.addi (top i) 1#32, 4#32, Scalar.divsi (Scalar.addi (top i) 1#32) 4#32,
        Scalar.subi (Scalar.extui (Scalar.cmpi .sgt (Scalar.addi (top i) 1#32) 0#32)) (Scalar.extui (Scalar.cmpi .slt (Scalar.addi (top i) 1#32) 0#32)), 0#32⟩⌝ ∗ reads c A P xk xv)) := by
  rw [k0_part25_eq_skeleton]
  unfold k0_part25_skel reads owns
  iintro ⟨⟨%f4, %e4, H4⟩, ⟨%f5, %e5, H5⟩, ⟨%f6, %e6, H6⟩⟩
  by_cases h : 2 ≤ (i 2).val % 4
  · rw [if_pos h] at ht
    have hc := (cond2 i).mpr h
    have w0 : Scalar.subi (last i) 0#32 = BitVec.ofNat 32 ((i 2).val - ((i 2).val % 2 + 0 + 1)) := pair_word i hc 0
    have w1 : Scalar.subi (last i) 1#32 = BitVec.ofNat 32 ((i 2).val - ((i 2).val % 2 + 1 + 1)) := pair_word i hc 1
    sl_exec (disch := exact hc)
    sl_step
    isplitr
    · ipureintro
      sl_unfold_run_names
      simp only [read_blk _ _ _ (off4_0 i hc), read_blk _ _ _ (off4_1 i hc), read_tri, e4, e5, e6, w0, w1]
      rw [ht, ← top_eq]
      rfl
    isplitl [H4]
    · iexists f4; isplitr; (ipureintro; exact e4); iexact H4
    isplitl [H5]
    · iexists f5; isplitr; (ipureintro; exact e5); iexact H5
    iexists f6; isplitr; (ipureintro; exact e6); iexact H6
  · rw [if_neg h] at ht
    have hc := mt (cond2 i).mp h
    sl_exec (disch := exact hc)
    sl_step
    isplitr
    · ipureintro
      sl_unfold_run_names
      rw [ht, ← top_eq]
      rfl
    isplitl [H4]
    · iexists f4; isplitr; (ipureintro; exact e4); iexact H4
    isplitl [H5]
    · iexists f5; isplitr; (ipureintro; exact e5); iexact H5
    iexists f6; isplitr; (ipureintro; exact e6); iexact H6

end Cert.AttnFIdeal.Run

end
-- ==== Proof.AttnFBody.lean ====
module

public import proofs.«01_k».proof.Proof.AttnFParts

@[expose] public section

set_option maxRecDepth 16384

noncomputable section

namespace Cert.AttnFIdeal.Run

open Cert.AttnFIdeal Cert.AttnFIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Run (keep logits pass lanes dquery blk rd mask half)

variable {F : FTy → Type} [FloatOps F]

local notation "𝕄" => MT nD τ sig Unit (Elt F) ℕ (UR sig nD τ) ℕ

/-- The two heads' tables side by side. -/
def halves (x y : Vec F S256x128 .f32) : Vec F S256x256 .f32 := fun z =>
  if h : (z 1).val < 128 then x (ix2 (n0 := 256) (n1 := 128) (z 0) ⟨(z 1).val, h⟩)
  else y (ix2 (n0 := 256) (n1 := 128) (z 0) ⟨(z 1).val - 128, by have : (z 1).val < 256 := (z 1).isLt; omega⟩)

theorem write_halves (a : Memref sig .tc .vmem S256x256 .f32) (f : BufTy.Contents (Elt F) a.view.ty)
    (inb : ∀ k, (![0, 0] : Fin 2 → ℕ) k + S256x128.size k ≤ S256x256.size k) (inb' : ∀ k, (![0, 128] : Fin 2 → ℕ) k + S256x128.size k ≤ S256x256.size k)
    (x y : Vec F S256x128 .f32) :
    a.view.read (Elt F) (a.view.writes (Elt F) f [⟨Rect.unit (s := S256x256) ![0, 128] S256x128.size inb', y⟩, ⟨Rect.unit (s := S256x256) ![0, 0] S256x128.size inb, x⟩]) = halves x y := by
  rw [View.read_writes_cons_put a.view f inb' y _ rfl, View.read_writes_cons_put a.view f inb x _ rfl]
  funext z
  have h0 : (z 0).val < 256 := (z 0).isLt
  have h1 : (z 1).val < 256 := (z 1).isLt
  unfold VecWindow.put halves
  by_cases h : (z 1).val < 128
  · have hm : ∀ k : Fin 2, (![0, 0] : Fin 2 → ℕ) k ≤ (z k).val ∧ (z k).val < (![0, 0] : Fin 2 → ℕ) k + S256x128.size k := fun k => by
      match k with
      | 0 => exact ⟨Nat.zero_le _, by show (z 0).val < 0 + 256; omega⟩
      | 1 => exact ⟨Nat.zero_le _, by show (z 1).val < 0 + 128; omega⟩
    rw [dif_pos h, dif_neg, dif_pos hm]
    · refine congrArg x (funext fun k => Fin.ext ?_)
      match k with
      | 0 => show (z 0).val - 0 = (z 0).val; omega
      | 1 => show (z 1).val - 0 = (z 1).val; omega
    · intro hn
      have : 128 ≤ (z 1).val ∧ (z 1).val < 128 + 128 := hn 1
      omega
  · have hm : ∀ k : Fin 2, (![0, 128] : Fin 2 → ℕ) k ≤ (z k).val ∧ (z k).val < (![0, 128] : Fin 2 → ℕ) k + S256x128.size k := fun k => by
      match k with
      | 0 => exact ⟨Nat.zero_le _, by show (z 0).val < 0 + 256; omega⟩
      | 1 => exact ⟨by show 128 ≤ (z 1).val; omega, by show (z 1).val < 128 + 128; omega⟩
    rw [dif_neg h, dif_pos hm]
    refine congrArg y (funext fun k => Fin.ext ?_)
    match k with
    | 0 => show (z 0).val - 0 = (z 0).val; omega
    | 1 => rfl

/-- What holds between the trips of the loop over fours. -/
def between (c : Dev nD) (i : grid0.Coords) (A : Args) (P : Pt F) (xk xv : Vec F S4096x128 .bf16) (k : ℕ)
    (acc : FVec F S256x1 .f32 × FVec F S256x1 .f32 × FVec F S256x128 .f32 × FVec F S256x128 .f32 × FVec F S256x128 .f32) : sProp 𝕄 :=
  iprop(⌜acc = (passed P xk xv (i 2).val ((i 2).val % 4 + 4 * k)).tuple⌝ ∗ reads c A P xk xv)

/-- What a grid point reads. -/
structure In (F : FTy → Type) where
  x3 : Vec F S256x128 .bf16
  xk : Vec F S4096x128 .bf16
  xv : Vec F S4096x128 .bf16
  su : Vec F S256x256 .bf16

def In.pt (X : In F) : Pt F := Run.pt X.x3 X.su
/-- The state a grid point ends with. -/
def In.fin (X : In F) (i : grid0.Coords) : St F := passed X.pt X.xk X.xv (i 2).val (i 2).val

def outs (c : Dev nD) (A : Args) (o7 : Vec F S256x128 .f32) (o8 : Vec F S256x256 .f32) : sProp 𝕄 :=
  iprop(owns (c : Thread nD τ) A.a7 fullShare o7 ∗ owns (c : Thread nD τ) A.a8 fullShare o8)

set_option maxHeartbeats 4000000 in
theorem point (c : Dev nD) (E : Set ℕ) (i : grid0.Coords) (A : Args) (X : In F) (o7 : Vec F S256x128 .f32) (o8 : Vec F S256x256 .f32) :
    iprop(owns (c : Thread nD τ) A.a3 fullShare X.x3 ∗ reads c A X.pt X.xk X.xv ∗ outs c A o7 o8)
    ⊢ wp frame (wpE (defs₀ (F := F)) Variants.none (c : Thread nD τ) none) E (cc0_attn_fwd i A.a3 A.h3 A.a4 A.h4 A.a5 A.h5 A.a6 A.h6 A.a7 A.h7 A.a8 A.h8)
      (fun _ => iprop(owns (c : Thread nD τ) A.a3 fullShare X.x3 ∗ reads c A X.pt X.xk X.xv ∗ outs c A (X.fin i).acc (halves (X.fin i).t0 (X.fin i).t1))) := by
  rw [cc0_attn_fwd_eq_skeleton]
  unfold cc0_attn_fwd_skel
  iintro ⟨H3, HR, HO⟩
  rw [wp_bind]
  iapply wp_wand_r
  isplitl [H3]
  · iapply (part23 c E i A); iexact H3
  iintro %r ⟨%h, H3⟩
  subst h
  dsimp -zeta only
  rw [wp_bind]
  iapply wp_wand_r
  isplitl [H3 HR]
  · iapply (part24 c E i A X.x3 X.su X.xk X.xv _ rfl)
    isplitl [H3]; · iexact H3
    iexact HR
  iintro %r ⟨%h, H3, HR⟩
  subst h
  dsimp -zeta only
  rw [wp_bind]
  iapply wp_wand_r
  isplitl [HR]
  · iapply (part25 c E i A X.pt X.xk X.xv (passed X.pt X.xk X.xv (i 2).val ((i 2).val % 2)) (passed X.pt X.xk X.xv (i 2).val ((i 2).val % 4)) (by
      split
      · rw [show (i 2).val % 4 = (i 2).val % 2 + 1 + 1 by omega]; rfl
      · rw [show (i 2).val % 4 = (i 2).val % 2 by omega]))
    iexact HR
  iintro %r ⟨%h, HR⟩
  subst h
  dsimp -zeta only
  sl_exec
  sl_for (between c i A X.pt X.xk X.xv) $$ [HR]
  case region =>
    intro k acc
    unfold between
    iintro ⟨%h, HR⟩
    subst h
    iapply (trip c E i A X.pt X.xk X.xv k) $$ [HR]
    iassumption
  · unfold between
    isplitr; · ipureintro; rfl
    iexact HR
  iintro %acc HI
  unfold between
  icases HI with ⟨%h, HR⟩
  subst h
  rw [show Scf.trips (k0_t1_loop i).lb (k0_t1_loop i).ub (k0_t1_loop i).st = (i 2).val / 4 from trips1 i, Nat.mod_add_div]
  rw [show passed X.pt X.xk X.xv (i 2).val (i 2).val = X.fin i from rfl]
  generalize X.fin i = t
  unfold St.tuple
  dsimp -zeta only
  sl_exec
  sl_for0 (trips2 i)
  unfold outs owns
  icases HO with ⟨⟨%f7, %e7, H7⟩, ⟨%f8, %e8, H8⟩⟩
  sl_exec
  sl_step
  isplitl [H3]; · iexact H3
  isplitl [HR]; · iexact HR
  isplitl [H7]
  · iexists _; isplitr; swap; iexact H7
    ipureintro
    exact View.read_writes_full A.a7.view f7 _ _ []
  · iexists _; isplitr; swap; iexact H8
    ipureintro
    exact write_halves A.a8 f8 _ _ _ _

end Cert.AttnFIdeal.Run

end
-- ==== Proof.AttnFPoint.lean ====
module

public import proofs.«01_k».proof.Proof.AttnPoint
public import proofs.«01_k».proof.Proof.AttnFBody

@[expose] public section

set_option maxRecDepth 16384

noncomputable section

namespace Cert.Stick

open Finset

/-- The log-probability of passing by every key from block `b` on, and the table of these sums: lane `l` of the
    first sixteen is what follows block `l`, once the blocks from `b` on are seen. -/
def tail (z : ℕ → ℝ) (s b : ℕ) : ℝ := ∑ u ∈ Ico (256 * b) 4096, lg z s u
def table (z : ℕ → ℝ) (s b l : ℕ) : ℝ := if l < 16 ∧ b ≤ l then surv z s (256 * l + 255) else 0

theorem tail_surv (z : ℕ → ℝ) (s j : ℕ) : tail z s (j + 1) = surv z s (256 * j + 255) := rfl
theorem tail_zero (z : ℕ → ℝ) {s b : ℕ} (h : s ≤ 256 * b) : tail z s b = 0 :=
  sum_eq_zero fun u hu => if_neg (by have := (mem_Ico.mp hu).1; omega)
theorem tail_step (z : ℕ → ℝ) (s : ℕ) {j : ℕ} (hj : j < 16) : lg z s (256 * j + 0) + surv z s (256 * j + 0) = tail z s j :=
  (sum_eq_sum_Ico_succ_bot (by omega) _).symm

theorem table_start (z : ℕ → ℝ) {s b : ℕ} (h : s ≤ 256 * b) (l : ℕ) : table z s b l = 0 := by
  unfold table
  split
  · rw [← tail_surv, tail_zero _ (by omega)]
  · rfl
theorem table_step (z : ℕ → ℝ) (s : ℕ) {j : ℕ} (hj : j < 16) (l : ℕ) : (if l = j then surv z s (256 * j + 255) else table z s (j + 1) l) = table z s j l := by
  unfold table
  by_cases h : l = j
  · rw [if_pos h, if_pos (by omega), h]
  · rw [if_neg h]
    exact if_congr (by omega) rfl rfl

theorem sum_before (f : ℕ → ℝ) {n : ℕ} (hn : n < 16) : ∑ u ∈ Ico (256 * n) 4096, f u = ∑ u ∈ Ico (256 * (n + 1)) 4096, f u + ∑ c : Fin 256, f (256 * n + c.val) := by
  rw [← sum_Ico_consecutive f (show 256 * n ≤ 256 * (n + 1) by omega) (by omega), add_comm, Fin.sum_univ_eq_sum_range (fun c => f (256 * n + c)) 256,
    sum_Ico_eq_sum_range _ (256 * n), show 256 * (n + 1) - 256 * n = 256 by omega]

end Cert.Stick

namespace Cert.AttnFIdeal.Run

open Cert.AttnFIdeal Cert.AttnFIdeal.Gen Idealize.ShloMosaic Idealize.ShloMosaic.Tactic Finset
open Cert.AttnIdeal.Run (keep logits pass lanes dquery rd mask holds keep_at coe_ite logits_at passing lanes_at dquery_at rd_at mask_at select_ite eighth_bf16)
open Stick (score wt tail table)

/-- One head's tile: queries `256 q + r` against keys `256 j + c`, with `x` the sum over the later keys. -/
structure Tile (P : Pt Ideal) (m : Option (IVec S256x256 1)) (Z : FVec Ideal S256x256 .f32) (x : FVec Ideal S256x1 .f32) (z : ℕ → ℕ → ℝ) (q j : ℕ) : Prop where
  hz : ∀ r c : Fin 256, Z (ix2 r c) = ((z (256 * q + r.val) (256 * j + c.val) : ℝ) : EReal)
  hx : ∀ r : Fin 256, x (ix2 r 0) = ((tail (z (256 * q + r.val)) (256 * q + r.val) (j + 1) : ℝ) : EReal)
  hsu : ∀ k c : Fin 256, P.su (ix2 (n0 := 256) (n1 := 256) k c) = ((if c.val ≤ k.val then 1 else 0 : ℝ) : EReal)
  hm : ∀ r c : Fin 256, holds m r c ↔ 256 * j + c.val < 256 * q + r.val
  hj : j < 16

namespace Tile

variable {P : Pt Ideal} {m : Option (IVec S256x256 1)} {Z : FVec Ideal S256x256 .f32} {x : FVec Ideal S256x1 .f32} {z : ℕ → ℕ → ℝ} {q j : ℕ}
  (T : Tile P m Z x z q j) (r c : Fin 256)

include T

theorem pass_eq : pass m Z (ix2 r c) = ((Stick.lg (z (256 * q + r.val)) (256 * q + r.val) (256 * j + c.val) : ℝ) : EReal) := by
  unfold pass Stick.lg
  rw [keep_at, ← coe_ite]
  refine if_congr (T.hm r c) ?_ rfl
  rw [← passing, ← T.hz r c]
  pointwise

theorem suf_eq : suf P m Z (ix2 r c) = ((∑ k : Fin 256, Stick.lg (z (256 * q + r.val)) (256 * q + r.val) (256 * j + k.val) * (if c.val ≤ k.val then 1 else 0) : ℝ) : EReal) := by
  unfold suf
  pointwise
  simp only [T.pass_eq, T.hsu, ← EReal.coe_mul, ← Stick.coe_sum]

theorem weights_eq : weights P m Z x (ix2 r c) = ((Stick.att (z (256 * q + r.val)) (256 * q + r.val) (256 * j + c.val) : ℝ) : EReal) := by
  unfold weights Stick.att
  refine (keep_at m _ r c).trans ?_
  rw [← coe_ite]
  refine if_congr (T.hm r c) ?_ rfl
  pointwise
  rw [T.suf_eq, T.hz, T.hx, ← EReal.coe_add, ← EReal.coe_add, Ideal.exp_coe, add_assoc, Stick.tail_surv, Stick.suffix_eq _ _ T.hj c.isLt]

theorem next_eq : next P m Z x (ix2 r 0) = ((tail (z (256 * q + r.val)) (256 * q + r.val) j : ℝ) : EReal) := by
  unfold next
  pointwise
  refine (congrArg₂ (fun a b : EReal => a + b) (T.hx r) (T.suf_eq r 0)).trans ?_
  rw [← EReal.coe_add, add_comm, Stick.tail_surv]
  exact congrArg Real.toEReal ((Stick.suffix_eq _ _ T.hj (c := 0) (by decide)).trans (Stick.tail_step _ _ T.hj))

theorem put_eq (hP : P.lane = iota .tc S1x128 32 [1] iota_S1x128_d1_w32) (t : FVec Ideal S256x128 .f32)
    (ht : ∀ l : Fin 128, t (ix2 r l) = ((table (z (256 * q + r.val)) (256 * q + r.val) (j + 1) l.val : ℝ) : EReal)) (l : Fin 128) :
    put P (BitVec.ofNat 32 j) x t (ix2 r l) = ((table (z (256 * q + r.val)) (256 * q + r.val) j l.val : ℝ) : EReal) := by
  unfold put
  rw [hP, ← Stick.table_step _ _ T.hj]
  pointwise
  rw [T.hx, ht]
  refine (select_ite _ (l.val = j) ?_ _ _).trans (apply_ite Real.toEReal _ _ _).symm
  have hj := T.hj
  refine IntOp.cmpi_eq.trans ⟨fun e => ?_, fun e => by rw [e]⟩
  have e := congrArg BitVec.toNat e
  rwa [BitVec.toNat_ofNat, BitVec.toNat_ofNat, Nat.mod_eq_of_lt (by omega), Nat.mod_eq_of_lt (by omega)] at e

end Tile

/-- The lanes of the two heads. -/
theorem head0 (l : Fin 128) : (k0_pay193 (ix2 (n0 := 1) (n1 := 128) 0 l) = 1#1) ↔ l.val / 64 = 0 := by
  revert l; decide +kernel
theorem head1 (l : Fin 128) : (k0_pay194 (ix2 (n0 := 1) (n1 := 128) 0 l) = 1#1) ↔ l.val / 64 = 1 := by
  revert l; decide +kernel

theorem q0_at (x : Vec Ideal S256x128 .bf16) (r : Fin 256) (l : Fin 128) : k0_pay196 x (ix2 r l) = if l.val / 64 = 0 then x (ix2 r l) * ((1 / 8 : ℝ) : EReal) else 0 := by
  rw [← eighth_bf16]
  unfold k0_pay196
  pointwise [k0_pay195]
  exact select_ite _ _ (head0 l) _ _
theorem q1_at (x : Vec Ideal S256x128 .bf16) (r : Fin 256) (l : Fin 128) : k0_pay197 x (ix2 r l) = if l.val / 64 = 1 then x (ix2 r l) * ((1 / 8 : ℝ) : EReal) else 0 := by
  rw [← eighth_bf16]
  unfold k0_pay197
  pointwise [k0_pay195]
  exact select_ite _ _ (head1 l) _ _

/-- What a point of the grid works on, by the rows behind it: query block `q`. -/
structure Rows (X : In Ideal) (Q K V : ℕ → ℕ → ℝ) (q : ℕ) : Prop where
  hq : ∀ (r : Fin 256) (l : Fin 128), X.x3 (ix2 r l) = ((Q (256 * q + r.val) l.val : ℝ) : EReal)
  hk : ∀ (t : Fin 4096) (l : Fin 128), X.xk (ix2 t l) = ((K t.val l.val : ℝ) : EReal)
  hv : ∀ (t : Fin 4096) (l : Fin 128), X.xv (ix2 t l) = ((V t.val l.val : ℝ) : EReal)
  hsu : ∀ k c : Fin 256, X.su (ix2 k c) = ((if c.val ≤ k.val then 1 else 0 : ℝ) : EReal)

/-- The state when the key blocks from `b` on have been seen. -/
structure Seen (Q K V : ℕ → ℕ → ℝ) (q b : ℕ) (s : St Ideal) : Prop where
  hr0 : ∀ r : Fin 256, s.r0 (ix2 r 0) = ((tail (score Q K 0 (256 * q + r.val)) (256 * q + r.val) b : ℝ) : EReal)
  hr1 : ∀ r : Fin 256, s.r1 (ix2 r 0) = ((tail (score Q K 1 (256 * q + r.val)) (256 * q + r.val) b : ℝ) : EReal)
  ht0 : ∀ (r : Fin 256) (l : Fin 128), s.t0 (ix2 r l) = ((table (score Q K 0 (256 * q + r.val)) (256 * q + r.val) b l.val : ℝ) : EReal)
  ht1 : ∀ (r : Fin 256) (l : Fin 128), s.t1 (ix2 r l) = ((table (score Q K 1 (256 * q + r.val)) (256 * q + r.val) b l.val : ℝ) : EReal)
  hacc : ∀ (r : Fin 256) (l : Fin 128), s.acc (ix2 r l) = ((∑ u ∈ Ico (256 * b) 4096, wt Q K (l.val / 64) (256 * q + r.val) u * V u l.val : ℝ) : EReal)

section
variable {X : In Ideal} {Q K V : ℕ → ℕ → ℝ} {q : ℕ} (R : Rows X Q K V q)
include R

/-- The scores of head `i`, of its queries with the other lanes at zero. -/
theorem Rows.scores {i : ℕ} (hi : i < 2) {n : ℕ} (hn : n < 16) {y : FVec Ideal S256x128 .bf16}
    (hy : ∀ (r : Fin 256) (l : Fin 128), y (ix2 r l) = if l.val / 64 = i then X.x3 (ix2 r l) * ((1 / 8 : ℝ) : EReal) else 0) (r c : Fin 256) :
    logits y (rd X.xk n) (ix2 r c) = ((score Q K i (256 * q + r.val) (256 * n + c.val) : ℝ) : EReal) := by
  rw [logits_at]
  have e (l : Fin 128) : y (ix2 r l) * rd X.xk n (ix2 c l) = ((if l.val / 64 = i then Q (256 * q + r.val) l.val * K (256 * n + c.val) l.val * (1 / 8) else 0 : ℝ) : EReal) := by
    rw [rd_at _ _ hn, R.hk, hy, R.hq, ← EReal.coe_mul, coe_ite, ← EReal.coe_mul]
    congr 1
    split
    · ring
    · ring
  simp only [e, ← Stick.coe_sum]
  rw [Stick.sum_lanes (fun l => Q (256 * q + r.val) l * K (256 * n + c.val) l * (1 / 8)) i hi, score, sum_mul]

variable {m : Option (IVec S256x256 1)} {n : ℕ} (hn : n < 16) (hm : ∀ r c : Fin 256, holds m r c ↔ 256 * n + c.val < 256 * q + r.val) {s : St Ideal}
  (H : Seen Q K V q (n + 1) s)
include hn hm H

theorem Rows.tile0 : Tile X.pt m (logits X.pt.q0 (rd X.xk n)) s.r0 (score Q K 0) q n := ⟨R.scores (by decide) hn (q0_at X.x3), H.hr0, R.hsu, hm, hn⟩
theorem Rows.tile1 : Tile X.pt m (logits X.pt.q1 (rd X.xk n)) s.r1 (score Q K 1) q n := ⟨R.scores (by decide) hn (q1_at X.x3), H.hr1, R.hsu, hm, hn⟩

theorem Rows.step : Seen Q K V q n (stepAt X.pt X.xk X.xv m n s) where
  hr0 := (R.tile0 hn hm H).next_eq
  hr1 := (R.tile1 hn hm H).next_eq
  ht0 r := (R.tile0 hn hm H).put_eq r rfl _ (H.ht0 r)
  ht1 r := (R.tile1 hn hm H).put_eq r rfl _ (H.ht1 r)
  hacc r l := by
    have T0 := R.tile0 hn hm H
    have T1 := R.tile1 hn hm H
    unfold stepAt Run.step
    pointwise
    simp only [dquery_at, lanes_at, T0.weights_eq, T1.weights_eq, H.hacc, rd_at _ _ hn, R.hv]
    have e0 (k : ℝ) : (if X.pt.m0 (ix2 0 l) = 1#1 then (k : EReal) else 0) = ((if l.val / 64 = 0 then k else 0 : ℝ) : EReal) := (if_congr (head0 l) rfl rfl).trans (coe_ite _ _)
    have e1 (k : ℝ) : (if X.pt.m1 (ix2 0 l) = 1#1 then (k : EReal) else 0) = ((if l.val / 64 = 1 then k else 0 : ℝ) : EReal) := (if_congr (head1 l) rfl rfl).trans (coe_ite _ _)
    simp only [e0, e1, ← EReal.coe_mul, ← Stick.coe_sum, ← EReal.coe_add]
    rw [Stick.sum_before _ hn, add_assoc]
    exact congrArg (fun a : ℝ => (((∑ u ∈ Ico (256 * (n + 1)) 4096, wt Q K (l.val / 64) (256 * q + r.val) u * V u l.val) + a : ℝ) : EReal))
      (Stick.sum_heads (wt Q K 0 (256 * q + r.val)) (wt Q K 1 (256 * q + r.val)) (fun h u => wt Q K h (256 * q + r.val) u) (256 * n) l.val l.isLt
        (fun e u => by rw [e]) (fun e u => by rw [e]) (fun u => V u l.val))

end

/-- Before any block, all the sums are nothing. -/
theorem start_seen (Q K V : ℕ → ℕ → ℝ) (q : ℕ) : Seen Q K V q (q + 1) start where
  hr0 r := by rw [Stick.tail_zero _ (by omega)]; unfold start; pointwise [k0_pay198]; exact EReal.coe_zero.symm
  hr1 r := by rw [Stick.tail_zero _ (by omega)]; unfold start; pointwise [k0_pay198]; exact EReal.coe_zero.symm
  ht0 r l := by rw [Stick.table_start _ (by omega)]; unfold start; pointwise [k0_pay199]; exact EReal.coe_zero.symm
  ht1 r l := by rw [Stick.table_start _ (by omega)]; unfold start; pointwise [k0_pay199]; exact EReal.coe_zero.symm
  hacc r l := by
    rw [sum_eq_zero fun u hu => by rw [Stick.wt_zero _ _ _ (by have := (mem_Ico.mp hu).1; omega), zero_mul]]
    unfold start; pointwise [k0_pay199]; exact EReal.coe_zero.symm

theorem Rows.passed {X : In Ideal} {Q K V : ℕ → ℕ → ℝ} {q : ℕ} (R : Rows X Q K V q) (hq : q < 16) : ∀ n ≤ q, Seen Q K V q (q - n) (passed X.pt X.xk X.xv q n)
  | 0, _ => R.step (m := some mask) hq (fun r c => (mask_at r c).trans (by omega)) (start_seen Q K V q)
  | n + 1, h => R.step (m := none) (n := q - (n + 1)) (by omega) (fun r c => ⟨fun _ => by omega, fun _ => trivial⟩)
    (by rw [show q - (n + 1) + 1 = q - n by omega]; exact Rows.passed R hq n (by omega))

theorem Rows.all {X : In Ideal} {Q K V : ℕ → ℕ → ℝ} {q : ℕ} (R : Rows X Q K V q) (i : grid0.Coords) (hi : (i 2).val = q) : Seen Q K V q 0 (X.fin i) := by
  have hq : q < 16 := hi ▸ (i 2).isLt
  unfold In.fin
  rw [hi]
  have := R.passed hq q le_rfl
  rwa [Nat.sub_self] at this

end Cert.AttnFIdeal.Run

end
-- ==== Proof.AttnFFrame.lean ====
module

public import proofs.«01_k».proof.Proof.AttnFBody
public import proofs.«01_k».proof.Proof.Gen.AttnFIdeal.Points
public import proofs.«01_k».proof.Proof.Gen.AttnFIdeal.Launch
public import Idealize.ShloMosaic.Lib.Pipeline.FrameBody
public import Idealize.ShloMosaic.Lib.Claim

@[expose] public section

set_option maxRecDepth 16384

noncomputable section

namespace Cert.AttnFIdeal.Run

open Cert.AttnFIdeal Cert.AttnFIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the call. -/
abbrev lines : List (List (HloOp τ sig (Elt F))) := [hostOps0]

/-- What a buffer holds when the call is entered. -/
abbrev V (c : Dev nD) (b : Ref sig .tc) : Buf (Elt F) ((c : Thread nD τ).loc b) := StableHlo.after (List.flatten lines) (fun b => m (c, b)) b

theorem lines_fresh : (lines (F := F)).Forall fun l => l.Forall fun op => op.fresh = ∅ := by
  simp only [lines, List.Forall]
  repeat' constructor

theorem entered (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main lines hostOps0_sub lines_fresh main_chain

/-- The host lines leave the argument alone. -/
theorem V_arg (c : Dev nD) : V m c main_arg0 = m ((c : Thread nD τ).loc main_arg0) := by
  refine StableHlo.after_of_forall_not_mem (b := Proc.devRef .tc _) _ _ (List.forall_iff_forall_mem.mp ?_)
  simp only [lines, hostOps0, List.flatten_cons, List.flatten_nil, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the point's body works on, -/
def cell (c : Dev nD) (t : Fin cfg0.N) : In F where
  x3 := iblk m c 0 t
  xk := iblk m c 1 t
  xv := iblk m c 2 t
  su := iblk m c 3 t

/-- and the state that it ends with. -/
def state (c : Dev nD) (t : Fin cfg0.N) : St F := (cell m c t).fin (grid0.coords t)

theorem coord2 (t : Fin cfg0.N) : (grid0.coords t 2).val = t.val % 16 :=
  (Pipeline.Grid.coords_val (S := 1) t 2 (by decide) rfl).trans (by rw [Nat.div_one]; rfl)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (state m c t).acc
    | ⟨5, _⟩ => halves (state m c t).t0 (state m c t).t1
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem inv_eq (c : Dev nD) (t : Fin (cfg0.N + 1)) : (dats m 0 c).Φ t = Pipeline.ΦA spec0 c := by
  dsimp only [dats]

/-- An input's buffer holds its block at every point. -/
theorem before_block (c : Dev nD) (w : Fin cfg0.W) (hw : (cfg0.win w).isOut = false) (hl : ∀ i, cfg0.idle w i = false)
    (hc : ∀ t t' : Fin cfg0.N, (cfg0.win w).index t = (cfg0.win w).index t' → (cfg0.win w).clip (cfg0.grid.coords t) = (cfg0.win w).clip (cfg0.grid.coords t'))
    (hk : ∀ t, (cfg0.win w).cut (cfg0.grid.coords t) ((dats m 0 c).after w t) = iblk m c w t) (t : Fin cfg0.N) (d) :
    (dats m 0 c).before w t d = (dats m 0 c).fetched w t d :=
  (dats m 0 c).before_in_eq_fetched w hw hl hc (fun t => by rw [hk]; unfold Dat.blockOf iblk; rw [A_eq]) t d

theorem before_in (c : Dev nD) (t : Fin cfg0.N) :
    (∀ d, (dats m 0 c).before 0 t d = (cell m c t).x3) ∧ (∀ d, (dats m 0 c).before 1 t d = (cell m c t).xk)
    ∧ (∀ d, (dats m 0 c).before 2 t d = (cell m c t).xv) ∧ (∀ d, (dats m 0 c).before 3 t d = (cell m c t).su) := by
  refine ⟨fun d => ?_, fun d => ?_, fun d => ?_, fun d => ?_⟩ <;>
  · refine (before_block m c _ rfl (fun _ => rfl) (fun _ _ _ => rfl) (fun t => by dsimp only [dats]) t d).trans ?_
    dsimp only [cell]
    unfold Dat.fetched Dat.blockOf iblk
    rw [A_eq]
    rfl

/-- The memrefs the body is called with. -/
def args (t : Fin cfg0.N) : Args where
  a3 := win0_0.stage (cfg0.slots t 0)
  h3 := hstage0_0 ((cfg0.slots t 0).cast nbuf0_0)
  a4 := win0_1.stage (cfg0.slots t 1)
  h4 := hstage0_1 ((cfg0.slots t 1).cast nbuf0_1)
  a5 := win0_2.stage (cfg0.slots t 2)
  h5 := hstage0_2 ((cfg0.slots t 2).cast nbuf0_2)
  a6 := win0_3.stage (cfg0.slots t 3)
  h6 := hstage0_3 ((cfg0.slots t 3).cast nbuf0_3)
  a7 := win0_4.stage (cfg0.slots t 4)
  h7 := hstage0_4 ((cfg0.slots t 4).cast nbuf0_4)
  a8 := win0_5.stage (cfg0.slots t 5)
  h8 := hstage0_5 ((cfg0.slots t 5).cast nbuf0_5)

/-- The inputs' buffers at a point. -/
def ins (c : Dev nD) (t : Fin cfg0.N) : sProp 𝕄 :=
  iprop(owns (c : Thread nD τ) (args t).a3 fullShare (cell m c t).x3 ∗ reads c (args t) (cell m c t).pt (cell m c t).xk (cell m c t).xv)

/-- A point's body, over its inputs and outputs. -/
theorem body_at (c : Dev nD) (t : Fin cfg0.N) (o7 : Vec F S256x128 .f32) (o8 : Vec F S256x256 .f32) :
    (iprop(ins m c t ∗ outs c (args t) o7 o8) : sProp 𝕄)
    ⊢ wp frame (wpE (defs₀ (F := F)) Variants.none (c : Thread nD τ) none) Set.univ (bodyAt0 t)
      (fun _ => iprop(ins m c t ∗ outs c (args t) (state m c t).acc (halves (state m c t).t0 (state m c t).t1))) := by
  unfold ins
  iintro ⟨⟨H3, HR⟩, HO⟩
  iapply wp_wand_r
  isplitl [H3 HR HO]
  · iapply (point c Set.univ (grid0.coords t) (args t) (cell m c t) o7 o8)
    isplitl [H3]; · iexact H3
    isplitl [HR]; · iexact HR
    iexact HO
  iintro %r ⟨H3, HR, HO⟩
  isplitl [H3 HR]
  · isplitl [H3]; · iexact H3
    iexact HR
  iexact HO

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact
  rw [h]

/-- The inputs are left as they were, -/
theorem leaves_ins (c : Dev nD) (t : Fin cfg0.N) : ins m c t ⊢ (iprop((dats m 0 c).leavesExact 0 t ∗ (dats m 0 c).leavesExact 1 t ∗ (dats m 0 c).leavesExact 2 t
    ∗ (dats m 0 c).leavesExact 3 t) : sProp 𝕄) := by
  rw [leaves_live m c 0 t rfl, leaves_live m c 1 t rfl, leaves_live m c 2 t rfl, leaves_live m c 3 t rfl]
  unfold ins reads
  dsimp only [dats, cell, args, In.pt, pt]
  exact .rfl

/-- and the outputs as the pipeline is to find them. -/
theorem leaves_outs (c : Dev nD) (t : Fin cfg0.N) :
    outs c (args t) (state m c t).acc (halves (state m c t).t0 (state m c t).t1) ⊢ (iprop((dats m 0 c).leavesExact 4 t ∗ (dats m 0 c).leavesExact 5 t) : sProp 𝕄) := by
  rw [leaves_live m c 4 t rfl, leaves_live m c 5 t rfl]
  unfold outs
  dsimp only [dats, args]
  exact .rfl

/-- The inputs as the pipeline hands them over. -/
theorem finds_ins (c : Dev nD) (t : Fin cfg0.N) (d0 d1 d2 d3) :
    (iprop(owns (c : Thread nD τ) (args t).a3 fullShare ((dats m 0 c).before 0 t d0) ∗ owns (c : Thread nD τ) (args t).a4 fullShare ((dats m 0 c).before 1 t d1)
    ∗ owns (c : Thread nD τ) (args t).a5 fullShare ((dats m 0 c).before 2 t d2) ∗ owns (c : Thread nD τ) (args t).a6 fullShare ((dats m 0 c).before 3 t d3)) : sProp 𝕄) ⊢ ins m c t := by
  obtain ⟨h0, h1, h2, h3⟩ := before_in m c t
  rw [h0, h1, h2, h3]
  exact .rfl

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  dsimp only
  rw [inv_eq, inv_eq]
  iintro ⟨HK, Ho, ⟨%d0, H0⟩, ⟨%d1, H1⟩, ⟨%d2, H2⟩, ⟨%d3, H3⟩, ⟨%d4, H4⟩, ⟨%d5, H5⟩⟩
  iapply wp_wand_r
  isplitr [HK Ho]
  · iapply (body_at m c t ((dats m 0 c).before 4 t d4) ((dats m 0 c).before 5 t d5))
    isplitr [H4 H5]
    · iapply (finds_ins m c t d0 d1 d2 d3)
      isplitl [H0]; · iexact H0
      isplitl [H1]; · iexact H1
      isplitl [H2]; · iexact H2
      iexact H3
    · unfold outs
      isplitl [H4]; · iexact H4
      iexact H5
  iintro %r ⟨HI, HO⟩
  icases (leaves_ins m c t) $$ HI with ⟨H0, H1, H2, H3⟩
  icases (leaves_outs m c t) $$ HO with ⟨H4, H5⟩
  isplitl [HK]; · iexact HK
  isplitl [Ho]; · iexact Ho
  isplitl [H0]; · iexact H0
  isplitl [H1]; · iexact H1
  isplitl [H2]; · iexact H2
  isplitl [H3]; · iexact H3
  isplitl [H4]; · iexact H4
  iexact H5

theorem first (c : Dev nD) : Pipeline.ΦA spec0 c ⊢ (dats m 0 c).Φ 0 := by
  rw [inv_eq]

theorem final (c : Dev nD) : (dats m 0 c).Φ (Fin.last cfg0.N) ⊢ Pipeline.ΦA spec0 c := by
  rw [inv_eq]

set_option backward.isDefEq.respectTransparency.types false in
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := entered m Variants.none) (hA := A_eq m) (hin := first m) (hout := final m)

/-- Every run ends, with the output and the table as the pipeline leaves them, the argument unchanged and no signal pending. -/
theorem run : θ_run defs (onTc (τ := τ) (main (F := F))) ⟨m, fun _ => 0, ρ⟩ fun r => (∀ c : Dev nD,
      r.2.mem ((c : Thread nD τ).loc main_v5_0) = (dats m 0 c).arrAt 4 cfg0.N
      ∧ r.2.mem ((c : Thread nD τ).loc main_v5_1) = (dats m 0 c).arrAt 5 cfg0.N
      ∧ r.2.mem ((c : Thread nD τ).loc main_arg0) = m ((c : Thread nD τ).loc main_arg0)) ∧ r.2.sem = fun _ => 0 :=
  (θ_run defs _ _).mono (fun r h => ⟨fun c => ⟨(h.1 c).1 4, (h.1 c).1 5,
    ((h.1 c).2 main_arg0 (Pipeline.mem_restRefs_of main_arg0 (by decide) (by decide))).trans (V_arg m c)⟩, h.2⟩) (run_all m ρ)

theorem frame_any : θ_run defs (onTc (τ := τ) (main (F := F))) ⟨m, fun _ => 0, ρ⟩ fun r => (∀ c : Dev nD,
      r.2.mem ((c : Thread nD τ).loc main_arg0) = m ((c : Thread nD τ).loc main_arg0)) ∧ r.2.sem = fun _ => 0 :=
  (θ_run defs _ _).mono (fun _ h => ⟨fun c => (h.1 c).2.2, h.2⟩) (run m ρ)

end Cert.AttnFIdeal.Run

end
-- ==== Proof.AttnFVal.lean ====
module

public import proofs.«01_k».proof.Proof.AttnVal
public import proofs.«01_k».proof.Proof.AttnFPoint
public import proofs.«01_k».proof.Proof.AttnFFrame
public import proofs.«01_k».proof.Proof.Gen.AttnFRefIdeal.Read

@[expose] public section

set_option maxRecDepth 16384

noncomputable section

namespace Cert.AttnFRefIdeal.Val

open Cert.AttnFRefIdeal Cert.AttnFRefIdeal.Gen Idealize.ShloMosaic Finset
open Cert.AttnFRefIdeal.Read
open Stick (rows)
open Cert.AttnRefIdeal.Val (row_at zs)

/-- The two references share the weights and the sums behind them. -/
theorem sums_same (x : FVec Ideal S8192x1536 .f32) : val_main_v21 (F := Ideal) x = AttnRefIdeal.Read.val_main_v21 (F := Ideal) x := rfl
theorem weights_same (x : FVec Ideal S8192x1536 .f32) : val_main_v25 (F := Ideal) x = AttnRefIdeal.Read.val_main_v25_0 (F := Ideal) x := rfl

/-- The table of the sums `v`: of each head, every 256th from the last key of the first block on, then zeros. -/
theorem tabled (v : FVec Ideal S2x8x4096x4096 .f32) (R : Fin 8192) (C : Fin 1024) :
    shapeCast S8192x1024 (concatenate S2x4096x8x128 3 [⟨S2x4096x8x16, transpose S2x4096x8x16 [0, 2, 1, 3] (Host.slice S2x8x4096x16 ![0, 0, 0, 255] ![1, 1, 1, 256]
        v slicesBy_S2x8x4096x4096_S2x8x4096x16_0s1_0s1_0s1_255s256) transposes_S2x8x4096x16_S2x4096x8x16_0_2_1_3⟩,
      ⟨S2x4096x8x112, broadcastInDim S2x4096x8x112 ![] bcast_S_S2x4096x8x112 (constant S_ .f32 0x00000000#32 : FVec Ideal S_ .f32)⟩] concatenates_S2x4096x8x16_S2x4096x8x112_S2x4096x8x128_d3)
      shapeCasts_S2x4096x8x128_S8192x1024 (ix2 R C)
    = if h : C.val % 128 < 16 then v (ix4 ⟨R.val / 4096, by omega⟩ ⟨C.val / 128, by omega⟩ ⟨R.val % 4096, by omega⟩ ⟨255 + 256 * (C.val % 128), by omega⟩) else 0 := by
  pointwise

section
variable {x : FVec Ideal S8192x1536 .f32} (hx : ∀ r c, x (ix2 r c) = ((Stick.real x r.val c.val : ℝ) : EReal))
include hx

theorem out_at (R : Fin 8192) (C : Fin 512) : val_main_v30 (F := Ideal) x (ix2 R C) = ((∑ u ∈ range 4096, Stick.att (zs x (R.val / 4096) (C.val / 64) (R.val % 4096)) (R.val % 4096) u
      * rows x 1024 (R.val / 4096) (C.val / 128) u (C.val % 128) : ℝ) : EReal) := by
  pointwise [val_main_v30, val_main_v29, val_main_v28, val_main_v27, val_main_v26, val_main_v2]
  rw [← Fin.sum_univ_eq_sum_range (fun u => Stick.att (zs x (R.val / 4096) (C.val / 64) (R.val % 4096)) (R.val % 4096) u * rows x 1024 (R.val / 4096) (C.val / 128) u (C.val % 128)) 4096, Stick.coe_sum]
  refine sum_congr rfl fun u _ => ?_
  rw [EReal.coe_mul, weights_same]
  exact Ideal.mul_congr (AttnRefIdeal.Val.att_at hx ⟨R.val / 4096, by omega⟩ ⟨C.val / 64, by omega⟩ ⟨R.val % 4096, by omega⟩ u) (row_at hx _ _ 1024 (R.val / 4096) (C.val / 128) u.val (C.val % 128) (by show _ * _ + _ = _; omega) (by show _ + _ = _; omega))

theorem table_at (R : Fin 8192) (C : Fin 1024) : val_main_v35 (F := Ideal) x (ix2 R C)
    = ((Stick.table (zs x (R.val / 4096) (C.val / 128) (R.val % 4096)) (R.val % 4096) 0 (C.val % 128) : ℝ) : EReal) := by
  unfold val_main_v35 val_main_v34 val_main_v32 val_main_v31 val_main_v33 val_main_cst_2
  rw [tabled, sums_same]
  simp only [AttnRefIdeal.Val.surv_at hx, add_comm 255]
  exact AttnIdeal.Run.coe_ite _ _ |>.trans (congrArg Real.toEReal (if_congr (and_iff_left (Nat.zero_le _)).symm rfl rfl))

end

end Cert.AttnFRefIdeal.Val

namespace Cert.AttnFIdeal.Run

open Cert.AttnFIdeal Cert.AttnFIdeal.Gen Idealize.ShloMosaic Idealize.ShloMosaic.Tactic Idealize.ShloMosaic.TcCoe
open Idealize.ShloMosaic.Pipeline (Dat)
open Cert.AttnIdeal.Run (bit_at)
open Stick (rows)
open Cert.AttnRefIdeal.Val (row_at)

variable (m : (ℓ : Loc nD τ sig) → Buf (Elt Ideal) ℓ) (c : Dev nD)

/-- The argument. -/
def X : FVec Ideal S8192x1536 .f32 := m ((c : Thread nD τ).loc main_arg0)

theorem qkv_read : (V m c main_v0 : FVec Ideal S8192x1536 .bf16) = X m c := by
  simp only [V, lines, List.flatten_cons, List.flatten_nil, List.append_nil, hostOps0]
  entry_read
  rfl

theorem from_read (k l : Fin 256) : (V m c main_v4 : FVec Ideal S256x256 .bf16) (ix2 k l) = ((if l.val ≤ k.val then 1 else 0 : ℝ) : EReal) := by
  simp only [V, lines, List.flatten_cons, List.flatten_nil, List.append_nil, hostOps0]
  entry_read
  pointwise
  exact bit_at _ _ (WordCmp.cmpi_sge_ofNat_eq_one_iff (by omega) (by omega))

/-- The argument is finite. -/
def Finite : Prop := ∀ r k, X m c (ix2 r k) = ((Stick.real (X m c) r.val k.val : ℝ) : EReal)

theorem idx : ∀ t : Fin cfg0.N, win0_0.index t = ![t.val / 64 * 16 + t.val % 16, t.val / 16 % 4] ∧ win0_1.index t = ![t.val / 64, 4 + t.val / 16 % 4]
    ∧ win0_2.index t = ![t.val / 64, 8 + t.val / 16 % 4] ∧ win0_3.index t = ![0, 0]
    ∧ win0_4.index t = ![t.val / 64 * 16 + t.val % 16, t.val / 16 % 4] ∧ win0_5.index t = ![t.val / 64 * 16 + t.val % 16, t.val / 16 % 4] :=
  (by decide +kernel : ∀ t : Fin grid0.N, _)

variable {m c} (H : Finite m c)

theorem from_at (t : Fin cfg0.N) (a : Fin 256) (l : Fin 256) : (cell m c t).su (ix2 a l) = ((if l.val ≤ a.val then 1 else 0 : ℝ) : EReal) :=
  (congrArg (V m c main_v4 : FVec Ideal S256x256 .bf16) ((eq_ix2 ((win0_3.blk t).view.emb (ix2 a l))).trans
    (congrArg₂ ix2 (Fin.ext (by blk_simp [idx t])) (Fin.ext (by blk_simp [idx t]))))).trans (from_read m c a l)

theorem halves_left (x y : Vec Ideal S256x128 .f32) (r l : Fin 256) (h : l.val < 128) : halves x y (ix2 r l) = x (ix2 (n0 := 256) (n1 := 128) r ⟨l.val, h⟩) := dif_pos h
theorem halves_right (x y : Vec Ideal S256x128 .f32) (r l : Fin 256) (h : ¬ l.val < 128) : halves x y (ix2 r l) = y (ix2 (n0 := 256) (n1 := 128) r ⟨l.val - 128, by omega⟩) := dif_neg h

include H

theorem q_at (t : Fin cfg0.N) (a : Fin 256) (l : Fin 128) : (cell m c t).x3 (ix2 a l) = ((rows (X m c) 0 (t.val / 64) (t.val / 16 % 4) (256 * (t.val % 16) + a.val) l.val : ℝ) : EReal) :=
  (congrFun (qkv_read m c) _).trans ((congrArg (X m c) (eq_ix2 ((win0_0.blk t).view.emb (ix2 a l)))).trans
    (row_at H _ _ 0 _ _ _ _ (by blk_simp [idx t]; omega) (by blk_simp [idx t]; omega)))

theorem k_at (t : Fin cfg0.N) (a : Fin 4096) (l : Fin 128) : (cell m c t).xk (ix2 a l) = ((rows (X m c) 512 (t.val / 64) (t.val / 16 % 4) a.val l.val : ℝ) : EReal) :=
  (congrFun (qkv_read m c) _).trans ((congrArg (X m c) (eq_ix2 ((win0_1.blk t).view.emb (ix2 a l)))).trans
    (row_at H _ _ 512 _ _ _ _ (by blk_simp [idx t]; omega) (by blk_simp [idx t]; omega)))

theorem v_at (t : Fin cfg0.N) (a : Fin 4096) (l : Fin 128) : (cell m c t).xv (ix2 a l) = ((rows (X m c) 1024 (t.val / 64) (t.val / 16 % 4) a.val l.val : ℝ) : EReal) :=
  (congrFun (qkv_read m c) _).trans ((congrArg (X m c) (eq_ix2 ((win0_2.blk t).view.emb (ix2 a l)))).trans
    (row_at H _ _ 1024 _ _ _ _ (by blk_simp [idx t]; omega) (by blk_simp [idx t]; omega)))

theorem ended (t : Fin cfg0.N) : Seen (rows (X m c) 0 (t.val / 64) (t.val / 16 % 4)) (rows (X m c) 512 (t.val / 64) (t.val / 16 % 4))
    (rows (X m c) 1024 (t.val / 64) (t.val / 16 % 4)) (t.val % 16) 0 (state m c t) :=
  Rows.all ⟨q_at H t, k_at H t, v_at H t, from_at (m := m) (c := c) t⟩ _ (coord2 t)

theorem out_point (t : Fin cfg0.N) (r : Fin 256) (l : Fin 128) (R : Fin 8192) (C : Fin 512) (hR : R.val = (t.val / 64 * 16 + t.val % 16) * 256 + r.val) (hC : C.val = t.val / 16 % 4 * 128 + l.val) :
    (state m c t).acc (ix2 r l) = AttnFRefIdeal.Read.val_main_v30 (F := Ideal) (X m c) (ix2 R C) := by
  have ht : t.val < 128 := t.isLt
  rw [(ended H t).hacc, AttnFRefIdeal.Val.out_at H, Nat.mul_zero, ← Finset.range_eq_Ico]
  unfold AttnRefIdeal.Val.zs Stick.wt
  rw [show R.val / 4096 = t.val / 64 by omega, show R.val % 4096 = 256 * (t.val % 16) + r.val by omega, show C.val / 64 / 2 = t.val / 16 % 4 by omega,
    show C.val / 128 = t.val / 16 % 4 by omega, show C.val / 64 % 2 = l.val / 64 by omega, show C.val % 128 = l.val by omega]

theorem table_point (t : Fin cfg0.N) (r l : Fin 256) (R : Fin 8192) (C : Fin 1024) (hR : R.val = (t.val / 64 * 16 + t.val % 16) * 256 + r.val) (hC : C.val = t.val / 16 % 4 * 256 + l.val) :
    halves (state m c t).t0 (state m c t).t1 (ix2 r l) = AttnFRefIdeal.Read.val_main_v35 (F := Ideal) (X m c) (ix2 R C) := by
  have ht : t.val < 128 := t.isLt
  rw [AttnFRefIdeal.Val.table_at H]
  unfold AttnRefIdeal.Val.zs
  rw [show R.val / 4096 = t.val / 64 by omega, show R.val % 4096 = 256 * (t.val % 16) + r.val by omega, show C.val / 128 / 2 = t.val / 16 % 4 by omega]
  by_cases h : l.val < 128
  · rw [halves_left _ _ r l h, (ended H t).ht0, show C.val / 128 % 2 = 0 by omega, show C.val % 128 = l.val by omega]
  · rw [halves_right _ _ r l h, (ended H t).ht1, show C.val / 128 % 2 = 1 by omega, show C.val % 128 = l.val - 128 by omega]

theorem final4 : (dats m 0 c).arrAt 4 cfg0.N = AttnFRefIdeal.Read.val_main_v30 (F := Ideal) (X m c) := by
  refine (dats m 0 c).arrAt_eq_of_covers 4 _ (by decide +kernel) fun t _ y => ?_
  blk_simp
  exact (congrArg _ (eq_ix2 y)).trans ((out_point H t (y 0) (y 1) _ _ (by blk_simp [idx t]) (by blk_simp [idx t])).trans
    (congrArg (AttnFRefIdeal.Read.val_main_v30 (F := Ideal) (X m c)) (eq_ix2 ((win0_4.blk t).view.emb y)).symm))

theorem final5 : (dats m 0 c).arrAt 5 cfg0.N = AttnFRefIdeal.Read.val_main_v35 (F := Ideal) (X m c) := by
  refine (dats m 0 c).arrAt_eq_of_covers 5 _ (by decide +kernel) fun t _ y => ?_
  blk_simp
  exact (congrArg _ (eq_ix2 y)).trans ((table_point H t (y 0) (y 1) _ _ (by blk_simp [idx t]) (by blk_simp [idx t])).trans
    (congrArg (AttnFRefIdeal.Read.val_main_v35 (F := Ideal) (X m c)) (eq_ix2 ((win0_5.blk t).view.emb y)).symm))

end Cert.AttnFIdeal.Run

end
-- ==== Proof.AttnFClaim.lean ====
module

public import proofs.«01_k».proof.Defs
public import proofs.«01_k».proof.Proof.Gen.AttnF
public import proofs.«01_k».proof.Proof.Gen.AttnFIdeal
public import proofs.«01_k».proof.Proof.Gen.AttnFRefIdeal.Run
public import proofs.«01_k».proof.Proof.AttnFVal
public import proofs.«01_k».proof.Proof.AttnClaim

@[expose] public section

noncomputable section

namespace Cert.Proof.AttnF

open Idealize.ShloMosaic Idealize.ShloMosaic.TcCoe Idealize.SL.Sem

theorem frame_kernel_ideal : Cert.quiescent_AttnFIdeal (hAttnFIdeal := Cert.AttnFIdeal.Gen.facts) := fun m ρ _ => Cert.AttnFIdeal.Run.frame_any m ρ

/-- The kernel is the same text over machine numbers, so its run is the same run. -/
theorem frame_kernel : Cert.quiescent_AttnF (hAttnF := Cert.AttnF.Gen.facts) := fun m ρ _ =>
  Eq.mp (by sl_kernel_rfl) (Cert.AttnFIdeal.Run.frame_any (F := Bits) m ρ)

theorem frame_reference : Cert.quiescent_AttnFRefIdeal (hAttnFRefIdeal := Cert.AttnFRefIdeal.Gen.facts) := by
  intro m g _
  refine (θ_run _ _ _).mono (fun r h => ⟨fun c => ?_, ?_⟩) (Cert.AttnFRefIdeal.Value.run m g)
  · have := h c
    simp only [this, and_self]
  · funext s
    obtain ⟨_, s⟩ := s
    rcases s with s | s <;> exact s.elim0

theorem finite_facts : Cert.Pre_attn_fwd_finite.Facts where
  bcast_S_S8192x1536 := by decide

open Cert.AttnFIdeal Cert.AttnFIdeal.Run in
theorem finite_of_pre (m : (ℓ : Loc nD τ sig) → Buf (Elt Ideal) ℓ) (h : Cert.Pre_AttnFIdeal_attn_fwd_finite (hPre_attn_fwd_finite := finite_facts) m) (c : Dev nD) : Finite m c := fun r k => by
  have e := congrFun (h c) (ix2 (n0 := 8192) (n1 := 1536) r k)
  exact (Attn.real_of_lt _ e).trans (congrArg _ (Attn.real_at _ r k))

open Cert.AttnFRefIdeal.Read in
/-- The pair: the kernel's output and table of sums are the reference's, of a finite argument. -/
theorem value : Cert.algebraic_AttnFIdeal_AttnFRefIdeal_pre_attn_fwd_finite (hAttnFIdeal := Cert.AttnFIdeal.Gen.facts) (hAttnFRefIdeal := Cert.AttnFRefIdeal.Gen.facts)
    (hPre_attn_fwd_finite := finite_facts) := by
  intro m g m' g' hpre hagree
  refine ⟨_, _, (θ_run _ _ _).mono (fun r h => h.1) (Cert.AttnFIdeal.Run.run m g), (θ_run _ _ _).mono (fun r h c => ?_) (Cert.AttnFRefIdeal.Value.run m' g')⟩
  obtain ⟨h0, h1, hargs⟩ := h c
  have a0 := hagree c
  have H := finite_of_pre m hpre c
  refine ⟨h0.trans ?_, h1.trans ?_, hargs⟩
  · rw [val_main_v30_eq, a0]; exact (Cert.AttnFIdeal.Run.final4 H).symm
  · rw [val_main_v35_eq, a0]; exact (Cert.AttnFIdeal.Run.final5 H).symm

end Cert.Proof.AttnF

end
-- ==== Proof.lean ====
module

public import proofs.«01_k».proof.Defs
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.DownClaim
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.AdamClaim
public import proofs.«01_k».proof.Proof.Gen.Sum.Frame
public import proofs.«01_k».proof.Proof.Gen.SumIdeal.Frame
public import proofs.«01_k».proof.Proof.Gen.SumIdeal.Value
public import proofs.«01_k».proof.Proof.Gen.SumRefIdeal.Run
public import proofs.«01_k».proof.Proof.Gen.SumRefIdeal.Read
public import proofs.«01_k».proof.Proof.SumClaim
public import proofs.«01_k».proof.Proof.Gen.Cast.Frame
public import proofs.«01_k».proof.Proof.Gen.CastIdeal.Frame
public import proofs.«01_k».proof.Proof.Gen.CastIdeal.Value
public import proofs.«01_k».proof.Proof.Gen.CastRefIdeal.Run
public import proofs.«01_k».proof.Proof.Gen.CastRefIdeal.Read
public import proofs.«01_k».proof.Proof.CastClaim
public import proofs.«01_k».proof.Proof.Gen.LruF.Frame
public import proofs.«01_k».proof.Proof.Gen.LruFIdeal.Frame
public import proofs.«01_k».proof.Proof.Gen.LruFRefIdeal.Run
public import proofs.«01_k».proof.Proof.LruFClaim
public import proofs.«01_k».proof.Proof.Gen.LruIdeal.Skeleton
public import proofs.«01_k».proof.Proof.Gen.LruIdeal.Points
public import proofs.«01_k».proof.Proof.Gen.LruIdeal.Launch
public import proofs.«01_k».proof.Proof.Gen.Lru
public import proofs.«01_k».proof.Proof.LruClaim
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import proofs.«01_k».proof.Proof.MixClaim
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.Gen.InRefIdeal.Read
public import proofs.«01_k».proof.Proof.InClaim
public import proofs.«01_k».proof.Proof.Gen.AttnIdeal.Skeleton
public import proofs.«01_k».proof.Proof.Gen.AttnIdeal.Points
public import proofs.«01_k».proof.Proof.Gen.AttnIdeal.Launch
public import proofs.«01_k».proof.Proof.Gen.Attn
public import proofs.«01_k».proof.Proof.Gen.AttnRefIdeal.Run
public import proofs.«01_k».proof.Proof.Gen.AttnRefIdeal.Read
public import proofs.«01_k».proof.Proof.AttnClaim
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.LossClaim
public import proofs.«01_k».proof.Proof.Gen.MlpIdeal.Skeleton
public import proofs.«01_k».proof.Proof.Gen.MlpIdeal.Points
public import proofs.«01_k».proof.Proof.Gen.MlpIdeal.Launch
public import proofs.«01_k».proof.Proof.Gen.Mlp
public import proofs.«01_k».proof.Proof.Gen.MlpRefIdeal.Run
public import proofs.«01_k».proof.Proof.Gen.MlpRefIdeal.Read
public import proofs.«01_k».proof.Proof.MlpClaim
public import proofs.«01_k».proof.Proof.Gen.InF.Frame
public import proofs.«01_k».proof.Proof.Gen.InFIdeal.Frame
public import proofs.«01_k».proof.Proof.Gen.InFIdeal.Value
public import proofs.«01_k».proof.Proof.Gen.InFRefIdeal.Run
public import proofs.«01_k».proof.Proof.Gen.InFRefIdeal.Read
public import proofs.«01_k».proof.Proof.InFClaim
public import proofs.«01_k».proof.Proof.Gen.MixF.Frame
public import proofs.«01_k».proof.Proof.Gen.MixFIdeal.Frame
public import proofs.«01_k».proof.Proof.Gen.MixFIdeal.Value
public import proofs.«01_k».proof.Proof.Gen.MixFRefIdeal.Run
public import proofs.«01_k».proof.Proof.Gen.MixFRefIdeal.Read
public import proofs.«01_k».proof.Proof.MixFClaim
public import proofs.«01_k».proof.Proof.Gen.AttnFRefIdeal.Run
public import proofs.«01_k».proof.Proof.Gen.AttnFRefIdeal.Read
public import proofs.«01_k».proof.Proof.Gen.AttnFIdeal.Skeleton
public import proofs.«01_k».proof.Proof.Gen.AttnFIdeal.Points
public import proofs.«01_k».proof.Proof.Gen.AttnFIdeal.Launch
public import proofs.«01_k».proof.Proof.Gen.AttnF
public import proofs.«01_k».proof.Proof.AttnFClaim

@[expose] public section

noncomputable section

namespace Cert.Proof

open Idealize.ShloMosaic Idealize.SL.Sem

theorem claim : Cert.Claim :=
  ⟨Cert.Mix.Gen.facts, Cert.MixIdeal.Gen.facts, Cert.MixRefIdeal.Gen.facts,
    Cert.In.Gen.facts, Cert.InIdeal.Gen.facts, Cert.InRefIdeal.Gen.facts,
    Cert.Attn.Gen.facts, Cert.AttnIdeal.Gen.facts, Cert.AttnRefIdeal.Gen.facts,
    Cert.Loss.Gen.facts, Cert.LossIdeal.Gen.facts, Cert.LossRefIdeal.Gen.facts,
    Cert.Mlp.Gen.facts, Cert.MlpIdeal.Gen.facts, Cert.MlpRefIdeal.Gen.facts,
    Cert.InF.Gen.facts, Cert.InFIdeal.Gen.facts, Cert.InFRefIdeal.Gen.facts,
    Cert.MixF.Gen.facts, Cert.MixFIdeal.Gen.facts, Cert.MixFRefIdeal.Gen.facts,
    Cert.AttnF.Gen.facts, Cert.AttnFIdeal.Gen.facts, Cert.AttnFRefIdeal.Gen.facts,
    Cert.Down.Gen.facts, Cert.DownIdeal.Gen.facts, Cert.DownRefIdeal.Gen.facts,
    Cert.Adam.Gen.facts, Cert.AdamIdeal.Gen.facts, Cert.AdamRefIdeal.Gen.facts,
    Cert.Sum.Gen.facts, Cert.SumIdeal.Gen.facts, Cert.SumRefIdeal.Gen.facts,
    Cert.LruF.Gen.facts, Cert.LruFIdeal.Gen.facts, Cert.LruFRefIdeal.Gen.facts,
    Cert.Lru.Gen.facts, Cert.LruIdeal.Gen.facts,
    Cert.Cast.Gen.facts, Cert.CastIdeal.Gen.facts, Cert.CastRefIdeal.Gen.facts,
    Attn.finite_facts, AttnF.finite_facts,
    fun m ρ _ => Cert.Mix.Gen.frame m ρ, fun m ρ _ => Cert.MixIdeal.Gen.frame m ρ, Mix.frame_reference,
    fun m ρ _ => Cert.In.Gen.frame m ρ, fun m ρ _ => Cert.InIdeal.Gen.frame m ρ, In.frame_reference,
    Attn.frame_kernel, Attn.frame_kernel_ideal, fun m ρ _ => Cert.AttnIdeal.Run.frame_any m ρ, Attn.frame_reference, fun m ρ _ => Attn.frame_reference m ρ trivial,
    fun m ρ _ => Cert.Loss.Gen.frame m ρ, fun m ρ _ => Cert.LossIdeal.Gen.frame m ρ, Loss.frame_reference,
    Mlp.frame_kernel, Mlp.frame_kernel_ideal, Mlp.frame_reference,
    fun m ρ _ => Cert.InF.Gen.frame m ρ, fun m ρ _ => Cert.InFIdeal.Gen.frame m ρ, InF.frame_reference,
    fun m ρ _ => Cert.MixF.Gen.frame m ρ, fun m ρ _ => Cert.MixFIdeal.Gen.frame m ρ, MixF.frame_reference,
    AttnF.frame_kernel, AttnF.frame_kernel_ideal, fun m ρ _ => Cert.AttnFIdeal.Run.frame_any m ρ, AttnF.frame_reference, fun m ρ _ => AttnF.frame_reference m ρ trivial,
    fun m ρ _ => Cert.Down.Gen.frame m ρ, fun m ρ _ => Cert.DownIdeal.Gen.frame m ρ, Down.frame_reference,
    fun m ρ _ => Cert.Adam.Gen.frame m ρ, fun m ρ _ => Cert.AdamIdeal.Gen.frame m ρ, Adam.frame_reference,
    fun m ρ _ => Cert.Sum.Gen.frame m ρ, fun m ρ _ => Cert.SumIdeal.Gen.frame m ρ, Sum.frame_reference,
    fun m ρ _ => Cert.LruF.Gen.frame m ρ, fun m ρ _ => Cert.LruFIdeal.Gen.frame m ρ, LruF.frame_reference,
    Lru.frame_kernel, Lru.frame_kernel_ideal,
    fun m ρ _ => Cert.Cast.Gen.frame m ρ, fun m ρ _ => Cert.CastIdeal.Gen.frame m ρ, Cast.frame_reference,
    trivial, Mix.value, trivial, In.value, trivial, Attn.value, trivial, Loss.value, trivial, Mlp.value,
    trivial, InF.value, trivial, MixF.value, trivial, AttnF.value,
    trivial, Down.value, trivial, Adam.value, trivial, Sum.value, trivial, trivial, trivial, Cast.value⟩

end Cert.Proof

end
